-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v1)) (v1 : (c : Dev Cert.PackIdeal.nD) → Buf (Elt Ideal) ((c.tc : Thread Cert.PackIdeal.nD Cert.PackIdeal.τ).loc Cert.PackIdeal.main_v2)) (v2 : (c : Dev Cert.PackIdeal.nD) → Buf (Elt Ideal) ((c.tc : Thread Cert.PackIdeal.nD Cert.PackIdeal.τ).loc Cert.PackIdeal.main_v3)) (v3 : (c : Dev Cert.PackIdeal.nD) → Buf (Elt Ideal) ((c.tc : Thread Cert.PackIdeal.nD Cert.PackIdeal.τ).loc Cert.PackIdeal.main_v4)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v1) = v0 c
          ∧ r.2.mem ((c.tc : Thread Cert.PackIdeal.nD Cert.PackIdeal.τ).loc Cert.PackIdeal.main_v2) = v1 c
          ∧ r.2.mem ((c.tc : Thread Cert.PackIdeal.nD Cert.PackIdeal.τ).loc Cert.PackIdeal.main_v3) = v2 c
          ∧ r.2.mem ((c.tc : Thread Cert.PackIdeal.nD Cert.PackIdeal.τ).loc Cert.PackIdeal.main_v4) = v3 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v118) = v0 c
          ∧ r.2.mem ((c.tc : Thread Cert.PackRefIdeal.nD Cert.PackRefIdeal.τ).loc Cert.PackRefIdeal.main_v119) = v1 c
          ∧ r.2.mem ((c.tc : Thread Cert.PackRefIdeal.nD Cert.PackRefIdeal.τ).loc Cert.PackRefIdeal.main_v120) = v2 c
          ∧ r.2.mem ((c.tc : Thread Cert.PackRefIdeal.nD Cert.PackRefIdeal.τ).loc Cert.PackRefIdeal.main_v121) = v3 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0))

def Claim : Prop :=
  ∃ (hKernel : Cert.Kernel.Facts) (hKernelIdeal : Cert.KernelIdeal.Facts) (hReferenceIdeal : Cert.ReferenceIdeal.Facts) (hPack : Cert.Pack.Facts) (hPackIdeal : Cert.PackIdeal.Facts) (hPackRefIdeal : Cert.PackRefIdeal.Facts) (hPre_codes_in_range : Cert.Pre_codes_in_range.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ quiescent_Pack (hPack := hPack)
    ∧ quiescent_PackIdeal (hPackIdeal := hPackIdeal)
    ∧ quiescent_PackRefIdeal (hPackRefIdeal := hPackRefIdeal)
    ∧ preserves_Kernel_KernelIdeal
    ∧ algebraic_KernelIdeal_ReferenceIdeal (hKernelIdeal := hKernelIdeal) (hReferenceIdeal := hReferenceIdeal) (hPre_codes_in_range := hPre_codes_in_range)
    ∧ preserves_Pack_PackIdeal
    ∧ algebraic_PackIdeal_PackRefIdeal (hPackIdeal := hPackIdeal) (hPackRefIdeal := hPackRefIdeal)
-- ==== Pre_codes_in_range.lean ====
abbrev S320x128x128 : Shape := ⟨3, ![320, 128, 128]⟩
abbrev S64x128x128 : Shape := ⟨3, ![64, 128, 128]⟩
abbrev S1024x128x128 : Shape := ⟨3, ![1024, 128, 128]⟩
abbrev S_ : Shape := ⟨0, ![]⟩

class Facts : Prop where
  concatenates_S320x128x128_S320x128x128_S320x128x128_S64x128x128_S1024x128x128_d0 : Shape.Concatenates [S320x128x128, S320x128x128, S320x128x128, S64x128x128] S1024x128x128 0
  bcast_S_S1024x128x128 : S_.BroadcastsInDim S1024x128x128 (![] : Fin 0 → Fin S1024x128x128.rank)

variable [Facts]

def fn {F : FTy → Type} [FloatOps F] (main_arg0 : IVec S320x128x128 32) (main_arg1 : IVec S320x128x128 32) (main_arg2 : IVec S320x128x128 32) (main_arg3 : IVec S64x128x128 32) : IVec S1024x128x128 1 :=
  let main_v0 : IVec S1024x128x128 32 := concatenate S1024x128x128 0 [⟨S320x128x128, main_arg0⟩, ⟨S320x128x128, main_arg1⟩, ⟨S320x128x128, main_arg2⟩, ⟨S64x128x128, main_arg3⟩] concatenates_S320x128x128_S320x128x128_S320x128x128_S64x128x128_S1024x128x128_d0
  let main_c : IVec S_ 32 := constantI S_ 32 15#32
  let main_v1 : IVec S1024x128x128 32 := broadcastInDim S1024x128x128 ![] bcast_S_S1024x128x128 main_c
  let main_v2 : IVec S1024x128x128 32 := andi main_v0 main_v1
  let main_c_0 : IVec S_ 32 := constantI S_ 32 9#32
  let main_v3 : IVec S1024x128x128 32 := broadcastInDim S1024x128x128 ![] bcast_S_S1024x128x128 main_c_0
  let main_v4 : IVec S1024x128x128 1 := cmpi .slt main_v2 main_v3
  main_v4
-- ==== Kernel.lean ====
abbrev S320x128x128 : Shape := ⟨3, ![320, 128, 128]⟩
abbrev S64x128x128 : Shape := ⟨3, ![64, 128, 128]⟩
abbrev S320x144 : Shape := ⟨2, ![320, 144]⟩
abbrev S128x128 : Shape := ⟨2, ![128, 128]⟩
abbrev S144 : Shape := ⟨1, ![144]⟩
abbrev S_ : Shape := ⟨0, ![]⟩
abbrev S16 : Shape := ⟨1, ![16]⟩
abbrev S1x128x128 : Shape := ⟨3, ![1, 128, 128]⟩
abbrev S1x16 : Shape := ⟨2, ![1, 16]⟩
abbrev S1x144 : Shape := ⟨2, ![1, 144]⟩
abbrev S64x144 : Shape := ⟨2, ![64, 144]⟩
abbrev S1024x144 : Shape := ⟨2, ![1024, 144]⟩
abbrev S4x1x336x9 : Shape := ⟨4, ![4, 1, 336, 9]⟩
abbrev S144x9 : Shape := ⟨2, ![144, 9]⟩
abbrev S1024x9 : Shape := ⟨2, ![1024, 9]⟩
abbrev S64x16x9 : Shape := ⟨3, ![64, 16, 9]⟩
abbrev S64x1x9 : Shape := ⟨3, ![64, 1, 9]⟩
abbrev S64x21x9 : Shape := ⟨3, ![64, 21, 9]⟩
abbrev S64x21 : Shape := ⟨2, ![64, 21]⟩
abbrev S64x21x1 : Shape := ⟨3, ![64, 21, 1]⟩
abbrev S4x16x9 : Shape := ⟨3, ![4, 16, 9]⟩
abbrev S64x4x9 : Shape := ⟨3, ![64, 4, 9]⟩
abbrev S4x64x9 : Shape := ⟨3, ![4, 64, 9]⟩
abbrev S4x256x9 : Shape := ⟨3, ![4, 256, 9]⟩
abbrev S4x336x9 : Shape := ⟨3, ![4, 336, 9]⟩

abbrev nBuf : Table → Nat
  | .hbm => 10
  | .local .tc .vmem => 2
  | .local .scVector .vmem => 12
  | _ => 0

abbrev bufTy : (tb : Table) → Fin (nBuf tb) → BufTy
  | .hbm, ⟨0, _⟩ => ⟨S320x128x128, .i32⟩
  | .hbm, ⟨1, _⟩ => ⟨S320x128x128, .i32⟩
  | .hbm, ⟨2, _⟩ => ⟨S320x128x128, .i32⟩
  | .hbm, ⟨3, _⟩ => ⟨S64x128x128, .i32⟩
  | .hbm, ⟨4, _⟩ => ⟨S320x144, .f32⟩
  | .hbm, ⟨5, _⟩ => ⟨S320x144, .f32⟩
  | .hbm, ⟨6, _⟩ => ⟨S320x144, .f32⟩
  | .hbm, ⟨7, _⟩ => ⟨S64x144, .f32⟩
  | .hbm, ⟨8, _⟩ => ⟨S1024x144, .f32⟩
  | .hbm, ⟨9, _⟩ => ⟨S4x1x336x9, .f32⟩
  | .local .tc .vmem, ⟨0, _⟩ => ⟨S1024x144, .f32⟩
  | .local .tc .vmem, ⟨1, _⟩ => ⟨S4x1x336x9, .f32⟩
  | .local .scVector .vmem, ⟨0, _⟩ => ⟨S128x128, .i32⟩
  | .local .scVector .vmem, ⟨1, _⟩ => ⟨S128x128, .i32⟩
  | .local .scVector .vmem, ⟨2, _⟩ => ⟨S144, .f32⟩
  | .local .scVector .vmem, ⟨3, _⟩ => ⟨S128x128, .i32⟩
  | .local .scVector .vmem, ⟨4, _⟩ => ⟨S128x128, .i32⟩
  | .local .scVector .vmem, ⟨5, _⟩ => ⟨S144, .f32⟩
  | .local .scVector .vmem, ⟨6, _⟩ => ⟨S128x128, .i32⟩
  | .local .scVector .vmem, ⟨7, _⟩ => ⟨S128x128, .i32⟩
  | .local .scVector .vmem, ⟨8, _⟩ => ⟨S144, .f32⟩
  | .local .scVector .vmem, ⟨9, _⟩ => ⟨S128x128, .i32⟩
  | .local .scVector .vmem, ⟨10, _⟩ => ⟨S128x128, .i32⟩
  | .local .scVector .vmem, ⟨11, _⟩ => ⟨S144, .f32⟩
  | _, _ => ⟨S320x128x128, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev main_arg2_scv : Ref sig .scVector := ⟨.hbm, 2, rfl⟩
abbrev main_v2_scv : Ref sig .scVector := ⟨.hbm, 6, rfl⟩
abbrev main_arg3_scv : Ref sig .scVector := ⟨.hbm, 3, rfl⟩
abbrev main_v3_scv : Ref sig .scVector := ⟨.hbm, 7, rfl⟩
abbrev cc4_stg0_0 : Ref sig .tc := ⟨.vmem, 0, rfl⟩
abbrev cc4_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc4_sem0_0 : DmaSem sig := 16
abbrev cc4_sem1_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c0_i32 : BitVec 32 := 0#32
  let c0_i32_0 : BitVec 32 := 0#32
  ![v3.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c1_i32 : BitVec 32 := 1#32
  let v8 : BitVec 32 := Scalar.addi v3 c1_i32
  let c0_i32_3 : BitVec 32 := 0#32
  let c0_i32_4 : BitVec 32 := 0#32
  ![v8.toNat, 0, 0]
@[reducible] def k0_t1_loop : Scf.Loop 32 :=
  let c0_i32_8 : BitVec 32 := 0#32
  let c5_i32 : BitVec 32 := 5#32
  let v13 : BitVec 32 := Scalar.addi c0_i32_8 c5_i32
  let c1_i32_9 : BitVec 32 := 1#32
  ⟨c0_i32_8, v13, c1_i32_9⟩
@[reducible] def k0_t2_loop : Scf.Loop 32 :=
  let c0_i32_27 : BitVec 32 := 0#32
  let c64_i32 : BitVec 32 := 64#32
  let v39 : BitVec 32 := Scalar.addi c0_i32_27 c64_i32
  let c1_i32_28 : BitVec 32 := 1#32
  ⟨c0_i32_27, v39, c1_i32_28⟩
def k0_off3 (k0_t2 : Fin k0_t2_loop.trips) (c0_i32_67 : BitVec 32) : Fin 2 → Nat :=
  let c2_i32_66 : BitVec 32 := 2#32
  let c0_i32_27 : BitVec 32 := 0#32
  let c1_i32_28 : BitVec 32 := 1#32
  let arg10 : BitVec 32 := Scf.iv c0_i32_27 c1_i32_28 k0_t2
  let v74 : BitVec 32 := Scalar.muli c2_i32_66 arg10
  let v75 : BitVec 32 := Scalar.addi v74 c0_i32_67
  let v76 : Index := Scalar.indexCast v75
  let c0_68 : Index := 0#32
  ![v76.toNat, 0]
def k0_off4 (k0_t2 : Fin k0_t2_loop.trips) (c0_i32_70 : BitVec 32) : Fin 2 → Nat :=
  let c2_i32_69 : BitVec 32 := 2#32
  let c0_i32_27 : BitVec 32 := 0#32
  let c1_i32_28 : BitVec 32 := 1#32
  let arg10 : BitVec 32 := Scf.iv c0_i32_27 c1_i32_28 k0_t2
  let v78 : BitVec 32 := Scalar.muli c2_i32_69 arg10
  let v79 : BitVec 32 := Scalar.addi v78 c0_i32_70
  let v80 : Index := Scalar.indexCast v79
  let c16_71 : Index := 16#32
  ![v80.toNat, 16]
def k0_off5 (k0_t2 : Fin k0_t2_loop.trips) (c0_i32_73 : BitVec 32) : Fin 2 → Nat :=
  let c2_i32_72 : BitVec 32 := 2#32
  let c0_i32_27 : BitVec 32 := 0#32
  let c1_i32_28 : BitVec 32 := 1#32
  let arg10 : BitVec 32 := Scf.iv c0_i32_27 c1_i32_28 k0_t2
  let v82 : BitVec 32 := Scalar.muli c2_i32_72 arg10
  let v83 : BitVec 32 := Scalar.addi v82 c0_i32_73
  let v84 : Index := Scalar.indexCast v83
  let c32_74 : Index := 32#32
  ![v84.toNat, 32]
def k0_off6 (k0_t2 : Fin k0_t2_loop.trips) (c0_i32_76 : BitVec 32) : Fin 2 → Nat :=
  let c2_i32_75 : BitVec 32 := 2#32
  let c0_i32_27 : BitVec 32 := 0#32
  let c1_i32_28 : BitVec 32 := 1#32
  let arg10 : BitVec 32 := Scf.iv c0_i32_27 c1_i32_28 k0_t2
  let v86 : BitVec 32 := Scalar.muli c2_i32_75 arg10
  let v87 : BitVec 32 := Scalar.addi v86 c0_i32_76
  let v88 : Index := Scalar.indexCast v87
  let c48_77 : Index := 48#32
  ![v88.toNat, 48]
def k0_off7 (k0_t2 : Fin k0_t2_loop.trips) (c0_i32_79 : BitVec 32) : Fin 2 → Nat :=
  let c2_i32_78 : BitVec 32 := 2#32
  let c0_i32_27 : BitVec 32 := 0#32
  let c1_i32_28 : BitVec 32 := 1#32
  let arg10 : BitVec 32 := Scf.iv c0_i32_27 c1_i32_28 k0_t2
  let v90 : BitVec 32 := Scalar.muli c2_i32_78 arg10
  let v91 : BitVec 32 := Scalar.addi v90 c0_i32_79
  let v92 : Index := Scalar.indexCast v91
  let c64_80 : Index := 64#32
  ![v92.toNat, 64]
def k0_off8 (k0_t2 : Fin k0_t2_loop.trips) (c0_i32_82 : BitVec 32) : Fin 2 → Nat :=
  let c2_i32_81 : BitVec 32 := 2#32
  let c0_i32_27 : BitVec 32 := 0#32
  let c1_i32_28 : BitVec 32 := 1#32
  let arg10 : BitVec 32 := Scf.iv c0_i32_27 c1_i32_28 k0_t2
  let v94 : BitVec 32 := Scalar.muli c2_i32_81 arg10
  let v95 : BitVec 32 := Scalar.addi v94 c0_i32_82
  let v96 : Index := Scalar.indexCast v95
  let c80_83 : Index := 80#32
  ![v96.toNat, 80]
def k0_off9 (k0_t2 : Fin k0_t2_loop.trips) (c0_i32_85 : BitVec 32) : Fin 2 → Nat :=
  let c2_i32_84 : BitVec 32 := 2#32
  let c0_i32_27 : BitVec 32 := 0#32
  let c1_i32_28 : BitVec 32 := 1#32
  let arg10 : BitVec 32 := Scf.iv c0_i32_27 c1_i32_28 k0_t2
  let v98 : BitVec 32 := Scalar.muli c2_i32_84 arg10
  let v99 : BitVec 32 := Scalar.addi v98 c0_i32_85
  let v100 : Index := Scalar.indexCast v99
  let c96_86 : Index := 96#32
  ![v100.toNat, 96]
def k0_off10 (k0_t2 : Fin k0_t2_loop.trips) (c0_i32_88 : BitVec 32) : Fin 2 → Nat :=
  let c2_i32_87 : BitVec 32 := 2#32
  let c0_i32_27 : BitVec 32 := 0#32
  let c1_i32_28 : BitVec 32 := 1#32
  let arg10 : BitVec 32 := Scf.iv c0_i32_27 c1_i32_28 k0_t2
  let v102 : BitVec 32 := Scalar.muli c2_i32_87 arg10
  let v103 : BitVec 32 := Scalar.addi v102 c0_i32_88
  let v104 : Index := Scalar.indexCast v103
  let c112_89 : Index := 112#32
  ![v104.toNat, 112]

def k0_chk1 (v142 : IVec S16 32) : Prop :=
  (∀ a x, ((![v142] : Fin 1 → IVec S16 32) a x).toNat < S144.size a)
theorem k0_idx1_inb : ∀ (v142 : IVec S16 32) (k0_hw1 : k0_chk1 v142), ∀ a x, ((![v142] : Fin 1 → IVec S16 32) a x).toNat < S144.size a := fun v142 k0_hw1 => k0_hw1

def k0_chk2 (v147 : IVec S16 32) : Prop :=
  (∀ a x, ((![v147] : Fin 1 → IVec S16 32) a x).toNat < S144.size a)
theorem k0_idx2_inb : ∀ (v147 : IVec S16 32) (k0_hw2 : k0_chk2 v147), ∀ a x, ((![v147] : Fin 1 → IVec S16 32) a x).toNat < S144.size a := fun v147 k0_hw2 => k0_hw2

def k0_chk3 (v152 : IVec S16 32) : Prop :=
  (∀ a x, ((![v152] : Fin 1 → IVec S16 32) a x).toNat < S144.size a)
theorem k0_idx3_inb : ∀ (v152 : IVec S16 32) (k0_hw3 : k0_chk3 v152), ∀ a x, ((![v152] : Fin 1 → IVec S16 32) a x).toNat < S144.size a := fun v152 k0_hw3 => k0_hw3

def k0_chk4 (v157 : IVec S16 32) : Prop :=
  (∀ a x, ((![v157] : Fin 1 → IVec S16 32) a x).toNat < S144.size a)
theorem k0_idx4_inb : ∀ (v157 : IVec S16 32) (k0_hw4 : k0_chk4 v157), ∀ a x, ((![v157] : Fin 1 → IVec S16 32) a x).toNat < S144.size a := fun v157 k0_hw4 => k0_hw4

def k0_chk5 (v162 : IVec S16 32) : Prop :=
  (∀ a x, ((![v162] : Fin 1 → IVec S16 32) a x).toNat < S144.size a)
theorem k0_idx5_inb : ∀ (v162 : IVec S16 32) (k0_hw5 : k0_chk5 v162), ∀ a x, ((![v162] : Fin 1 → IVec S16 32) a x).toNat < S144.size a := fun v162 k0_hw5 => k0_hw5

def k0_chk6 (v167 : IVec S16 32) : Prop :=
  (∀ a x, ((![v167] : Fin 1 → IVec S16 32) a x).toNat < S144.size a)
theorem k0_idx6_inb : ∀ (v167 : IVec S16 32) (k0_hw6 : k0_chk6 v167), ∀ a x, ((![v167] : Fin 1 → IVec S16 32) a x).toNat < S144.size a := fun v167 k0_hw6 => k0_hw6

def k0_chk7 (v172 : IVec S16 32) : Prop :=
  (∀ a x, ((![v172] : Fin 1 → IVec S16 32) a x).toNat < S144.size a)
theorem k0_idx7_inb : ∀ (v172 : IVec S16 32) (k0_hw7 : k0_chk7 v172), ∀ a x, ((![v172] : Fin 1 → IVec S16 32) a x).toNat < S144.size a := fun v172 k0_hw7 => k0_hw7

def k0_chk8 (v177 : IVec S16 32) : Prop :=
  (∀ a x, ((![v177] : Fin 1 → IVec S16 32) a x).toNat < S144.size a)
theorem k0_idx8_inb : ∀ (v177 : IVec S16 32) (k0_hw8 : k0_chk8 v177), ∀ a x, ((![v177] : Fin 1 → IVec S16 32) a x).toNat < S144.size a := fun v177 k0_hw8 => k0_hw8

def k0_chk9 (v182 : IVec S16 32) : Prop :=
  (∀ a x, ((![v182] : Fin 1 → IVec S16 32) a x).toNat < S144.size a)
theorem k0_idx9_inb : ∀ (v182 : IVec S16 32) (k0_hw9 : k0_chk9 v182), ∀ a x, ((![v182] : Fin 1 → IVec S16 32) a x).toNat < S144.size a := fun v182 k0_hw9 => k0_hw9

def k0_chk10 (v187 : IVec S16 32) : Prop :=
  (∀ a x, ((![v187] : Fin 1 → IVec S16 32) a x).toNat < S144.size a)
theorem k0_idx10_inb : ∀ (v187 : IVec S16 32) (k0_hw10 : k0_chk10 v187), ∀ a x, ((![v187] : Fin 1 → IVec S16 32) a x).toNat < S144.size a := fun v187 k0_hw10 => k0_hw10

def k0_chk11 (v192 : IVec S16 32) : Prop :=
  (∀ a x, ((![v192] : Fin 1 → IVec S16 32) a x).toNat < S144.size a)
theorem k0_idx11_inb : ∀ (v192 : IVec S16 32) (k0_hw11 : k0_chk11 v192), ∀ a x, ((![v192] : Fin 1 → IVec S16 32) a x).toNat < S144.size a := fun v192 k0_hw11 => k0_hw11

def k0_chk12 (v197 : IVec S16 32) : Prop :=
  (∀ a x, ((![v197] : Fin 1 → IVec S16 32) a x).toNat < S144.size a)
theorem k0_idx12_inb : ∀ (v197 : IVec S16 32) (k0_hw12 : k0_chk12 v197), ∀ a x, ((![v197] : Fin 1 → IVec S16 32) a x).toNat < S144.size a := fun v197 k0_hw12 => k0_hw12

def k0_chk13 (v202 : IVec S16 32) : Prop :=
  (∀ a x, ((![v202] : Fin 1 → IVec S16 32) a x).toNat < S144.size a)
theorem k0_idx13_inb : ∀ (v202 : IVec S16 32) (k0_hw13 : k0_chk13 v202), ∀ a x, ((![v202] : Fin 1 → IVec S16 32) a x).toNat < S144.size a := fun v202 k0_hw13 => k0_hw13

def k0_chk14 (v207 : IVec S16 32) : Prop :=
  (∀ a x, ((![v207] : Fin 1 → IVec S16 32) a x).toNat < S144.size a)
theorem k0_idx14_inb : ∀ (v207 : IVec S16 32) (k0_hw14 : k0_chk14 v207), ∀ a x, ((![v207] : Fin 1 → IVec S16 32) a x).toNat < S144.size a := fun v207 k0_hw14 => k0_hw14

def k0_chk15 (v212 : IVec S16 32) : Prop :=
  (∀ a x, ((![v212] : Fin 1 → IVec S16 32) a x).toNat < S144.size a)
theorem k0_idx15_inb : ∀ (v212 : IVec S16 32) (k0_hw15 : k0_chk15 v212), ∀ a x, ((![v212] : Fin 1 → IVec S16 32) a x).toNat < S144.size a := fun v212 k0_hw15 => k0_hw15

def k0_chk16 (v217 : IVec S16 32) : Prop :=
  (∀ a x, ((![v217] : Fin 1 → IVec S16 32) a x).toNat < S144.size a)
theorem k0_idx16_inb : ∀ (v217 : IVec S16 32) (k0_hw16 : k0_chk16 v217), ∀ a x, ((![v217] : Fin 1 → IVec S16 32) a x).toNat < S144.size a := fun v217 k0_hw16 => k0_hw16
def k0_off11 (i : grid0.Coords) (k0_t1 : Fin k0_t1_loop.trips) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k0_t1
  let v14 : BitVec 32 := Scalar.muli c2_i32_11 arg9
  let v15 : BitVec 32 := Scalar.addi v14 c0_i32_12
  let v16 : BitVec 32 := Scalar.addi v3 v15
  let c0_i32_66_r0 : BitVec 32 := 0#32
  ![v16.toNat, 0]
def k0_cond1 (k0_t1 : Fin k0_t1_loop.trips) : BitVec 1 :=
  let c2_i32_11 : BitVec 32 := 2#32
  let c0_i32_8 : BitVec 32 := 0#32
  let c1_i32_9 : BitVec 32 := 1#32
  let arg9 : BitVec 32 := Scf.iv c0_i32_8 c1_i32_9 k0_t1
  let v14 : BitVec 32 := Scalar.muli c2_i32_11 arg9
  let c0_i32_12 : BitVec 32 := 0#32
  let v15 : BitVec 32 := Scalar.addi v14 c0_i32_12
  let c2_i32_30 : BitVec 32 := 2#32
  let v40 : BitVec 32 := Scalar.addi v15 c2_i32_30
  let c10_i32_31 : BitVec 32 := 10#32
  let v41 : BitVec 1 := Scalar.cmpi .slt v40 c10_i32_31
  let v42 : BitVec 32 := Scalar.extui v41
  let c0_i32_32 : BitVec 32 := 0#32
  let v43 : BitVec 1 := Scalar.cmpi .ne v42 c0_i32_32
  v43

def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k0_t1
  let v14 : BitVec 32 := Scalar.muli c2_i32_11 arg9
  let c0_i32_12 : BitVec 32 := 0#32
  let v15 : BitVec 32 := Scalar.addi v14 c0_i32_12
  let v16 : BitVec 32 := Scalar.addi v3 v15
  let c2_i32_66 : BitVec 32 := 2#32
  let v74 : BitVec 32 := Scalar.addi v16 c2_i32_66
  let c0_i32_67 : BitVec 32 := 0#32
  let c0_i32_68 : BitVec 32 := 0#32
  ![v74.toNat, 0, 0]
@[reducible] def k0_t3_loop : Scf.Loop 32 :=
  let c0_i32_59 : BitVec 32 := 0#32
  let c64_i32_60 : BitVec 32 := 64#32
  let v69 : BitVec 32 := Scalar.addi c0_i32_59 c64_i32_60
  let c1_i32_61 : BitVec 32 := 1#32
  ⟨c0_i32_59, v69, c1_i32_61⟩
def k0_off13 (k0_t3 : Fin k0_t3_loop.trips) (c0_i32_67 : BitVec 32) : Fin 2 → Nat :=
  let c2_i32_66 : BitVec 32 := 2#32
  let c0_i32_59 : BitVec 32 := 0#32
  let c1_i32_61 : BitVec 32 := 1#32
  let arg10 : BitVec 32 := Scf.iv c0_i32_59 c1_i32_61 k0_t3
  let v74 : BitVec 32 := Scalar.muli c2_i32_66 arg10
  let v75 : BitVec 32 := Scalar.addi v74 c0_i32_67
  let v76 : Index := Scalar.indexCast v75
  let c0_68 : Index := 0#32
  ![v76.toNat, 0]
def k0_off14 (k0_t3 : Fin k0_t3_loop.trips) (c0_i32_70 : BitVec 32) : Fin 2 → Nat :=
  let c2_i32_69 : BitVec 32 := 2#32
  let c0_i32_59 : BitVec 32 := 0#32
  let c1_i32_61 : BitVec 32 := 1#32
  let arg10 : BitVec 32 := Scf.iv c0_i32_59 c1_i32_61 k0_t3
  let v78 : BitVec 32 := Scalar.muli c2_i32_69 arg10
  let v79 : BitVec 32 := Scalar.addi v78 c0_i32_70
  let v80 : Index := Scalar.indexCast v79
  let c16_71 : Index := 16#32
  ![v80.toNat, 16]
def k0_off15 (k0_t3 : Fin k0_t3_loop.trips) (c0_i32_73 : BitVec 32) : Fin 2 → Nat :=
  let c2_i32_72 : BitVec 32 := 2#32
  let c0_i32_59 : BitVec 32 := 0#32
  let c1_i32_61 : BitVec 32 := 1#32
  let arg10 : BitVec 32 := Scf.iv c0_i32_59 c1_i32_61 k0_t3
  let v82 : BitVec 32 := Scalar.muli c2_i32_72 arg10
  let v83 : BitVec 32 := Scalar.addi v82 c0_i32_73
  let v84 : Index := Scalar.indexCast v83
  let c32_74 : Index := 32#32
  ![v84.toNat, 32]
def k0_off16 (k0_t3 : Fin k0_t3_loop.trips) (c0_i32_76 : BitVec 32) : Fin 2 → Nat :=
  let c2_i32_75 : BitVec 32 := 2#32
  let c0_i32_59 : BitVec 32 := 0#32
  let c1_i32_61 : BitVec 32 := 1#32
  let arg10 : BitVec 32 := Scf.iv c0_i32_59 c1_i32_61 k0_t3
  let v86 : BitVec 32 := Scalar.muli c2_i32_75 arg10
  let v87 : BitVec 32 := Scalar.addi v86 c0_i32_76
  let v88 : Index := Scalar.indexCast v87
  let c48_77 : Index := 48#32
  ![v88.toNat, 48]
def k0_off17 (k0_t3 : Fin k0_t3_loop.trips) (c0_i32_79 : BitVec 32) : Fin 2 → Nat :=
  let c2_i32_78 : BitVec 32 := 2#32
  let c0_i32_59 : BitVec 32 := 0#32
  let c1_i32_61 : BitVec 32 := 1#32
  let arg10 : BitVec 32 := Scf.iv c0_i32_59 c1_i32_61 k0_t3
  let v90 : BitVec 32 := Scalar.muli c2_i32_78 arg10
  let v91 : BitVec 32 := Scalar.addi v90 c0_i32_79
  let v92 : Index := Scalar.indexCast v91
  let c64_80 : Index := 64#32
  ![v92.toNat, 64]
def k0_off18 (k0_t3 : Fin k0_t3_loop.trips) (c0_i32_82 : BitVec 32) : Fin 2 → Nat :=
  let c2_i32_81 : BitVec 32 := 2#32
  let c0_i32_59 : BitVec 32 := 0#32
  let c1_i32_61 : BitVec 32 := 1#32
  let arg10 : BitVec 32 := Scf.iv c0_i32_59 c1_i32_61 k0_t3
  let v94 : BitVec 32 := Scalar.muli c2_i32_81 arg10
  let v95 : BitVec 32 := Scalar.addi v94 c0_i32_82
  let v96 : Index := Scalar.indexCast v95
  let c80_83 : Index := 80#32
  ![v96.toNat, 80]
def k0_off19 (k0_t3 : Fin k0_t3_loop.trips) (c0_i32_85 : BitVec 32) : Fin 2 → Nat :=
  let c2_i32_84 : BitVec 32 := 2#32
  let c0_i32_59 : BitVec 32 := 0#32
  let c1_i32_61 : BitVec 32 := 1#32
  let arg10 : BitVec 32 := Scf.iv c0_i32_59 c1_i32_61 k0_t3
  let v98 : BitVec 32 := Scalar.muli c2_i32_84 arg10
  let v99 : BitVec 32 := Scalar.addi v98 c0_i32_85
  let v100 : Index := Scalar.indexCast v99
  let c96_86 : Index := 96#32
  ![v100.toNat, 96]
def k0_off20 (k0_t3 : Fin k0_t3_loop.trips) (c0_i32_88 : BitVec 32) : Fin 2 → Nat :=
  let c2_i32_87 : BitVec 32 := 2#32
  let c0_i32_59 : BitVec 32 := 0#32
  let c1_i32_61 : BitVec 32 := 1#32
  let arg10 : BitVec 32 := Scf.iv c0_i32_59 c1_i32_61 k0_t3
  let v102 : BitVec 32 := Scalar.muli c2_i32_87 arg10
  let v103 : BitVec 32 := Scalar.addi v102 c0_i32_88
  let v104 : Index := Scalar.indexCast v103
  let c112_89 : Index := 112#32
  ![v104.toNat, 112]

def k0_chk17 (v142 : IVec S16 32) : Prop :=
  (∀ a x, ((![v142] : Fin 1 → IVec S16 32) a x).toNat < S144.size a)
theorem k0_idx17_inb : ∀ (v142 : IVec S16 32) (k0_hw17 : k0_chk17 v142), ∀ a x, ((![v142] : Fin 1 → IVec S16 32) a x).toNat < S144.size a := fun v142 k0_hw17 => k0_hw17

def k0_chk18 (v147 : IVec S16 32) : Prop :=
  (∀ a x, ((![v147] : Fin 1 → IVec S16 32) a x).toNat < S144.size a)
theorem k0_idx18_inb : ∀ (v147 : IVec S16 32) (k0_hw18 : k0_chk18 v147), ∀ a x, ((![v147] : Fin 1 → IVec S16 32) a x).toNat < S144.size a := fun v147 k0_hw18 => k0_hw18

def k0_chk19 (v152 : IVec S16 32) : Prop :=
  (∀ a x, ((![v152] : Fin 1 → IVec S16 32) a x).toNat < S144.size a)
theorem k0_idx19_inb : ∀ (v152 : IVec S16 32) (k0_hw19 : k0_chk19 v152), ∀ a x, ((![v152] : Fin 1 → IVec S16 32) a x).toNat < S144.size a := fun v152 k0_hw19 => k0_hw19

def k0_chk20 (v157 : IVec S16 32) : Prop :=
  (∀ a x, ((![v157] : Fin 1 → IVec S16 32) a x).toNat < S144.size a)
theorem k0_idx20_inb : ∀ (v157 : IVec S16 32) (k0_hw20 : k0_chk20 v157), ∀ a x, ((![v157] : Fin 1 → IVec S16 32) a x).toNat < S144.size a := fun v157 k0_hw20 => k0_hw20

def k0_chk21 (v162 : IVec S16 32) : Prop :=
  (∀ a x, ((![v162] : Fin 1 → IVec S16 32) a x).toNat < S144.size a)
theorem k0_idx21_inb : ∀ (v162 : IVec S16 32) (k0_hw21 : k0_chk21 v162), ∀ a x, ((![v162] : Fin 1 → IVec S16 32) a x).toNat < S144.size a := fun v162 k0_hw21 => k0_hw21

def k0_chk22 (v167 : IVec S16 32) : Prop :=
  (∀ a x, ((![v167] : Fin 1 → IVec S16 32) a x).toNat < S144.size a)
theorem k0_idx22_inb : ∀ (v167 : IVec S16 32) (k0_hw22 : k0_chk22 v167), ∀ a x, ((![v167] : Fin 1 → IVec S16 32) a x).toNat < S144.size a := fun v167 k0_hw22 => k0_hw22

def k0_chk23 (v172 : IVec S16 32) : Prop :=
  (∀ a x, ((![v172] : Fin 1 → IVec S16 32) a x).toNat < S144.size a)
theorem k0_idx23_inb : ∀ (v172 : IVec S16 32) (k0_hw23 : k0_chk23 v172), ∀ a x, ((![v172] : Fin 1 → IVec S16 32) a x).toNat < S144.size a := fun v172 k0_hw23 => k0_hw23

def k0_chk24 (v177 : IVec S16 32) : Prop :=
  (∀ a x, ((![v177] : Fin 1 → IVec S16 32) a x).toNat < S144.size a)
theorem k0_idx24_inb : ∀ (v177 : IVec S16 32) (k0_hw24 : k0_chk24 v177), ∀ a x, ((![v177] : Fin 1 → IVec S16 32) a x).toNat < S144.size a := fun v177 k0_hw24 => k0_hw24

def k0_chk25 (v182 : IVec S16 32) : Prop :=
  (∀ a x, ((![v182] : Fin 1 → IVec S16 32) a x).toNat < S144.size a)
theorem k0_idx25_inb : ∀ (v182 : IVec S16 32) (k0_hw25 : k0_chk25 v182), ∀ a x, ((![v182] : Fin 1 → IVec S16 32) a x).toNat < S144.size a := fun v182 k0_hw25 => k0_hw25

def k0_chk26 (v187 : IVec S16 32) : Prop :=
  (∀ a x, ((![v187] : Fin 1 → IVec S16 32) a x).toNat < S144.size a)
theorem k0_idx26_inb : ∀ (v187 : IVec S16 32) (k0_hw26 : k0_chk26 v187), ∀ a x, ((![v187] : Fin 1 → IVec S16 32) a x).toNat < S144.size a := fun v187 k0_hw26 => k0_hw26

def k0_chk27 (v192 : IVec S16 32) : Prop :=
  (∀ a x, ((![v192] : Fin 1 → IVec S16 32) a x).toNat < S144.size a)
theorem k0_idx27_inb : ∀ (v192 : IVec S16 32) (k0_hw27 : k0_chk27 v192), ∀ a x, ((![v192] : Fin 1 → IVec S16 32) a x).toNat < S144.size a := fun v192 k0_hw27 => k0_hw27

def k0_chk28 (v197 : IVec S16 32) : Prop :=
  (∀ a x, ((![v197] : Fin 1 → IVec S16 32) a x).toNat < S144.size a)
theorem k0_idx28_inb : ∀ (v197 : IVec S16 32) (k0_hw28 : k0_chk28 v197), ∀ a x, ((![v197] : Fin 1 → IVec S16 32) a x).toNat < S144.size a := fun v197 k0_hw28 => k0_hw28

def k0_chk29 (v202 : IVec S16 32) : Prop :=
  (∀ a x, ((![v202] : Fin 1 → IVec S16 32) a x).toNat < S144.size a)
theorem k0_idx29_inb : ∀ (v202 : IVec S16 32) (k0_hw29 : k0_chk29 v202), ∀ a x, ((![v202] : Fin 1 → IVec S16 32) a x).toNat < S144.size a := fun v202 k0_hw29 => k0_hw29

def k0_chk30 (v207 : IVec S16 32) : Prop :=
  (∀ a x, ((![v207] : Fin 1 → IVec S16 32) a x).toNat < S144.size a)
theorem k0_idx30_inb : ∀ (v207 : IVec S16 32) (k0_hw30 : k0_chk30 v207), ∀ a x, ((![v207] : Fin 1 → IVec S16 32) a x).toNat < S144.size a := fun v207 k0_hw30 => k0_hw30

def k0_chk31 (v212 : IVec S16 32) : Prop :=
  (∀ a x, ((![v212] : Fin 1 → IVec S16 32) a x).toNat < S144.size a)
theorem k0_idx31_inb : ∀ (v212 : IVec S16 32) (k0_hw31 : k0_chk31 v212), ∀ a x, ((![v212] : Fin 1 → IVec S16 32) a x).toNat < S144.size a := fun v212 k0_hw31 => k0_hw31

def k0_chk32 (v217 : IVec S16 32) : Prop :=
  (∀ a x, ((![v217] : Fin 1 → IVec S16 32) a x).toNat < S144.size a)
theorem k0_idx32_inb : ∀ (v217 : IVec S16 32) (k0_hw32 : k0_chk32 v217), ∀ a x, ((![v217] : Fin 1 → IVec S16 32) a x).toNat < S144.size a := fun v217 k0_hw32 => k0_hw32
def k0_cond2 (k0_t1 : Fin k0_t1_loop.trips) : BitVec 1 :=
  let c2_i32_33 : BitVec 32 := 2#32
  let c0_i32_8 : BitVec 32 := 0#32
  let c1_i32_9 : BitVec 32 := 1#32
  let arg9 : BitVec 32 := Scf.iv c0_i32_8 c1_i32_9 k0_t1
  let v44 : BitVec 32 := Scalar.muli c2_i32_33 arg9
  let c1_i32_34 : BitVec 32 := 1#32
  let v45 : BitVec 32 := Scalar.addi v44 c1_i32_34
  let c2_i32_63 : BitVec 32 := 2#32
  let v70 : BitVec 32 := Scalar.addi v45 c2_i32_63
  let c10_i32_64 : BitVec 32 := 10#32
  let v71 : BitVec 1 := Scalar.cmpi .slt v70 c10_i32_64
  let v72 : BitVec 32 := Scalar.extui v71
  let c0_i32_65 : BitVec 32 := 0#32
  let v73 : BitVec 1 := Scalar.cmpi .ne v72 c0_i32_65
  v73

def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_33 : BitVec 32 := 2#32
  let c0_i32_8 : BitVec 32 := 0#32
  let c1_i32_9 : BitVec 32 := 1#32
  let arg9 : BitVec 32 := Scf.iv c0_i32_8 c1_i32_9 k0_t1
  let v44 : BitVec 32 := Scalar.muli c2_i32_33 arg9
  let c1_i32_34 : BitVec 32 := 1#32
  let v45 : BitVec 32 := Scalar.addi v44 c1_i32_34
  let v46 : BitVec 32 := Scalar.addi v3 v45
  let c2_i32_66 : BitVec 32 := 2#32
  let v74 : BitVec 32 := Scalar.addi v46 c2_i32_66
  let c0_i32_67 : BitVec 32 := 0#32
  let c0_i32_68 : BitVec 32 := 0#32
  ![v74.toNat, 0, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c0_i32 : BitVec 32 := 0#32
  let c0_i32_0 : BitVec 32 := 0#32
  ![v3.toNat, 0, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c1_i32 : BitVec 32 := 1#32
  let v8 : BitVec 32 := Scalar.addi v3 c1_i32
  let c0_i32_3 : BitVec 32 := 0#32
  let c0_i32_4 : BitVec 32 := 0#32
  ![v8.toNat, 0, 0]
@[reducible] def k1_t1_loop : Scf.Loop 32 :=
  let c0_i32_8 : BitVec 32 := 0#32
  let c5_i32 : BitVec 32 := 5#32
  let v13 : BitVec 32 := Scalar.addi c0_i32_8 c5_i32
  let c1_i32_9 : BitVec 32 := 1#32
  ⟨c0_i32_8, v13, c1_i32_9⟩
@[reducible] def k1_t2_loop : Scf.Loop 32 :=
  let c0_i32_27 : BitVec 32 := 0#32
  let c64_i32 : BitVec 32 := 64#32
  let v39 : BitVec 32 := Scalar.addi c0_i32_27 c64_i32
  let c1_i32_28 : BitVec 32 := 1#32
  ⟨c0_i32_27, v39, c1_i32_28⟩
def k1_off3 (k1_t2 : Fin k1_t2_loop.trips) (c0_i32_67 : BitVec 32) : Fin 2 → Nat :=
  let c2_i32_66 : BitVec 32 := 2#32
  let c0_i32_27 : BitVec 32 := 0#32
  let c1_i32_28 : BitVec 32 := 1#32
  let arg10 : BitVec 32 := Scf.iv c0_i32_27 c1_i32_28 k1_t2
  let v74 : BitVec 32 := Scalar.muli c2_i32_66 arg10
  let v75 : BitVec 32 := Scalar.addi v74 c0_i32_67
  let v76 : Index := Scalar.indexCast v75
  let c0_68 : Index := 0#32
  ![v76.toNat, 0]
def k1_off4 (k1_t2 : Fin k1_t2_loop.trips) (c0_i32_70 : BitVec 32) : Fin 2 → Nat :=
  let c2_i32_69 : BitVec 32 := 2#32
  let c0_i32_27 : BitVec 32 := 0#32
  let c1_i32_28 : BitVec 32 := 1#32
  let arg10 : BitVec 32 := Scf.iv c0_i32_27 c1_i32_28 k1_t2
  let v78 : BitVec 32 := Scalar.muli c2_i32_69 arg10
  let v79 : BitVec 32 := Scalar.addi v78 c0_i32_70
  let v80 : Index := Scalar.indexCast v79
  let c16_71 : Index := 16#32
  ![v80.toNat, 16]
def k1_off5 (k1_t2 : Fin k1_t2_loop.trips) (c0_i32_73 : BitVec 32) : Fin 2 → Nat :=
  let c2_i32_72 : BitVec 32 := 2#32
  let c0_i32_27 : BitVec 32 := 0#32
  let c1_i32_28 : BitVec 32 := 1#32
  let arg10 : BitVec 32 := Scf.iv c0_i32_27 c1_i32_28 k1_t2
  let v82 : BitVec 32 := Scalar.muli c2_i32_72 arg10
  let v83 : BitVec 32 := Scalar.addi v82 c0_i32_73
  let v84 : Index := Scalar.indexCast v83
  let c32_74 : Index := 32#32
  ![v84.toNat, 32]
def k1_off6 (k1_t2 : Fin k1_t2_loop.trips) (c0_i32_76 : BitVec 32) : Fin 2 → Nat :=
  let c2_i32_75 : BitVec 32 := 2#32
  let c0_i32_27 : BitVec 32 := 0#32
  let c1_i32_28 : BitVec 32 := 1#32
  let arg10 : BitVec 32 := Scf.iv c0_i32_27 c1_i32_28 k1_t2
  let v86 : BitVec 32 := Scalar.muli c2_i32_75 arg10
  let v87 : BitVec 32 := Scalar.addi v86 c0_i32_76
  let v88 : Index := Scalar.indexCast v87
  let c48_77 : Index := 48#32
  ![v88.toNat, 48]
def k1_off7 (k1_t2 : Fin k1_t2_loop.trips) (c0_i32_79 : BitVec 32) : Fin 2 → Nat :=
  let c2_i32_78 : BitVec 32 := 2#32
  let c0_i32_27 : BitVec 32 := 0#32
  let c1_i32_28 : BitVec 32 := 1#32
  let arg10 : BitVec 32 := Scf.iv c0_i32_27 c1_i32_28 k1_t2
  let v90 : BitVec 32 := Scalar.muli c2_i32_78 arg10
  let v91 : BitVec 32 := Scalar.addi v90 c0_i32_79
  let v92 : Index := Scalar.indexCast v91
  let c64_80 : Index := 64#32
  ![v92.toNat, 64]
def k1_off8 (k1_t2 : Fin k1_t2_loop.trips) (c0_i32_82 : BitVec 32) : Fin 2 → Nat :=
  let c2_i32_81 : BitVec 32 := 2#32
  let c0_i32_27 : BitVec 32 := 0#32
  let c1_i32_28 : BitVec 32 := 1#32
  let arg10 : BitVec 32 := Scf.iv c0_i32_27 c1_i32_28 k1_t2
  let v94 : BitVec 32 := Scalar.muli c2_i32_81 arg10
  let v95 : BitVec 32 := Scalar.addi v94 c0_i32_82
  let v96 : Index := Scalar.indexCast v95
  let c80_83 : Index := 80#32
  ![v96.toNat, 80]
def k1_off9 (k1_t2 : Fin k1_t2_loop.trips) (c0_i32_85 : BitVec 32) : Fin 2 → Nat :=
  let c2_i32_84 : BitVec 32 := 2#32
  let c0_i32_27 : BitVec 32 := 0#32
  let c1_i32_28 : BitVec 32 := 1#32
  let arg10 : BitVec 32 := Scf.iv c0_i32_27 c1_i32_28 k1_t2
  let v98 : BitVec 32 := Scalar.muli c2_i32_84 arg10
  let v99 : BitVec 32 := Scalar.addi v98 c0_i32_85
  let v100 : Index := Scalar.indexCast v99
  let c96_86 : Index := 96#32
  ![v100.toNat, 96]
def k1_off10 (k1_t2 : Fin k1_t2_loop.trips) (c0_i32_88 : BitVec 32) : Fin 2 → Nat :=
  let c2_i32_87 : BitVec 32 := 2#32
  let c0_i32_27 : BitVec 32 := 0#32
  let c1_i32_28 : BitVec 32 := 1#32
  let arg10 : BitVec 32 := Scf.iv c0_i32_27 c1_i32_28 k1_t2
  let v102 : BitVec 32 := Scalar.muli c2_i32_87 arg10
  let v103 : BitVec 32 := Scalar.addi v102 c0_i32_88
  let v104 : Index := Scalar.indexCast v103
  let c112_89 : Index := 112#32
  ![v104.toNat, 112]

def k1_chk1 (v142 : IVec S16 32) : Prop :=
  (∀ a x, ((![v142] : Fin 1 → IVec S16 32) a x).toNat < S144.size a)
theorem k1_idx1_inb : ∀ (v142 : IVec S16 32) (k1_hw1 : k1_chk1 v142), ∀ a x, ((![v142] : Fin 1 → IVec S16 32) a x).toNat < S144.size a := fun v142 k1_hw1 => k1_hw1

def k1_chk2 (v147 : IVec S16 32) : Prop :=
  (∀ a x, ((![v147] : Fin 1 → IVec S16 32) a x).toNat < S144.size a)
theorem k1_idx2_inb : ∀ (v147 : IVec S16 32) (k1_hw2 : k1_chk2 v147), ∀ a x, ((![v147] : Fin 1 → IVec S16 32) a x).toNat < S144.size a := fun v147 k1_hw2 => k1_hw2

def k1_chk3 (v152 : IVec S16 32) : Prop :=
  (∀ a x, ((![v152] : Fin 1 → IVec S16 32) a x).toNat < S144.size a)
theorem k1_idx3_inb : ∀ (v152 : IVec S16 32) (k1_hw3 : k1_chk3 v152), ∀ a x, ((![v152] : Fin 1 → IVec S16 32) a x).toNat < S144.size a := fun v152 k1_hw3 => k1_hw3

def k1_chk4 (v157 : IVec S16 32) : Prop :=
  (∀ a x, ((![v157] : Fin 1 → IVec S16 32) a x).toNat < S144.size a)
theorem k1_idx4_inb : ∀ (v157 : IVec S16 32) (k1_hw4 : k1_chk4 v157), ∀ a x, ((![v157] : Fin 1 → IVec S16 32) a x).toNat < S144.size a := fun v157 k1_hw4 => k1_hw4

def k1_chk5 (v162 : IVec S16 32) : Prop :=
  (∀ a x, ((![v162] : Fin 1 → IVec S16 32) a x).toNat < S144.size a)
theorem k1_idx5_inb : ∀ (v162 : IVec S16 32) (k1_hw5 : k1_chk5 v162), ∀ a x, ((![v162] : Fin 1 → IVec S16 32) a x).toNat < S144.size a := fun v162 k1_hw5 => k1_hw5

def k1_chk6 (v167 : IVec S16 32) : Prop :=
  (∀ a x, ((![v167] : Fin 1 → IVec S16 32) a x).toNat < S144.size a)
theorem k1_idx6_inb : ∀ (v167 : IVec S16 32) (k1_hw6 : k1_chk6 v167), ∀ a x, ((![v167] : Fin 1 → IVec S16 32) a x).toNat < S144.size a := fun v167 k1_hw6 => k1_hw6

def k1_chk7 (v172 : IVec S16 32) : Prop :=
  (∀ a x, ((![v172] : Fin 1 → IVec S16 32) a x).toNat < S144.size a)
theorem k1_idx7_inb : ∀ (v172 : IVec S16 32) (k1_hw7 : k1_chk7 v172), ∀ a x, ((![v172] : Fin 1 → IVec S16 32) a x).toNat < S144.size a := fun v172 k1_hw7 => k1_hw7

def k1_chk8 (v177 : IVec S16 32) : Prop :=
  (∀ a x, ((![v177] : Fin 1 → IVec S16 32) a x).toNat < S144.size a)
theorem k1_idx8_inb : ∀ (v177 : IVec S16 32) (k1_hw8 : k1_chk8 v177), ∀ a x, ((![v177] : Fin 1 → IVec S16 32) a x).toNat < S144.size a := fun v177 k1_hw8 => k1_hw8

def k1_chk9 (v182 : IVec S16 32) : Prop :=
  (∀ a x, ((![v182] : Fin 1 → IVec S16 32) a x).toNat < S144.size a)
theorem k1_idx9_inb : ∀ (v182 : IVec S16 32) (k1_hw9 : k1_chk9 v182), ∀ a x, ((![v182] : Fin 1 → IVec S16 32) a x).toNat < S144.size a := fun v182 k1_hw9 => k1_hw9

def k1_chk10 (v187 : IVec S16 32) : Prop :=
  (∀ a x, ((![v187] : Fin 1 → IVec S16 32) a x).toNat < S144.size a)
theorem k1_idx10_inb : ∀ (v187 : IVec S16 32) (k1_hw10 : k1_chk10 v187), ∀ a x, ((![v187] : Fin 1 → IVec S16 32) a x).toNat < S144.size a := fun v187 k1_hw10 => k1_hw10

def k1_chk11 (v192 : IVec S16 32) : Prop :=
  (∀ a x, ((![v192] : Fin 1 → IVec S16 32) a x).toNat < S144.size a)
theorem k1_idx11_inb : ∀ (v192 : IVec S16 32) (k1_hw11 : k1_chk11 v192), ∀ a x, ((![v192] : Fin 1 → IVec S16 32) a x).toNat < S144.size a := fun v192 k1_hw11 => k1_hw11

def k1_chk12 (v197 : IVec S16 32) : Prop :=
  (∀ a x, ((![v197] : Fin 1 → IVec S16 32) a x).toNat < S144.size a)
theorem k1_idx12_inb : ∀ (v197 : IVec S16 32) (k1_hw12 : k1_chk12 v197), ∀ a x, ((![v197] : Fin 1 → IVec S16 32) a x).toNat < S144.size a := fun v197 k1_hw12 => k1_hw12

def k1_chk13 (v202 : IVec S16 32) : Prop :=
  (∀ a x, ((![v202] : Fin 1 → IVec S16 32) a x).toNat < S144.size a)
theorem k1_idx13_inb : ∀ (v202 : IVec S16 32) (k1_hw13 : k1_chk13 v202), ∀ a x, ((![v202] : Fin 1 → IVec S16 32) a x).toNat < S144.size a := fun v202 k1_hw13 => k1_hw13

def k1_chk14 (v207 : IVec S16 32) : Prop :=
  (∀ a x, ((![v207] : Fin 1 → IVec S16 32) a x).toNat < S144.size a)
theorem k1_idx14_inb : ∀ (v207 : IVec S16 32) (k1_hw14 : k1_chk14 v207), ∀ a x, ((![v207] : Fin 1 → IVec S16 32) a x).toNat < S144.size a := fun v207 k1_hw14 => k1_hw14

def k1_chk15 (v212 : IVec S16 32) : Prop :=
  (∀ a x, ((![v212] : Fin 1 → IVec S16 32) a x).toNat < S144.size a)
theorem k1_idx15_inb : ∀ (v212 : IVec S16 32) (k1_hw15 : k1_chk15 v212), ∀ a x, ((![v212] : Fin 1 → IVec S16 32) a x).toNat < S144.size a := fun v212 k1_hw15 => k1_hw15

def k1_chk16 (v217 : IVec S16 32) : Prop :=
  (∀ a x, ((![v217] : Fin 1 → IVec S16 32) a x).toNat < S144.size a)
theorem k1_idx16_inb : ∀ (v217 : IVec S16 32) (k1_hw16 : k1_chk16 v217), ∀ a x, ((![v217] : Fin 1 → IVec S16 32) a x).toNat < S144.size a := fun v217 k1_hw16 => k1_hw16
def k1_off11 (i : grid1.Coords) (k1_t1 : Fin k1_t1_loop.trips) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k1_t1
  let v14 : BitVec 32 := Scalar.muli c2_i32_11 arg9
  let v15 : BitVec 32 := Scalar.addi v14 c0_i32_12
  let v16 : BitVec 32 := Scalar.addi v3 v15
  let c0_i32_66_r0 : BitVec 32 := 0#32
  ![v16.toNat, 0]
def k1_cond1 (k1_t1 : Fin k1_t1_loop.trips) : BitVec 1 :=
  let c2_i32_11 : BitVec 32 := 2#32
  let c0_i32_8 : BitVec 32 := 0#32
  let c1_i32_9 : BitVec 32 := 1#32
  let arg9 : BitVec 32 := Scf.iv c0_i32_8 c1_i32_9 k1_t1
  let v14 : BitVec 32 := Scalar.muli c2_i32_11 arg9
  let c0_i32_12 : BitVec 32 := 0#32
  let v15 : BitVec 32 := Scalar.addi v14 c0_i32_12
  let c2_i32_30 : BitVec 32 := 2#32
  let v40 : BitVec 32 := Scalar.addi v15 c2_i32_30
  let c10_i32_31 : BitVec 32 := 10#32
  let v41 : BitVec 1 := Scalar.cmpi .slt v40 c10_i32_31
  let v42 : BitVec 32 := Scalar.extui v41
  let c0_i32_32 : BitVec 32 := 0#32
  let v43 : BitVec 1 := Scalar.cmpi .ne v42 c0_i32_32
  v43

def k1_off12 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k1_t1
  let v14 : BitVec 32 := Scalar.muli c2_i32_11 arg9
  let c0_i32_12 : BitVec 32 := 0#32
  let v15 : BitVec 32 := Scalar.addi v14 c0_i32_12
  let v16 : BitVec 32 := Scalar.addi v3 v15
  let c2_i32_66 : BitVec 32 := 2#32
  let v74 : BitVec 32 := Scalar.addi v16 c2_i32_66
  let c0_i32_67 : BitVec 32 := 0#32
  let c0_i32_68 : BitVec 32 := 0#32
  ![v74.toNat, 0, 0]
@[reducible] def k1_t3_loop : Scf.Loop 32 :=
  let c0_i32_59 : BitVec 32 := 0#32
  let c64_i32_60 : BitVec 32 := 64#32
  let v69 : BitVec 32 := Scalar.addi c0_i32_59 c64_i32_60
  let c1_i32_61 : BitVec 32 := 1#32
  ⟨c0_i32_59, v69, c1_i32_61⟩
def k1_off13 (k1_t3 : Fin k1_t3_loop.trips) (c0_i32_67 : BitVec 32) : Fin 2 → Nat :=
  let c2_i32_66 : BitVec 32 := 2#32
  let c0_i32_59 : BitVec 32 := 0#32
  let c1_i32_61 : BitVec 32 := 1#32
  let arg10 : BitVec 32 := Scf.iv c0_i32_59 c1_i32_61 k1_t3
  let v74 : BitVec 32 := Scalar.muli c2_i32_66 arg10
  let v75 : BitVec 32 := Scalar.addi v74 c0_i32_67
  let v76 : Index := Scalar.indexCast v75
  let c0_68 : Index := 0#32
  ![v76.toNat, 0]
def k1_off14 (k1_t3 : Fin k1_t3_loop.trips) (c0_i32_70 : BitVec 32) : Fin 2 → Nat :=
  let c2_i32_69 : BitVec 32 := 2#32
  let c0_i32_59 : BitVec 32 := 0#32
  let c1_i32_61 : BitVec 32 := 1#32
  let arg10 : BitVec 32 := Scf.iv c0_i32_59 c1_i32_61 k1_t3
  let v78 : BitVec 32 := Scalar.muli c2_i32_69 arg10
  let v79 : BitVec 32 := Scalar.addi v78 c0_i32_70
  let v80 : Index := Scalar.indexCast v79
  let c16_71 : Index := 16#32
  ![v80.toNat, 16]
def k1_off15 (k1_t3 : Fin k1_t3_loop.trips) (c0_i32_73 : BitVec 32) : Fin 2 → Nat :=
  let c2_i32_72 : BitVec 32 := 2#32
  let c0_i32_59 : BitVec 32 := 0#32
  let c1_i32_61 : BitVec 32 := 1#32
  let arg10 : BitVec 32 := Scf.iv c0_i32_59 c1_i32_61 k1_t3
  let v82 : BitVec 32 := Scalar.muli c2_i32_72 arg10
  let v83 : BitVec 32 := Scalar.addi v82 c0_i32_73
  let v84 : Index := Scalar.indexCast v83
  let c32_74 : Index := 32#32
  ![v84.toNat, 32]
def k1_off16 (k1_t3 : Fin k1_t3_loop.trips) (c0_i32_76 : BitVec 32) : Fin 2 → Nat :=
  let c2_i32_75 : BitVec 32 := 2#32
  let c0_i32_59 : BitVec 32 := 0#32
  let c1_i32_61 : BitVec 32 := 1#32
  let arg10 : BitVec 32 := Scf.iv c0_i32_59 c1_i32_61 k1_t3
  let v86 : BitVec 32 := Scalar.muli c2_i32_75 arg10
  let v87 : BitVec 32 := Scalar.addi v86 c0_i32_76
  let v88 : Index := Scalar.indexCast v87
  let c48_77 : Index := 48#32
  ![v88.toNat, 48]
def k1_off17 (k1_t3 : Fin k1_t3_loop.trips) (c0_i32_79 : BitVec 32) : Fin 2 → Nat :=
  let c2_i32_78 : BitVec 32 := 2#32
  let c0_i32_59 : BitVec 32 := 0#32
  let c1_i32_61 : BitVec 32 := 1#32
  let arg10 : BitVec 32 := Scf.iv c0_i32_59 c1_i32_61 k1_t3
  let v90 : BitVec 32 := Scalar.muli c2_i32_78 arg10
  let v91 : BitVec 32 := Scalar.addi v90 c0_i32_79
  let v92 : Index := Scalar.indexCast v91
  let c64_80 : Index := 64#32
  ![v92.toNat, 64]
def k1_off18 (k1_t3 : Fin k1_t3_loop.trips) (c0_i32_82 : BitVec 32) : Fin 2 → Nat :=
  let c2_i32_81 : BitVec 32 := 2#32
  let c0_i32_59 : BitVec 32 := 0#32
  let c1_i32_61 : BitVec 32 := 1#32
  let arg10 : BitVec 32 := Scf.iv c0_i32_59 c1_i32_61 k1_t3
  let v94 : BitVec 32 := Scalar.muli c2_i32_81 arg10
  let v95 : BitVec 32 := Scalar.addi v94 c0_i32_82
  let v96 : Index := Scalar.indexCast v95
  let c80_83 : Index := 80#32
  ![v96.toNat, 80]
def k1_off19 (k1_t3 : Fin k1_t3_loop.trips) (c0_i32_85 : BitVec 32) : Fin 2 → Nat :=
  let c2_i32_84 : BitVec 32 := 2#32
  let c0_i32_59 : BitVec 32 := 0#32
  let c1_i32_61 : BitVec 32 := 1#32
  let arg10 : BitVec 32 := Scf.iv c0_i32_59 c1_i32_61 k1_t3
  let v98 : BitVec 32 := Scalar.muli c2_i32_84 arg10
  let v99 : BitVec 32 := Scalar.addi v98 c0_i32_85
  let v100 : Index := Scalar.indexCast v99
  let c96_86 : Index := 96#32
  ![v100.toNat, 96]
def k1_off20 (k1_t3 : Fin k1_t3_loop.trips) (c0_i32_88 : BitVec 32) : Fin 2 → Nat :=
  let c2_i32_87 : BitVec 32 := 2#32
  let c0_i32_59 : BitVec 32 := 0#32
  let c1_i32_61 : BitVec 32 := 1#32
  let arg10 : BitVec 32 := Scf.iv c0_i32_59 c1_i32_61 k1_t3
  let v102 : BitVec 32 := Scalar.muli c2_i32_87 arg10
  let v103 : BitVec 32 := Scalar.addi v102 c0_i32_88
  let v104 : Index := Scalar.indexCast v103
  let c112_89 : Index := 112#32
  ![v104.toNat, 112]

def k1_chk17 (v142 : IVec S16 32) : Prop :=
  (∀ a x, ((![v142] : Fin 1 → IVec S16 32) a x).toNat < S144.size a)
theorem k1_idx17_inb : ∀ (v142 : IVec S16 32) (k1_hw17 : k1_chk17 v142), ∀ a x, ((![v142] : Fin 1 → IVec S16 32) a x).toNat < S144.size a := fun v142 k1_hw17 => k1_hw17

def k1_chk18 (v147 : IVec S16 32) : Prop :=
  (∀ a x, ((![v147] : Fin 1 → IVec S16 32) a x).toNat < S144.size a)
theorem k1_idx18_inb : ∀ (v147 : IVec S16 32) (k1_hw18 : k1_chk18 v147), ∀ a x, ((![v147] : Fin 1 → IVec S16 32) a x).toNat < S144.size a := fun v147 k1_hw18 => k1_hw18

def k1_chk19 (v152 : IVec S16 32) : Prop :=
  (∀ a x, ((![v152] : Fin 1 → IVec S16 32) a x).toNat < S144.size a)
theorem k1_idx19_inb : ∀ (v152 : IVec S16 32) (k1_hw19 : k1_chk19 v152), ∀ a x, ((![v152] : Fin 1 → IVec S16 32) a x).toNat < S144.size a := fun v152 k1_hw19 => k1_hw19

def k1_chk20 (v157 : IVec S16 32) : Prop :=
  (∀ a x, ((![v157] : Fin 1 → IVec S16 32) a x).toNat < S144.size a)
theorem k1_idx20_inb : ∀ (v157 : IVec S16 32) (k1_hw20 : k1_chk20 v157), ∀ a x, ((![v157] : Fin 1 → IVec S16 32) a x).toNat < S144.size a := fun v157 k1_hw20 => k1_hw20

def k1_chk21 (v162 : IVec S16 32) : Prop :=
  (∀ a x, ((![v162] : Fin 1 → IVec S16 32) a x).toNat < S144.size a)
theorem k1_idx21_inb : ∀ (v162 : IVec S16 32) (k1_hw21 : k1_chk21 v162), ∀ a x, ((![v162] : Fin 1 → IVec S16 32) a x).toNat < S144.size a := fun v162 k1_hw21 => k1_hw21

def k1_chk22 (v167 : IVec S16 32) : Prop :=
  (∀ a x, ((![v167] : Fin 1 → IVec S16 32) a x).toNat < S144.size a)
theorem k1_idx22_inb : ∀ (v167 : IVec S16 32) (k1_hw22 : k1_chk22 v167), ∀ a x, ((![v167] : Fin 1 → IVec S16 32) a x).toNat < S144.size a := fun v167 k1_hw22 => k1_hw22

def k1_chk23 (v172 : IVec S16 32) : Prop :=
  (∀ a x, ((![v172] : Fin 1 → IVec S16 32) a x).toNat < S144.size a)
theorem k1_idx23_inb : ∀ (v172 : IVec S16 32) (k1_hw23 : k1_chk23 v172), ∀ a x, ((![v172] : Fin 1 → IVec S16 32) a x).toNat < S144.size a := fun v172 k1_hw23 => k1_hw23

def k1_chk24 (v177 : IVec S16 32) : Prop :=
  (∀ a x, ((![v177] : Fin 1 → IVec S16 32) a x).toNat < S144.size a)
theorem k1_idx24_inb : ∀ (v177 : IVec S16 32) (k1_hw24 : k1_chk24 v177), ∀ a x, ((![v177] : Fin 1 → IVec S16 32) a x).toNat < S144.size a := fun v177 k1_hw24 => k1_hw24

def k1_chk25 (v182 : IVec S16 32) : Prop :=
  (∀ a x, ((![v182] : Fin 1 → IVec S16 32) a x).toNat < S144.size a)
theorem k1_idx25_inb : ∀ (v182 : IVec S16 32) (k1_hw25 : k1_chk25 v182), ∀ a x, ((![v182] : Fin 1 → IVec S16 32) a x).toNat < S144.size a := fun v182 k1_hw25 => k1_hw25

def k1_chk26 (v187 : IVec S16 32) : Prop :=
  (∀ a x, ((![v187] : Fin 1 → IVec S16 32) a x).toNat < S144.size a)
theorem k1_idx26_inb : ∀ (v187 : IVec S16 32) (k1_hw26 : k1_chk26 v187), ∀ a x, ((![v187] : Fin 1 → IVec S16 32) a x).toNat < S144.size a := fun v187 k1_hw26 => k1_hw26

def k1_chk27 (v192 : IVec S16 32) : Prop :=
  (∀ a x, ((![v192] : Fin 1 → IVec S16 32) a x).toNat < S144.size a)
theorem k1_idx27_inb : ∀ (v192 : IVec S16 32) (k1_hw27 : k1_chk27 v192), ∀ a x, ((![v192] : Fin 1 → IVec S16 32) a x).toNat < S144.size a := fun v192 k1_hw27 => k1_hw27

def k1_chk28 (v197 : IVec S16 32) : Prop :=
  (∀ a x, ((![v197] : Fin 1 → IVec S16 32) a x).toNat < S144.size a)
theorem k1_idx28_inb : ∀ (v197 : IVec S16 32) (k1_hw28 : k1_chk28 v197), ∀ a x, ((![v197] : Fin 1 → IVec S16 32) a x).toNat < S144.size a := fun v197 k1_hw28 => k1_hw28

def k1_chk29 (v202 : IVec S16 32) : Prop :=
  (∀ a x, ((![v202] : Fin 1 → IVec S16 32) a x).toNat < S144.size a)
theorem k1_idx29_inb : ∀ (v202 : IVec S16 32) (k1_hw29 : k1_chk29 v202), ∀ a x, ((![v202] : Fin 1 → IVec S16 32) a x).toNat < S144.size a := fun v202 k1_hw29 => k1_hw29

def k1_chk30 (v207 : IVec S16 32) : Prop :=
  (∀ a x, ((![v207] : Fin 1 → IVec S16 32) a x).toNat < S144.size a)
theorem k1_idx30_inb : ∀ (v207 : IVec S16 32) (k1_hw30 : k1_chk30 v207), ∀ a x, ((![v207] : Fin 1 → IVec S16 32) a x).toNat < S144.size a := fun v207 k1_hw30 => k1_hw30

def k1_chk31 (v212 : IVec S16 32) : Prop :=
  (∀ a x, ((![v212] : Fin 1 → IVec S16 32) a x).toNat < S144.size a)
theorem k1_idx31_inb : ∀ (v212 : IVec S16 32) (k1_hw31 : k1_chk31 v212), ∀ a x, ((![v212] : Fin 1 → IVec S16 32) a x).toNat < S144.size a := fun v212 k1_hw31 => k1_hw31

def k1_chk32 (v217 : IVec S16 32) : Prop :=
  (∀ a x, ((![v217] : Fin 1 → IVec S16 32) a x).toNat < S144.size a)
theorem k1_idx32_inb : ∀ (v217 : IVec S16 32) (k1_hw32 : k1_chk32 v217), ∀ a x, ((![v217] : Fin 1 → IVec S16 32) a x).toNat < S144.size a := fun v217 k1_hw32 => k1_hw32
def k1_cond2 (k1_t1 : Fin k1_t1_loop.trips) : BitVec 1 :=
  let c2_i32_33 : BitVec 32 := 2#32
  let c0_i32_8 : BitVec 32 := 0#32
  let c1_i32_9 : BitVec 32 := 1#32
  let arg9 : BitVec 32 := Scf.iv c0_i32_8 c1_i32_9 k1_t1
  let v44 : BitVec 32 := Scalar.muli c2_i32_33 arg9
  let c1_i32_34 : BitVec 32 := 1#32
  let v45 : BitVec 32 := Scalar.addi v44 c1_i32_34
  let c2_i32_63 : BitVec 32 := 2#32
  let v70 : BitVec 32 := Scalar.addi v45 c2_i32_63
  let c10_i32_64 : BitVec 32 := 10#32
  let v71 : BitVec 1 := Scalar.cmpi .slt v70 c10_i32_64
  let v72 : BitVec 32 := Scalar.extui v71
  let c0_i32_65 : BitVec 32 := 0#32
  let v73 : BitVec 1 := Scalar.cmpi .ne v72 c0_i32_65
  v73

def k1_off21 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_33 : BitVec 32 := 2#32
  let c0_i32_8 : BitVec 32 := 0#32
  let c1_i32_9 : BitVec 32 := 1#32
  let arg9 : BitVec 32 := Scf.iv c0_i32_8 c1_i32_9 k1_t1
  let v44 : BitVec 32 := Scalar.muli c2_i32_33 arg9
  let c1_i32_34 : BitVec 32 := 1#32
  let v45 : BitVec 32 := Scalar.addi v44 c1_i32_34
  let v46 : BitVec 32 := Scalar.addi v3 v45
  let c2_i32_66 : BitVec 32 := 2#32
  let v74 : BitVec 32 := Scalar.addi v46 c2_i32_66
  let c0_i32_67 : BitVec 32 := 0#32
  let c0_i32_68 : BitVec 32 := 0#32
  ![v74.toNat, 0, 0]
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c0_i32 : BitVec 32 := 0#32
  let c0_i32_0 : BitVec 32 := 0#32
  ![v3.toNat, 0, 0]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c1_i32 : BitVec 32 := 1#32
  let v8 : BitVec 32 := Scalar.addi v3 c1_i32
  let c0_i32_3 : BitVec 32 := 0#32
  let c0_i32_4 : BitVec 32 := 0#32
  ![v8.toNat, 0, 0]
@[reducible] def k2_t1_loop : Scf.Loop 32 :=
  let c0_i32_8 : BitVec 32 := 0#32
  let c5_i32 : BitVec 32 := 5#32
  let v13 : BitVec 32 := Scalar.addi c0_i32_8 c5_i32
  let c1_i32_9 : BitVec 32 := 1#32
  ⟨c0_i32_8, v13, c1_i32_9⟩
@[reducible] def k2_t2_loop : Scf.Loop 32 :=
  let c0_i32_27 : BitVec 32 := 0#32
  let c64_i32 : BitVec 32 := 64#32
  let v39 : BitVec 32 := Scalar.addi c0_i32_27 c64_i32
  let c1_i32_28 : BitVec 32 := 1#32
  ⟨c0_i32_27, v39, c1_i32_28⟩
def k2_off3 (k2_t2 : Fin k2_t2_loop.trips) (c0_i32_67 : BitVec 32) : Fin 2 → Nat :=
  let c2_i32_66 : BitVec 32 := 2#32
  let c0_i32_27 : BitVec 32 := 0#32
  let c1_i32_28 : BitVec 32 := 1#32
  let arg10 : BitVec 32 := Scf.iv c0_i32_27 c1_i32_28 k2_t2
  let v74 : BitVec 32 := Scalar.muli c2_i32_66 arg10
  let v75 : BitVec 32 := Scalar.addi v74 c0_i32_67
  let v76 : Index := Scalar.indexCast v75
  let c0_68 : Index := 0#32
  ![v76.toNat, 0]
def k2_off4 (k2_t2 : Fin k2_t2_loop.trips) (c0_i32_70 : BitVec 32) : Fin 2 → Nat :=
  let c2_i32_69 : BitVec 32 := 2#32
  let c0_i32_27 : BitVec 32 := 0#32
  let c1_i32_28 : BitVec 32 := 1#32
  let arg10 : BitVec 32 := Scf.iv c0_i32_27 c1_i32_28 k2_t2
  let v78 : BitVec 32 := Scalar.muli c2_i32_69 arg10
  let v79 : BitVec 32 := Scalar.addi v78 c0_i32_70
  let v80 : Index := Scalar.indexCast v79
  let c16_71 : Index := 16#32
  ![v80.toNat, 16]
def k2_off5 (k2_t2 : Fin k2_t2_loop.trips) (c0_i32_73 : BitVec 32) : Fin 2 → Nat :=
  let c2_i32_72 : BitVec 32 := 2#32
  let c0_i32_27 : BitVec 32 := 0#32
  let c1_i32_28 : BitVec 32 := 1#32
  let arg10 : BitVec 32 := Scf.iv c0_i32_27 c1_i32_28 k2_t2
  let v82 : BitVec 32 := Scalar.muli c2_i32_72 arg10
  let v83 : BitVec 32 := Scalar.addi v82 c0_i32_73
  let v84 : Index := Scalar.indexCast v83
  let c32_74 : Index := 32#32
  ![v84.toNat, 32]
def k2_off6 (k2_t2 : Fin k2_t2_loop.trips) (c0_i32_76 : BitVec 32) : Fin 2 → Nat :=
  let c2_i32_75 : BitVec 32 := 2#32
  let c0_i32_27 : BitVec 32 := 0#32
  let c1_i32_28 : BitVec 32 := 1#32
  let arg10 : BitVec 32 := Scf.iv c0_i32_27 c1_i32_28 k2_t2
  let v86 : BitVec 32 := Scalar.muli c2_i32_75 arg10
  let v87 : BitVec 32 := Scalar.addi v86 c0_i32_76
  let v88 : Index := Scalar.indexCast v87
  let c48_77 : Index := 48#32
  ![v88.toNat, 48]
def k2_off7 (k2_t2 : Fin k2_t2_loop.trips) (c0_i32_79 : BitVec 32) : Fin 2 → Nat :=
  let c2_i32_78 : BitVec 32 := 2#32
  let c0_i32_27 : BitVec 32 := 0#32
  let c1_i32_28 : BitVec 32 := 1#32
  let arg10 : BitVec 32 := Scf.iv c0_i32_27 c1_i32_28 k2_t2
  let v90 : BitVec 32 := Scalar.muli c2_i32_78 arg10
  let v91 : BitVec 32 := Scalar.addi v90 c0_i32_79
  let v92 : Index := Scalar.indexCast v91
  let c64_80 : Index := 64#32
  ![v92.toNat, 64]
def k2_off8 (k2_t2 : Fin k2_t2_loop.trips) (c0_i32_82 : BitVec 32) : Fin 2 → Nat :=
  let c2_i32_81 : BitVec 32 := 2#32
  let c0_i32_27 : BitVec 32 := 0#32
  let c1_i32_28 : BitVec 32 := 1#32
  let arg10 : BitVec 32 := Scf.iv c0_i32_27 c1_i32_28 k2_t2
  let v94 : BitVec 32 := Scalar.muli c2_i32_81 arg10
  let v95 : BitVec 32 := Scalar.addi v94 c0_i32_82
  let v96 : Index := Scalar.indexCast v95
  let c80_83 : Index := 80#32
  ![v96.toNat, 80]
def k2_off9 (k2_t2 : Fin k2_t2_loop.trips) (c0_i32_85 : BitVec 32) : Fin 2 → Nat :=
  let c2_i32_84 : BitVec 32 := 2#32
  let c0_i32_27 : BitVec 32 := 0#32
  let c1_i32_28 : BitVec 32 := 1#32
  let arg10 : BitVec 32 := Scf.iv c0_i32_27 c1_i32_28 k2_t2
  let v98 : BitVec 32 := Scalar.muli c2_i32_84 arg10
  let v99 : BitVec 32 := Scalar.addi v98 c0_i32_85
  let v100 : Index := Scalar.indexCast v99
  let c96_86 : Index := 96#32
  ![v100.toNat, 96]
def k2_off10 (k2_t2 : Fin k2_t2_loop.trips) (c0_i32_88 : BitVec 32) : Fin 2 → Nat :=
  let c2_i32_87 : BitVec 32 := 2#32
  let c0_i32_27 : BitVec 32 := 0#32
  let c1_i32_28 : BitVec 32 := 1#32
  let arg10 : BitVec 32 := Scf.iv c0_i32_27 c1_i32_28 k2_t2
  let v102 : BitVec 32 := Scalar.muli c2_i32_87 arg10
  let v103 : BitVec 32 := Scalar.addi v102 c0_i32_88
  let v104 : Index := Scalar.indexCast v103
  let c112_89 : Index := 112#32
  ![v104.toNat, 112]

def k2_chk1 (v142 : IVec S16 32) : Prop :=
  (∀ a x, ((![v142] : Fin 1 → IVec S16 32) a x).toNat < S144.size a)
theorem k2_idx1_inb : ∀ (v142 : IVec S16 32) (k2_hw1 : k2_chk1 v142), ∀ a x, ((![v142] : Fin 1 → IVec S16 32) a x).toNat < S144.size a := fun v142 k2_hw1 => k2_hw1

def k2_chk2 (v147 : IVec S16 32) : Prop :=
  (∀ a x, ((![v147] : Fin 1 → IVec S16 32) a x).toNat < S144.size a)
theorem k2_idx2_inb : ∀ (v147 : IVec S16 32) (k2_hw2 : k2_chk2 v147), ∀ a x, ((![v147] : Fin 1 → IVec S16 32) a x).toNat < S144.size a := fun v147 k2_hw2 => k2_hw2

def k2_chk3 (v152 : IVec S16 32) : Prop :=
  (∀ a x, ((![v152] : Fin 1 → IVec S16 32) a x).toNat < S144.size a)
theorem k2_idx3_inb : ∀ (v152 : IVec S16 32) (k2_hw3 : k2_chk3 v152), ∀ a x, ((![v152] : Fin 1 → IVec S16 32) a x).toNat < S144.size a := fun v152 k2_hw3 => k2_hw3

def k2_chk4 (v157 : IVec S16 32) : Prop :=
  (∀ a x, ((![v157] : Fin 1 → IVec S16 32) a x).toNat < S144.size a)
theorem k2_idx4_inb : ∀ (v157 : IVec S16 32) (k2_hw4 : k2_chk4 v157), ∀ a x, ((![v157] : Fin 1 → IVec S16 32) a x).toNat < S144.size a := fun v157 k2_hw4 => k2_hw4

def k2_chk5 (v162 : IVec S16 32) : Prop :=
  (∀ a x, ((![v162] : Fin 1 → IVec S16 32) a x).toNat < S144.size a)
theorem k2_idx5_inb : ∀ (v162 : IVec S16 32) (k2_hw5 : k2_chk5 v162), ∀ a x, ((![v162] : Fin 1 → IVec S16 32) a x).toNat < S144.size a := fun v162 k2_hw5 => k2_hw5

def k2_chk6 (v167 : IVec S16 32) : Prop :=
  (∀ a x, ((![v167] : Fin 1 → IVec S16 32) a x).toNat < S144.size a)
theorem k2_idx6_inb : ∀ (v167 : IVec S16 32) (k2_hw6 : k2_chk6 v167), ∀ a x, ((![v167] : Fin 1 → IVec S16 32) a x).toNat < S144.size a := fun v167 k2_hw6 => k2_hw6

def k2_chk7 (v172 : IVec S16 32) : Prop :=
  (∀ a x, ((![v172] : Fin 1 → IVec S16 32) a x).toNat < S144.size a)
theorem k2_idx7_inb : ∀ (v172 : IVec S16 32) (k2_hw7 : k2_chk7 v172), ∀ a x, ((![v172] : Fin 1 → IVec S16 32) a x).toNat < S144.size a := fun v172 k2_hw7 => k2_hw7

def k2_chk8 (v177 : IVec S16 32) : Prop :=
  (∀ a x, ((![v177] : Fin 1 → IVec S16 32) a x).toNat < S144.size a)
theorem k2_idx8_inb : ∀ (v177 : IVec S16 32) (k2_hw8 : k2_chk8 v177), ∀ a x, ((![v177] : Fin 1 → IVec S16 32) a x).toNat < S144.size a := fun v177 k2_hw8 => k2_hw8

def k2_chk9 (v182 : IVec S16 32) : Prop :=
  (∀ a x, ((![v182] : Fin 1 → IVec S16 32) a x).toNat < S144.size a)
theorem k2_idx9_inb : ∀ (v182 : IVec S16 32) (k2_hw9 : k2_chk9 v182), ∀ a x, ((![v182] : Fin 1 → IVec S16 32) a x).toNat < S144.size a := fun v182 k2_hw9 => k2_hw9

def k2_chk10 (v187 : IVec S16 32) : Prop :=
  (∀ a x, ((![v187] : Fin 1 → IVec S16 32) a x).toNat < S144.size a)
theorem k2_idx10_inb : ∀ (v187 : IVec S16 32) (k2_hw10 : k2_chk10 v187), ∀ a x, ((![v187] : Fin 1 → IVec S16 32) a x).toNat < S144.size a := fun v187 k2_hw10 => k2_hw10

def k2_chk11 (v192 : IVec S16 32) : Prop :=
  (∀ a x, ((![v192] : Fin 1 → IVec S16 32) a x).toNat < S144.size a)
theorem k2_idx11_inb : ∀ (v192 : IVec S16 32) (k2_hw11 : k2_chk11 v192), ∀ a x, ((![v192] : Fin 1 → IVec S16 32) a x).toNat < S144.size a := fun v192 k2_hw11 => k2_hw11

def k2_chk12 (v197 : IVec S16 32) : Prop :=
  (∀ a x, ((![v197] : Fin 1 → IVec S16 32) a x).toNat < S144.size a)
theorem k2_idx12_inb : ∀ (v197 : IVec S16 32) (k2_hw12 : k2_chk12 v197), ∀ a x, ((![v197] : Fin 1 → IVec S16 32) a x).toNat < S144.size a := fun v197 k2_hw12 => k2_hw12

def k2_chk13 (v202 : IVec S16 32) : Prop :=
  (∀ a x, ((![v202] : Fin 1 → IVec S16 32) a x).toNat < S144.size a)
theorem k2_idx13_inb : ∀ (v202 : IVec S16 32) (k2_hw13 : k2_chk13 v202), ∀ a x, ((![v202] : Fin 1 → IVec S16 32) a x).toNat < S144.size a := fun v202 k2_hw13 => k2_hw13

def k2_chk14 (v207 : IVec S16 32) : Prop :=
  (∀ a x, ((![v207] : Fin 1 → IVec S16 32) a x).toNat < S144.size a)
theorem k2_idx14_inb : ∀ (v207 : IVec S16 32) (k2_hw14 : k2_chk14 v207), ∀ a x, ((![v207] : Fin 1 → IVec S16 32) a x).toNat < S144.size a := fun v207 k2_hw14 => k2_hw14

def k2_chk15 (v212 : IVec S16 32) : Prop :=
  (∀ a x, ((![v212] : Fin 1 → IVec S16 32) a x).toNat < S144.size a)
theorem k2_idx15_inb : ∀ (v212 : IVec S16 32) (k2_hw15 : k2_chk15 v212), ∀ a x, ((![v212] : Fin 1 → IVec S16 32) a x).toNat < S144.size a := fun v212 k2_hw15 => k2_hw15

def k2_chk16 (v217 : IVec S16 32) : Prop :=
  (∀ a x, ((![v217] : Fin 1 → IVec S16 32) a x).toNat < S144.size a)
theorem k2_idx16_inb : ∀ (v217 : IVec S16 32) (k2_hw16 : k2_chk16 v217), ∀ a x, ((![v217] : Fin 1 → IVec S16 32) a x).toNat < S144.size a := fun v217 k2_hw16 => k2_hw16
def k2_off11 (i : grid2.Coords) (k2_t1 : Fin k2_t1_loop.trips) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k2_t1
  let v14 : BitVec 32 := Scalar.muli c2_i32_11 arg9
  let v15 : BitVec 32 := Scalar.addi v14 c0_i32_12
  let v16 : BitVec 32 := Scalar.addi v3 v15
  let c0_i32_66_r0 : BitVec 32 := 0#32
  ![v16.toNat, 0]
def k2_cond1 (k2_t1 : Fin k2_t1_loop.trips) : BitVec 1 :=
  let c2_i32_11 : BitVec 32 := 2#32
  let c0_i32_8 : BitVec 32 := 0#32
  let c1_i32_9 : BitVec 32 := 1#32
  let arg9 : BitVec 32 := Scf.iv c0_i32_8 c1_i32_9 k2_t1
  let v14 : BitVec 32 := Scalar.muli c2_i32_11 arg9
  let c0_i32_12 : BitVec 32 := 0#32
  let v15 : BitVec 32 := Scalar.addi v14 c0_i32_12
  let c2_i32_30 : BitVec 32 := 2#32
  let v40 : BitVec 32 := Scalar.addi v15 c2_i32_30
  let c10_i32_31 : BitVec 32 := 10#32
  let v41 : BitVec 1 := Scalar.cmpi .slt v40 c10_i32_31
  let v42 : BitVec 32 := Scalar.extui v41
  let c0_i32_32 : BitVec 32 := 0#32
  let v43 : BitVec 1 := Scalar.cmpi .ne v42 c0_i32_32
  v43

def k2_off12 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_11 : BitVec 32 := 2#32
  let c0_i32_8 : BitVec 32 := 0#32
  let c1_i32_9 : BitVec 32 := 1#32
  let arg9 : BitVec 32 := Scf.iv c0_i32_8 c1_i32_9 k2_t1
  let v14 : BitVec 32 := Scalar.muli c2_i32_11 arg9
  let c0_i32_12 : BitVec 32 := 0#32
  let v15 : BitVec 32 := Scalar.addi v14 c0_i32_12
  let v16 : BitVec 32 := Scalar.addi v3 v15
  let c2_i32_66 : BitVec 32 := 2#32
  let v74 : BitVec 32 := Scalar.addi v16 c2_i32_66
  let c0_i32_67 : BitVec 32 := 0#32
  let c0_i32_68 : BitVec 32 := 0#32
  ![v74.toNat, 0, 0]
@[reducible] def k2_t3_loop : Scf.Loop 32 :=
  let c0_i32_59 : BitVec 32 := 0#32
  let c64_i32_60 : BitVec 32 := 64#32
  let v69 : BitVec 32 := Scalar.addi c0_i32_59 c64_i32_60
  let c1_i32_61 : BitVec 32 := 1#32
  ⟨c0_i32_59, v69, c1_i32_61⟩
def k2_off13 (k2_t3 : Fin k2_t3_loop.trips) (c0_i32_67 : BitVec 32) : Fin 2 → Nat :=
  let c2_i32_66 : BitVec 32 := 2#32
  let c0_i32_59 : BitVec 32 := 0#32
  let c1_i32_61 : BitVec 32 := 1#32
  let arg10 : BitVec 32 := Scf.iv c0_i32_59 c1_i32_61 k2_t3
  let v74 : BitVec 32 := Scalar.muli c2_i32_66 arg10
  let v75 : BitVec 32 := Scalar.addi v74 c0_i32_67
  let v76 : Index := Scalar.indexCast v75
  let c0_68 : Index := 0#32
  ![v76.toNat, 0]
def k2_off14 (k2_t3 : Fin k2_t3_loop.trips) (c0_i32_70 : BitVec 32) : Fin 2 → Nat :=
  let c2_i32_69 : BitVec 32 := 2#32
  let c0_i32_59 : BitVec 32 := 0#32
  let c1_i32_61 : BitVec 32 := 1#32
  let arg10 : BitVec 32 := Scf.iv c0_i32_59 c1_i32_61 k2_t3
  let v78 : BitVec 32 := Scalar.muli c2_i32_69 arg10
  let v79 : BitVec 32 := Scalar.addi v78 c0_i32_70
  let v80 : Index := Scalar.indexCast v79
  let c16_71 : Index := 16#32
  ![v80.toNat, 16]
def k2_off15 (k2_t3 : Fin k2_t3_loop.trips) (c0_i32_73 : BitVec 32) : Fin 2 → Nat :=
  let c2_i32_72 : BitVec 32 := 2#32
  let c0_i32_59 : BitVec 32 := 0#32
  let c1_i32_61 : BitVec 32 := 1#32
  let arg10 : BitVec 32 := Scf.iv c0_i32_59 c1_i32_61 k2_t3
  let v82 : BitVec 32 := Scalar.muli c2_i32_72 arg10
  let v83 : BitVec 32 := Scalar.addi v82 c0_i32_73
  let v84 : Index := Scalar.indexCast v83
  let c32_74 : Index := 32#32
  ![v84.toNat, 32]
def k2_off16 (k2_t3 : Fin k2_t3_loop.trips) (c0_i32_76 : BitVec 32) : Fin 2 → Nat :=
  let c2_i32_75 : BitVec 32 := 2#32
  let c0_i32_59 : BitVec 32 := 0#32
  let c1_i32_61 : BitVec 32 := 1#32
  let arg10 : BitVec 32 := Scf.iv c0_i32_59 c1_i32_61 k2_t3
  let v86 : BitVec 32 := Scalar.muli c2_i32_75 arg10
  let v87 : BitVec 32 := Scalar.addi v86 c0_i32_76
  let v88 : Index := Scalar.indexCast v87
  let c48_77 : Index := 48#32
  ![v88.toNat, 48]
def k2_off17 (k2_t3 : Fin k2_t3_loop.trips) (c0_i32_79 : BitVec 32) : Fin 2 → Nat :=
  let c2_i32_78 : BitVec 32 := 2#32
  let c0_i32_59 : BitVec 32 := 0#32
  let c1_i32_61 : BitVec 32 := 1#32
  let arg10 : BitVec 32 := Scf.iv c0_i32_59 c1_i32_61 k2_t3
  let v90 : BitVec 32 := Scalar.muli c2_i32_78 arg10
  let v91 : BitVec 32 := Scalar.addi v90 c0_i32_79
  let v92 : Index := Scalar.indexCast v91
  let c64_80 : Index := 64#32
  ![v92.toNat, 64]
def k2_off18 (k2_t3 : Fin k2_t3_loop.trips) (c0_i32_82 : BitVec 32) : Fin 2 → Nat :=
  let c2_i32_81 : BitVec 32 := 2#32
  let c0_i32_59 : BitVec 32 := 0#32
  let c1_i32_61 : BitVec 32 := 1#32
  let arg10 : BitVec 32 := Scf.iv c0_i32_59 c1_i32_61 k2_t3
  let v94 : BitVec 32 := Scalar.muli c2_i32_81 arg10
  let v95 : BitVec 32 := Scalar.addi v94 c0_i32_82
  let v96 : Index := Scalar.indexCast v95
  let c80_83 : Index := 80#32
  ![v96.toNat, 80]
def k2_off19 (k2_t3 : Fin k2_t3_loop.trips) (c0_i32_85 : BitVec 32) : Fin 2 → Nat :=
  let c2_i32_84 : BitVec 32 := 2#32
  let c0_i32_59 : BitVec 32 := 0#32
  let c1_i32_61 : BitVec 32 := 1#32
  let arg10 : BitVec 32 := Scf.iv c0_i32_59 c1_i32_61 k2_t3
  let v98 : BitVec 32 := Scalar.muli c2_i32_84 arg10
  let v99 : BitVec 32 := Scalar.addi v98 c0_i32_85
  let v100 : Index := Scalar.indexCast v99
  let c96_86 : Index := 96#32
  ![v100.toNat, 96]
def k2_off20 (k2_t3 : Fin k2_t3_loop.trips) (c0_i32_88 : BitVec 32) : Fin 2 → Nat :=
  let c2_i32_87 : BitVec 32 := 2#32
  let c0_i32_59 : BitVec 32 := 0#32
  let c1_i32_61 : BitVec 32 := 1#32
  let arg10 : BitVec 32 := Scf.iv c0_i32_59 c1_i32_61 k2_t3
  let v102 : BitVec 32 := Scalar.muli c2_i32_87 arg10
  let v103 : BitVec 32 := Scalar.addi v102 c0_i32_88
  let v104 : Index := Scalar.indexCast v103
  let c112_89 : Index := 112#32
  ![v104.toNat, 112]

def k2_chk17 (v142 : IVec S16 32) : Prop :=
  (∀ a x, ((![v142] : Fin 1 → IVec S16 32) a x).toNat < S144.size a)
theorem k2_idx17_inb : ∀ (v142 : IVec S16 32) (k2_hw17 : k2_chk17 v142), ∀ a x, ((![v142] : Fin 1 → IVec S16 32) a x).toNat < S144.size a := fun v142 k2_hw17 => k2_hw17

def k2_chk18 (v147 : IVec S16 32) : Prop :=
  (∀ a x, ((![v147] : Fin 1 → IVec S16 32) a x).toNat < S144.size a)
theorem k2_idx18_inb : ∀ (v147 : IVec S16 32) (k2_hw18 : k2_chk18 v147), ∀ a x, ((![v147] : Fin 1 → IVec S16 32) a x).toNat < S144.size a := fun v147 k2_hw18 => k2_hw18

def k2_chk19 (v152 : IVec S16 32) : Prop :=
  (∀ a x, ((![v152] : Fin 1 → IVec S16 32) a x).toNat < S144.size a)
theorem k2_idx19_inb : ∀ (v152 : IVec S16 32) (k2_hw19 : k2_chk19 v152), ∀ a x, ((![v152] : Fin 1 → IVec S16 32) a x).toNat < S144.size a := fun v152 k2_hw19 => k2_hw19

def k2_chk20 (v157 : IVec S16 32) : Prop :=
  (∀ a x, ((![v157] : Fin 1 → IVec S16 32) a x).toNat < S144.size a)
theorem k2_idx20_inb : ∀ (v157 : IVec S16 32) (k2_hw20 : k2_chk20 v157), ∀ a x, ((![v157] : Fin 1 → IVec S16 32) a x).toNat < S144.size a := fun v157 k2_hw20 => k2_hw20

def k2_chk21 (v162 : IVec S16 32) : Prop :=
  (∀ a x, ((![v162] : Fin 1 → IVec S16 32) a x).toNat < S144.size a)
theorem k2_idx21_inb : ∀ (v162 : IVec S16 32) (k2_hw21 : k2_chk21 v162), ∀ a x, ((![v162] : Fin 1 → IVec S16 32) a x).toNat < S144.size a := fun v162 k2_hw21 => k2_hw21

def k2_chk22 (v167 : IVec S16 32) : Prop :=
  (∀ a x, ((![v167] : Fin 1 → IVec S16 32) a x).toNat < S144.size a)
theorem k2_idx22_inb : ∀ (v167 : IVec S16 32) (k2_hw22 : k2_chk22 v167), ∀ a x, ((![v167] : Fin 1 → IVec S16 32) a x).toNat < S144.size a := fun v167 k2_hw22 => k2_hw22

def k2_chk23 (v172 : IVec S16 32) : Prop :=
  (∀ a x, ((![v172] : Fin 1 → IVec S16 32) a x).toNat < S144.size a)
theorem k2_idx23_inb : ∀ (v172 : IVec S16 32) (k2_hw23 : k2_chk23 v172), ∀ a x, ((![v172] : Fin 1 → IVec S16 32) a x).toNat < S144.size a := fun v172 k2_hw23 => k2_hw23

def k2_chk24 (v177 : IVec S16 32) : Prop :=
  (∀ a x, ((![v177] : Fin 1 → IVec S16 32) a x).toNat < S144.size a)
theorem k2_idx24_inb : ∀ (v177 : IVec S16 32) (k2_hw24 : k2_chk24 v177), ∀ a x, ((![v177] : Fin 1 → IVec S16 32) a x).toNat < S144.size a := fun v177 k2_hw24 => k2_hw24

def k2_chk25 (v182 : IVec S16 32) : Prop :=
  (∀ a x, ((![v182] : Fin 1 → IVec S16 32) a x).toNat < S144.size a)
theorem k2_idx25_inb : ∀ (v182 : IVec S16 32) (k2_hw25 : k2_chk25 v182), ∀ a x, ((![v182] : Fin 1 → IVec S16 32) a x).toNat < S144.size a := fun v182 k2_hw25 => k2_hw25

def k2_chk26 (v187 : IVec S16 32) : Prop :=
  (∀ a x, ((![v187] : Fin 1 → IVec S16 32) a x).toNat < S144.size a)
theorem k2_idx26_inb : ∀ (v187 : IVec S16 32) (k2_hw26 : k2_chk26 v187), ∀ a x, ((![v187] : Fin 1 → IVec S16 32) a x).toNat < S144.size a := fun v187 k2_hw26 => k2_hw26

def k2_chk27 (v192 : IVec S16 32) : Prop :=
  (∀ a x, ((![v192] : Fin 1 → IVec S16 32) a x).toNat < S144.size a)
theorem k2_idx27_inb : ∀ (v192 : IVec S16 32) (k2_hw27 : k2_chk27 v192), ∀ a x, ((![v192] : Fin 1 → IVec S16 32) a x).toNat < S144.size a := fun v192 k2_hw27 => k2_hw27

def k2_chk28 (v197 : IVec S16 32) : Prop :=
  (∀ a x, ((![v197] : Fin 1 → IVec S16 32) a x).toNat < S144.size a)
theorem k2_idx28_inb : ∀ (v197 : IVec S16 32) (k2_hw28 : k2_chk28 v197), ∀ a x, ((![v197] : Fin 1 → IVec S16 32) a x).toNat < S144.size a := fun v197 k2_hw28 => k2_hw28

def k2_chk29 (v202 : IVec S16 32) : Prop :=
  (∀ a x, ((![v202] : Fin 1 → IVec S16 32) a x).toNat < S144.size a)
theorem k2_idx29_inb : ∀ (v202 : IVec S16 32) (k2_hw29 : k2_chk29 v202), ∀ a x, ((![v202] : Fin 1 → IVec S16 32) a x).toNat < S144.size a := fun v202 k2_hw29 => k2_hw29

def k2_chk30 (v207 : IVec S16 32) : Prop :=
  (∀ a x, ((![v207] : Fin 1 → IVec S16 32) a x).toNat < S144.size a)
theorem k2_idx30_inb : ∀ (v207 : IVec S16 32) (k2_hw30 : k2_chk30 v207), ∀ a x, ((![v207] : Fin 1 → IVec S16 32) a x).toNat < S144.size a := fun v207 k2_hw30 => k2_hw30

def k2_chk31 (v212 : IVec S16 32) : Prop :=
  (∀ a x, ((![v212] : Fin 1 → IVec S16 32) a x).toNat < S144.size a)
theorem k2_idx31_inb : ∀ (v212 : IVec S16 32) (k2_hw31 : k2_chk31 v212), ∀ a x, ((![v212] : Fin 1 → IVec S16 32) a x).toNat < S144.size a := fun v212 k2_hw31 => k2_hw31

def k2_chk32 (v217 : IVec S16 32) : Prop :=
  (∀ a x, ((![v217] : Fin 1 → IVec S16 32) a x).toNat < S144.size a)
theorem k2_idx32_inb : ∀ (v217 : IVec S16 32) (k2_hw32 : k2_chk32 v217), ∀ a x, ((![v217] : Fin 1 → IVec S16 32) a x).toNat < S144.size a := fun v217 k2_hw32 => k2_hw32
def k2_cond2 (k2_t1 : Fin k2_t1_loop.trips) : BitVec 1 :=
  let c2_i32_33 : BitVec 32 := 2#32
  let c0_i32_8 : BitVec 32 := 0#32
  let c1_i32_9 : BitVec 32 := 1#32
  let arg9 : BitVec 32 := Scf.iv c0_i32_8 c1_i32_9 k2_t1
  let v44 : BitVec 32 := Scalar.muli c2_i32_33 arg9
  let c1_i32_34 : BitVec 32 := 1#32
  let v45 : BitVec 32 := Scalar.addi v44 c1_i32_34
  let c2_i32_63 : BitVec 32 := 2#32
  let v70 : BitVec 32 := Scalar.addi v45 c2_i32_63
  let c10_i32_64 : BitVec 32 := 10#32
  let v71 : BitVec 1 := Scalar.cmpi .slt v70 c10_i32_64
  let v72 : BitVec 32 := Scalar.extui v71
  let c0_i32_65 : BitVec 32 := 0#32
  let v73 : BitVec 1 := Scalar.cmpi .ne v72 c0_i32_65
  v73

def k2_off21 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v3 : BitVec 32 := Scalar.muli v1 c10_i32
  let c2_i32_33 : BitVec 32 := 2#32
  let c0_i32_8 : BitVec 32 := 0#32
  let c1_i32_9 : BitVec 32 := 1#32
  let arg9 : BitVec 32 := Scf.iv c0_i32_8 c1_i32_9 k2_t1
  let v44 : BitVec 32 := Scalar.muli c2_i32_33 arg9
  let c1_i32_34 : BitVec 32 := 1#32
  let v45 : BitVec 32 := Scalar.addi v44 c1_i32_34
  let v46 : BitVec 32 := Scalar.addi v3 v45
  let c2_i32_66 : BitVec 32 := 2#32
  let v74 : BitVec 32 := Scalar.addi v46 c2_i32_66
  let c0_i32_67 : BitVec 32 := 0#32
  let c0_i32_68 : BitVec 32 := 0#32
  ![v74.toNat, 0, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let c0_i32_1 : BitVec 32 := 0#32
  ![v3.toNat, 0, 0]
def k3_off2 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v8 : BitVec 32 := Scalar.addi v3 c1_i32
  let c0_i32_4 : BitVec 32 := 0#32
  let c0_i32_5 : BitVec 32 := 0#32
  ![v8.toNat, 0, 0]
@[reducible] def k3_t1_loop : Scf.Loop 32 :=
  let c0_i32_26 : BitVec 32 := 0#32
  let c64_i32 : BitVec 32 := 64#32
  let v38 : BitVec 32 := Scalar.addi c0_i32_26 c64_i32
  let c1_i32_27 : BitVec 32 := 1#32
  ⟨c0_i32_26, v38, c1_i32_27⟩
def k3_off3 (k3_t1 : Fin k3_t1_loop.trips) (c0_i32_67 : BitVec 32) : Fin 2 → Nat :=
  let c2_i32_66 : BitVec 32 := 2#32
  let c0_i32_26 : BitVec 32 := 0#32
  let c1_i32_27 : BitVec 32 := 1#32
  let arg9 : BitVec 32 := Scf.iv c0_i32_26 c1_i32_27 k3_t1
  let v73 : BitVec 32 := Scalar.muli c2_i32_66 arg9
  let v74 : BitVec 32 := Scalar.addi v73 c0_i32_67
  let v75 : Index := Scalar.indexCast v74
  let c0_68 : Index := 0#32
  ![v75.toNat, 0]
def k3_off4 (k3_t1 : Fin k3_t1_loop.trips) (c0_i32_70 : BitVec 32) : Fin 2 → Nat :=
  let c2_i32_69 : BitVec 32 := 2#32
  let c0_i32_26 : BitVec 32 := 0#32
  let c1_i32_27 : BitVec 32 := 1#32
  let arg9 : BitVec 32 := Scf.iv c0_i32_26 c1_i32_27 k3_t1
  let v77 : BitVec 32 := Scalar.muli c2_i32_69 arg9
  let v78 : BitVec 32 := Scalar.addi v77 c0_i32_70
  let v79 : Index := Scalar.indexCast v78
  let c16_71 : Index := 16#32
  ![v79.toNat, 16]
def k3_off5 (k3_t1 : Fin k3_t1_loop.trips) (c0_i32_73 : BitVec 32) : Fin 2 → Nat :=
  let c2_i32_72 : BitVec 32 := 2#32
  let c0_i32_26 : BitVec 32 := 0#32
  let c1_i32_27 : BitVec 32 := 1#32
  let arg9 : BitVec 32 := Scf.iv c0_i32_26 c1_i32_27 k3_t1
  let v81 : BitVec 32 := Scalar.muli c2_i32_72 arg9
  let v82 : BitVec 32 := Scalar.addi v81 c0_i32_73
  let v83 : Index := Scalar.indexCast v82
  let c32_74 : Index := 32#32
  ![v83.toNat, 32]
def k3_off6 (k3_t1 : Fin k3_t1_loop.trips) (c0_i32_76 : BitVec 32) : Fin 2 → Nat :=
  let c2_i32_75 : BitVec 32 := 2#32
  let c0_i32_26 : BitVec 32 := 0#32
  let c1_i32_27 : BitVec 32 := 1#32
  let arg9 : BitVec 32 := Scf.iv c0_i32_26 c1_i32_27 k3_t1
  let v85 : BitVec 32 := Scalar.muli c2_i32_75 arg9
  let v86 : BitVec 32 := Scalar.addi v85 c0_i32_76
  let v87 : Index := Scalar.indexCast v86
  let c48_77 : Index := 48#32
  ![v87.toNat, 48]
def k3_off7 (k3_t1 : Fin k3_t1_loop.trips) (c0_i32_79 : BitVec 32) : Fin 2 → Nat :=
  let c2_i32_78 : BitVec 32 := 2#32
  let c0_i32_26 : BitVec 32 := 0#32
  let c1_i32_27 : BitVec 32 := 1#32
  let arg9 : BitVec 32 := Scf.iv c0_i32_26 c1_i32_27 k3_t1
  let v89 : BitVec 32 := Scalar.muli c2_i32_78 arg9
  let v90 : BitVec 32 := Scalar.addi v89 c0_i32_79
  let v91 : Index := Scalar.indexCast v90
  let c64_80 : Index := 64#32
  ![v91.toNat, 64]
def k3_off8 (k3_t1 : Fin k3_t1_loop.trips) (c0_i32_82 : BitVec 32) : Fin 2 → Nat :=
  let c2_i32_81 : BitVec 32 := 2#32
  let c0_i32_26 : BitVec 32 := 0#32
  let c1_i32_27 : BitVec 32 := 1#32
  let arg9 : BitVec 32 := Scf.iv c0_i32_26 c1_i32_27 k3_t1
  let v93 : BitVec 32 := Scalar.muli c2_i32_81 arg9
  let v94 : BitVec 32 := Scalar.addi v93 c0_i32_82
  let v95 : Index := Scalar.indexCast v94
  let c80_83 : Index := 80#32
  ![v95.toNat, 80]
def k3_off9 (k3_t1 : Fin k3_t1_loop.trips) (c0_i32_85 : BitVec 32) : Fin 2 → Nat :=
  let c2_i32_84 : BitVec 32 := 2#32
  let c0_i32_26 : BitVec 32 := 0#32
  let c1_i32_27 : BitVec 32 := 1#32
  let arg9 : BitVec 32 := Scf.iv c0_i32_26 c1_i32_27 k3_t1
  let v97 : BitVec 32 := Scalar.muli c2_i32_84 arg9
  let v98 : BitVec 32 := Scalar.addi v97 c0_i32_85
  let v99 : Index := Scalar.indexCast v98
  let c96_86 : Index := 96#32
  ![v99.toNat, 96]
def k3_off10 (k3_t1 : Fin k3_t1_loop.trips) (c0_i32_88 : BitVec 32) : Fin 2 → Nat :=
  let c2_i32_87 : BitVec 32 := 2#32
  let c0_i32_26 : BitVec 32 := 0#32
  let c1_i32_27 : BitVec 32 := 1#32
  let arg9 : BitVec 32 := Scf.iv c0_i32_26 c1_i32_27 k3_t1
  let v101 : BitVec 32 := Scalar.muli c2_i32_87 arg9
  let v102 : BitVec 32 := Scalar.addi v101 c0_i32_88
  let v103 : Index := Scalar.indexCast v102
  let c112_89 : Index := 112#32
  ![v103.toNat, 112]

def k3_chk1 (v141 : IVec S16 32) : Prop :=
  (∀ a x, ((![v141] : Fin 1 → IVec S16 32) a x).toNat < S144.size a)
theorem k3_idx1_inb : ∀ (v141 : IVec S16 32) (k3_hw1 : k3_chk1 v141), ∀ a x, ((![v141] : Fin 1 → IVec S16 32) a x).toNat < S144.size a := fun v141 k3_hw1 => k3_hw1

def k3_chk2 (v146 : IVec S16 32) : Prop :=
  (∀ a x, ((![v146] : Fin 1 → IVec S16 32) a x).toNat < S144.size a)
theorem k3_idx2_inb : ∀ (v146 : IVec S16 32) (k3_hw2 : k3_chk2 v146), ∀ a x, ((![v146] : Fin 1 → IVec S16 32) a x).toNat < S144.size a := fun v146 k3_hw2 => k3_hw2

def k3_chk3 (v151 : IVec S16 32) : Prop :=
  (∀ a x, ((![v151] : Fin 1 → IVec S16 32) a x).toNat < S144.size a)
theorem k3_idx3_inb : ∀ (v151 : IVec S16 32) (k3_hw3 : k3_chk3 v151), ∀ a x, ((![v151] : Fin 1 → IVec S16 32) a x).toNat < S144.size a := fun v151 k3_hw3 => k3_hw3

def k3_chk4 (v156 : IVec S16 32) : Prop :=
  (∀ a x, ((![v156] : Fin 1 → IVec S16 32) a x).toNat < S144.size a)
theorem k3_idx4_inb : ∀ (v156 : IVec S16 32) (k3_hw4 : k3_chk4 v156), ∀ a x, ((![v156] : Fin 1 → IVec S16 32) a x).toNat < S144.size a := fun v156 k3_hw4 => k3_hw4

def k3_chk5 (v161 : IVec S16 32) : Prop :=
  (∀ a x, ((![v161] : Fin 1 → IVec S16 32) a x).toNat < S144.size a)
theorem k3_idx5_inb : ∀ (v161 : IVec S16 32) (k3_hw5 : k3_chk5 v161), ∀ a x, ((![v161] : Fin 1 → IVec S16 32) a x).toNat < S144.size a := fun v161 k3_hw5 => k3_hw5

def k3_chk6 (v166 : IVec S16 32) : Prop :=
  (∀ a x, ((![v166] : Fin 1 → IVec S16 32) a x).toNat < S144.size a)
theorem k3_idx6_inb : ∀ (v166 : IVec S16 32) (k3_hw6 : k3_chk6 v166), ∀ a x, ((![v166] : Fin 1 → IVec S16 32) a x).toNat < S144.size a := fun v166 k3_hw6 => k3_hw6

def k3_chk7 (v171 : IVec S16 32) : Prop :=
  (∀ a x, ((![v171] : Fin 1 → IVec S16 32) a x).toNat < S144.size a)
theorem k3_idx7_inb : ∀ (v171 : IVec S16 32) (k3_hw7 : k3_chk7 v171), ∀ a x, ((![v171] : Fin 1 → IVec S16 32) a x).toNat < S144.size a := fun v171 k3_hw7 => k3_hw7

def k3_chk8 (v176 : IVec S16 32) : Prop :=
  (∀ a x, ((![v176] : Fin 1 → IVec S16 32) a x).toNat < S144.size a)
theorem k3_idx8_inb : ∀ (v176 : IVec S16 32) (k3_hw8 : k3_chk8 v176), ∀ a x, ((![v176] : Fin 1 → IVec S16 32) a x).toNat < S144.size a := fun v176 k3_hw8 => k3_hw8

def k3_chk9 (v181 : IVec S16 32) : Prop :=
  (∀ a x, ((![v181] : Fin 1 → IVec S16 32) a x).toNat < S144.size a)
theorem k3_idx9_inb : ∀ (v181 : IVec S16 32) (k3_hw9 : k3_chk9 v181), ∀ a x, ((![v181] : Fin 1 → IVec S16 32) a x).toNat < S144.size a := fun v181 k3_hw9 => k3_hw9

def k3_chk10 (v186 : IVec S16 32) : Prop :=
  (∀ a x, ((![v186] : Fin 1 → IVec S16 32) a x).toNat < S144.size a)
theorem k3_idx10_inb : ∀ (v186 : IVec S16 32) (k3_hw10 : k3_chk10 v186), ∀ a x, ((![v186] : Fin 1 → IVec S16 32) a x).toNat < S144.size a := fun v186 k3_hw10 => k3_hw10

def k3_chk11 (v191 : IVec S16 32) : Prop :=
  (∀ a x, ((![v191] : Fin 1 → IVec S16 32) a x).toNat < S144.size a)
theorem k3_idx11_inb : ∀ (v191 : IVec S16 32) (k3_hw11 : k3_chk11 v191), ∀ a x, ((![v191] : Fin 1 → IVec S16 32) a x).toNat < S144.size a := fun v191 k3_hw11 => k3_hw11

def k3_chk12 (v196 : IVec S16 32) : Prop :=
  (∀ a x, ((![v196] : Fin 1 → IVec S16 32) a x).toNat < S144.size a)
theorem k3_idx12_inb : ∀ (v196 : IVec S16 32) (k3_hw12 : k3_chk12 v196), ∀ a x, ((![v196] : Fin 1 → IVec S16 32) a x).toNat < S144.size a := fun v196 k3_hw12 => k3_hw12

def k3_chk13 (v201 : IVec S16 32) : Prop :=
  (∀ a x, ((![v201] : Fin 1 → IVec S16 32) a x).toNat < S144.size a)
theorem k3_idx13_inb : ∀ (v201 : IVec S16 32) (k3_hw13 : k3_chk13 v201), ∀ a x, ((![v201] : Fin 1 → IVec S16 32) a x).toNat < S144.size a := fun v201 k3_hw13 => k3_hw13

def k3_chk14 (v206 : IVec S16 32) : Prop :=
  (∀ a x, ((![v206] : Fin 1 → IVec S16 32) a x).toNat < S144.size a)
theorem k3_idx14_inb : ∀ (v206 : IVec S16 32) (k3_hw14 : k3_chk14 v206), ∀ a x, ((![v206] : Fin 1 → IVec S16 32) a x).toNat < S144.size a := fun v206 k3_hw14 => k3_hw14

def k3_chk15 (v211 : IVec S16 32) : Prop :=
  (∀ a x, ((![v211] : Fin 1 → IVec S16 32) a x).toNat < S144.size a)
theorem k3_idx15_inb : ∀ (v211 : IVec S16 32) (k3_hw15 : k3_chk15 v211), ∀ a x, ((![v211] : Fin 1 → IVec S16 32) a x).toNat < S144.size a := fun v211 k3_hw15 => k3_hw15

def k3_chk16 (v216 : IVec S16 32) : Prop :=
  (∀ a x, ((![v216] : Fin 1 → IVec S16 32) a x).toNat < S144.size a)
theorem k3_idx16_inb : ∀ (v216 : IVec S16 32) (k3_hw16 : k3_chk16 v216), ∀ a x, ((![v216] : Fin 1 → IVec S16 32) a x).toNat < S144.size a := fun v216 k3_hw16 => k3_hw16
def k3_off11 (i : grid3.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c2_i32_10 : BitVec 32 := 2#32
  let c0_i32_9 : BitVec 32 := 0#32
  let v13 : BitVec 32 := Scalar.muli c2_i32_10 c0_i32_9
  let v14 : BitVec 32 := Scalar.addi v13 c0_i32_11
  let v15 : BitVec 32 := Scalar.addi v3 v14
  let c0_i32_66_r0 : BitVec 32 := 0#32
  ![v15.toNat, 0]
def k3_cond1 : BitVec 1 :=
  let c2_i32_10 : BitVec 32 := 2#32
  let c0_i32_9 : BitVec 32 := 0#32
  let v13 : BitVec 32 := Scalar.muli c2_i32_10 c0_i32_9
  let c0_i32_11 : BitVec 32 := 0#32
  let v14 : BitVec 32 := Scalar.addi v13 c0_i32_11
  let c2_i32_29 : BitVec 32 := 2#32
  let v39 : BitVec 32 := Scalar.addi v14 c2_i32_29
  let c2_i32_30 : BitVec 32 := 2#32
  let v40 : BitVec 1 := Scalar.cmpi .slt v39 c2_i32_30
  let v41 : BitVec 32 := Scalar.extui v40
  let c0_i32_31 : BitVec 32 := 0#32
  let v42 : BitVec 1 := Scalar.cmpi .ne v41 c0_i32_31
  v42

def k3_off12 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c2_i32_10 : BitVec 32 := 2#32
  let c0_i32_9 : BitVec 32 := 0#32
  let v13 : BitVec 32 := Scalar.muli c2_i32_10 c0_i32_9
  let c0_i32_11 : BitVec 32 := 0#32
  let v14 : BitVec 32 := Scalar.addi v13 c0_i32_11
  let v15 : BitVec 32 := Scalar.addi v3 v14
  let c2_i32_66 : BitVec 32 := 2#32
  let v73 : BitVec 32 := Scalar.addi v15 c2_i32_66
  let c0_i32_67 : BitVec 32 := 0#32
  let c0_i32_68 : BitVec 32 := 0#32
  ![v73.toNat, 0, 0]
@[reducible] def k3_t2_loop : Scf.Loop 32 :=
  let c0_i32_58 : BitVec 32 := 0#32
  let c64_i32_59 : BitVec 32 := 64#32
  let v68 : BitVec 32 := Scalar.addi c0_i32_58 c64_i32_59
  let c1_i32_60 : BitVec 32 := 1#32
  ⟨c0_i32_58, v68, c1_i32_60⟩
def k3_off13 (k3_t2 : Fin k3_t2_loop.trips) (c0_i32_67 : BitVec 32) : Fin 2 → Nat :=
  let c2_i32_66 : BitVec 32 := 2#32
  let c0_i32_58 : BitVec 32 := 0#32
  let c1_i32_60 : BitVec 32 := 1#32
  let arg9 : BitVec 32 := Scf.iv c0_i32_58 c1_i32_60 k3_t2
  let v73 : BitVec 32 := Scalar.muli c2_i32_66 arg9
  let v74 : BitVec 32 := Scalar.addi v73 c0_i32_67
  let v75 : Index := Scalar.indexCast v74
  let c0_68 : Index := 0#32
  ![v75.toNat, 0]
def k3_off14 (k3_t2 : Fin k3_t2_loop.trips) (c0_i32_70 : BitVec 32) : Fin 2 → Nat :=
  let c2_i32_69 : BitVec 32 := 2#32
  let c0_i32_58 : BitVec 32 := 0#32
  let c1_i32_60 : BitVec 32 := 1#32
  let arg9 : BitVec 32 := Scf.iv c0_i32_58 c1_i32_60 k3_t2
  let v77 : BitVec 32 := Scalar.muli c2_i32_69 arg9
  let v78 : BitVec 32 := Scalar.addi v77 c0_i32_70
  let v79 : Index := Scalar.indexCast v78
  let c16_71 : Index := 16#32
  ![v79.toNat, 16]
def k3_off15 (k3_t2 : Fin k3_t2_loop.trips) (c0_i32_73 : BitVec 32) : Fin 2 → Nat :=
  let c2_i32_72 : BitVec 32 := 2#32
  let c0_i32_58 : BitVec 32 := 0#32
  let c1_i32_60 : BitVec 32 := 1#32
  let arg9 : BitVec 32 := Scf.iv c0_i32_58 c1_i32_60 k3_t2
  let v81 : BitVec 32 := Scalar.muli c2_i32_72 arg9
  let v82 : BitVec 32 := Scalar.addi v81 c0_i32_73
  let v83 : Index := Scalar.indexCast v82
  let c32_74 : Index := 32#32
  ![v83.toNat, 32]
def k3_off16 (k3_t2 : Fin k3_t2_loop.trips) (c0_i32_76 : BitVec 32) : Fin 2 → Nat :=
  let c2_i32_75 : BitVec 32 := 2#32
  let c0_i32_58 : BitVec 32 := 0#32
  let c1_i32_60 : BitVec 32 := 1#32
  let arg9 : BitVec 32 := Scf.iv c0_i32_58 c1_i32_60 k3_t2
  let v85 : BitVec 32 := Scalar.muli c2_i32_75 arg9
  let v86 : BitVec 32 := Scalar.addi v85 c0_i32_76
  let v87 : Index := Scalar.indexCast v86
  let c48_77 : Index := 48#32
  ![v87.toNat, 48]
def k3_off17 (k3_t2 : Fin k3_t2_loop.trips) (c0_i32_79 : BitVec 32) : Fin 2 → Nat :=
  let c2_i32_78 : BitVec 32 := 2#32
  let c0_i32_58 : BitVec 32 := 0#32
  let c1_i32_60 : BitVec 32 := 1#32
  let arg9 : BitVec 32 := Scf.iv c0_i32_58 c1_i32_60 k3_t2
  let v89 : BitVec 32 := Scalar.muli c2_i32_78 arg9
  let v90 : BitVec 32 := Scalar.addi v89 c0_i32_79
  let v91 : Index := Scalar.indexCast v90
  let c64_80 : Index := 64#32
  ![v91.toNat, 64]
def k3_off18 (k3_t2 : Fin k3_t2_loop.trips) (c0_i32_82 : BitVec 32) : Fin 2 → Nat :=
  let c2_i32_81 : BitVec 32 := 2#32
  let c0_i32_58 : BitVec 32 := 0#32
  let c1_i32_60 : BitVec 32 := 1#32
  let arg9 : BitVec 32 := Scf.iv c0_i32_58 c1_i32_60 k3_t2
  let v93 : BitVec 32 := Scalar.muli c2_i32_81 arg9
  let v94 : BitVec 32 := Scalar.addi v93 c0_i32_82
  let v95 : Index := Scalar.indexCast v94
  let c80_83 : Index := 80#32
  ![v95.toNat, 80]
def k3_off19 (k3_t2 : Fin k3_t2_loop.trips) (c0_i32_85 : BitVec 32) : Fin 2 → Nat :=
  let c2_i32_84 : BitVec 32 := 2#32
  let c0_i32_58 : BitVec 32 := 0#32
  let c1_i32_60 : BitVec 32 := 1#32
  let arg9 : BitVec 32 := Scf.iv c0_i32_58 c1_i32_60 k3_t2
  let v97 : BitVec 32 := Scalar.muli c2_i32_84 arg9
  let v98 : BitVec 32 := Scalar.addi v97 c0_i32_85
  let v99 : Index := Scalar.indexCast v98
  let c96_86 : Index := 96#32
  ![v99.toNat, 96]
def k3_off20 (k3_t2 : Fin k3_t2_loop.trips) (c0_i32_88 : BitVec 32) : Fin 2 → Nat :=
  let c2_i32_87 : BitVec 32 := 2#32
  let c0_i32_58 : BitVec 32 := 0#32
  let c1_i32_60 : BitVec 32 := 1#32
  let arg9 : BitVec 32 := Scf.iv c0_i32_58 c1_i32_60 k3_t2
  let v101 : BitVec 32 := Scalar.muli c2_i32_87 arg9
  let v102 : BitVec 32 := Scalar.addi v101 c0_i32_88
  let v103 : Index := Scalar.indexCast v102
  let c112_89 : Index := 112#32
  ![v103.toNat, 112]

def k3_chk17 (v141 : IVec S16 32) : Prop :=
  (∀ a x, ((![v141] : Fin 1 → IVec S16 32) a x).toNat < S144.size a)
theorem k3_idx17_inb : ∀ (v141 : IVec S16 32) (k3_hw17 : k3_chk17 v141), ∀ a x, ((![v141] : Fin 1 → IVec S16 32) a x).toNat < S144.size a := fun v141 k3_hw17 => k3_hw17

def k3_chk18 (v146 : IVec S16 32) : Prop :=
  (∀ a x, ((![v146] : Fin 1 → IVec S16 32) a x).toNat < S144.size a)
theorem k3_idx18_inb : ∀ (v146 : IVec S16 32) (k3_hw18 : k3_chk18 v146), ∀ a x, ((![v146] : Fin 1 → IVec S16 32) a x).toNat < S144.size a := fun v146 k3_hw18 => k3_hw18

def k3_chk19 (v151 : IVec S16 32) : Prop :=
  (∀ a x, ((![v151] : Fin 1 → IVec S16 32) a x).toNat < S144.size a)
theorem k3_idx19_inb : ∀ (v151 : IVec S16 32) (k3_hw19 : k3_chk19 v151), ∀ a x, ((![v151] : Fin 1 → IVec S16 32) a x).toNat < S144.size a := fun v151 k3_hw19 => k3_hw19

def k3_chk20 (v156 : IVec S16 32) : Prop :=
  (∀ a x, ((![v156] : Fin 1 → IVec S16 32) a x).toNat < S144.size a)
theorem k3_idx20_inb : ∀ (v156 : IVec S16 32) (k3_hw20 : k3_chk20 v156), ∀ a x, ((![v156] : Fin 1 → IVec S16 32) a x).toNat < S144.size a := fun v156 k3_hw20 => k3_hw20

def k3_chk21 (v161 : IVec S16 32) : Prop :=
  (∀ a x, ((![v161] : Fin 1 → IVec S16 32) a x).toNat < S144.size a)
theorem k3_idx21_inb : ∀ (v161 : IVec S16 32) (k3_hw21 : k3_chk21 v161), ∀ a x, ((![v161] : Fin 1 → IVec S16 32) a x).toNat < S144.size a := fun v161 k3_hw21 => k3_hw21

def k3_chk22 (v166 : IVec S16 32) : Prop :=
  (∀ a x, ((![v166] : Fin 1 → IVec S16 32) a x).toNat < S144.size a)
theorem k3_idx22_inb : ∀ (v166 : IVec S16 32) (k3_hw22 : k3_chk22 v166), ∀ a x, ((![v166] : Fin 1 → IVec S16 32) a x).toNat < S144.size a := fun v166 k3_hw22 => k3_hw22

def k3_chk23 (v171 : IVec S16 32) : Prop :=
  (∀ a x, ((![v171] : Fin 1 → IVec S16 32) a x).toNat < S144.size a)
theorem k3_idx23_inb : ∀ (v171 : IVec S16 32) (k3_hw23 : k3_chk23 v171), ∀ a x, ((![v171] : Fin 1 → IVec S16 32) a x).toNat < S144.size a := fun v171 k3_hw23 => k3_hw23

def k3_chk24 (v176 : IVec S16 32) : Prop :=
  (∀ a x, ((![v176] : Fin 1 → IVec S16 32) a x).toNat < S144.size a)
theorem k3_idx24_inb : ∀ (v176 : IVec S16 32) (k3_hw24 : k3_chk24 v176), ∀ a x, ((![v176] : Fin 1 → IVec S16 32) a x).toNat < S144.size a := fun v176 k3_hw24 => k3_hw24

def k3_chk25 (v181 : IVec S16 32) : Prop :=
  (∀ a x, ((![v181] : Fin 1 → IVec S16 32) a x).toNat < S144.size a)
theorem k3_idx25_inb : ∀ (v181 : IVec S16 32) (k3_hw25 : k3_chk25 v181), ∀ a x, ((![v181] : Fin 1 → IVec S16 32) a x).toNat < S144.size a := fun v181 k3_hw25 => k3_hw25

def k3_chk26 (v186 : IVec S16 32) : Prop :=
  (∀ a x, ((![v186] : Fin 1 → IVec S16 32) a x).toNat < S144.size a)
theorem k3_idx26_inb : ∀ (v186 : IVec S16 32) (k3_hw26 : k3_chk26 v186), ∀ a x, ((![v186] : Fin 1 → IVec S16 32) a x).toNat < S144.size a := fun v186 k3_hw26 => k3_hw26

def k3_chk27 (v191 : IVec S16 32) : Prop :=
  (∀ a x, ((![v191] : Fin 1 → IVec S16 32) a x).toNat < S144.size a)
theorem k3_idx27_inb : ∀ (v191 : IVec S16 32) (k3_hw27 : k3_chk27 v191), ∀ a x, ((![v191] : Fin 1 → IVec S16 32) a x).toNat < S144.size a := fun v191 k3_hw27 => k3_hw27

def k3_chk28 (v196 : IVec S16 32) : Prop :=
  (∀ a x, ((![v196] : Fin 1 → IVec S16 32) a x).toNat < S144.size a)
theorem k3_idx28_inb : ∀ (v196 : IVec S16 32) (k3_hw28 : k3_chk28 v196), ∀ a x, ((![v196] : Fin 1 → IVec S16 32) a x).toNat < S144.size a := fun v196 k3_hw28 => k3_hw28

def k3_chk29 (v201 : IVec S16 32) : Prop :=
  (∀ a x, ((![v201] : Fin 1 → IVec S16 32) a x).toNat < S144.size a)
theorem k3_idx29_inb : ∀ (v201 : IVec S16 32) (k3_hw29 : k3_chk29 v201), ∀ a x, ((![v201] : Fin 1 → IVec S16 32) a x).toNat < S144.size a := fun v201 k3_hw29 => k3_hw29

def k3_chk30 (v206 : IVec S16 32) : Prop :=
  (∀ a x, ((![v206] : Fin 1 → IVec S16 32) a x).toNat < S144.size a)
theorem k3_idx30_inb : ∀ (v206 : IVec S16 32) (k3_hw30 : k3_chk30 v206), ∀ a x, ((![v206] : Fin 1 → IVec S16 32) a x).toNat < S144.size a := fun v206 k3_hw30 => k3_hw30

def k3_chk31 (v211 : IVec S16 32) : Prop :=
  (∀ a x, ((![v211] : Fin 1 → IVec S16 32) a x).toNat < S144.size a)
theorem k3_idx31_inb : ∀ (v211 : IVec S16 32) (k3_hw31 : k3_chk31 v211), ∀ a x, ((![v211] : Fin 1 → IVec S16 32) a x).toNat < S144.size a := fun v211 k3_hw31 => k3_hw31

def k3_chk32 (v216 : IVec S16 32) : Prop :=
  (∀ a x, ((![v216] : Fin 1 → IVec S16 32) a x).toNat < S144.size a)
theorem k3_idx32_inb : ∀ (v216 : IVec S16 32) (k3_hw32 : k3_chk32 v216), ∀ a x, ((![v216] : Fin 1 → IVec S16 32) a x).toNat < S144.size a := fun v216 k3_hw32 => k3_hw32
def k3_cond2 : BitVec 1 :=
  let c2_i32_32 : BitVec 32 := 2#32
  let c0_i32_9 : BitVec 32 := 0#32
  let v43 : BitVec 32 := Scalar.muli c2_i32_32 c0_i32_9
  let c1_i32_33 : BitVec 32 := 1#32
  let v44 : BitVec 32 := Scalar.addi v43 c1_i32_33
  let c2_i32_62 : BitVec 32 := 2#32
  let v69 : BitVec 32 := Scalar.addi v44 c2_i32_62
  let c2_i32_63 : BitVec 32 := 2#32
  let v70 : BitVec 1 := Scalar.cmpi .slt v69 c2_i32_63
  let v71 : BitVec 32 := Scalar.extui v70
  let c0_i32_64 : BitVec 32 := 0#32
  let v72 : BitVec 1 := Scalar.cmpi .ne v71 c0_i32_64
  v72

def k3_off21 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c2_i32_32 : BitVec 32 := 2#32
  let c0_i32_9 : BitVec 32 := 0#32
  let v43 : BitVec 32 := Scalar.muli c2_i32_32 c0_i32_9
  let c1_i32_33 : BitVec 32 := 1#32
  let v44 : BitVec 32 := Scalar.addi v43 c1_i32_33
  let v45 : BitVec 32 := Scalar.addi v3 v44
  let c2_i32_66 : BitVec 32 := 2#32
  let v73 : BitVec 32 := Scalar.addi v45 c2_i32_66
  let c0_i32_67 : BitVec 32 := 0#32
  let c0_i32_68 : BitVec 32 := 0#32
  ![v73.toNat, 0, 0]
abbrev grid4 : Pipeline.Grid := .none

abbrev stage4_0 : Fin 1 → Memref sig .tc .vmem S1024x144 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4x1x336x9 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S320x128x128 : Shape := ⟨3, ![320, 128, 128]⟩
abbrev S64x128x128 : Shape := ⟨3, ![64, 128, 128]⟩
abbrev S1024x128x128 : Shape := ⟨3, ![1024, 128, 128]⟩
abbrev S64x4x4x128x128 : Shape := ⟨5, ![64, 4, 4, 128, 128]⟩
abbrev S64x4x128x4x128 : Shape := ⟨5, ![64, 4, 128, 4, 128]⟩
abbrev S64x512x512 : Shape := ⟨3, ![64, 512, 512]⟩
abbrev S_ : Shape := ⟨0, ![]⟩
abbrev S64x512x512x1 : Shape := ⟨4, ![64, 512, 512, 1]⟩
abbrev S9 : Shape := ⟨1, ![9]⟩
abbrev S1x1x1x9 : Shape := ⟨4, ![1, 1, 1, 9]⟩
abbrev S64x512x512x9 : Shape := ⟨4, ![64, 512, 512, 9]⟩
abbrev S64x512x1x512x9 : Shape := ⟨5, ![64, 512, 1, 512, 9]⟩
abbrev S64x512x1x9 : Shape := ⟨4, ![64, 512, 1, 9]⟩
abbrev S64x1x512x1x9 : Shape := ⟨5, ![64, 1, 512, 1, 9]⟩
abbrev S64x1x1x9 : Shape := ⟨4, ![64, 1, 1, 9]⟩
abbrev S64x1x9 : Shape := ⟨3, ![64, 1, 9]⟩
abbrev S64x1 : Shape := ⟨2, ![64, 1]⟩
abbrev S64x1x1 : Shape := ⟨3, ![64, 1, 1]⟩
abbrev S4x16x9 : Shape := ⟨3, ![4, 16, 9]⟩
abbrev S64x512x2x256x9 : Shape := ⟨5, ![64, 512, 2, 256, 9]⟩
abbrev S64x512x2x9 : Shape := ⟨4, ![64, 512, 2, 9]⟩
abbrev S64x2x256x2x9 : Shape := ⟨5, ![64, 2, 256, 2, 9]⟩
abbrev S64x2x2x9 : Shape := ⟨4, ![64, 2, 2, 9]⟩
abbrev S64x4x9 : Shape := ⟨3, ![64, 4, 9]⟩
abbrev S64x4 : Shape := ⟨2, ![64, 4]⟩
abbrev S64x4x1 : Shape := ⟨3, ![64, 4, 1]⟩
abbrev S4x64x9 : Shape := ⟨3, ![4, 64, 9]⟩
abbrev S64x512x4x128x9 : Shape := ⟨5, ![64, 512, 4, 128, 9]⟩
abbrev S64x512x4x9 : Shape := ⟨4, ![64, 512, 4, 9]⟩
abbrev S64x4x128x4x9 : Shape := ⟨5, ![64, 4, 128, 4, 9]⟩
abbrev S64x4x4x9 : Shape := ⟨4, ![64, 4, 4, 9]⟩
abbrev S64x16x9 : Shape := ⟨3, ![64, 16, 9]⟩
abbrev S64x16 : Shape := ⟨2, ![64, 16]⟩
abbrev S64x16x1 : Shape := ⟨3, ![64, 16, 1]⟩
abbrev S4x256x9 : Shape := ⟨3, ![4, 256, 9]⟩
abbrev S4x336x9 : Shape := ⟨3, ![4, 336, 9]⟩
abbrev S4x1x336x9 : Shape := ⟨4, ![4, 1, 336, 9]⟩

abbrev nBuf : Space → Nat
  | .hbm => 116
  | .vmem => 0
  | .smem => 0
  | _ => 0

abbrev bufTy : (tb : Table) → Fin (tcTables nBuf tb) → BufTy
  | .hbm, ⟨0, _⟩ => ⟨S320x128x128, .i32⟩
  | .hbm, ⟨1, _⟩ => ⟨S320x128x128, .i32⟩
  | .hbm, ⟨2, _⟩ => ⟨S320x128x128, .i32⟩
  | .hbm, ⟨3, _⟩ => ⟨S64x128x128, .i32⟩
  | .hbm, ⟨4, _⟩ => ⟨S1024x128x128, .i32⟩
  | .hbm, ⟨5, _⟩ => ⟨S64x4x4x128x128, .i32⟩
  | .hbm, ⟨6, _⟩ => ⟨S64x4x128x4x128, .i32⟩
  | .hbm, ⟨7, _⟩ => ⟨S64x512x512, .i32⟩
  | .hbm, ⟨8, _⟩ => ⟨S_, .i32⟩
  | .hbm, ⟨9, _⟩ => ⟨S64x512x512, .i32⟩
  | .hbm, ⟨10, _⟩ => ⟨S64x512x512, .i32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S_, .i32⟩
  | .hbm, ⟨16, _⟩ => ⟨S64x512x512, .i32⟩
  | .hbm, ⟨17, _⟩ => ⟨S64x512x512, .i32⟩
  | .hbm, ⟨18, _⟩ => ⟨S_, .i32⟩
  | .hbm, ⟨19, _⟩ => ⟨S64x512x512, .i32⟩
  | .hbm, ⟨20, _⟩ => ⟨S64x512x512, .i32⟩
  | .hbm, ⟨21, _⟩ => ⟨S_, .i32⟩
  | .hbm, ⟨22, _⟩ => ⟨S64x512x512, .i32⟩
  | .hbm, ⟨23, _⟩ => ⟨S64x512x512, .i32⟩
  | .hbm, ⟨24, _⟩ => ⟨S64x512x512x1, .i32⟩
  | .hbm, ⟨25, _⟩ => ⟨S9, .i32⟩
  | .hbm, ⟨26, _⟩ => ⟨S1x1x1x9, .i32⟩
  | .hbm, ⟨27, _⟩ => ⟨S64x512x512x9, .i32⟩
  | .hbm, ⟨28, _⟩ => ⟨S64x512x512x9, .i32⟩
  | .hbm, ⟨29, _⟩ => ⟨S64x512x512x9, .i1⟩
  | .hbm, ⟨30, _⟩ => ⟨S64x512x512x1, .f32⟩
  | .hbm, ⟨31, _⟩ => ⟨S_, .f32⟩
  | .hbm, ⟨32, _⟩ => ⟨S_, .f32⟩
  | .hbm, ⟨33, _⟩ => ⟨S64x512x512x9, .f32⟩
  | .hbm, ⟨34, _⟩ => ⟨S64x512x512x9, .f32⟩
  | .hbm, ⟨35, _⟩ => ⟨S64x512x512x9, .f32⟩
  | .hbm, ⟨36, _⟩ => ⟨S64x512x1x512x9, .f32⟩
  | .hbm, ⟨37, _⟩ => ⟨S_, .f32⟩
  | .hbm, ⟨38, _⟩ => ⟨S64x512x1x9, .f32⟩
  | .hbm, ⟨39, _⟩ => ⟨S64x1x512x1x9, .f32⟩
  | .hbm, ⟨40, _⟩ => ⟨S_, .f32⟩
  | .hbm, ⟨41, _⟩ => ⟨S64x1x1x9, .f32⟩
  | .hbm, ⟨42, _⟩ => ⟨S64x1x9, .f32⟩
  | .hbm, ⟨43, _⟩ => ⟨S_, .f32⟩
  | .hbm, ⟨44, _⟩ => ⟨S64x1, .f32⟩
  | .hbm, ⟨45, _⟩ => ⟨S64x1x1, .f32⟩
  | .hbm, ⟨46, _⟩ => ⟨S_, .f32⟩
  | .hbm, ⟨47, _⟩ => ⟨S64x1x1, .f32⟩
  | .hbm, ⟨48, _⟩ => ⟨S64x1x1, .f32⟩
  | .hbm, ⟨49, _⟩ => ⟨S64x1x9, .f32⟩
  | .hbm, ⟨50, _⟩ => ⟨S64x1x9, .f32⟩
  | .hbm, ⟨51, _⟩ => ⟨S64x1x9, .f32⟩
  | .hbm, ⟨52, _⟩ => ⟨S_, .f32⟩
  | .hbm, ⟨53, _⟩ => ⟨S64x1, .f32⟩
  | .hbm, ⟨54, _⟩ => ⟨S64x1x1, .f32⟩
  | .hbm, ⟨55, _⟩ => ⟨S64x1x1, .f32⟩
  | .hbm, ⟨56, _⟩ => ⟨S_, .f32⟩
  | .hbm, ⟨57, _⟩ => ⟨S64x1x1, .f32⟩
  | .hbm, ⟨58, _⟩ => ⟨S64x1x1, .f32⟩
  | .hbm, ⟨59, _⟩ => ⟨S64x1x9, .f32⟩
  | .hbm, ⟨60, _⟩ => ⟨S64x1x9, .f32⟩
  | .hbm, ⟨61, _⟩ => ⟨S4x16x9, .f32⟩
  | .hbm, ⟨62, _⟩ => ⟨S64x512x2x256x9, .f32⟩
  | .hbm, ⟨63, _⟩ => ⟨S_, .f32⟩
  | .hbm, ⟨64, _⟩ => ⟨S64x512x2x9, .f32⟩
  | .hbm, ⟨65, _⟩ => ⟨S64x2x256x2x9, .f32⟩
  | .hbm, ⟨66, _⟩ => ⟨S_, .f32⟩
  | .hbm, ⟨67, _⟩ => ⟨S64x2x2x9, .f32⟩
  | .hbm, ⟨68, _⟩ => ⟨S64x4x9, .f32⟩
  | .hbm, ⟨69, _⟩ => ⟨S_, .f32⟩
  | .hbm, ⟨70, _⟩ => ⟨S64x4, .f32⟩
  | .hbm, ⟨71, _⟩ => ⟨S64x4x1, .f32⟩
  | .hbm, ⟨72, _⟩ => ⟨S_, .f32⟩
  | .hbm, ⟨73, _⟩ => ⟨S64x4x1, .f32⟩
  | .hbm, ⟨74, _⟩ => ⟨S64x4x1, .f32⟩
  | .hbm, ⟨75, _⟩ => ⟨S64x4x9, .f32⟩
  | .hbm, ⟨76, _⟩ => ⟨S64x4x9, .f32⟩
  | .hbm, ⟨77, _⟩ => ⟨S64x4x9, .f32⟩
  | .hbm, ⟨78, _⟩ => ⟨S_, .f32⟩
  | .hbm, ⟨79, _⟩ => ⟨S64x4, .f32⟩
  | .hbm, ⟨80, _⟩ => ⟨S64x4x1, .f32⟩
  | .hbm, ⟨81, _⟩ => ⟨S64x4x1, .f32⟩
  | .hbm, ⟨82, _⟩ => ⟨S_, .f32⟩
  | .hbm, ⟨83, _⟩ => ⟨S64x4x1, .f32⟩
  | .hbm, ⟨84, _⟩ => ⟨S64x4x1, .f32⟩
  | .hbm, ⟨85, _⟩ => ⟨S64x4x9, .f32⟩
  | .hbm, ⟨86, _⟩ => ⟨S64x4x9, .f32⟩
  | .hbm, ⟨87, _⟩ => ⟨S4x64x9, .f32⟩
  | .hbm, ⟨88, _⟩ => ⟨S64x512x4x128x9, .f32⟩
  | .hbm, ⟨89, _⟩ => ⟨S_, .f32⟩
  | .hbm, ⟨90, _⟩ => ⟨S64x512x4x9, .f32⟩
  | .hbm, ⟨91, _⟩ => ⟨S64x4x128x4x9, .f32⟩
  | .hbm, ⟨92, _⟩ => ⟨S_, .f32⟩
  | .hbm, ⟨93, _⟩ => ⟨S64x4x4x9, .f32⟩
  | .hbm, ⟨94, _⟩ => ⟨S64x16x9, .f32⟩
  | .hbm, ⟨95, _⟩ => ⟨S_, .f32⟩
  | .hbm, ⟨96, _⟩ => ⟨S64x16, .f32⟩
  | .hbm, ⟨97, _⟩ => ⟨S64x16x1, .f32⟩
  | .hbm, ⟨98, _⟩ => ⟨S_, .f32⟩
  | .hbm, ⟨99, _⟩ => ⟨S64x16x1, .f32⟩
  | .hbm, ⟨100, _⟩ => ⟨S64x16x1, .f32⟩
  | .hbm, ⟨101, _⟩ => ⟨S64x16x9, .f32⟩
  | .hbm, ⟨102, _⟩ => ⟨S64x16x9, .f32⟩
  | .hbm, ⟨103, _⟩ => ⟨S64x16x9, .f32⟩
  | .hbm, ⟨104, _⟩ => ⟨S_, .f32⟩
  | .hbm, ⟨105, _⟩ => ⟨S64x16, .f32⟩
  | .hbm, ⟨106, _⟩ => ⟨S64x16x1, .f32⟩
  | .hbm, ⟨107, _⟩ => ⟨S64x16x1, .f32⟩
  | .hbm, ⟨108, _⟩ => ⟨S_, .f32⟩
  | .hbm, ⟨109, _⟩ => ⟨S64x16x1, .f32⟩
  | .hbm, ⟨110, _⟩ => ⟨S64x16x1, .f32⟩
  | .hbm, ⟨111, _⟩ => ⟨S64x16x9, .f32⟩
  | .hbm, ⟨112, _⟩ => ⟨S64x16x9, .f32⟩
  | .hbm, ⟨113, _⟩ => ⟨S4x256x9, .f32⟩
  | .hbm, ⟨114, _⟩ => ⟨S4x336x9, .f32⟩
  | .hbm, ⟨115, _⟩ => ⟨S4x1x336x9, .f32⟩
  | _, _ => ⟨S320x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Pack.lean ====
abbrev S4x16x512x512 : Shape := ⟨4, ![4, 16, 512, 512]⟩
abbrev S64x512x512 : Shape := ⟨3, ![64, 512, 512]⟩
abbrev S320x128x128 : Shape := ⟨3, ![320, 128, 128]⟩
abbrev S1x512x512 : Shape := ⟨3, ![1, 512, 512]⟩
abbrev S16x128x128 : Shape := ⟨3, ![16, 128, 128]⟩
abbrev S512x512 : Shape := ⟨2, ![512, 512]⟩
abbrev S1x512 : Shape := ⟨2, ![1, 512]⟩
abbrev S512x1 : Shape := ⟨2, ![512, 1]⟩
abbrev S511x512 : Shape := ⟨2, ![511, 512]⟩
abbrev S512x511 : Shape := ⟨2, ![512, 511]⟩
abbrev S128x128 : Shape := ⟨2, ![128, 128]⟩
abbrev S1x128x128 : Shape := ⟨3, ![1, 128, 128]⟩
abbrev S64x128x128 : Shape := ⟨3, ![64, 128, 128]⟩

abbrev nBuf : Space → Nat
  | .hbm => 6
  | .vmem => 16
  | .smem => 0
  | _ => 0

abbrev bufTy : (tb : Table) → Fin (tcTables nBuf tb) → BufTy
  | .hbm, ⟨0, _⟩ => ⟨S4x16x512x512, .f32⟩
  | .hbm, ⟨1, _⟩ => ⟨S64x512x512, .f32⟩
  | .hbm, ⟨2, _⟩ => ⟨S320x128x128, .i32⟩
  | .hbm, ⟨3, _⟩ => ⟨S320x128x128, .i32⟩
  | .hbm, ⟨4, _⟩ => ⟨S320x128x128, .i32⟩
  | .hbm, ⟨5, _⟩ => ⟨S64x128x128, .i32⟩
  | .local _ .vmem, ⟨0, _⟩ => ⟨S1x512x512, .f32⟩
  | .local _ .vmem, ⟨1, _⟩ => ⟨S1x512x512, .f32⟩
  | .local _ .vmem, ⟨2, _⟩ => ⟨S16x128x128, .i32⟩
  | .local _ .vmem, ⟨3, _⟩ => ⟨S16x128x128, .i32⟩
  | .local _ .vmem, ⟨4, _⟩ => ⟨S1x512x512, .f32⟩
  | .local _ .vmem, ⟨5, _⟩ => ⟨S1x512x512, .f32⟩
  | .local _ .vmem, ⟨6, _⟩ => ⟨S16x128x128, .i32⟩
  | .local _ .vmem, ⟨7, _⟩ => ⟨S16x128x128, .i32⟩
  | .local _ .vmem, ⟨8, _⟩ => ⟨S1x512x512, .f32⟩
  | .local _ .vmem, ⟨9, _⟩ => ⟨S1x512x512, .f32⟩
  | .local _ .vmem, ⟨10, _⟩ => ⟨S16x128x128, .i32⟩
  | .local _ .vmem, ⟨11, _⟩ => ⟨S16x128x128, .i32⟩
  | .local _ .vmem, ⟨12, _⟩ => ⟨S1x512x512, .f32⟩
  | .local _ .vmem, ⟨13, _⟩ => ⟨S1x512x512, .f32⟩
  | .local _ .vmem, ⟨14, _⟩ => ⟨S16x128x128, .i32⟩
  | .local _ .vmem, ⟨15, _⟩ => ⟨S16x128x128, .i32⟩
  | _, _ => ⟨S4x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![20], ![false]⟩

def cc2_transform_0 (i : grid2.Coords) : Fin 3 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x128x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  let c0_i32_1 : BitVec 32 := 0#32
  ![v0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x128x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== PackRefIdeal.lean ====
abbrev S4x16x512x512 : Shape := ⟨4, ![4, 16, 512, 512]⟩
abbrev S64x512x512 : Shape := ⟨3, ![64, 512, 512]⟩
abbrev S_ : Shape := ⟨0, ![]⟩
abbrev S64x514x514 : Shape := ⟨3, ![64, 514, 514]⟩
abbrev S64x4x128x4x128 : Shape := ⟨5, ![64, 4, 128, 4, 128]⟩
abbrev S64x4x4x128x128 : Shape := ⟨5, ![64, 4, 4, 128, 128]⟩
abbrev S1024x128x128 : Shape := ⟨3, ![1024, 128, 128]⟩
abbrev S320x128x128 : Shape := ⟨3, ![320, 128, 128]⟩
abbrev S64x128x128 : Shape := ⟨3, ![64, 128, 128]⟩

abbrev nBuf : Space → Nat
  | .hbm => 158
  | .vmem => 0
  | .smem => 0
  | _ => 0

abbrev hbmTy0_0 (i : Nat) : BufTy := match i % 128 with
  | 0 => ⟨S4x16x512x512, .f32⟩
  | 1 => ⟨S64x512x512, .f32⟩
  | 2 => ⟨S_, .i32⟩
  | 3 => ⟨S_, .f32⟩
  | 4 => ⟨S64x514x514, .f32⟩
  | 5 => ⟨S64x512x512, .f32⟩
  | 6 => ⟨S_, .f32⟩
  | 7 => ⟨S64x512x512, .f32⟩
  | 8 => ⟨S64x512x512, .f32⟩
  | 9 => ⟨S64x512x512, .f32⟩
  | 10 => ⟨S_, .f32⟩
  | 11 => ⟨S64x512x512, .f32⟩
  | 12 => ⟨S64x512x512, .f32⟩
  | 13 => ⟨S64x512x512, .f32⟩
  | 14 => ⟨S_, .f32⟩
  | 15 => ⟨S64x512x512, .f32⟩
  | 16 => ⟨S64x512x512, .f32⟩
  | 17 => ⟨S64x512x512, .f32⟩
  | 18 => ⟨S_, .f32⟩
  | 19 => ⟨S64x512x512, .f32⟩
  | 20 => ⟨S64x512x512, .f32⟩
  | 21 => ⟨S64x512x512, .f32⟩
  | 22 => ⟨S_, .f32⟩
  | 23 => ⟨S64x512x512, .f32⟩
  | 24 => ⟨S64x512x512, .f32⟩
  | 25 => ⟨S64x512x512, .f32⟩
  | 26 => ⟨S64x512x512, .f32⟩
  | 27 => ⟨S64x512x512, .f32⟩
  | 28 => ⟨S64x512x512, .f32⟩
  | 29 => ⟨S_, .i32⟩
  | 30 => ⟨S_, .f32⟩
  | 31 => ⟨S64x514x514, .f32⟩
  | 32 => ⟨S64x512x512, .f32⟩
  | 33 => ⟨S_, .f32⟩
  | 34 => ⟨S64x512x512, .f32⟩
  | 35 => ⟨S64x512x512, .f32⟩
  | 36 => ⟨S64x512x512, .f32⟩
  | 37 => ⟨S_, .f32⟩
  | 38 => ⟨S64x512x512, .f32⟩
  | 39 => ⟨S64x512x512, .f32⟩
  | 40 => ⟨S64x512x512, .f32⟩
  | 41 => ⟨S_, .f32⟩
  | 42 => ⟨S64x512x512, .f32⟩
  | 43 => ⟨S64x512x512, .f32⟩
  | 44 => ⟨S64x512x512, .f32⟩
  | 45 => ⟨S_, .f32⟩
  | 46 => ⟨S64x512x512, .f32⟩
  | 47 => ⟨S64x512x512, .f32⟩
  | 48 => ⟨S64x512x512, .f32⟩
  | 49 => ⟨S_, .f32⟩
  | 50 => ⟨S64x512x512, .f32⟩
  | 51 => ⟨S64x512x512, .f32⟩
  | 52 => ⟨S64x512x512, .f32⟩
  | 53 => ⟨S_, .f32⟩
  | 54 => ⟨S64x512x512, .f32⟩
  | 55 => ⟨S64x512x512, .f32⟩
  | 56 => ⟨S64x512x512, .f32⟩
  | 57 => ⟨S64x512x512, .f32⟩
  | 58 => ⟨S64x512x512, .f32⟩
  | 59 => ⟨S64x512x512, .f32⟩
  | 60 => ⟨S64x512x512, .f32⟩
  | 61 => ⟨S_, .i32⟩
  | 62 => ⟨S_, .f32⟩
  | 63 => ⟨S64x514x514, .f32⟩
  | 64 => ⟨S64x512x512, .f32⟩
  | 65 => ⟨S_, .f32⟩
  | 66 => ⟨S64x512x512, .f32⟩
  | 67 => ⟨S64x512x512, .f32⟩
  | 68 => ⟨S64x512x512, .f32⟩
  | 69 => ⟨S_, .f32⟩
  | 70 => ⟨S64x512x512, .f32⟩
  | 71 => ⟨S64x512x512, .f32⟩
  | 72 => ⟨S64x512x512, .f32⟩
  | 73 => ⟨S_, .f32⟩
  | 74 => ⟨S64x512x512, .f32⟩
  | 75 => ⟨S64x512x512, .f32⟩
  | 76 => ⟨S64x512x512, .f32⟩
  | 77 => ⟨S_, .f32⟩
  | 78 => ⟨S64x512x512, .f32⟩
  | 79 => ⟨S64x512x512, .f32⟩
  | 80 => ⟨S64x512x512, .f32⟩
  | 81 => ⟨S_, .f32⟩
  | 82 => ⟨S64x512x512, .f32⟩
  | 83 => ⟨S64x512x512, .f32⟩
  | 84 => ⟨S64x512x512, .f32⟩
  | 85 => ⟨S_, .f32⟩
  | 86 => ⟨S64x512x512, .f32⟩
  | 87 => ⟨S64x512x512, .f32⟩
  | 88 => ⟨S64x512x512, .f32⟩
  | 89 => ⟨S64x512x512, .f32⟩
  | 90 => ⟨S64x512x512, .f32⟩
  | 91 => ⟨S64x512x512, .f32⟩
  | 92 => ⟨S64x512x512, .f32⟩
  | 93 => ⟨S64x512x512, .f32⟩
  | 94 => ⟨S64x512x512, .f32⟩
  | 95 => ⟨S64x512x512, .f32⟩
  | 96 => ⟨S_, .f32⟩
  | 97 => ⟨S64x512x512, .f32⟩
  | 98 => ⟨S64x512x512, .f32⟩
  | 99 => ⟨S64x512x512, .f32⟩
  | 100 => ⟨S64x512x512, .f32⟩
  | 101 => ⟨S_, .f32⟩
  | 102 => ⟨S64x512x512, .f32⟩
  | 103 => ⟨S64x512x512, .i1⟩
  | 104 => ⟨S64x512x512, .i32⟩
  | 105 => ⟨S_, .f32⟩
  | 106 => ⟨S64x512x512, .f32⟩
  | 107 => ⟨S64x512x512, .i1⟩
  | 108 => ⟨S64x512x512, .i32⟩
  | 109 => ⟨S_, .f32⟩
  | 110 => ⟨S64x512x512, .f32⟩
  | 111 => ⟨S64x512x512, .i1⟩
  | 112 => ⟨S64x512x512, .i32⟩
  | 113 => ⟨S_, .f32⟩
  | 114 => ⟨S64x512x512, .f32⟩
  | 115 => ⟨S64x512x512, .i1⟩
  | 116 => ⟨S64x512x512, .i32⟩
  | 117 => ⟨S_, .f32⟩
  | 118 => ⟨S64x512x512, .f32⟩
  | 119 => ⟨S64x512x512, .i1⟩
  | 120 => ⟨S64x512x512, .i32⟩
  | 121 => ⟨S_, .f32⟩
  | 122 => ⟨S64x512x512, .f32⟩
  | 123 => ⟨S64x512x512, .i1⟩
  | 124 => ⟨S64x512x512, .i32⟩
  | 125 => ⟨S_, .f32⟩
  | 126 => ⟨S64x512x512, .f32⟩
  | 127 => ⟨S64x512x512, .i1⟩
  | _ => ⟨S4x16x512x512, .f32⟩

abbrev hbmTy0_1 (i : Nat) : BufTy := match i % 128 with
  | 0 => ⟨S64x512x512, .i32⟩
  | 1 => ⟨S_, .f32⟩
  | 2 => ⟨S64x512x512, .f32⟩
  | 3 => ⟨S64x512x512, .i1⟩
  | 4 => ⟨S64x512x512, .i32⟩
  | 5 => ⟨S64x512x512, .i32⟩
  | 6 => ⟨S64x512x512, .i32⟩
  | 7 => ⟨S64x512x512, .i32⟩
  | 8 => ⟨S64x512x512, .i32⟩
  | 9 => ⟨S64x512x512, .i32⟩
  | 10 => ⟨S64x512x512, .i32⟩
  | 11 => ⟨S64x512x512, .i32⟩
  | 12 => ⟨S_, .f32⟩
  | 13 => ⟨S64x512x512, .f32⟩
  | 14 => ⟨S64x512x512, .f32⟩
  | 15 => ⟨S_, .f32⟩
  | 16 => ⟨S64x512x512, .f32⟩
  | 17 => ⟨S64x512x512, .f32⟩
  | 18 => ⟨S64x512x512, .i32⟩
  | 19 => ⟨S_, .i32⟩
  | 20 => ⟨S64x512x512, .i32⟩
  | 21 => ⟨S64x512x512, .i32⟩
  | 22 => ⟨S64x512x512, .i32⟩
  | 23 => ⟨S64x4x128x4x128, .i32⟩
  | 24 => ⟨S64x4x4x128x128, .i32⟩
  | 25 => ⟨S1024x128x128, .i32⟩
  | 26 => ⟨S320x128x128, .i32⟩
  | 27 => ⟨S320x128x128, .i32⟩
  | 28 => ⟨S320x128x128, .i32⟩
  | 29 => ⟨S64x128x128, .i32⟩
  | _ => ⟨S4x16x512x512, .f32⟩

abbrev hbmTy (i : Nat) : BufTy := match i / 128 with
  | 0 => hbmTy0_0 i
  | 1 => hbmTy0_1 i
  | _ => ⟨S4x16x512x512, .f32⟩

abbrev bufTy : (tb : Table) → Fin (tcTables nBuf tb) → BufTy
  | .hbm, ⟨i, _⟩ => hbmTy i
  | _, _ => ⟨S4x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_call2_v0 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_18 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_19 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_20 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_21 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_24 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_25 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_26 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_27 : Ref sig .tc := ⟨.hbm, 140, rfl⟩
abbrev main_v107 : Ref sig .tc := ⟨.hbm, 141, rfl⟩
abbrev main_v108 : Ref sig .tc := ⟨.hbm, 142, rfl⟩
abbrev main_cst_28 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_29 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]
-- ==== Proof.Held.lean ====
/-
  A BUFFER HELD BY WHAT IT READS. A thread that owns a share of the whole of a memref's array, with
  contents that read `X` through the memref, "holds `X`". The three rules the histogram kernel steps by:
  a load reads `X` under the rectangle, a store puts its payload there, and an indexed add rewrites `X` by the
  scatter.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' rounds and the transfers' counters. -/
abbrev UH : Type := URounds (GSem nD τ sig) ℕ
/-- The rounds of the TensorCore call's staging buffers. -/
abbrev UP : Type := URounds (GSem nD τ sig) Unit
abbrev UU : Type := UH × (UP × Counters)

local notation "𝕄" => MT nD τ sig (HIx 4) (Elt F) ℕ UU ℕ

abbrev 𝒱₀ : Variants := Variants.none

/-- A share `q` of a memref's whole array, whose contents read `X`. -/
def Holds {sp : Space} {s : Shape} {e : EltTy} (c : Thread nD τ) (a : Memref sig c.2.kind sp s e) (q : PosShare TreeShare)
    (X : s.Idx → Elt F e) : sProp 𝕄 :=
  iprop(∃ f : Buf (Elt F) (a.view.loc c), ⌜a.view.read (Elt F) f = X⌝ ∗ (a.view.loc c ↦[Finset.univ]{q} f))

/-- `X` with the payload `w` put under the rectangle. -/
def put {s : Shape} {α : Type} (r : Rect s) (w : r.shape.Idx → α) (X : s.Idx → α) : s.Idx → α :=
  fun y => match preimage? r.emb y with
    | some x => w x
    | none => X y

theorem put_emb {s : Shape} {α : Type} (r : Rect s) (w : r.shape.Idx → α) (X : s.Idx → α) (x : r.shape.Idx) :
    put r w X (r.emb x) = w x := by
  simp [put, preimage?_emb]

theorem put_of_ne {s : Shape} {α : Type} (r : Rect s) (w : r.shape.Idx → α) (X : s.Idx → α) (y : s.Idx) (h : ∀ x, r.emb x ≠ y) :
    put r w X y = X y := by
  unfold put
  rw [preimage?_eq_none h]

/-- What a store through a memref leaves, read back. -/
theorem read_access_write {κ : Kind} {sp : Space} {s : Shape} {e : EltTy} (a : Memref sig κ sp s e) (r : Rect s)
    (f : a.view.ty.Contents (Elt F)) (w : r.shape.Idx → Elt F e) :
    a.view.read (Elt F) ((a.access r).write (Elt F) f w Finset.univ) = put r w (a.view.read (Elt F) f) := by
  funext y
  by_cases hy : ∃ x, r.emb x = y
  · obtain ⟨x, rfl⟩ := hy
    rw [put_emb]
    exact View.read_write_of_mem (v := a.access r) f w (Finset.mem_univ x)
  · push Not at hy
    rw [put_of_ne _ _ _ _ hy, View.read_apply, View.read_apply]
    congr 1
    refine View.write_of_not_mem _ _ _ ?_
    intro hm
    obtain ⟨x, -, hx⟩ := Finset.mem_map.mp hm
    exact hy x (a.view.emb.injective hx)

theorem put_whole {s : Shape} {α : Type} (w X : s.Idx → α) : put (Rect.whole s) w X = w := by
  funext y
  have := put_emb (Rect.whole s) w X y
  rwa [Rect.emb_whole_apply] at this

section Rules

variable [FloatOps F] {Λ : Labels} {defs : Defs nD τ sig (Elt F) Λ} (c : Thread nD τ) {α : Type}

/-- A load reads `X` under its rectangle. -/
theorem wp_load_holds {sp : CoreSpace} {s : Shape} {e : EltTy} (a : Memref sig c.2.kind sp s e) (q : PosShare TreeShare) (X : s.Idx → Elt F e)
    (r : LoadRect s) {hl : a.view.LoadsAt r} {k : (r.shape.Idx → Elt F e) → Prog (TpuEff nD τ sig (Elt F) Λ c.2) α} {Q : α → sProp 𝕄} :
    Holds c a q X ⊢ iprop((Holds c a q X -∗ wp frame (wpE defs 𝒱₀ c none) Set.univ (k fun x => X (r.idx x)) Q)
      -∗ wp frame (wpE defs 𝒱₀ c none) Set.univ (.op (.load a r hl) k) Q) := by
  unfold Holds
  iintro ⟨%f, %hf, H⟩ Hk
  iapply (wp_load (defs := defs) 𝒱₀ c none Set.univ (m := a) (r := r) (S := Finset.univ) (q := q) (f := f) (Finset.subset_univ _)) $$ H
  iintro H
  have e : a.view.readAt (Elt F) r f = fun x => X (r.idx x) := by rw [← hf]; rfl
  rw [e]
  iapply Hk
  iexists f
  isplitr
  · ipureintro; exact hf
  · iexact H

/-- A store puts its payload under its rectangle. -/
theorem wp_store_holds {sp : CoreSpace} {s : Shape} {e : EltTy} (a : Memref sig c.2.kind sp s e) (X : s.Idx → Elt F e)
    (r : Rect s) (w : r.shape.Idx → Elt F e) {hx : (a.access r).Stores Finset.univ} {hm : Finset.univ = Finset.univ ∨ ∀ a, r.stride a = 1}
    {k : PUnit → Prog (TpuEff nD τ sig (Elt F) Λ c.2) α} {Q : α → sProp 𝕄} :
    Holds c a fullShare X ⊢ iprop((Holds c a fullShare (put r w X) -∗ wp frame (wpE defs 𝒱₀ c none) Set.univ (k ⟨⟩) Q)
      -∗ wp frame (wpE defs 𝒱₀ c none) Set.univ (.op (.store a r w Finset.univ hx hm) k) Q) := by
  unfold Holds
  iintro ⟨%f, %hf, H⟩ Hk
  iapply (wp_store (defs := defs) 𝒱₀ c none Set.univ (m := a) (r := r) (w := w) (Mk := Finset.univ) (hx := hx) (hm := hm) (k := k)
    (S := Finset.univ) (f := f) (Finset.subset_univ _)) $$ H
  iintro H
  iapply Hk
  iexists ((a.access r).write (Elt F) f w Finset.univ)
  isplitr
  · ipureintro; rw [read_access_write, hf]
  · iexact H

/-- An indexed store rewrites `X` by the scatter. -/
theorem wp_scatter_holds {d : Fin 1 → Nat} {s : Shape} {e : EltTy} (a : Memref sig c.2.kind .vmem s e) (X : s.Idx → Elt F e)
    {idxs : Fin s.rank → IVec ⟨1, d⟩ 32} {v : Vec F ⟨1, d⟩ e} {mask : IVec ⟨1, d⟩ 1} {add : Bool}
    {h : ∀ a x, (idxs a x).toNat < s.size a} {hs : (a.access (.whole s)).Stores Finset.univ}
    {k : PUnit → Prog (TpuEff nD τ sig (Elt F) Λ c.2) α} {Q : α → sProp 𝕄} :
    Holds c a fullShare X ⊢ iprop((Holds c a fullShare (storeIdx X idxs v mask add h) -∗ wp frame (wpE defs 𝒱₀ c none) Set.univ (k ⟨⟩) Q)
      -∗ wp frame (wpE defs 𝒱₀ c none) Set.univ (SparseCore.vectorStoreIdx a idxs v mask add h hs >>= k) Q) := by
  rw [SparseCore.vectorStoreIdx_bind]
  iintro H Hk
  iapply (wp_load_holds (defs := defs) c a fullShare X (Rect.whole s).toLoadRect) $$ H
  iintro H
  have e : (fun x => X ((Rect.whole s).toLoadRect.idx x)) = X := by
    funext x; exact congrArg X (Rect.emb_whole_apply s x)
  rw [e]
  iapply (wp_store_holds (defs := defs) c a X (.whole s) (storeIdx X idxs v mask add h)) $$ H
  rw [put_whole]
  iexact Hk

end Rules

end Cert.Proof.Hist
-- ==== Proof.Bins.lean ====
/-
  THE HISTOGRAM, PURELY. A code is a word whose low four bits name a bin and whose other bits are a weight.
  A packed row is a 128 × 128 array of codes: 1024 vectors of 16 lanes, each lane one image column's part. The
  accumulator has 144 words, 16 for each of 9 bins, and one vector adds each lane's weight at 16·bin + lane.
-/
module

public import proofs.«01_k».proof.Proof.Held
public import Idealize.ShloMosaic.Lib.ValueIdx
public import Idealize.ShloMosaic.Lib.Pipeline.Value

@[expose] public section

noncomputable section

namespace Cert.Proof.Hist

open Cert.KernelIdeal Cert.KernelIdeal.Gen
open Idealize.ShloMosaic Idealize.ShloMosaic.ValueIdx

variable {F : FTy → Type}

/-- The lane numbers 0 … 15. -/
abbrev lanes : IVec S16 32 := iota .scVector S16 32 [0] iota_S16_d0_w32_scVector

/-- Where each lane of a vector of codes adds: 16·bin + lane. -/
def slots (v : IVec S16 32) : IVec S16 32 := ori (shli (andi v (broadcast S16 15#32)) (broadcast S16 4#32)) lanes

/-- What each lane of a vector of codes adds: its weight as a float. -/
def weights [FloatOps F] (v : IVec S16 32) : FVec F S16 .f32 := sitofp .f32 (shrsi v (broadcast S16 4#32))

/-- A code's bin and weight, as a number and as a word. -/
def binOf (w : BitVec 32) : ℕ := (w &&& 15#32).toNat

theorem slots_toNat (v : IVec S16 32) (x : S16.Idx) (h : binOf (v x) < 9) : (slots v x).toNat = 16 * binOf (v x) + (x 0).val := by
  have hx : (x 0).val < 16 := (x 0).isLt
  have e : slots v x = ((v x &&& 15#32) <<< 4) ||| BitVec.ofNat 32 (x 0).val := by
    show IntOp.ori (IntOp.shli _ (IntOp.andi (v x) 15#32) 4#32) (BitVec.ofNat 32 _) = _
    simp [IntOp.ori, IntOp.shli, IntOp.andi]
  unfold binOf at *
  rw [e, BitVec.toNat_or, BitVec.toNat_shiftLeft, BitVec.toNat_ofNat, Nat.mod_eq_of_lt (a := (x 0).val) (by omega),
    Nat.mod_eq_of_lt (by rw [Nat.shiftLeft_eq]; omega), ← Nat.shiftLeft_add_eq_or_of_lt (by omega), Nat.shiftLeft_eq]
  omega

/-- Every lane's slot is one of the 144 words, when every code's bin is one of the nine. -/
theorem slots_lt (v : IVec S16 32) (h : ∀ x, binOf (v x) < 9) :
    ∀ a x, ((![slots v] : Fin 1 → IVec S16 32) a x).toNat < S144.size a := by
  intro a x
  have ha : a = 0 := Subsingleton.elim _ _
  subst ha
  have hx : (x 0).val < 16 := (x 0).isLt
  have hb := h x
  show (slots v x).toNat < 144
  rw [slots_toNat v x hb]; omega

/-- One vector's indexed add into the accumulator. -/
def stepV [FloatOps F] (g : Vec F S144 .f32) (v : IVec S16 32) : Vec F S144 .f32 :=
  if h : ∀ a x, ((![slots v] : Fin 1 → IVec S16 32) a x).toNat < S144.size a then
    storeIdx g ![slots v] (weights v) (fun _ => 1#1) true h
  else g

theorem stepV_of [FloatOps F] (g : Vec F S144 .f32) (v : IVec S16 32)
    (h : ∀ a x, ((![slots v] : Fin 1 → IVec S16 32) a x).toNat < S144.size a) :
    storeIdx g ![slots v] (weights v) (fun _ => 1#1) true h = stepV g v := by
  unfold stepV; rw [dif_pos h]

/-- Vector `n` of a packed row: line `n / 8`, columns `16·(n % 8)` to `16·(n % 8) + 15`. -/
def vecAt (X : S128x128.Idx → BitVec 32) (n : ℕ) : IVec S16 32 := fun x =>
  X (ix2 (⟨n / 8 % 128, Nat.mod_lt _ (by decide)⟩ : Fin 128)
    (⟨16 * (n % 8) + (x 0).val, by have h : (x 0).val < 16 := (x 0).isLt; omega⟩ : Fin 128))

/-- The accumulator at zero. -/
def zeroAcc [FloatOps F] : Vec F S144 .f32 := fun _ => (Scalar.ofBits .f32 0x00000000#32 : F .f32)

/-- The accumulator after a packed row's first `n` vectors. -/
def rowsDone [FloatOps F] (X : S128x128.Idx → BitVec 32) : ℕ → Vec F S144 .f32
  | 0 => zeroAcc
  | n + 1 => stepV (rowsDone X n) (vecAt X n)

/-- Every code of a packed row names one of the nine bins. -/
def InBins (X : S128x128.Idx → BitVec 32) : Prop := ∀ y, binOf (X y) < 9

theorem InBins.chk {X : S128x128.Idx → BitVec 32} (h : InBins X) (n : ℕ) :
    ∀ a x, ((![slots (vecAt X n)] : Fin 1 → IVec S16 32) a x).toNat < S144.size a :=
  slots_lt _ fun _ => h _

/-- A vector of 16 lanes as the 1 × 16 block it is loaded as. -/
def block (v : IVec S16 32) : S1x16.Idx → BitVec 32 := fun x => v (ix1 (x 1 : Fin 16))

theorem shapeCast_block (v : IVec S16 32) (h : S1x16.ShapeCasts S16) : shapeCast S16 (block v) h = v := by
  funext x
  have e := shapeCast_apply (block v) h x (ix2 (0 : Fin 1) (x 0 : Fin 16)) (by
    rw [Shape.rowMajor_val_two, Shape.rowMajor_val_one]; show 0 * 16 + (x 0).val = (x 0).val; omega)
  rw [e]
  show v (ix1 (x 0 : Fin 16)) = v x
  exact congrArg v (funext fun a => by have ha : a = 0 := Subsingleton.elim _ _; subst ha; rfl)

/-- A 16-lane load of a packed row, read as its vector. -/
theorem load_eq (X : S128x128.Idx → BitVec 32) (off : Fin 2 → ℕ) (inb : ∀ a, off a + S1x16.size a ≤ S128x128.size a)
    (l g n : ℕ) (hoff : off = ![l, 16 * g]) (hg : g < 8) (hn : n = 8 * l + g) :
    (fun x : S1x16.Idx => X ((Rect.unit (s := S128x128) off S1x16.size inb).toLoadRect.idx x)) = block (vecAt X n) := by
  subst hoff
  have hl : l < 128 := by have := inb 0; simp at this; omega
  funext x
  have hx : (x 1).val < 16 := (x 1).isLt
  have hx0 : (x 0).val < 1 := (x 0).isLt
  unfold block vecAt
  congr 1
  funext a
  match a with
  | ⟨0, _⟩ => apply Fin.ext; show l + 1 * (x 0).val = n / 8 % 128; omega
  | ⟨1, _⟩ => apply Fin.ext; show 16 * g + 1 * (x 1).val = 16 * (n % 8) + (x 1).val; omega

/-- The accumulator is zero in its first `n` words. -/
def ZeroTo [FloatOps F] (n : ℕ) (g : Vec F S144 .f32) : Prop := ∀ y : S144.Idx, (y 0).val < n → g y = (Scalar.ofBits .f32 0x00000000#32 : F .f32)

theorem ZeroTo.zero [FloatOps F] (g : Vec F S144 .f32) : ZeroTo 0 g := fun _ h => absurd h (Nat.not_lt_zero _)

/-- A store of zeros over the next sixteen words extends the zeroed part. -/
theorem ZeroTo.put [FloatOps F] {n : ℕ} {g : Vec F S144 .f32} (h : ZeroTo n g) (inb : ∀ a, (![n] : Fin 1 → ℕ) a + S16.size a ≤ S144.size a) :
    ZeroTo (n + 16) (put (Rect.unit (s := S144) ![n] S16.size inb) (fun _ => (Scalar.ofBits .f32 0x00000000#32 : F .f32)) g) := by
  intro y hy
  by_cases hc : ∃ x, (Rect.unit (s := S144) ![n] S16.size inb).emb x = y
  · obtain ⟨x, rfl⟩ := hc; rw [put_emb]
  · push Not at hc
    rw [put_of_ne _ _ _ _ hc]
    refine h y ?_
    by_contra hn
    refine hc (ix1 (⟨(y 0).val - n, by omega⟩ : Fin 16)) ?_
    funext a
    have ha : a = 0 := Subsingleton.elim _ _
    subst ha
    apply Fin.ext
    show n + 1 * ((y 0).val - n) = (y 0).val
    omega

theorem ZeroTo.done [FloatOps F] {g : Vec F S144 .f32} (h : ZeroTo 144 g) : g = zeroAcc := by
  funext y; exact h y (y 0).isLt

end Cert.Proof.Hist
-- ==== Proof.Trip.lean ====
/-
  ONE TRIP OF THE ROW LOOP: two lines of a packed row, sixteen vectors read, checked and added into the accumulator.
-/
module

public import proofs.«01_k».proof.Proof.Bins

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- The SparseCore and the tile that grid point `i` names. -/
abbrev cV (i : grid0.Coords) : Fin τ.nSC := (i 0).castLE hcore0
abbrev jV (i : grid0.Coords) : Fin τ.nSub := (i 1).castLE hsub0

/-! ## The trip as a chain of reads, checks and adds -/

section Chain

variable {κ : Proc τ} {β : Type}

/-- A vector's slots are words of the accumulator. -/
def Chk (v : IVec S16 32) : Prop := ∀ a x, ((![slots v] : Fin 1 → IVec S16 32) a x).toNat < S144.size a

/-- Sixteen lanes read as a vector. -/
def readVec (a : Memref sig κ.kind .vmem S128x128 .i32) (off : Fin 2 → ℕ) (inb : ∀ a, off a + S1x16.size a ≤ S128x128.size a)
    (k : IVec S16 32 → Prog (TpuEff nD τ sig (Elt F) Λ₀ κ) β) : Prog (TpuEff nD τ sig (Elt F) Λ₀ κ) β :=
  .op (.load a (Rect.unit (s := S128x128) off S1x16.size inb).toLoadRect (View.loadsAt_vmem h_S1x16)) fun w =>
    k (shapeCast S16 w shapeCasts_S1x16_S16)

/-- A vector's slots checked. -/
def checkVec (v : IVec S16 32) (k : PLift (Chk v) → Prog (TpuEff nD τ sig (Elt F) Λ₀ κ) β) : Prog (TpuEff nD τ sig (Elt F) Λ₀ κ) β :=
  .op (.assume (Chk v) (k0_chk1.dec (slots v))) k

/-- A vector's weights added at its slots. -/
def addVec (acc : Memref sig κ.kind .vmem S144 .f32) (v : IVec S16 32) (h : Chk v) : Prog (TpuEff nD τ sig (Elt F) Λ₀ κ) PUnit :=
  SparseCore.vectorStoreIdx acc ![slots v] (weights v) (fun _ => 1#1) true h (View.stores_vmem_bits_univ h_S144 rfl)

/-- Lines `2t` and `2t + 1` of a packed row: sixteen reads, sixteen checks, sixteen adds. -/
def trip (a : Memref sig κ.kind .vmem S128x128 .i32) (acc : Memref sig κ.kind .vmem S144 .f32) (t : Fin k0_t2_loop.trips) :
    Prog (TpuEff nD τ sig (Elt F) Λ₀ κ) Unit :=
  readVec a (k0_off3 t 0#32) (k0_off3_inb t 0) fun v0 =>
  readVec a (k0_off4 t 0#32) (k0_off4_inb t 0) fun v1 =>
  readVec a (k0_off5 t 0#32) (k0_off5_inb t 0) fun v2 =>
  readVec a (k0_off6 t 0#32) (k0_off6_inb t 0) fun v3 =>
  readVec a (k0_off7 t 0#32) (k0_off7_inb t 0) fun v4 =>
  readVec a (k0_off8 t 0#32) (k0_off8_inb t 0) fun v5 =>
  readVec a (k0_off9 t 0#32) (k0_off9_inb t 0) fun v6 =>
  readVec a (k0_off10 t 0#32) (k0_off10_inb t 0) fun v7 =>
  readVec a (k0_off3 t 1#32) (k0_off3_inb t 1) fun v8 =>
  readVec a (k0_off4 t 1#32) (k0_off4_inb t 1) fun v9 =>
  readVec a (k0_off5 t 1#32) (k0_off5_inb t 1) fun v10 =>
  readVec a (k0_off6 t 1#32) (k0_off6_inb t 1) fun v11 =>
  readVec a (k0_off7 t 1#32) (k0_off7_inb t 1) fun v12 =>
  readVec a (k0_off8 t 1#32) (k0_off8_inb t 1) fun v13 =>
  readVec a (k0_off9 t 1#32) (k0_off9_inb t 1) fun v14 =>
  readVec a (k0_off10 t 1#32) (k0_off10_inb t 1) fun v15 =>
  checkVec v0 fun h0 =>
  checkVec v1 fun h1 =>
  checkVec v2 fun h2 =>
  checkVec v3 fun h3 =>
  checkVec v4 fun h4 =>
  checkVec v5 fun h5 =>
  checkVec v6 fun h6 =>
  checkVec v7 fun h7 =>
  checkVec v8 fun h8 =>
  checkVec v9 fun h9 =>
  checkVec v10 fun h10 =>
  checkVec v11 fun h11 =>
  checkVec v12 fun h12 =>
  checkVec v13 fun h13 =>
  checkVec v14 fun h14 =>
  checkVec v15 fun h15 =>
  addVec acc v0 h0.down >>= fun _ =>
  addVec acc v1 h1.down >>= fun _ =>
  addVec acc v2 h2.down >>= fun _ =>
  addVec acc v3 h3.down >>= fun _ =>
  addVec acc v4 h4.down >>= fun _ =>
  addVec acc v5 h5.down >>= fun _ =>
  addVec acc v6 h6.down >>= fun _ =>
  addVec acc v7 h7.down >>= fun _ =>
  addVec acc v8 h8.down >>= fun _ =>
  addVec acc v9 h9.down >>= fun _ =>
  addVec acc v10 h10.down >>= fun _ =>
  addVec acc v11 h11.down >>= fun _ =>
  addVec acc v12 h12.down >>= fun _ =>
  addVec acc v13 h13.down >>= fun _ =>
  addVec acc v14 h14.down >>= fun _ =>
  addVec acc v15 h15.down >>= fun _ =>
  pure ⟨⟩

end Chain

set_option maxRecDepth 65536 in
/-- The row loop's body over the first buffer is the chain. -/
theorem t2_body_eq (i : grid0.Coords) (arg2 : Memref sig .scVector .hbm S320x128x128 .i32) (harg2 : arg2.IsWhole) (arg3 : Memref sig .scVector .hbm S320x144 .f32) (harg3 : arg3.IsWhole)
    (arg4 : Memref sig .scVector .vmem S128x128 .i32) (harg4 : arg4.IsWhole) (arg5 : Memref sig .scVector .vmem S128x128 .i32) (harg5 : arg5.IsWhole)
    (arg6 : Memref sig .scVector .vmem S144 .f32) (harg6 : arg6.IsWhole) (arg7 arg8 r0 r1 : DmaSems sig S_)
    (v3 : BitVec 32) (t1 : Fin k0_t1_loop.trips) (arg9 v15 v16 : BitVec 32) (v37 : FVec F S16 .f32) (t : Fin k0_t2_loop.trips) (u : Unit) :
    k0_t2_body (F := F) i arg2 harg2 arg3 harg3 arg4 harg4 arg5 harg5 arg6 harg6 arg7 arg8 r0 r1 lanes v3 t1 arg9 v15 v16 v37 t u =
      trip (F := F) (κ := .scVector (cV i) (jV i)) arg4 arg6 t := rfl

set_option maxRecDepth 65536 in
/-- … and over the second. -/
theorem t3_body_eq (i : grid0.Coords) (arg2 : Memref sig .scVector .hbm S320x128x128 .i32) (harg2 : arg2.IsWhole) (arg3 : Memref sig .scVector .hbm S320x144 .f32) (harg3 : arg3.IsWhole)
    (arg4 : Memref sig .scVector .vmem S128x128 .i32) (harg4 : arg4.IsWhole) (arg5 : Memref sig .scVector .vmem S128x128 .i32) (harg5 : arg5.IsWhole)
    (arg6 : Memref sig .scVector .vmem S144 .f32) (harg6 : arg6.IsWhole) (arg7 arg8 r0 r1 : DmaSems sig S_)
    (v3 c8 c9 : BitVec 32) (t1 : Fin k0_t1_loop.trips) (t : Fin k0_t2_loop.trips) (u : Unit) :
    k0_t3_body (F := F) i arg2 harg2 arg3 harg3 arg4 harg4 arg5 harg5 arg6 harg6 arg7 arg8 r0 r1 lanes v3 c8 c9 t1 t u =
      trip (F := F) (κ := .scVector (cV i) (jV i)) arg5 arg6 t := rfl

section Rules

variable (c : Thread nD τ) {β : Type}

theorem wp_readVec (a : Memref sig c.2.kind .vmem S128x128 .i32) (X : S128x128.Idx → BitVec 32) {off : Fin 2 → ℕ}
    {inb : ∀ a, off a + S1x16.size a ≤ S128x128.size a} (l g n : ℕ) (hoff : off = ![l, 16 * g]) (hg : g < 8) (hn : n = 8 * l + g)
    {k : IVec S16 32 → Prog (TpuEff nD τ sig (Elt F) Λ₀ c.2) β} {Q : β → sProp 𝕄} :
    Holds (F := F) c a fullShare X
      ⊢ iprop((Holds (F := F) c a fullShare X -∗ wp frame (wpE (defs₀ (F := F)) 𝒱₀ c none) Set.univ (k (vecAt X n)) Q)
        -∗ wp frame (wpE (defs₀ (F := F)) 𝒱₀ c none) Set.univ (readVec a off inb k) Q) := by
  have h := wp_load_holds (F := F) (defs := defs₀ (F := F)) c a fullShare X (Rect.unit (s := S128x128) off S1x16.size inb).toLoadRect
    (hl := View.loadsAt_vmem h_S1x16) (k := fun w => k (shapeCast S16 w shapeCasts_S1x16_S16)) (Q := Q)
  have e := load_eq X off inb l g n hoff hg hn
  have e' : shapeCast S16 (fun x : S1x16.Idx => X ((Rect.unit (s := S128x128) off S1x16.size inb).toLoadRect.idx x)) shapeCasts_S1x16_S16 = vecAt X n := by
    rw [e]; exact shapeCast_block _ _
  rw [← e']
  exact h

theorem wp_checkVec (v : IVec S16 32) (hv : Chk v) {k : PLift (Chk v) → Prog (TpuEff nD τ sig (Elt F) Λ₀ c.2) β} {Q : β → sProp 𝕄} :
    wp frame (wpE (defs₀ (F := F)) 𝒱₀ c none) Set.univ (k ⟨hv⟩) Q
      ⊢ wp frame (wpE (defs₀ (F := F)) 𝒱₀ c none) Set.univ (checkVec v k) Q :=
  wp_assume 𝒱₀ c none Set.univ hv

theorem wp_addVec (a : Memref sig c.2.kind .vmem S144 .f32) (X : S128x128.Idx → BitVec 32) (n : ℕ) (h : Chk (vecAt X n))
    {k : PUnit → Prog (TpuEff nD τ sig (Elt F) Λ₀ c.2) β} {Q : β → sProp 𝕄} :
    Holds c a fullShare (rowsDone (F := F) X n)
      ⊢ iprop((Holds c a fullShare (rowsDone (F := F) X (n + 1)) -∗ wp frame (wpE (defs₀ (F := F)) 𝒱₀ c none) Set.univ (k ⟨⟩) Q)
        -∗ wp frame (wpE (defs₀ (F := F)) 𝒱₀ c none) Set.univ (addVec a (vecAt X n) h >>= k) Q) := by
  have e : rowsDone (F := F) X (n + 1) = storeIdx (rowsDone (F := F) X n) ![slots (vecAt X n)] (weights (vecAt X n)) (fun _ => 1#1) true h :=
    (stepV_of _ _ h).symm
  rw [e]
  exact wp_scatter_holds (defs := defs₀ (F := F)) c a (rowsDone (F := F) X n)

/-- THE TRIP: sixteen more vectors done. -/
theorem wp_trip (a : Memref sig c.2.kind .vmem S128x128 .i32) (acc : Memref sig c.2.kind .vmem S144 .f32)
    (X : S128x128.Idx → BitVec 32) (hX : InBins X) (t : Fin k0_t2_loop.trips) :
    iprop(Holds (F := F) c a fullShare X ∗ Holds c acc fullShare (rowsDone (F := F) X (16 * t.val)))
      ⊢ wp frame (wpE (defs₀ (F := F)) 𝒱₀ c none) Set.univ (trip a acc t)
          fun _ => iprop(Holds (F := F) c a fullShare X ∗ Holds c acc fullShare (rowsDone (F := F) X (16 * (t.val + 1)))) := by
  iintro ⟨HX, HA⟩
  unfold trip
  iapply (wp_readVec c a X (2 * t.val + 0) 0 (16 * t.val + 0) (k0_off3_eq t 0) (by decide) (by omega)) $$ HX; iintro HX
  iapply (wp_readVec c a X (2 * t.val + 0) 1 (16 * t.val + 1) (k0_off4_eq t 0) (by decide) (by omega)) $$ HX; iintro HX
  iapply (wp_readVec c a X (2 * t.val + 0) 2 (16 * t.val + 2) (k0_off5_eq t 0) (by decide) (by omega)) $$ HX; iintro HX
  iapply (wp_readVec c a X (2 * t.val + 0) 3 (16 * t.val + 3) (k0_off6_eq t 0) (by decide) (by omega)) $$ HX; iintro HX
  iapply (wp_readVec c a X (2 * t.val + 0) 4 (16 * t.val + 4) (k0_off7_eq t 0) (by decide) (by omega)) $$ HX; iintro HX
  iapply (wp_readVec c a X (2 * t.val + 0) 5 (16 * t.val + 5) (k0_off8_eq t 0) (by decide) (by omega)) $$ HX; iintro HX
  iapply (wp_readVec c a X (2 * t.val + 0) 6 (16 * t.val + 6) (k0_off9_eq t 0) (by decide) (by omega)) $$ HX; iintro HX
  iapply (wp_readVec c a X (2 * t.val + 0) 7 (16 * t.val + 7) (k0_off10_eq t 0) (by decide) (by omega)) $$ HX; iintro HX
  iapply (wp_readVec c a X (2 * t.val + 1) 0 (16 * t.val + 8) (k0_off3_eq t 1) (by decide) (by omega)) $$ HX; iintro HX
  iapply (wp_readVec c a X (2 * t.val + 1) 1 (16 * t.val + 9) (k0_off4_eq t 1) (by decide) (by omega)) $$ HX; iintro HX
  iapply (wp_readVec c a X (2 * t.val + 1) 2 (16 * t.val + 10) (k0_off5_eq t 1) (by decide) (by omega)) $$ HX; iintro HX
  iapply (wp_readVec c a X (2 * t.val + 1) 3 (16 * t.val + 11) (k0_off6_eq t 1) (by decide) (by omega)) $$ HX; iintro HX
  iapply (wp_readVec c a X (2 * t.val + 1) 4 (16 * t.val + 12) (k0_off7_eq t 1) (by decide) (by omega)) $$ HX; iintro HX
  iapply (wp_readVec c a X (2 * t.val + 1) 5 (16 * t.val + 13) (k0_off8_eq t 1) (by decide) (by omega)) $$ HX; iintro HX
  iapply (wp_readVec c a X (2 * t.val + 1) 6 (16 * t.val + 14) (k0_off9_eq t 1) (by decide) (by omega)) $$ HX; iintro HX
  iapply (wp_readVec c a X (2 * t.val + 1) 7 (16 * t.val + 15) (k0_off10_eq t 1) (by decide) (by omega)) $$ HX; iintro HX
  iterate 16 iapply (wp_checkVec c _ (hX.chk _))
  iapply (wp_addVec c acc X (16 * t.val + 0) (hX.chk _)) $$ HA; iintro HA
  iapply (wp_addVec c acc X (16 * t.val + 1) (hX.chk _)) $$ HA; iintro HA
  iapply (wp_addVec c acc X (16 * t.val + 2) (hX.chk _)) $$ HA; iintro HA
  iapply (wp_addVec c acc X (16 * t.val + 3) (hX.chk _)) $$ HA; iintro HA
  iapply (wp_addVec c acc X (16 * t.val + 4) (hX.chk _)) $$ HA; iintro HA
  iapply (wp_addVec c acc X (16 * t.val + 5) (hX.chk _)) $$ HA; iintro HA
  iapply (wp_addVec c acc X (16 * t.val + 6) (hX.chk _)) $$ HA; iintro HA
  iapply (wp_addVec c acc X (16 * t.val + 7) (hX.chk _)) $$ HA; iintro HA
  iapply (wp_addVec c acc X (16 * t.val + 8) (hX.chk _)) $$ HA; iintro HA
  iapply (wp_addVec c acc X (16 * t.val + 9) (hX.chk _)) $$ HA; iintro HA
  iapply (wp_addVec c acc X (16 * t.val + 10) (hX.chk _)) $$ HA; iintro HA
  iapply (wp_addVec c acc X (16 * t.val + 11) (hX.chk _)) $$ HA; iintro HA
  iapply (wp_addVec c acc X (16 * t.val + 12) (hX.chk _)) $$ HA; iintro HA
  iapply (wp_addVec c acc X (16 * t.val + 13) (hX.chk _)) $$ HA; iintro HA
  iapply (wp_addVec c acc X (16 * t.val + 14) (hX.chk _)) $$ HA; iintro HA
  iapply (wp_addVec c acc X (16 * t.val + 15) (hX.chk _)) $$ HA; iintro HA
  rw [wp_pure]
  imodintro
  isplitl [HX]
  · iexact HX
  · iexact HA

end Rules

end Cert.Proof.Hist
-- ==== Proof.Move.lean ====
/-
  THE COPIES. A fetch brings one packed row into a buffer; a copy out puts the accumulator into one row of the
  result. Stated for a packed array of any number `R` of rows, whose content reads `Xp`, held at any share.
-/
module

public import proofs.«01_k».proof.Proof.Bins
public import Idealize.ShloMosaic.Lib.Writes

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- A packed array of `R` rows, and the array of their histograms. -/
abbrev SP (R : ℕ) : Shape := ⟨3, ![R, 128, 128]⟩
abbrev SO (R : ℕ) : Shape := ⟨2, ![R, 144]⟩

/-- Row `r` of a packed array (zeros past its end). -/
def rowOf {R : ℕ} (Xp : (SP R).Idx → BitVec 32) (r : ℕ) : S128x128.Idx → BitVec 32 := fun y =>
  if h : r < R then Xp (ix3 (⟨r, h⟩ : Fin R) (y 0 : Fin 128) (y 1 : Fin 128)) else 0#32

/-- A memref's row slice, squeezed. -/
abbrev prow {κ : Kind} {R : ℕ} (P : Memref sig κ .hbm (SP R) .i32) (off : Fin 3 → ℕ) (inb : ∀ a, off a + S1x128x128.size a ≤ (SP R).size a) :
    Memref sig κ .hbm S128x128 .i32 :=
  (P.slice (Rect.unit (s := SP R) off S1x128x128.size inb) (fun _ => rfl)).squeeze S128x128 squeezes_S1x128x128_S128x128
abbrev orow {κ : Kind} {R : ℕ} (O : Memref sig κ .hbm (SO R) .f32) (off : Fin 2 → ℕ) (inb : ∀ a, off a + S1x144.size a ≤ (SO R).size a) :
    Memref sig κ .hbm S144 .f32 :=
  (O.slice (Rect.unit (s := SO R) off S1x144.size inb) (fun _ => rfl)).squeeze S144 squeezes_S1x144_S144

/-- What a row slice reads. -/
theorem read_prow {κ : Kind} {R : ℕ} (P : Memref sig κ .hbm (SP R) .i32) (off : Fin 3 → ℕ) (inb : ∀ a, off a + S1x128x128.size a ≤ (SP R).size a)
    (r : ℕ) (hoff : off = ![r, 0, 0]) (f : P.view.ty.Contents (Elt F)) :
    (prow P off inb).view.read (Elt F) f = rowOf (P.view.read (Elt F) f) r := by
  subst hoff
  have hr : r < R := by have := inb 0; simp at this; omega
  have h : S1x128x128.ShapeCasts S128x128 := by decide
  have e := Memref.read_squeeze_slice (Val := Elt F) P (Rect.unit (s := SP R) ![r, 0, 0] S1x128x128.size inb) (fun _ => rfl)
    squeezes_S1x128x128_S128x128 h f
  refine e.trans ?_
  funext y
  refine (shapeCast_apply _ h y (ix3 (0 : Fin 1) (y 0 : Fin 128) (y 1 : Fin 128)) ?_).trans ?_
  · rw [Shape.rowMajor_val_three, Shape.rowMajor_val_two]
    show (0 * 128 + (y 0).val) * 128 + (y 1).val = (y 0).val * 128 + (y 1).val
    omega
  · unfold rowOf; rw [dif_pos hr]
    refine congrArg (P.view.read (Elt F) f) ?_
    funext a
    match a with
    | ⟨0, _⟩ => apply Fin.ext; show r + 1 * 0 = r; omega
    | ⟨1, _⟩ => apply Fin.ext; show 0 + 1 * (y 0).val = (y 0).val; omega
    | ⟨2, _⟩ => apply Fin.ext; show 0 + 1 * (y 1).val = (y 1).val; omega

/-- What the result reads once a row of it is written: that row new, the others as they were. -/
theorem read_orow_write {κ : Kind} {R : ℕ} (O : Memref sig κ .hbm (SO R) .f32) (off : Fin 2 → ℕ) (inb : ∀ a, off a + S1x144.size a ≤ (SO R).size a)
    (r : ℕ) (hoff : off = ![r, 0]) (g : O.view.ty.Contents (Elt F)) (A : S144.Idx → F .f32) (r' : Fin R) (j : Fin 144) :
    O.view.read (Elt F) ((orow O off inb).view.write (Elt F) g A Finset.univ) (ix2 r' j)
      = if r'.val = r then A (ix1 j) else O.view.read (Elt F) g (ix2 r' j) := by
  subst hoff
  have e : (orow O ![r, 0] inb).view.write (Elt F) g A Finset.univ
      = (O.access (Rect.unit (s := SO R) ![r, 0] S1x144.size inb)).write (Elt F) g
          (fun x => A ((Shape.reshapeEquiv squeezes_S1x144_S144.numel_eq).symm x)) Finset.univ :=
    View.write_reshape_univ (O.access (Rect.unit (s := SO R) ![r, 0] S1x144.size inb)) _ g A
  rw [e, read_access_write]
  by_cases hr : r'.val = r
  · rw [if_pos hr]
    have hy : (Rect.unit (s := SO R) ![r, 0] S1x144.size inb).emb (ix2 (0 : Fin 1) j) = ix2 r' j := by
      funext a
      match a with
      | ⟨0, _⟩ => apply Fin.ext; show r + 1 * 0 = r'.val; omega
      | ⟨1, _⟩ => apply Fin.ext; show 0 + 1 * j.val = j.val; omega
    rw [← hy, put_emb]
    refine congrArg A ?_
    rw [Equiv.symm_apply_eq]
    refine (Shape.reshapeEquiv_eq_of_rowMajor _ ?_).symm
    rw [Shape.rowMajor_val_two, Shape.rowMajor_val_one]
    show 0 * 144 + j.val = j.val
    omega
  · rw [if_neg hr, put_of_ne]
    intro x hx
    have h0 := congrArg (fun y : (SO R).Idx => (y 0).val) hx
    have hx0 : (x 0).val < 1 := (x 0).isLt
    have h0' : r + 1 * (x 0).val = r'.val := h0
    omega

/-- A thread's debts, its waits since `W` recorded at no handshake's index. -/
def Owing (c : Thread nD τ) (O : CellTallies nD τ sig (HIx 4)) (W : Waits sig (HIx 4)) : sProp 𝕄 :=
  iprop(∃ W', ⌜∀ p ∈ W', p ∈ W ∨ p.2 = none⌝ ∗ owes c O W')

theorem Owing.insert (c : Thread nD τ) (O : CellTallies nD τ sig (HIx 4)) (W W' : Waits sig (HIx 4)) (h : ∀ p ∈ W', p ∈ W ∨ p.2 = none) (sm : SemLoc sig) :
    (owes c O (Insert.insert (sm, (default : HIx 4)) W') : sProp 𝕄) ⊢ Owing c O W := by
  unfold Owing
  iintro HO
  iexists (Insert.insert (sm, (default : HIx 4)) W')
  isplitr
  · ipureintro
    intro p hp
    rcases Finset.mem_insert.mp hp with hp | hp
    · exact .inr (hp ▸ rfl)
    · exact h p hp
  · iexact HO

/-- A packed row under way into a buffer: what the wait will hand over, and the share of the packed array the copy
    does not read. -/
def Fetching (c : Thread nD τ) (sem : DmaSem sig) {R : ℕ} (P : Memref sig c.2.kind .hbm (SP R) .i32) (q : PosShare TreeShare)
    (fp : Buf (Elt F) (P.view.loc c)) (a : Memref sig c.2.kind .vmem S128x128 .i32) (r : ℕ) : sProp 𝕄 :=
  iprop(∃ I : Finset (Idx (P.view.loc c)), Transfers.Flight countersEmb c (.dma sem) (default : HIx 4) a.view.dmaCredit
      iprop(Holds (F := F) c a fullShare (rowOf (P.view.read (Elt F) fp) r) ∗ (P.view.loc c ↦[I]{q} fp))
    ∗ (P.view.loc c ↦[Finset.univ \ I]{q} fp))

section Rules

variable (c : Thread nD τ) {β : Type}

/-- A fetch issued. -/
theorem wp_fetch {R : ℕ} (P : Memref sig c.2.kind .hbm (SP R) .i32) (q : PosShare TreeShare) (fp : Buf (Elt F) (P.view.loc c))
    (a : Memref sig c.2.kind .vmem S128x128 .i32) (X : S128x128.Idx → Elt F .i32) (sem : DmaSem sig) (off : Fin 3 → ℕ)
    (inb : ∀ a, off a + S1x128x128.size a ≤ (SP R).size a) (r : ℕ) (hoff : off = ![r, 0, 0])
    {h1 : (prow P off inb).view.WordExact} {h2 : a.view.WordExact} {h3 : DmaTarget.Typed (nD := nD) .hbm (.dma sem) (.here a)}
    {k : PUnit → Prog (TpuEff nD τ sig (Elt F) Λ₀ c.2) β} {Q : β → sProp 𝕄} :
    iprop((P.view.loc c ↦[Finset.univ]{q} fp) ∗ Holds c a fullShare X ∗ semVal (c, SemLoc.dma sem) 0)
      ⊢ iprop((Fetching c sem P q fp a r -∗ wp frame (wpE (defs₀ (F := F)) 𝒱₀ c none) Set.univ (k ⟨⟩) Q)
        -∗ wp frame (wpE (defs₀ (F := F)) 𝒱₀ c none) Set.univ (.op (.enqueueDma (prow P off inb) (.here a) (.dma sem) h1 h2 h3) k) Q) := by
  unfold Holds Fetching
  iintro ⟨HP, ⟨%f, -, Ha⟩, Hs⟩ Hk
  ihave HP := (pointsTo_split_subset (q := q) (f := fp) (S := Finset.univ) (Finset.subset_univ (prow P off inb).view.set)).1 $$ HP
  icases HP with ⟨HP, HP'⟩
  iapply (Transfers.wp_dmaLocal (defs := defs₀ (F := F)) countersEmb 𝒱₀ c none (src := prow P off inb) (dst := a) (sm := .dma sem) (q := q) (fs := fp) (Sd := Finset.univ) (fd := f)
    (default : HIx 4) a.view.dmaCredit rfl (a.view.dmaCredit_pos (by decide)) (Finset.subset_univ _)) $$ [HP Ha Hs]
  · isplitl [HP]; · iexact HP
    isplitl [Ha]; · iexact Ha
    iexact Hs
  iintro Hfl
  iapply Hk
  iexists (prow P off inb).view.set
  isplitl [Hfl]
  · iapply (Transfers.Flight_mono countersEmb c ?_) $$ Hfl
    iintro ⟨Ha, HP⟩
    isplitl [Ha]
    · unfold Holds
      iexists _
      isplitr
      rotate_left
      · iexact Ha
      · ipureintro
        rw [View.read_write_univ]
        exact read_prow P off inb r hoff fp
    · iexact HP
  · iexact HP'

/-- A fetch awaited: the buffer holds the packed row. -/
theorem wp_await {R : ℕ} (P : Memref sig c.2.kind .hbm (SP R) .i32) (q : PosShare TreeShare) (fp : Buf (Elt F) (P.view.loc c))
    (a : Memref sig c.2.kind .vmem S128x128 .i32) (sem : DmaSem sig) (r : ℕ) (O : CellTallies nD τ sig (HIx 4)) (W : Waits sig (HIx 4))
    {κ' : Space} {s' : Shape} {e' : EltTy} {src : Memref sig c.2.kind κ' s' e'} {h1 : src.view.WordExact} {h2 : a.view.WordExact}
    {k : PUnit → Prog (TpuEff nD τ sig (Elt F) Λ₀ c.2) β} {Q : β → sProp 𝕄} :
    iprop(Fetching c sem P q fp a r ∗ Owing c O W ∗ Transfers.MayWaits c (default : HIx 4) O)
      ⊢ iprop((iprop((P.view.loc c ↦[Finset.univ]{q} fp) ∗ Holds (F := F) c a fullShare (rowOf (P.view.read (Elt F) fp) r) ∗ semVal (c, SemLoc.dma sem) 0 ∗ Owing c O W)
            -∗ wp frame (wpE (defs₀ (F := F)) 𝒱₀ c none) Set.univ (k ⟨⟩) Q)
        -∗ wp frame (wpE (defs₀ (F := F)) 𝒱₀ c none) Set.univ (.op (.waitDma2 sem src a h1 h2) k) Q) := by
  unfold Fetching
  iintro ⟨⟨%I, Hfl, HP'⟩, HO, Hmw⟩ Hk
  unfold Owing
  icases HO with ⟨%W', %hW, HO⟩
  iapply (Transfers.wp_waitLocalO (defs := defs₀ (F := F)) countersEmb 𝒱₀ c none (default : HIx 4) (rfl : a.view.dmaCredit = _)) $$ [Hfl HO Hmw]
  · isplitl [Hfl]; · iexact Hfl
    isplitl [HO]; · iexact HO
    iapply (Transfers.MayWaits.elim (SemLoc.dma sem)) $$ Hmw
  iintro ⟨⟨Ha, HP⟩, Hs, HO⟩
  iapply Hk
  isplitl [HP HP']
  · iapply (pointsTo_split_subset (q := q) (f := fp) (S := Finset.univ) (Finset.subset_univ I)).2
    isplitl [HP]; · iexact HP
    iexact HP'
  isplitl [Ha]; · iexact Ha
  isplitl [Hs]; · iexact Hs
  iapply (show (owes c O (Insert.insert (SemLoc.dma sem, (default : HIx 4)) W') : sProp 𝕄) ⊢ iprop(∃ W', ⌜∀ p ∈ W', p ∈ W ∨ p.2 = none⌝ ∗ owes c O W') from Owing.insert c O W W' hW (SemLoc.dma sem)) $$ HO

/-- The part `Sd` of the result held, its rows from `b` up to `b + n` done. -/
def OutHeld {R : ℕ} (Om : Memref sig c.2.kind .hbm (SO R) .f32) (Sd : Finset (Idx (Om.view.loc c))) (Xp : (SP R).Idx → BitVec 32) (b n : ℕ) : sProp 𝕄 :=
  iprop(∃ g : Buf (Elt F) (Om.view.loc c),
    ⌜∀ (r : Fin R) (j : Fin 144), b ≤ r.val → r.val < b + n → Om.view.read (Elt F) g (ix2 r j) = rowsDone (F := F) (rowOf Xp r.val) 1024 (ix1 j)⌝
    ∗ (Om.view.loc c ↦[Sd]{fullShare} g))

/-- A copy out, issued and awaited: one more row done. -/
theorem wp_copyOut {R : ℕ} (Om : Memref sig c.2.kind .hbm (SO R) .f32) (Sd : Finset (Idx (Om.view.loc c))) (Xp : (SP R).Idx → BitVec 32) (b n : ℕ)
    (acc : Memref sig c.2.kind .vmem S144 .f32) (sem : DmaSem sig) (off : Fin 2 → ℕ) (inb : ∀ a, off a + S1x144.size a ≤ (SO R).size a)
    (hoff : off = ![b + n, 0]) (hSd : (orow Om off inb).view.set ⊆ Sd) (O : CellTallies nD τ sig (HIx 4)) (W : Waits sig (HIx 4))
    {h1 : acc.view.WordExact} {h2 : (orow Om off inb).view.WordExact} {h3 : DmaTarget.Typed (nD := nD) (.core .vmem) (.dma sem) (.here (orow Om off inb))}
    {h4 : acc.view.WordExact} {h5 : (orow Om off inb).view.WordExact}
    {k : PUnit → Prog (TpuEff nD τ sig (Elt F) Λ₀ c.2) β} {Q : β → sProp 𝕄} :
    iprop(Holds c acc fullShare (rowsDone (F := F) (rowOf Xp (b + n)) 1024) ∗ OutHeld (F := F) c Om Sd Xp b n ∗ semVal (c, SemLoc.dma sem) 0
        ∗ Owing c O W ∗ Transfers.MayWaits c (default : HIx 4) O)
      ⊢ iprop((iprop((∃ A, Holds (F := F) c acc fullShare A) ∗ OutHeld (F := F) c Om Sd Xp b (n + 1) ∗ semVal (c, SemLoc.dma sem) 0 ∗ Owing c O W)
            -∗ wp frame (wpE (defs₀ (F := F)) 𝒱₀ c none) Set.univ (k ⟨⟩) Q)
        -∗ wp frame (wpE (defs₀ (F := F)) 𝒱₀ c none) Set.univ
          (.op (.enqueueDma acc (.here (orow Om off inb)) (.dma sem) h1 h2 h3) fun _ => .op (.waitDma2 sem acc (orow Om off inb) h4 h5) k) Q) := by
  unfold Holds OutHeld
  iintro ⟨⟨%f, %hf, Ha⟩, ⟨%g, %hg, Ho⟩, Hs, HO, Hmw⟩ Hk
  ihave Ha := (pointsTo_split_subset (q := fullShare) (f := f) (S := Finset.univ) (Finset.subset_univ acc.view.set)).1 $$ Ha
  icases Ha with ⟨Ha, Ha'⟩
  iapply (Transfers.wp_dmaLocal (defs := defs₀ (F := F)) countersEmb 𝒱₀ c none (src := acc) (dst := orow Om off inb) (sm := .dma sem) (q := fullShare) (fs := f) (Sd := Sd) (fd := g)
    (default : HIx 4) (orow Om off inb).view.dmaCredit rfl ((orow Om off inb).view.dmaCredit_pos (by decide)) hSd) $$ [Ha Ho Hs]
  · isplitl [Ha]; · iexact Ha
    isplitl [Ho]; · iexact Ho
    iexact Hs
  iintro Hfl
  unfold Owing
  icases HO with ⟨%W', %hW, HO⟩
  iapply (Transfers.wp_waitLocalO (defs := defs₀ (F := F)) countersEmb 𝒱₀ c none (default : HIx 4) (rfl : (orow Om off inb).view.dmaCredit = _)) $$ [Hfl HO Hmw]
  · isplitl [Hfl]; · iexact Hfl
    isplitl [HO]; · iexact HO
    iapply (Transfers.MayWaits.elim (SemLoc.dma sem)) $$ Hmw
  iintro ⟨⟨Ho, Ha⟩, Hs, HO⟩
  iapply Hk
  isplitl [Ha Ha']
  · iexists _
    iexists f
    isplitr
    · ipureintro; exact hf
    · iapply (pointsTo_split_subset (q := fullShare) (f := f) (S := Finset.univ) (Finset.subset_univ acc.view.set)).2
      isplitl [Ha]; · iexact Ha
      iexact Ha'
  isplitl [Ho]
  · iexists _
    isplitr
    rotate_left
    · iexact Ho
    · ipureintro
      intro r j h1 h2
      refine (read_orow_write Om off inb (b + n) hoff g _ r j).trans ?_
      by_cases hr : r.val = b + n
      · rw [if_pos hr, hr]; exact congrFun hf (ix1 j)
      · rw [if_neg hr]; exact hg r j h1 (by omega)
  isplitl [Hs]; · iexact Hs
  iapply (show (owes c O (Insert.insert (SemLoc.dma sem, (default : HIx 4)) W') : sProp 𝕄) ⊢ iprop(∃ W', ⌜∀ p ∈ W', p ∈ W ∨ p.2 = none⌝ ∗ owes c O W') from Owing.insert c O W W' hW (SemLoc.dma sem)) $$ HO

end Rules

end Cert.Proof.Hist
-- ==== Proof.Row.lean ====
/-
  A ROW, AND A PAIR OF ROWS. A row: its fetch awaited, the accumulator zeroed, its 1024 vectors added, the
  histogram copied out. A trip of the kernel's outer loop does two rows, one from each buffer, and issues the fetches
  of the next two.
-/
module

public import proofs.«01_k».proof.Proof.Trip
public import proofs.«01_k».proof.Proof.Move

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

section Chain

variable {κ : Proc τ} {β : Type}

/-- Sixteen words of the accumulator zeroed. -/
def zeroVec (acc : Memref sig κ.kind .vmem S144 .f32) (n : ℕ) (inb : ∀ a, (![n] : Fin 1 → ℕ) a + S16.size a ≤ S144.size a)
    (k : PUnit → Prog (TpuEff nD τ sig (Elt F) Λ₀ κ) β) : Prog (TpuEff nD τ sig (Elt F) Λ₀ κ) β :=
  .op (.load acc (Rect.unit (s := S144) ![n] S16.size inb).toLoadRect (View.loadsAt_vmem h_S16)) fun _ =>
  .op (.store acc (Rect.unit (s := S144) ![n] S16.size inb) (fun _ => (Scalar.ofBits .f32 0x00000000#32 : F .f32)) Finset.univ
    (View.stores_vmem_bits_univ h_S16 rfl) (.inl rfl)) k

/-- All of it. -/
def zeroAll (acc : Memref sig κ.kind .vmem S144 .f32) (k : PUnit → Prog (TpuEff nD τ sig (Elt F) Λ₀ κ) β) :
    Prog (TpuEff nD τ sig (Elt F) Λ₀ κ) β :=
  zeroVec acc 0 inb_S144_S16_0 fun _ => zeroVec acc 16 inb_S144_S16_16 fun _ => zeroVec acc 32 inb_S144_S16_32 fun _ =>
  zeroVec acc 48 inb_S144_S16_48 fun _ => zeroVec acc 64 inb_S144_S16_64 fun _ => zeroVec acc 80 inb_S144_S16_80 fun _ =>
  zeroVec acc 96 inb_S144_S16_96 fun _ => zeroVec acc 112 inb_S144_S16_112 fun _ => zeroVec acc 128 inb_S144_S16_128 k

/-- A packed row's vectors added. -/
def rowLoop (a : Memref sig κ.kind .vmem S128x128 .i32) (acc : Memref sig κ.kind .vmem S144 .f32) :
    Prog (TpuEff nD τ sig (Elt F) Λ₀ κ) Unit :=
  Scf.Loop.for k0_t2_loop k0_t2_ok ⟨⟩ fun t _ => trip a acc t

/-- A row: from the wait for its fetch to the end of its copy out. -/
def row {R : ℕ} (P : Memref sig κ.kind .hbm (SP R) .i32) (z : ∀ a, (![0, 0, 0] : Fin 3 → ℕ) a + S1x128x128.size a ≤ (SP R).size a)
    (Om : Memref sig κ.kind .hbm (SO R) .f32) (a : Memref sig κ.kind .vmem S128x128 .i32) (ha : a.IsWhole)
    (acc : Memref sig κ.kind .vmem S144 .f32) (hacc : acc.IsWhole) (si so : DmaSem sig)
    (off : Fin 2 → ℕ) (inb : ∀ a, off a + S1x144.size a ≤ (SO R).size a)
    (k : PUnit → Prog (TpuEff nD τ sig (Elt F) Λ₀ κ) β) : Prog (TpuEff nD τ sig (Elt F) Λ₀ κ) β :=
  .op (.waitDma2 si (prow P ![0, 0, 0] z) a ((View.wordExact_bits rfl).reshape _ _) ha.wordExact) fun _ =>
  zeroAll acc fun _ => rowLoop a acc >>= fun _ =>
  .op (.enqueueDma acc (.here (orow Om off inb)) (.dma so) hacc.wordExact ((View.wordExact_bits rfl).reshape _ _) ⟨Or.inl rfl, trivial⟩) fun _ =>
  .op (.waitDma2 so acc (orow Om off inb) hacc.wordExact ((View.wordExact_bits rfl).reshape _ _)) k

/-- The next fetch into a buffer, where there is one. -/
def fetchIf {R : ℕ} (P : Memref sig κ.kind .hbm (SP R) .i32) (a : Memref sig κ.kind .vmem S128x128 .i32) (ha : a.IsWhole) (si : DmaSem sig)
    (C : Prop) [Decidable C] (off : Fin 3 → ℕ) (inb : C → ∀ a, off a + S1x128x128.size a ≤ (SP R).size a) : Prog (TpuEff nD τ sig (Elt F) Λ₀ κ) Unit :=
  if h : C then
    .op (.enqueueDma (prow P off (inb h)) (.here a) (.dma si) ((View.wordExact_bits rfl).reshape _ _) ha.wordExact ⟨Or.inl rfl, trivial⟩) fun _ => pure ⟨⟩
  else pure ⟨⟩

end Chain

set_option maxRecDepth 65536 in
/-- The outer loop's body is two rows, each followed by the next fetch into its buffer. -/
theorem t1_body_eq (i : grid0.Coords) (arg2 : Memref sig .scVector .hbm S320x128x128 .i32) (harg2 : arg2.IsWhole) (arg3 : Memref sig .scVector .hbm S320x144 .f32) (harg3 : arg3.IsWhole)
    (arg4 : Memref sig .scVector .vmem S128x128 .i32) (harg4 : arg4.IsWhole) (arg5 : Memref sig .scVector .vmem S128x128 .i32) (harg5 : arg5.IsWhole)
    (arg6 : Memref sig .scVector .vmem S144 .f32) (harg6 : arg6.IsWhole) (arg7 arg8 r0 r1 : DmaSems sig S_)
    (v3 : BitVec 32) (t : Fin k0_t1_loop.trips) (u : Unit) :
    k0_t1_body (F := F) i arg2 harg2 arg3 harg3 arg4 harg4 arg5 harg5 arg6 harg6 arg7 arg8 r0 r1 lanes v3 t u =
      (row (F := F) (κ := .scVector (cV i) (jV i)) (R := 320) arg2 inb_S320x128x128_S1x128x128_0_0_0 arg3 arg4 harg4 arg6 harg6 arg7.sem r0.sem (k0_off11 i t 0#32) (k0_off11_inb i t 0) fun _ =>
      fetchIf (R := 320) arg2 arg4 harg4 arg7.sem (k0_cond1 t = 1#1) (k0_off12 i t) (k0_off12_inb i t) >>= fun _ =>
      row (R := 320) arg2 inb_S320x128x128_S1x128x128_0_0_0 arg3 arg5 harg5 arg6 harg6 arg8.sem r1.sem (k0_off11 i t 1#32) (k0_off11_inb i t 1) fun _ =>
      fetchIf (R := 320) arg2 arg5 harg5 arg8.sem (k0_cond2 t = 1#1) (k0_off21 i t) (k0_off21_inb i t) >>= fun _ =>
      pure ⟨⟩) := by
  have h2 : ∀ (arg9 v15 v16 : BitVec 32) (v37 : FVec F S16 .f32),
      k0_t2_body (F := F) i arg2 harg2 arg3 harg3 arg4 harg4 arg5 harg5 arg6 harg6 arg7 arg8 r0 r1 lanes v3 t arg9 v15 v16 v37
        = fun t' _ => trip (F := F) (κ := .scVector (cV i) (jV i)) arg4 arg6 t' := fun _ _ _ _ => by
    funext t' u'; exact t2_body_eq ..
  have h3 : ∀ c8 c9 : BitVec 32,
      k0_t3_body (F := F) i arg2 harg2 arg3 harg3 arg4 harg4 arg5 harg5 arg6 harg6 arg7 arg8 r0 r1 lanes v3 c8 c9 t
        = fun t' _ => trip (F := F) (κ := .scVector (cV i) (jV i)) arg5 arg6 t' := fun _ _ => by
    funext t' u'; exact t3_body_eq ..
  unfold k0_t1_body
  rw [k0_part13_eq_skeleton, k0_part13_skel]
  simp only [k0_part11_eq_skeleton, k0_part11_skel, k0_part12_eq_skeleton, k0_part12_skel, h2, h3]
  unfold row zeroAll zeroVec rowLoop fetchIf
  by_cases h1 : k0_cond1 t = 1#1
  · simp only [h1, ↓reduceDIte, Prog.bind_lift, Prog.bind_op, Prog.bind_assoc, pure_bind]
    by_cases h2 : k0_cond2 t = 1#1
    · simp only [h2, ↓reduceDIte, Prog.bind_op, pure_bind]; rfl
    · simp only [h2, ↓reduceDIte, Prog.bind_op, pure_bind]; rfl
  · simp only [h1, ↓reduceDIte, Prog.bind_lift, Prog.bind_op, Prog.bind_assoc, pure_bind]
    by_cases h2 : k0_cond2 t = 1#1
    · simp only [h2, ↓reduceDIte, Prog.bind_op, pure_bind]; rfl
    · simp only [h2, ↓reduceDIte, Prog.bind_op, pure_bind]; rfl

section Rules

variable (c : Thread nD τ) {β : Type}

theorem wp_zeroVec (acc : Memref sig c.2.kind .vmem S144 .f32) (g : Vec F S144 .f32) (n : ℕ) (inb : ∀ a, (![n] : Fin 1 → ℕ) a + S16.size a ≤ S144.size a)
    (hg : ZeroTo n g) {k : PUnit → Prog (TpuEff nD τ sig (Elt F) Λ₀ c.2) β} {Q : β → sProp 𝕄} :
    Holds c acc fullShare g
      ⊢ iprop((iprop(∃ g', ⌜ZeroTo (n + 16) g'⌝ ∗ Holds c acc fullShare g') -∗ wp frame (wpE (defs₀ (F := F)) 𝒱₀ c none) Set.univ (k ⟨⟩) Q)
        -∗ wp frame (wpE (defs₀ (F := F)) 𝒱₀ c none) Set.univ (zeroVec acc n inb k) Q) := by
  iintro H Hk
  unfold zeroVec
  iapply (wp_load_holds (defs := defs₀ (F := F)) c acc fullShare g (Rect.unit (s := S144) ![n] S16.size inb).toLoadRect) $$ H
  iintro H
  iapply (wp_store_holds (defs := defs₀ (F := F)) c acc g (Rect.unit (s := S144) ![n] S16.size inb) (fun _ => (Scalar.ofBits .f32 0x00000000#32 : F .f32))) $$ H
  iintro H
  iapply Hk
  iexists _
  isplitr
  rotate_left
  · iexact H
  · ipureintro; exact hg.put inb

theorem wp_zeroAll (acc : Memref sig c.2.kind .vmem S144 .f32) (A : Vec F S144 .f32)
    {k : PUnit → Prog (TpuEff nD τ sig (Elt F) Λ₀ c.2) β} {Q : β → sProp 𝕄} :
    Holds c acc fullShare A
      ⊢ iprop((Holds c acc fullShare (zeroAcc (F := F)) -∗ wp frame (wpE (defs₀ (F := F)) 𝒱₀ c none) Set.univ (k ⟨⟩) Q)
        -∗ wp frame (wpE (defs₀ (F := F)) 𝒱₀ c none) Set.univ (zeroAll acc k) Q) := by
  iintro H Hk
  unfold zeroAll
  iapply (wp_zeroVec c acc A 0 _ (ZeroTo.zero A)) $$ H; iintro ⟨%g1, %h1, H⟩
  iapply (wp_zeroVec c acc g1 16 _ h1) $$ H; iintro ⟨%g2, %h2, H⟩
  iapply (wp_zeroVec c acc g2 32 _ h2) $$ H; iintro ⟨%g3, %h3, H⟩
  iapply (wp_zeroVec c acc g3 48 _ h3) $$ H; iintro ⟨%g4, %h4, H⟩
  iapply (wp_zeroVec c acc g4 64 _ h4) $$ H; iintro ⟨%g5, %h5, H⟩
  iapply (wp_zeroVec c acc g5 80 _ h5) $$ H; iintro ⟨%g6, %h6, H⟩
  iapply (wp_zeroVec c acc g6 96 _ h6) $$ H; iintro ⟨%g7, %h7, H⟩
  iapply (wp_zeroVec c acc g7 112 _ h7) $$ H; iintro ⟨%g8, %h8, H⟩
  iapply (wp_zeroVec c acc g8 128 _ h8) $$ H; iintro ⟨%g9, %h9, H⟩
  rw [h9.done]
  iapply Hk
  iexact H

theorem wp_rowLoop (a : Memref sig c.2.kind .vmem S128x128 .i32) (acc : Memref sig c.2.kind .vmem S144 .f32)
    (X : S128x128.Idx → BitVec 32) (hX : InBins X)
    {k : Unit → Prog (TpuEff nD τ sig (Elt F) Λ₀ c.2) β} {Q : β → sProp 𝕄} :
    iprop(Holds (F := F) c a fullShare X ∗ Holds c acc fullShare (zeroAcc (F := F)))
      ⊢ iprop((iprop(Holds (F := F) c a fullShare X ∗ Holds c acc fullShare (rowsDone (F := F) X 1024))
            -∗ wp frame (wpE (defs₀ (F := F)) 𝒱₀ c none) Set.univ (k ⟨⟩) Q)
        -∗ wp frame (wpE (defs₀ (F := F)) 𝒱₀ c none) Set.univ (rowLoop a acc >>= k) Q) := by
  have ht : k0_t2_loop.trips = 64 := by decide
  iintro H Hk
  unfold rowLoop
  iapply (Scf.wp_for_bind frame (wpE (defs₀ (F := F)) 𝒱₀ c none) Set.univ _ _ _ k0_t2_ok ⟨⟩ (fun t _ => trip a acc t)
    (fun n (_ : Unit) => iprop(Holds (F := F) c a fullShare X ∗ Holds c acc fullShare (rowsDone (F := F) X (16 * n))))
    (fun t _ => wp_trip c a acc X hX t)) $$ [H]
  · iexact H
  iintro %u H
  rw [show (16 * Scf.trips k0_t2_loop.lb k0_t2_loop.ub k0_t2_loop.st : ℕ) = 1024 from by
    have : Scf.trips k0_t2_loop.lb k0_t2_loop.ub k0_t2_loop.st = 64 := ht
    omega]
  iapply Hk
  iexact H

/-- THE ROW. -/
theorem wp_row {R : ℕ} (P : Memref sig c.2.kind .hbm (SP R) .i32) (z : ∀ a, (![0, 0, 0] : Fin 3 → ℕ) a + S1x128x128.size a ≤ (SP R).size a)
    (q : PosShare TreeShare) (fp : Buf (Elt F) (P.view.loc c)) (hX : ∀ r, InBins (rowOf (P.view.read (Elt F) fp) r))
    (Om : Memref sig c.2.kind .hbm (SO R) .f32) (Sd : Finset (Idx (Om.view.loc c)))
    (a : Memref sig c.2.kind .vmem S128x128 .i32) (ha : a.IsWhole) (acc : Memref sig c.2.kind .vmem S144 .f32) (hacc : acc.IsWhole)
    (si so : DmaSem sig) (b n : ℕ) (off : Fin 2 → ℕ) (inb : ∀ a, off a + S1x144.size a ≤ (SO R).size a)
    (hoff : off = ![b + n, 0]) (hSd : (orow Om off inb).view.set ⊆ Sd) (O : CellTallies nD τ sig (HIx 4)) (W : Waits sig (HIx 4))
    {k : PUnit → Prog (TpuEff nD τ sig (Elt F) Λ₀ c.2) β} {Q : β → sProp 𝕄} :
    iprop(Transfers.MayWaits c (default : HIx 4) O ∗ Fetching (F := F) c si P q fp a (b + n) ∗ (∃ A, Holds (F := F) c acc fullShare A)
        ∗ OutHeld (F := F) c Om Sd (P.view.read (Elt F) fp) b n ∗ semVal (c, SemLoc.dma so) 0 ∗ Owing c O W)
      ⊢ iprop((iprop((P.view.loc c ↦[Finset.univ]{q} fp) ∗ (∃ X, Holds (F := F) c a fullShare X) ∗ semVal (c, SemLoc.dma si) 0
              ∗ (∃ A, Holds (F := F) c acc fullShare A) ∗ OutHeld (F := F) c Om Sd (P.view.read (Elt F) fp) b (n + 1)
              ∗ semVal (c, SemLoc.dma so) 0 ∗ Owing c O W)
            -∗ wp frame (wpE (defs₀ (F := F)) 𝒱₀ c none) Set.univ (k ⟨⟩) Q)
        -∗ wp frame (wpE (defs₀ (F := F)) 𝒱₀ c none) Set.univ (row P z Om a ha acc hacc si so off inb k) Q) := by
  iintro ⟨#Hmw, HF, ⟨%A, HA⟩, HOut, Hso, HO⟩ Hk
  unfold row
  iapply (wp_await c P q fp a si (b + n) O W) $$ [HF HO]
  · isplitl [HF]; · iexact HF
    isplitl [HO]; · iexact HO
    iexact Hmw
  iintro ⟨HP, HX, Hsi, HO⟩
  iapply (wp_zeroAll c acc A) $$ HA; iintro HA
  iapply (wp_rowLoop c a acc _ (hX (b + n))) $$ [HX HA]
  · isplitl [HX]; · iexact HX
    iexact HA
  iintro ⟨HX, HA⟩
  iapply (wp_copyOut c Om Sd (P.view.read (Elt F) fp) b n acc so off inb hoff hSd O W) $$ [HA HOut Hso HO]
  · isplitl [HA]; · iexact HA
    isplitl [HOut]; · iexact HOut
    isplitl [Hso]; · iexact Hso
    isplitl [HO]; · iexact HO
    iexact Hmw
  iintro ⟨HA, HOut, Hso, HO⟩
  iapply Hk
  isplitl [HP]; · iexact HP
  isplitl [HX]; · iexists _; iexact HX
  isplitl [Hsi]; · iexact Hsi
  isplitl [HA]; · iexact HA
  isplitl [HOut]; · iexact HOut
  isplitl [Hso]; · iexact Hso
  iexact HO

/-- What a buffer and its counter are up to before row `r`: its fetch under way, or (no such row) idle. -/
def Ready {R : ℕ} (P : Memref sig c.2.kind .hbm (SP R) .i32) (q : PosShare TreeShare) (fp : Buf (Elt F) (P.view.loc c))
    (a : Memref sig c.2.kind .vmem S128x128 .i32) (si : DmaSem sig) (C : Prop) (r : ℕ) : sProp 𝕄 :=
  iprop((⌜C⌝ ∗ Fetching (F := F) c si P q fp a r)
    ∨ (⌜¬ C⌝ ∗ (P.view.loc c ↦[Finset.univ]{q} fp) ∗ (∃ X, Holds (F := F) c a fullShare X) ∗ semVal (c, SemLoc.dma si) 0))

/-- The next fetch, where there is one. -/
theorem wp_fetchIf {R : ℕ} (P : Memref sig c.2.kind .hbm (SP R) .i32) (q : PosShare TreeShare) (fp : Buf (Elt F) (P.view.loc c))
    (a : Memref sig c.2.kind .vmem S128x128 .i32) (ha : a.IsWhole) (si : DmaSem sig) (C : Prop) [Decidable C]
    (off : Fin 3 → ℕ) (inb : C → ∀ a, off a + S1x128x128.size a ≤ (SP R).size a) (r : ℕ) (hoff : off = ![r, 0, 0])
    {k : Unit → Prog (TpuEff nD τ sig (Elt F) Λ₀ c.2) β} {Q : β → sProp 𝕄} :
    iprop((P.view.loc c ↦[Finset.univ]{q} fp) ∗ (∃ X, Holds (F := F) c a fullShare X) ∗ semVal (c, SemLoc.dma si) 0)
      ⊢ iprop((Ready (F := F) c P q fp a si C r -∗ wp frame (wpE (defs₀ (F := F)) 𝒱₀ c none) Set.univ (k ⟨⟩) Q)
        -∗ wp frame (wpE (defs₀ (F := F)) 𝒱₀ c none) Set.univ (fetchIf P a ha si C off inb >>= k) Q) := by
  unfold fetchIf Ready
  by_cases h : C
  · rw [dif_pos h]
    iintro ⟨HP, ⟨%X, HX⟩, Hs⟩ Hk
    iapply (wp_fetch c P q fp a X si off (inb h) r hoff) $$ [HP HX Hs]
    · isplitl [HP]; · iexact HP
      isplitl [HX]; · iexact HX
      iexact Hs
    iintro HF
    iapply Hk
    ileft
    isplitr
    · ipureintro; exact h
    · iexact HF
  · rw [dif_neg h]
    iintro H Hk
    simp only [pure_bind]
    iapply Hk
    iright
    isplitr
    · ipureintro; exact h
    · iexact H

end Rules

end Cert.Proof.Hist
-- ==== Proof.Tile.lean ====
/-
  A TILE. Rows `b … b + 9` of the packed array, two at a time, each row's histogram copied out before the next is
  begun in its buffer.
-/
module

public import proofs.«01_k».proof.Proof.Row

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- Rows `b … b + n - 1` of an array of histograms. -/
def rowsFrom {R : ℕ} (b n : ℕ) : Finset (SO R).Idx := Finset.univ.filter fun y => b ≤ (y 0).val ∧ (y 0).val < b + n

/-- The histograms of a packed array's rows. -/
def histOf {R : ℕ} (Xp : (SP R).Idx → BitVec 32) : Vec F (SO R) .f32 := fun y => rowsDone (F := F) (rowOf Xp (y 0).val) 1024 (ix1 (y 1 : Fin 144))

/-- Every code names one of the nine bins. -/
def CodesOK {R : ℕ} (Xp : (SP R).Idx → BitVec 32) : Prop := ∀ x, binOf (Xp x) < 9

theorem CodesOK.row {R : ℕ} {Xp : (SP R).Idx → BitVec 32} (h : CodesOK Xp) (r : ℕ) : InBins (rowOf Xp r) := by
  intro y
  unfold rowOf
  split
  · exact h _
  · decide

theorem cond1_iff : ∀ t : Fin k0_t1_loop.trips, (k0_cond1 t = 1#1) = (t.val + 1 < 5) := by
  have h : ∀ t : Fin k0_t1_loop.trips, k0_cond1 t = 1#1 ↔ (t.val + 1 < 5) := by decide
  exact fun t => propext (h t)
theorem cond2_iff : ∀ t : Fin k0_t1_loop.trips, (k0_cond2 t = 1#1) = (t.val + 1 < 5) := by
  have h : ∀ t : Fin k0_t1_loop.trips, k0_cond2 t = 1#1 ↔ (t.val + 1 < 5) := by decide
  exact fun t => propext (h t)

section Tile

theorem Ready.fetching {c : Thread nD τ} {R : ℕ} {P : Memref sig c.2.kind .hbm (SP R) .i32} {q : PosShare TreeShare} {fp : Buf (Elt F) (P.view.loc c)}
    {a : Memref sig c.2.kind .vmem S128x128 .i32} {si : DmaSem sig} {C : Prop} {r : ℕ} (h : C) :
    Ready (F := F) c P q fp a si C r ⊢ Fetching (F := F) c si P q fp a r := by
  unfold Ready
  iintro H
  icases H with (⟨-, H⟩ | ⟨%h', -⟩)
  · iexact H
  · exact absurd h h'

theorem Ready.idle {c : Thread nD τ} {R : ℕ} {P : Memref sig c.2.kind .hbm (SP R) .i32} {q : PosShare TreeShare} {fp : Buf (Elt F) (P.view.loc c)}
    {a : Memref sig c.2.kind .vmem S128x128 .i32} {si : DmaSem sig} {C : Prop} {r : ℕ} (h : ¬ C) :
    Ready (F := F) c P q fp a si C r
      ⊢ iprop((P.view.loc c ↦[Finset.univ]{q} fp) ∗ (∃ X, Holds (F := F) c a fullShare X) ∗ semVal (c, SemLoc.dma si) 0) := by
  unfold Ready
  iintro H
  icases H with (⟨%h', -⟩ | ⟨-, H⟩)
  · exact absurd h' h
  · iexact H

theorem Ready.of_fetching {c : Thread nD τ} {R : ℕ} {P : Memref sig c.2.kind .hbm (SP R) .i32} {q : PosShare TreeShare} {fp : Buf (Elt F) (P.view.loc c)}
    {a : Memref sig c.2.kind .vmem S128x128 .i32} {si : DmaSem sig} {C : Prop} {r : ℕ} (h : C) :
    Fetching (F := F) c si P q fp a r ⊢ Ready (F := F) c P q fp a si C r := by
  unfold Ready
  iintro H
  ileft
  isplitr
  · ipureintro; exact h
  · iexact H

/-- Row `b + r` of the result lies in the block of `n` rows from `b`, for `r` below `n`. -/
def InBlock {κ : Kind} {R : ℕ} (Om : Memref sig κ .hbm (SO R) .f32) (I : Finset Om.view.ty.Idx) (b n : ℕ) : Prop :=
  ∀ (r : ℕ) (off : Fin 2 → ℕ) (inb : ∀ a, off a + S1x144.size a ≤ (SO R).size a), off = ![b + r, 0] → r < n → (orow Om off inb).view.set ⊆ I

variable (d : Dev nD) (L : grid0.Coords)

/-- The tile's thread. -/
abbrev tl : Thread nD τ := V d (cV L) (jV L)

/-- The first row of a tile of ten. -/
abbrev base : ℕ := 20 * (L 1).val + 10 * (L 0).val

theorem off11_0 (t : Fin k0_t1_loop.trips) : k0_off11 L t 0#32 = ![base L + 2 * t.val, 0] := k0_off11_eq L t 0
theorem off11_1 (t : Fin k0_t1_loop.trips) : k0_off11 L t 1#32 = ![base L + (2 * t.val + 1), 0] := k0_off11_eq L t 1
theorem off12_2 (t : Fin k0_t1_loop.trips) : k0_off12 L t = ![base L + 2 * (t.val + 1), 0, 0] := k0_off12_eq L t
theorem off21_3 (t : Fin k0_t1_loop.trips) : k0_off21 L t = ![base L + (2 * (t.val + 1) + 1), 0, 0] := k0_off21_eq L t

section Ten

variable {P : Memref sig Kind.scVector .hbm S320x128x128 .i32} (hP : P.IsWhole) {Om : Memref sig Kind.scVector .hbm S320x144 .f32} (hOm : Om.IsWhole)
  {A B : Memref sig Kind.scVector .vmem S128x128 .i32} (hA : A.IsWhole) (hB : B.IsWhole) {C' : Memref sig Kind.scVector .vmem S144 .f32} (hC : C'.IsWhole)
  (sa sb s0 s1 : DmaSems sig S_)
variable (fp : Buf (Elt F) (P.view.loc (tl d L))) (I : Finset (Idx (Om.view.loc (tl d L)))) (qa qb : PosShare TreeShare)
  (O : CellTallies nD τ sig (HIx 4)) (W : Waits sig (HIx 4))

variable (P Om A B C') in
/-- What holds before pair `p` of the tile's rows. -/
def Inv (p : ℕ) : sProp 𝕄 :=
  iprop(Ready (F := F) (tl d L) (R := 320) P qa fp A sa.sem (p < 5) (base L + 2 * p)
    ∗ Ready (F := F) (tl d L) (R := 320) P qb fp B sb.sem (p < 5) (base L + (2 * p + 1))
    ∗ (∃ X, Holds (F := F) (tl d L) C' fullShare X)
    ∗ OutHeld (F := F) (tl d L) (R := 320) Om I (P.view.read (Elt F) fp) (base L) (2 * p)
    ∗ semVal (tl d L, SemLoc.dma s0.sem) 0 ∗ semVal (tl d L, SemLoc.dma s1.sem) 0 ∗ Owing (tl d L) O W)

/-- THE PAIR, the leave to wait kept. -/
theorem wp_pair (hp : CodesOK (R := 320) (P.view.read (Elt F) fp)) (hI : InBlock (R := 320) Om I (base L) 10) (t : Fin k0_t1_loop.trips) (u : Unit) :
    iprop(Transfers.MayWaits (tl d L) (default : HIx 4) O ∗ Inv (F := F) d L P Om A B C' sa sb s0 s1 fp I qa qb O W t.val)
      ⊢ wp frame (wpE (defs₀ (F := F)) 𝒱₀ (tl d L) none) Set.univ
          (k0_t1_body (F := F) L P hP Om hOm A hA B hB C' hC sa sb s0 s1 lanes
            (Scalar.muli (Scalar.addi (Scalar.muli (BitVec.ofNat 32 (L 1).val) 2#32) (BitVec.ofNat 32 (L 0).val)) 10#32) t u)
          fun _ => iprop(Transfers.MayWaits (tl d L) (default : HIx 4) O ∗ Inv (F := F) d L P Om A B C' sa sb s0 s1 fp I qa qb O W (t.val + 1)) := by
  have ht : t.val < 5 := t.isLt
  rw [t1_body_eq]
  unfold Inv
  iintro ⟨#Hmw, HA, HB, Hacc, HOut, Hs0, Hs1, HO⟩
  ihave HA := (Ready.fetching ht) $$ HA
  ihave HB := (Ready.fetching ht) $$ HB
  iapply (wp_row (tl d L) (R := 320) P _ qa fp (fun r => hp.row r) Om I A _ C' _ _ _ (base L) (2 * t.val) _ _
    (off11_0 L t) (hI (2 * t.val) _ _ (off11_0 L t) (by omega)) O W) $$ [HA Hacc HOut Hs0 HO]
  · isplitr; · iexact Hmw
    isplitl [HA]; · iexact HA
    isplitl [Hacc]; · iexact Hacc
    isplitl [HOut]; · iexact HOut
    isplitl [Hs0]; · iexact Hs0
    iexact HO
  iintro ⟨HP, HX, Hs, Hacc, HOut, Hs0, HO⟩
  iapply (wp_fetchIf (tl d L) (R := 320) P qa fp A _ _ _ _ _ (base L + 2 * (t.val + 1)) (off12_2 L t)) $$ [HP HX Hs]
  · isplitl [HP]; · iexact HP
    isplitl [HX]; · iexact HX
    iexact Hs
  iintro HA
  rw [cond1_iff t]
  iapply (wp_row (tl d L) (R := 320) P _ qb fp (fun r => hp.row r) Om I B _ C' _ _ _ (base L) (2 * t.val + 1) _ _
    (off11_1 L t) (hI (2 * t.val + 1) _ _ (off11_1 L t) (by omega)) O W) $$ [HB Hacc HOut Hs1 HO]
  · isplitr; · iexact Hmw
    isplitl [HB]; · iexact HB
    isplitl [Hacc]; · iexact Hacc
    isplitl [HOut]; · iexact HOut
    isplitl [Hs1]; · iexact Hs1
    iexact HO
  iintro ⟨HP, HX, Hs, Hacc, HOut, Hs1, HO⟩
  iapply (wp_fetchIf (tl d L) (R := 320) P qb fp B _ _ _ _ _ (base L + (2 * (t.val + 1) + 1)) (off21_3 L t)) $$ [HP HX Hs]
  · isplitl [HP]; · iexact HP
    isplitl [HX]; · iexact HX
    iexact Hs
  iintro HB
  rw [cond2_iff t, wp_pure]
  imodintro
  isplitr; · iexact Hmw
  isplitl [HA]; · iexact HA
  isplitl [HB]; · iexact HB
  isplitl [Hacc]; · iexact Hacc
  isplitl [HOut]; · iexact HOut
  isplitl [Hs0]; · iexact Hs0
  isplitl [Hs1]; · iexact Hs1
  iexact HO

set_option maxHeartbeats 4000000 in
/-- TEN ROWS. -/
theorem wp_ten (hp : CodesOK (R := 320) (P.view.read (Elt F) fp)) (hI : InBlock (R := 320) Om I (base L) 10) (q : PosShare TreeShare) :
    iprop(Transfers.MayWaits (tl d L) (default : HIx 4) O ∗ (P.view.loc (tl d L) ↦[Finset.univ]{q} fp)
        ∗ OutHeld (F := F) (tl d L) (R := 320) Om I (P.view.read (Elt F) fp) (base L) 0
        ∗ (∃ X, Holds (F := F) (tl d L) A fullShare X) ∗ (∃ X, Holds (F := F) (tl d L) B fullShare X) ∗ (∃ X, Holds (F := F) (tl d L) C' fullShare X)
        ∗ semVal (tl d L, SemLoc.dma sa.sem) 0 ∗ semVal (tl d L, SemLoc.dma sb.sem) 0 ∗ semVal (tl d L, SemLoc.dma s0.sem) 0 ∗ semVal (tl d L, SemLoc.dma s1.sem) 0
        ∗ Owing (tl d L) O W)
      ⊢ wp frame (wpE (defs₀ (F := F)) 𝒱₀ (tl d L) none) Set.univ (cc0__sc_hist_body L P hP Om hOm A hA B hB C' hC sa sb s0 s1)
          fun _ => iprop((P.view.loc (tl d L) ↦[Finset.univ]{q} fp)
            ∗ OutHeld (F := F) (tl d L) (R := 320) Om I (P.view.read (Elt F) fp) (base L) 10
            ∗ (∃ X, Holds (F := F) (tl d L) A fullShare X) ∗ (∃ X, Holds (F := F) (tl d L) B fullShare X) ∗ (∃ X, Holds (F := F) (tl d L) C' fullShare X)
            ∗ semVal (tl d L, SemLoc.dma sa.sem) 0 ∗ semVal (tl d L, SemLoc.dma sb.sem) 0 ∗ semVal (tl d L, SemLoc.dma s0.sem) 0 ∗ semVal (tl d L, SemLoc.dma s1.sem) 0
            ∗ Owing (tl d L) O W) := by
  simp only [cc0__sc_hist_body_eq_skeleton]; unfold cc0__sc_hist_body_skel
  simp only [Prog.bind_lift, Prog.bind_op, pure_bind]
  iintro ⟨#Hmw, Hp, Ho, ⟨%X, Ha⟩, ⟨%Y, Hb⟩, Hc, Hsa, Hsb, Hs0, Hs1, HO⟩
  ihave Hp := (pointsTo_share (PosShare.mem_left_op_right q)).1 $$ Hp
  icases Hp with ⟨Hpa, Hpb⟩
  iapply (wp_fetch (tl d L) (R := 320) P q.left fp A X sa.sem _ _ (base L) (k0_off1_eq L)) $$ [Hpa Ha Hsa]
  · isplitl [Hpa]; · iexact Hpa
    isplitl [Ha]; · iexact Ha
    iexact Hsa
  iintro HA
  iapply (wp_fetch (tl d L) (R := 320) P q.right fp B Y sb.sem _ _ (base L + 1) (k0_off2_eq L)) $$ [Hpb Hb Hsb]
  · isplitl [Hpb]; · iexact Hpb
    isplitl [Hb]; · iexact Hb
    iexact Hsb
  iintro HB
  iapply (Scf.wp_for_bind frame (wpE (defs₀ (F := F)) 𝒱₀ (tl d L) none) Set.univ _ _ _ k0_t1_ok ⟨⟩ _
    (fun n (_ : Unit) => iprop(Transfers.MayWaits (tl d L) (default : HIx 4) O ∗ Inv (F := F) d L P Om A B C' sa sb s0 s1 fp I q.left q.right O W n))
    (fun t u => wp_pair d L hP hOm hA hB hC sa sb s0 s1 fp I q.left q.right O W hp hI t u)) $$ [HA HB Hc Ho Hs0 Hs1 HO]
  · isplitr; · iexact Hmw
    unfold Inv
    isplitl [HA]; · iapply (Ready.of_fetching (by decide)); iexact HA
    isplitl [HB]; · iapply (Ready.of_fetching (by decide)); iexact HB
    isplitl [Hc]; · iexact Hc
    isplitl [Ho]; · iexact Ho
    isplitl [Hs0]; · iexact Hs0
    isplitl [Hs1]; · iexact Hs1
    iexact HO
  · iintro %u H
    rw [show (Scf.trips k0_t1_loop.lb k0_t1_loop.ub k0_t1_loop.st : ℕ) = 5 from rfl]
    unfold Inv
    icases H with ⟨-, HA, HB, Hc, Ho, Hs0, Hs1, HO⟩
    ihave HA := (Ready.idle (by decide)) $$ HA
    ihave HB := (Ready.idle (by decide)) $$ HB
    icases HA with ⟨Hpa, Ha, Hsa⟩
    icases HB with ⟨Hpb, Hb, Hsb⟩
    rw [wp_pure]
    imodintro
    isplitl [Hpa Hpb]
    · iapply (pointsTo_share (PosShare.mem_left_op_right q)).2
      isplitl [Hpa]; · iexact Hpa
      iexact Hpb
    isplitl [Ho]; · iexact Ho
    isplitl [Ha]; · iexact Ha
    isplitl [Hb]; · iexact Hb
    isplitl [Hc]; · iexact Hc
    isplitl [Hsa]; · iexact Hsa
    isplitl [Hsb]; · iexact Hsb
    isplitl [Hs0]; · iexact Hs0
    isplitl [Hs1]; · iexact Hs1
    iexact HO

end Ten

end Tile

end Cert.Proof.Hist
-- ==== Proof.Last.lean ====
/-
  THE LAST CALL'S TILE. Two rows of a packed array of sixty-four, one after the other, the conditions for a further
  fetch false.
-/
module

public import proofs.«01_k».proof.Proof.Tile

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

section Last

set_option maxRecDepth 65536 in
/-- The last call's body is two rows. -/
theorem last_body_eq (i : grid3.Coords) (P : Memref sig .scVector .hbm S64x128x128 .i32) (hP : P.IsWhole) (Om : Memref sig .scVector .hbm S64x144 .f32) (hOm : Om.IsWhole)
    (A : Memref sig .scVector .vmem S128x128 .i32) (hA : A.IsWhole) (B : Memref sig .scVector .vmem S128x128 .i32) (hB : B.IsWhole)
    (C' : Memref sig .scVector .vmem S144 .f32) (hC : C'.IsWhole) (sa sb s0 s1 : DmaSems sig S_) :
    cc3__sc_hist_body (F := F) i P hP Om hOm A hA B hB C' hC sa sb s0 s1 =
      (.op (.enqueueDma (prow (R := 64) P (k3_off1 i) (k3_off1_inb i)) (.here A) (.dma sa.sem) ((View.wordExact_bits rfl).reshape _ _) hA.wordExact ⟨Or.inl rfl, trivial⟩) fun _ =>
      .op (.enqueueDma (prow (R := 64) P (k3_off2 i) (k3_off2_inb i)) (.here B) (.dma sb.sem) ((View.wordExact_bits rfl).reshape _ _) hB.wordExact ⟨Or.inl rfl, trivial⟩) fun _ =>
      row (F := F) (κ := .scVector (cV i) (jV i)) (R := 64) P inb_S64x128x128_S1x128x128_0_0_0 Om A hA C' hC sa.sem s0.sem (k3_off11 i 0#32) (k3_off11_inb i 0) fun _ =>
      fetchIf (R := 64) P A hA sa.sem (k3_cond1 = 1#1) (k3_off12 i) (k3_off12_inb i) >>= fun _ =>
      row (R := 64) P inb_S64x128x128_S1x128x128_0_0_0 Om B hB C' hC sb.sem s1.sem (k3_off11 i 1#32) (k3_off11_inb i 1) fun _ =>
      fetchIf (R := 64) P B hB sb.sem (k3_cond2 = 1#1) (k3_off21 i) (k3_off21_inb i) >>= fun _ =>
      pure ⟨⟩) := by
  have h1 : ∀ v14 v15 : BitVec 32, k3_t1_body (F := F) i P hP Om hOm A hA B hB C' hC sa sb s0 s1 lanes v14 v15
        = fun t _ => trip (F := F) (κ := .scVector (cV i) (jV i)) A C' t := fun _ _ => by
    funext t u; rfl
  have h2 : k3_t2_body (F := F) i P hP Om hOm A hA B hB C' hC sa sb s0 s1 lanes
        = fun t _ => trip (F := F) (κ := .scVector (cV i) (jV i)) B C' t := by
    funext t u; rfl
  have c1 : ¬ k3_cond1 = 1#1 := by decide
  have c2 : ¬ k3_cond2 = 1#1 := by decide
  rw [cc3__sc_hist_body_eq_skeleton, cc3__sc_hist_body_skel]
  simp only [k3_part11_eq_skeleton, k3_part11_skel, k3_part12_eq_skeleton, k3_part12_skel, k3_part13_eq_skeleton, k3_part13_skel, Prog.bind_lift, Prog.bind_op, Prog.bind_assoc, pure_bind]
  unfold row zeroAll zeroVec rowLoop fetchIf
  simp only [c1, c2, ↓reduceDIte, Prog.bind_lift, Prog.bind_op, Prog.bind_assoc, pure_bind]
  rfl

variable (d : Dev nD) (L : grid3.Coords)

/-- The first row of a tile of two. -/
abbrev base2 : ℕ := 4 * (L 1).val + 2 * (L 0).val

variable {P : Memref sig Kind.scVector .hbm S64x128x128 .i32} (hP : P.IsWhole) {Om : Memref sig Kind.scVector .hbm S64x144 .f32} (hOm : Om.IsWhole)
  {A B : Memref sig Kind.scVector .vmem S128x128 .i32} (hA : A.IsWhole) (hB : B.IsWhole) {C' : Memref sig Kind.scVector .vmem S144 .f32} (hC : C'.IsWhole)
  (sa sb s0 s1 : DmaSems sig S_)
variable (fp : Buf (Elt F) (P.view.loc (tl d L))) (I : Finset (Idx (Om.view.loc (tl d L)))) (O : CellTallies nD τ sig (HIx 4)) (W : Waits sig (HIx 4))

set_option maxHeartbeats 4000000 in
/-- TWO ROWS. -/
theorem wp_two (hp : CodesOK (R := 64) (P.view.read (Elt F) fp)) (hI : InBlock (R := 64) Om I (base2 L) 2) (q : PosShare TreeShare) :
    iprop(Transfers.MayWaits (tl d L) (default : HIx 4) O ∗ (P.view.loc (tl d L) ↦[Finset.univ]{q} fp)
        ∗ OutHeld (F := F) (tl d L) (R := 64) Om I (P.view.read (Elt F) fp) (base2 L) 0
        ∗ (∃ X, Holds (F := F) (tl d L) A fullShare X) ∗ (∃ X, Holds (F := F) (tl d L) B fullShare X) ∗ (∃ X, Holds (F := F) (tl d L) C' fullShare X)
        ∗ semVal (tl d L, SemLoc.dma sa.sem) 0 ∗ semVal (tl d L, SemLoc.dma sb.sem) 0 ∗ semVal (tl d L, SemLoc.dma s0.sem) 0 ∗ semVal (tl d L, SemLoc.dma s1.sem) 0
        ∗ Owing (tl d L) O W)
      ⊢ wp frame (wpE (defs₀ (F := F)) 𝒱₀ (tl d L) none) Set.univ (cc3__sc_hist_body L P hP Om hOm A hA B hB C' hC sa sb s0 s1)
          fun _ => iprop((P.view.loc (tl d L) ↦[Finset.univ]{q} fp)
            ∗ OutHeld (F := F) (tl d L) (R := 64) Om I (P.view.read (Elt F) fp) (base2 L) 2
            ∗ (∃ X, Holds (F := F) (tl d L) A fullShare X) ∗ (∃ X, Holds (F := F) (tl d L) B fullShare X) ∗ (∃ X, Holds (F := F) (tl d L) C' fullShare X)
            ∗ semVal (tl d L, SemLoc.dma sa.sem) 0 ∗ semVal (tl d L, SemLoc.dma sb.sem) 0 ∗ semVal (tl d L, SemLoc.dma s0.sem) 0 ∗ semVal (tl d L, SemLoc.dma s1.sem) 0
            ∗ Owing (tl d L) O W) := by
  have o0 : k3_off11 L 0#32 = ![base2 L + 0, 0] := k3_off11_eq L 0
  have o1 : k3_off11 L 1#32 = ![base2 L + 1, 0] := k3_off11_eq L 1
  have c1 : ¬ k3_cond1 = 1#1 := by decide
  have c2 : ¬ k3_cond2 = 1#1 := by decide
  rw [last_body_eq]
  iintro ⟨#Hmw, Hp, Ho, ⟨%X, Ha⟩, ⟨%Y, Hb⟩, Hc, Hsa, Hsb, Hs0, Hs1, HO⟩
  ihave Hp := (pointsTo_share (PosShare.mem_left_op_right q)).1 $$ Hp
  icases Hp with ⟨Hpa, Hpb⟩
  iapply (wp_fetch (tl d L) (R := 64) P q.left fp A X sa.sem _ _ (base2 L + 0) (k3_off1_eq L)) $$ [Hpa Ha Hsa]
  · isplitl [Hpa]; · iexact Hpa
    isplitl [Ha]; · iexact Ha
    iexact Hsa
  iintro HA
  iapply (wp_fetch (tl d L) (R := 64) P q.right fp B Y sb.sem _ _ (base2 L + 1) (k3_off2_eq L)) $$ [Hpb Hb Hsb]
  · isplitl [Hpb]; · iexact Hpb
    isplitl [Hb]; · iexact Hb
    iexact Hsb
  iintro HB
  iapply (wp_row (tl d L) (R := 64) P _ q.left fp (fun r => hp.row r) Om I A _ C' _ _ _ (base2 L) 0 _ _ o0 (hI 0 _ _ o0 (by omega)) O W) $$ [HA Hc Ho Hs0 HO]
  · isplitr; · iexact Hmw
    isplitl [HA]; · iexact HA
    isplitl [Hc]; · iexact Hc
    isplitl [Ho]; · iexact Ho
    isplitl [Hs0]; · iexact Hs0
    iexact HO
  iintro ⟨HP, HX, Hs, Hc, Ho, Hs0, HO⟩
  unfold fetchIf
  rw [dif_neg c1, dif_neg c2]
  simp only [pure_bind]
  iapply (wp_row (tl d L) (R := 64) P _ q.right fp (fun r => hp.row r) Om I B _ C' _ _ _ (base2 L) 1 _ _ o1 (hI 1 _ _ o1 (by omega)) O W) $$ [HB Hc Ho Hs1 HO]
  · isplitr; · iexact Hmw
    isplitl [HB]; · iexact HB
    isplitl [Hc]; · iexact Hc
    isplitl [Ho]; · iexact Ho
    isplitl [Hs1]; · iexact Hs1
    iexact HO
  iintro ⟨HP', HX', Hs', Hc, Ho, Hs1, HO⟩
  rw [wp_pure]
  imodintro
  isplitl [HP HP']
  · iapply (pointsTo_share (PosShare.mem_left_op_right q)).2
    isplitl [HP]; · iexact HP
    iexact HP'
  isplitl [Ho]; · iexact Ho
  isplitl [HX]; · iexact HX
  isplitl [HX']; · iexact HX'
  isplitl [Hc]; · iexact Hc
  isplitl [Hs]; · iexact Hs
  isplitl [Hs']; · iexact Hs'
  isplitl [Hs0]; · iexact Hs0
  isplitl [Hs1]; · iexact Hs1
  iexact HO

end Last

end Cert.Proof.Hist
-- ==== Proof.Launch.lean ====
/-
  THE CALLS. What each call's handshakes carry: a packed array handed out by shares, its result by blocks of rows, one
  block a tile; the shares and the blocks put together are the arrays whole.
-/
module

public import proofs.«01_k».proof.Proof.Last

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev ΛP : Labels := Pipeline.Sig Λ₀ (Fin 1) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 4) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Shares and blocks -/

/-- Share `i` of the `2 ^ n` equal ones of `q`: its lowest bit says which half, the others which part of that. -/
def piece : (n : ℕ) → PosShare TreeShare → Fin (2 ^ n) → PosShare TreeShare
  | 0, q, _ => q
  | n + 1, q, i =>
    let j : Fin (2 ^ n) × Fin 2 := finProdFinEquiv.symm i
    piece n (if j.2 = 0 then q.left else q.right) j.1

theorem piece_pair (n : ℕ) (q : PosShare TreeShare) (a : Fin (2 ^ n)) (b : Fin 2) :
    piece (n + 1) q (finProdFinEquiv (a, b)) = piece n (if b = 0 then q.left else q.right) a := by
  show (fun k : Fin (2 ^ n) × Fin 2 => piece n (if k.2 = 0 then q.left else q.right) k.1) (finProdFinEquiv.symm (finProdFinEquiv (a, b))) = _
  rw [Equiv.symm_apply_apply]

/-- Two halves are the whole. -/
theorem pointsTo_halves {ℓ : Loc nD τ sig} (I : Finset (Idx ℓ)) (f : Buf (Elt F) ℓ) (q : PosShare TreeShare) :
    (ℓ ↦[I]{q} f : sProp 𝕄) = bigSep Finset.univ fun b : Fin 2 => ℓ ↦[I]{if b = 0 then q.left else q.right} f := by
  rw [show (Finset.univ : Finset (Fin 2)) = {0, 1} by decide, SparseCore.bigSep_insert' (by decide), bigSep_singleton]
  exact BI.Entails.antisymm (pointsTo_share (PosShare.mem_left_op_right q)).1 (pointsTo_share (PosShare.mem_left_op_right q)).2

/-- A points-to is its pieces'. -/
theorem pointsTo_pieces {ℓ : Loc nD τ sig} (I : Finset (Idx ℓ)) (f : Buf (Elt F) ℓ) (n : ℕ) : ∀ q : PosShare TreeShare,
    (ℓ ↦[I]{q} f : sProp 𝕄) = bigSep Finset.univ fun i : Fin (2 ^ n) => ℓ ↦[I]{piece n q i} f := by
  induction n with
  | zero => exact fun q => (bigSep_univ_of_subsingleton (0 : Fin 1) (Φ := fun i : Fin (2 ^ 0) => (ℓ ↦[I]{piece 0 q i} f : sProp 𝕄))).symm
  | succ n ih =>
    intro q
    have e : (bigSep Finset.univ fun i : Fin (2 ^ (n + 1)) => (ℓ ↦[I]{piece (n + 1) q i} f : sProp 𝕄))
        = bigSep Finset.univ fun j : Fin 2 × Fin (2 ^ n) => (ℓ ↦[I]{piece n (if j.1 = 0 then q.left else q.right) j.2} f : sProp 𝕄) := by
      refine (bigSep_univ_equiv ((Equiv.prodComm (Fin 2) (Fin (2 ^ n))).trans (finProdFinEquiv : Fin (2 ^ n) × Fin 2 ≃ Fin (2 ^ n * 2))) _).trans
        (bigSep_congr fun j _ => ?_)
      show (ℓ ↦[I]{piece (n + 1) q (finProdFinEquiv (j.2, j.1))} f : sProp 𝕄) = _
      rw [piece_pair]
    rw [e, bigSep_univ_prod, pointsTo_halves I f q]
    exact bigSep_congr fun b _ => ih _

/-- The rows of tile `s` on SparseCore `c`, `n` rows a tile. -/
def tileRows {R : ℕ} (n : ℕ) (k : Fin 2 × Fin 16) : Finset (SO R).Idx := Finset.univ.filter fun y => (y 0).val / n = 2 * k.2.val + k.1.val

theorem mem_tileRows {R n : ℕ} {k : Fin 2 × Fin 16} {y : (SO R).Idx} : y ∈ tileRows n k ↔ (y 0).val / n = 2 * k.2.val + k.1.val := by
  simp [tileRows]

theorem tileRows_disjoint {R : ℕ} (n : ℕ) : ∀ k ∈ (Finset.univ : Finset (Fin 2 × Fin 16)), ∀ k' ∈ (Finset.univ : Finset (Fin 2 × Fin 16)), k ≠ k' →
    Disjoint (tileRows (R := R) n k) (tileRows n k') := by
  intro k _ k' _ h
  rw [Finset.disjoint_left]
  intro y hy hy'
  rw [mem_tileRows] at hy hy'
  have h1 := k.1.isLt
  have h2 := k'.1.isLt
  exact h (Prod.ext (Fin.ext (by omega)) (Fin.ext (by omega)))

theorem tileRows_cover {R n : ℕ} (hR : R = n * 32) : (Finset.univ : Finset (Fin 2 × Fin 16)).biUnion (fun k => tileRows (R := R) n k) = Finset.univ := by
  ext y
  have hy : (y 0).val < R := (y 0).isLt
  have hd : (y 0).val / n < 32 := Nat.div_lt_of_lt_mul (hR ▸ hy)
  simp only [Finset.mem_biUnion, Finset.mem_univ, true_and, mem_tileRows, iff_true]
  exact ⟨(⟨(y 0).val / n % 2, by omega⟩, ⟨(y 0).val / n / 2, by omega⟩), by show (y 0).val / n = 2 * ((y 0).val / n / 2) + (y 0).val / n % 2; omega⟩

/-! ## What the handshakes carry -/

/-- A call's packed array and its result, and the block of the result each tile writes. -/
structure Arr where
  p : Loc nD τ sig
  o : Loc nD τ sig
  rows : Fin 2 × Fin 16 → Finset (Idx o)
  disj : ∀ k ∈ (Finset.univ : Finset (Fin 2 × Fin 16)), ∀ k' ∈ (Finset.univ : Finset (Fin 2 × Fin 16)), k ≠ k' → Disjoint (rows k) (rows k')
  cover : (Finset.univ : Finset (Fin 2 × Fin 16)).biUnion rows = Finset.univ

/-- The four calls' arrays. -/
def arr (d : Dev nD) : Fin 4 → Arr
  | 0 => { p := (SparseCore.T d).loc main_arg0, o := (SparseCore.T d).loc main_v0, rows := by exact tileRows (R := 320) 10, disj := by exact tileRows_disjoint 10, cover := by exact tileRows_cover rfl }
  | 1 => { p := (SparseCore.T d).loc main_arg1, o := (SparseCore.T d).loc main_v1, rows := by exact tileRows (R := 320) 10, disj := by exact tileRows_disjoint 10, cover := by exact tileRows_cover rfl }
  | 2 => { p := (SparseCore.T d).loc main_arg2, o := (SparseCore.T d).loc main_v2, rows := by exact tileRows (R := 320) 10, disj := by exact tileRows_disjoint 10, cover := by exact tileRows_cover rfl }
  | 3 => { p := (SparseCore.T d).loc main_arg3, o := (SparseCore.T d).loc main_v3, rows := by exact tileRows (R := 64) 2, disj := by exact tileRows_disjoint 2, cover := by exact tileRows_cover rfl }

abbrev pLoc (d : Dev nD) (q : Fin 4) : Loc nD τ sig := (arr d q).p
abbrev oLoc (d : Dev nD) (q : Fin 4) : Loc nD τ sig := (arr d q).o

section Pay

/-- A tile's share of the packed array, and its block of the result. -/
abbrev part (a : Arr) (f : Buf (Elt F) a.p) (g : Buf (Elt F) a.o) (k : Fin 2 × Fin 16) : sProp 𝕄 :=
  iprop((a.p ↦[Finset.univ]{piece 4 (piece 1 fullShare k.1) k.2} f) ∗ (a.o ↦[a.rows k]{fullShare} g))

/-- The two arrays whole are every tile's part of them. -/
theorem whole_parts (a : Arr) (f : Buf (Elt F) a.p) (g : Buf (Elt F) a.o) :
    (iprop((a.p ↦[Finset.univ]{fullShare} f) ∗ (a.o ↦[Finset.univ]{fullShare} g)) : sProp 𝕄)
      = bigSep Finset.univ fun c : Fin 2 => bigSep Finset.univ fun s : Fin 16 => part a f g (c, s) := by
  have e1 : (a.p ↦[Finset.univ]{fullShare} f : sProp 𝕄)
      = bigSep Finset.univ fun k : Fin 2 × Fin 16 => a.p ↦[Finset.univ]{piece 4 (piece 1 fullShare k.1) k.2} f := by
    rw [pointsTo_pieces Finset.univ f 1 fullShare, bigSep_univ_prod]
    exact bigSep_congr fun c _ => pointsTo_pieces Finset.univ f 4 _
  have e2 : (a.o ↦[Finset.univ]{fullShare} g : sProp 𝕄) = bigSep Finset.univ fun k : Fin 2 × Fin 16 => a.o ↦[a.rows k]{fullShare} g := by
    have h := pointsTo_biUnion (ℓ := a.o) (q := fullShare) (f := g) (Name := ℕ) (U := UU) (Ix := HIx 4) (Lvl := ℕ) Finset.univ a.rows a.disj
    rw [a.cover] at h
    exact h
  rw [e1, e2, ← bigSep_sep', bigSep_univ_prod]

variable [FloatOps F]

variable (m : (ℓ : Loc nD τ sig) → Buf (Elt F) ℓ)

/-- What each result ends as. -/
def want (d : Dev nD) : (q : Fin 4) → Buf (Elt F) (oLoc d q)
  | 0 => histOf (F := F) (R := 320) (m (pLoc d 0))
  | 1 => histOf (F := F) (R := 320) (m (pLoc d 1))
  | 2 => histOf (F := F) (R := 320) (m (pLoc d 2))
  | 3 => histOf (F := F) (R := 64) (m (pLoc d 3))

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

/-- A tile's part before its call, and after. -/
abbrev goRes (q : Fin 4) (d : Dev nD) (c : Fin ((K (F := F)).nCore q)) (s : Fin ((K (F := F)).nSub q)) : sProp 𝕄 :=
  part (arr d q) (m (pLoc d q)) (m (oLoc d q)) (c.cast (nCore_eq q), s.cast (nSub_eq q))
abbrev tdRes (q : Fin 4) (d : Dev nD) (c : Fin ((K (F := F)).nCore q)) (s : Fin ((K (F := F)).nSub q)) : sProp 𝕄 :=
  part (arr d q) (m (pLoc d q)) (want m d q) (c.cast (nCore_eq q), s.cast (nSub_eq q))

def P : (K (F := F)).Pay (nD := nD) (Val := Elt F) (Name := ℕ) (U := UU) where
  st := fun q d c => bigSep Finset.univ fun s => goRes m q d c s
  dn := fun q d c => bigSep Finset.univ fun s => tdRes m q d c s
  go := fun q d c s => goRes m q d c s
  td := fun q d c s => tdRes m q d c s
  x := fun _ _ => iprop(emp)

instance P_storable : (P (F := F) m).IsStorable where
  st q d c := (inferInstance : BI.Storable (upEmb : UEmb _ 𝕄) (bigSep Finset.univ fun s => goRes m q d c s))
  dn q d c := (inferInstance : BI.Storable (upEmb : UEmb _ 𝕄) (bigSep Finset.univ fun s => tdRes m q d c s))
  go q d c s := (inferInstance : BI.Storable (upEmb : UEmb _ 𝕄) (goRes m q d c s))
  td q d c s := (inferInstance : BI.Storable (upEmb : UEmb _ 𝕄) (tdRes m q d c s))

theorem vecSplit (q : Fin 4) : (K (F := F)).VecSplit' (P m) q := by
  intro d c
  show (bigSep Finset.univ fun s => goRes m q d c s) ⊢ |={Set.univ}=> iprop((bigSep Finset.univ fun s => goRes m q d c s)
    ∗ ((bigSep Finset.univ fun s => tdRes m q d c s) -∗ (bigSep Finset.univ fun s => tdRes m q d c s)))
  iintro H
  imodintro
  isplitl [H]; · iexact H
  iintro H
  iexact H

/-- What a call is given, over the SparseCores in it, is its two arrays whole; what it gives back, the result the histograms. -/
theorem parts_eq (q : Fin 4) (d : Dev nD) (g : Buf (Elt F) (oLoc d q)) :
    (bigSep Finset.univ fun c : Fin ((K (F := F)).nCore q) => bigSep Finset.univ fun s : Fin ((K (F := F)).nSub q) =>
        part (arr d q) (m (pLoc d q)) g (c.cast (nCore_eq q), s.cast (nSub_eq q)))
      = (iprop((pLoc d q ↦[Finset.univ]{fullShare} m (pLoc d q)) ∗ (oLoc d q ↦[Finset.univ]{fullShare} g)) : sProp 𝕄) := by
  rw [whole_parts]
  match q with
  | 0 => rfl
  | 1 => rfl
  | 2 => rfl
  | 3 => rfl

end Pay

end Cert.Proof.Hist
-- ==== Proof.Own.lean ====
/-
  THE TILES' OBLIGATIONS. A tile's body from what its handshake brings: the tile's own buffers and counters taken out of
  its scoped storage, the body run, and all of it put back.
-/
module

public import proofs.«01_k».proof.Proof.Launch

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- The precondition, of the memory the program starts from. -/
def PreOK (m : (ℓ : Loc nD τ sig) → Buf (Elt F) ℓ) : Prop :=
  ∀ d : Dev nD, CodesOK (R := 320) (m (pLoc d 0)) ∧ CodesOK (R := 320) (m (pLoc d 1)) ∧ CodesOK (R := 320) (m (pLoc d 2)) ∧ CodesOK (R := 64) (m (pLoc d 3))

section Tile

variable (d : Dev nD) (c : Fin τ.nSC) (s : Fin τ.nSub)

abbrev cell (x : DmaSem sig) : GSem nD τ sig := (V d c s, SemLoc.dma x)

omit [FloatOps F] in
/-- A body's four counters, out of the tile's own. -/
theorem ownSems0_V (x : Fin 4 → DmaSem sig) (hx : Function.Injective x) (hs : ∀ i, (SemLoc.dma (x i) : SemLoc sig).isScoped .scVector = true) :
    ∃ Rest : sProp 𝕄, (ownSems0 (V d c s) : sProp 𝕄)
      = iprop(semVal (cell d c s (x 0)) 0 ∗ semVal (cell d c s (x 1)) 0 ∗ semVal (cell d c s (x 2)) 0 ∗ semVal (cell d c s (x 3)) 0 ∗ Rest) := by
  have own : ∀ i, cell d c s (x i) ∈ ownCells (V d c s) := fun i => (mem_ownCells (g := cell d c s (x i))).mpr ⟨rfl, hs i⟩
  have ne : ∀ i j, i ≠ j → cell d c s (x i) ≠ cell d c s (x j) := fun i j h e => h (hx (by simpa [cell] using e))
  refine ⟨bigSep (((((ownCells (V d c s)).erase (cell d c s (x 0))).erase (cell d c s (x 1))).erase (cell d c s (x 2))).erase (cell d c s (x 3))) fun g => semVal g 0, ?_⟩
  unfold SparseCore.Cfg.ownSems0
  rw [SparseCore.bigSep_erase' (own 0),
    SparseCore.bigSep_erase' (Finset.mem_erase.mpr ⟨ne 1 0 (by decide), own 1⟩),
    SparseCore.bigSep_erase' (Finset.mem_erase.mpr ⟨ne 2 1 (by decide), Finset.mem_erase.mpr ⟨ne 2 0 (by decide), own 2⟩⟩),
    SparseCore.bigSep_erase' (Finset.mem_erase.mpr ⟨ne 3 2 (by decide), Finset.mem_erase.mpr ⟨ne 3 1 (by decide), Finset.mem_erase.mpr ⟨ne 3 0 (by decide), own 3⟩⟩⟩)]

abbrev bufOf (b : Ref sig .scVector) : DevRef τ sig := (Proc.scVector c s).devRef b

/-- A tile's buffer, at any contents. -/
abbrev AnyBuf (b : Ref sig .scVector) : sProp 𝕄 := iprop(∃ f : Buf (Elt F) ((V d c s).loc b), (V d c s).loc b ↦{fullShare} f)

omit [FloatOps F] in
/-- A body's three buffers, out of the tile's own. -/
theorem ownBufs_V (b : Fin 3 → Ref sig .scVector) (hb : Function.Injective b) (ho : ∀ i, (bufOf c s (b i)).owner = .proc (Proc.scVector c s)) :
    ∃ Rest : sProp 𝕄, (ownBufs (V d c s) : sProp 𝕄) = iprop(AnyBuf (F := F) d c s (b 0) ∗ AnyBuf (F := F) d c s (b 1) ∗ AnyBuf (F := F) d c s (b 2) ∗ Rest) := by
  have own : ∀ i, bufOf c s (b i) ∈ ownRefs (τ := τ) (sig := sig) (.scVector c s) :=
    fun i => SparseCore.Cfg.mem_ownRefs_of_owner (p := Proc.scVector c s) (b := bufOf c s (b i)) (ho i)
  have ne : ∀ i j, i ≠ j → bufOf c s (b i) ≠ bufOf c s (b j) := fun i j h e => h (hb (Proc.devRef_injective _ e))
  refine ⟨bigSep ((((ownRefs (τ := τ) (.scVector c s)).erase (bufOf c s (b 0))).erase (bufOf c s (b 1))).erase (bufOf c s (b 2)))
    fun b => iprop(∃ f, ((d, b) : Loc nD τ sig) ↦{fullShare} f), ?_⟩
  unfold SparseCore.Cfg.ownBufs
  refine (SparseCore.bigSep_erase' (own 0)).trans ?_
  rw [SparseCore.bigSep_erase' (Finset.mem_erase.mpr ⟨ne 1 0 (by decide), own 1⟩),
    SparseCore.bigSep_erase' (Finset.mem_erase.mpr ⟨ne 2 1 (by decide), Finset.mem_erase.mpr ⟨ne 2 0 (by decide), own 2⟩⟩)]

omit [FloatOps F] in
/-- A whole buffer at any contents is held, and a buffer held is one at some contents. -/
theorem holds_of {c : Thread nD τ} {sp : Space} {s : Shape} {e : EltTy} (a : Memref sig c.2.kind sp s e) :
    (iprop(∃ f, a.view.loc c ↦{fullShare} f) : sProp 𝕄) ⊢ iprop(∃ X, Holds (F := F) c a fullShare X) := by
  iintro ⟨%f, H⟩
  iexists (a.view.read (Elt F) f)
  unfold Holds
  iexists f
  isplitr
  · ipureintro; rfl
  · iexact H
omit [FloatOps F] in
theorem of_holds {c : Thread nD τ} {sp : Space} {s : Shape} {e : EltTy} (a : Memref sig c.2.kind sp s e) :
    (iprop(∃ X, Holds (F := F) c a fullShare X) : sProp 𝕄) ⊢ iprop(∃ f, a.view.loc c ↦{fullShare} f) := by
  unfold Holds
  iintro ⟨%X, %f, -, H⟩
  iexists f
  iexact H

/-- THE TILE, of a body that runs from its arrays' parts (`Ip`, kept, and `I0`, left at `I1`), its three buffers held and its four counters
    at zero. -/
theorem tile_of (hF : (K (F := F)).Facts) {prog : Prog (TpuEff nD τ sig (Elt F) Λ₀ (V d c s).2) PUnit} {Ip I0 I1 J0 J1 : sProp 𝕄}
    (A B : Memref sig Kind.scVector .vmem S128x128 .i32) (C' : Memref sig Kind.scVector .vmem S144 .f32) (b : Fin 3 → Ref sig .scVector) (x : Fin 4 → DmaSem sig)
    (hb : Function.Injective b) (ho : ∀ i, (bufOf c s (b i)).owner = .proc (Proc.scVector c s))
    (hx : Function.Injective x) (hs : ∀ i, (SemLoc.dma (x i) : SemLoc sig).isScoped .scVector = true)
    (eA : AnyBuf (F := F) d c s (b 0) = iprop(∃ f, A.view.loc (V d c s) ↦{fullShare} f))
    (eB : AnyBuf (F := F) d c s (b 1) = iprop(∃ f, B.view.loc (V d c s) ↦{fullShare} f))
    (eC : AnyBuf (F := F) d c s (b 2) = iprop(∃ f, C'.view.loc (V d c s) ↦{fullShare} f))
    (hI : J0 ⊢ I0) (hJ : I1 ⊢ J1)
    (O : CellTallies nD τ sig (HIx 4)) (W : Waits sig (HIx 4)) (hO : ∀ g, O g none = 0)
    (hbody : iprop(Transfers.MayWaits (V d c s) (default : HIx 4) O ∗ Ip ∗ I0
        ∗ (∃ X, Holds (F := F) (V d c s) A fullShare X) ∗ (∃ X, Holds (F := F) (V d c s) B fullShare X) ∗ (∃ X, Holds (F := F) (V d c s) C' fullShare X)
        ∗ semVal (cell d c s (x 0)) 0 ∗ semVal (cell d c s (x 1)) 0 ∗ semVal (cell d c s (x 2)) 0 ∗ semVal (cell d c s (x 3)) 0
        ∗ Owing (V d c s) O W)
      ⊢ wp frame (wpE (defs₀ (F := F)) 𝒱₀ (V d c s) none) Set.univ prog
          fun _ => iprop(Ip ∗ I1
            ∗ (∃ X, Holds (F := F) (V d c s) A fullShare X) ∗ (∃ X, Holds (F := F) (V d c s) B fullShare X) ∗ (∃ X, Holds (F := F) (V d c s) C' fullShare X)
            ∗ semVal (cell d c s (x 0)) 0 ∗ semVal (cell d c s (x 1)) 0 ∗ semVal (cell d c s (x 2)) 0 ∗ semVal (cell d c s (x 3)) 0
            ∗ Owing (V d c s) O W)) :
    iprop((levAts (K (F := F)).L (K (F := F)).lev : sProp 𝕄) ∗ emp ∗ (Ip ∗ J0)
        ∗ scopedBufs (V d c s) ∗ scopedSems0 (V d c s) ∗ (owes (V d c s) O W : sProp 𝕄))
      ⊢ wp frame (wpE (defs₀ (F := F)) 𝒱₀ (V d c s) none) Set.univ prog
          fun _ => iprop((Ip ∗ J1) ∗ scopedBufs (V d c s) ∗ scopedSems0 (V d c s)
            ∗ ∃ W', ⌜∀ p ∈ W', p ∈ W ∨ p.2 = none⌝ ∗ owes (V d c s) O W') := by
  obtain ⟨RS, hRS⟩ := ownSems0_V (F := F) d c s x hx hs
  obtain ⟨RB, hRB⟩ := ownBufs_V (F := F) d c s b hb ho
  rw [(K (F := F)).scopedBufs_V hF d c s, SparseCore.Cfg.scopedSems0_V (Val := Elt F) d c s, hRS, hRB, eA, eB, eC]
  iintro ⟨#Hlv, -, ⟨Hp, HJ⟩, ⟨Ha, Hb, Hc, Hbufs⟩, ⟨Hs0, Hs1, Hs2, Hs3, Hsems⟩, HO⟩
  ihave Hmw := (show levAts (K (F := F)).L (K (F := F)).lev ⊢ Transfers.MayWaits (V d c s) (default : HIx 4) O from
    (K (F := F)).mayWaits_none (thr := V d c s) hO) $$ Hlv
  iapply (wp_wand frame (wpE (defs₀ (F := F)) 𝒱₀ (V d c s) none) Set.univ) $$ [Hmw Hp HJ Ha Hb Hc Hs0 Hs1 Hs2 Hs3 HO]
  · iapply hbody
    isplitl [Hmw]; · iexact Hmw
    isplitl [Hp]; · iexact Hp
    isplitl [HJ]; · iapply hI; iexact HJ
    isplitl [Ha]; · iapply (holds_of (c := V d c s) A); iexact Ha
    isplitl [Hb]; · iapply (holds_of (c := V d c s) B); iexact Hb
    isplitl [Hc]; · iapply (holds_of (c := V d c s) C'); iexact Hc
    isplitl [Hs0]; · iexact Hs0
    isplitl [Hs1]; · iexact Hs1
    isplitl [Hs2]; · iexact Hs2
    isplitl [Hs3]; · iexact Hs3
    unfold Owing
    iexists W
    isplitr
    · ipureintro; exact fun p hp => .inl hp
    · iexact HO
  iintro %u ⟨Hp, HI, Ha, Hb, Hc, Hs0, Hs1, Hs2, Hs3, HO⟩
  isplitl [Hp HI]
  · isplitl [Hp]; · iexact Hp
    iapply hJ; iexact HI
  isplitl [Ha Hb Hc Hbufs]
  · isplitl [Ha]; · iapply (of_holds (c := V d c s) A); iexact Ha
    isplitl [Hb]; · iapply (of_holds (c := V d c s) B); iexact Hb
    isplitl [Hc]; · iapply (of_holds (c := V d c s) C'); iexact Hc
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  unfold Owing
  iexact HO

end Tile

end Cert.Proof.Hist
-- ==== Proof.Calls.lean ====
/-
  THE TILES. Each call's tile obligation: its body is one of two, its arrays are whole, and its block of the result is
  the rows it writes.
-/
module

public import proofs.«01_k».proof.Proof.Own

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-- An index of a tile's block, by its row and word. -/
theorem tileRows_ix {R n : ℕ} (hn : 0 < n) {k : Fin 2 × Fin 16} {b : ℕ} (hb : b = n * (2 * k.2.val + k.1.val)) (y : (SO R).Idx) (hy : y ∈ tileRows n k) :
    ∃ (r : Fin R) (j : Fin 144), b ≤ r.val ∧ r.val < b + n ∧ (ix2 r j : (SO R).Idx) = y := by
  have h := (Nat.div_eq_iff hn).mp (mem_tileRows.mp hy)
  refine ⟨y 0, y 1, ?_, ?_, ?_⟩
  · rw [hb]; have := h.1; rw [Nat.mul_comm]; exact this
  · rw [hb, Nat.mul_comm]; have := h.2; omega
  · funext a
    match a with
    | ⟨0, _⟩ => rfl
    | ⟨1, _⟩ => rfl

theorem mem_tileRows_of {R n : ℕ} (hn : 0 < n) {k : Fin 2 × Fin 16} {b : ℕ} (hb : b = n * (2 * k.2.val + k.1.val)) (y : (SO R).Idx) (h : b ≤ (y 0).val)
    (h' : (y 0).val < b + n) : y ∈ tileRows n k := by
  rw [mem_tileRows, Nat.div_eq_iff hn, Nat.mul_comm, ← hb]
  omega

section Block

variable {c : Thread nD τ} {R : ℕ} {Om : Memref sig c.2.kind .hbm (SO R) .f32} {I : Finset (Idx (Om.view.loc c))} {b n : ℕ}

omit [FloatOps F] in
theorem inBlock_of (hI : ∀ y : (SO R).Idx, b ≤ (y 0).val → (y 0).val < b + n → Om.view.emb y ∈ I) : InBlock Om I b n := by
  intro r off inb hoff hr
  subst hoff
  have e : (orow Om ![b + r, 0] inb).view.set = (Rect.unit (s := SO R) ![b + r, 0] S1x144.size inb).set.map Om.view.emb := by
    show ((Om.view.slice (Rect.unit (s := SO R) ![b + r, 0] S1x144.size inb)).reshape S144 squeezes_S1x144_S144.numel_eq).set = _
    rw [View.set_reshape, View.set_slice]
  rw [e]
  intro y hy
  obtain ⟨x, hx, rfl⟩ := Finset.mem_map.mp hy
  have h0 := Rect.mem_set_unit.mp hx 0
  have h1 : b + r ≤ (x 0).val := h0.1
  have h2 : (x 0).val < b + r + 1 := h0.2
  exact hI x (by omega) (by omega)

/-- A block with no row done, and one with all. -/
theorem outHeld_none (Xp : (SP R).Idx → BitVec 32) (g : Buf (Elt F) (Om.view.loc c)) :
    (Om.view.loc c ↦[I]{fullShare} g : sProp 𝕄) ⊢ OutHeld (F := F) c Om I Xp b 0 := by
  unfold OutHeld
  iintro H
  iexists g
  isplitr
  · ipureintro; intro r j h h'; omega
  · iexact H

theorem outHeld_all (Xp : (SP R).Idx → BitVec 32) (w : Buf (Elt F) (Om.view.loc c))
    (hI : ∀ y ∈ I, ∃ (r : Fin R) (j : Fin 144), b ≤ r.val ∧ r.val < b + n ∧ Om.view.emb (ix2 r j) = y)
    (hw : ∀ (r : Fin R) (j : Fin 144), Om.view.read (Elt F) w (ix2 r j) = histOf (F := F) Xp (ix2 r j)) :
    OutHeld (F := F) c Om I Xp b n ⊢ (Om.view.loc c ↦[I]{fullShare} w : sProp 𝕄) := by
  unfold OutHeld
  iintro ⟨%g, %hg, H⟩
  have hc : ∀ y ∈ I, g y = w y := by
    intro y hy
    obtain ⟨r, j, h1, h2, rfl⟩ := hI y hy
    have h := (hg r j h1 h2).trans (hw r j).symm
    rw [View.read_apply, View.read_apply] at h
    simpa using h
  iapply (Entails.of_eq (pointsTo_congr (ℓ := Om.view.loc c) (q := fullShare) hc))
  iexact H

end Block

/-- A tile of ten rows. -/
theorem ten_tile (hF : (K (F := F)).Facts) (d : Dev nD) (L : grid0.Coords)
    {P : Memref sig Kind.scVector .hbm S320x128x128 .i32} (hP : P.IsWhole) {Om : Memref sig Kind.scVector .hbm S320x144 .f32} (hOm : Om.IsWhole)
    {A B : Memref sig Kind.scVector .vmem S128x128 .i32} (hA : A.IsWhole) (hB : B.IsWhole) {C' : Memref sig Kind.scVector .vmem S144 .f32} (hC : C'.IsWhole)
    (b : Fin 3 → Ref sig .scVector) (sa sb s0 s1 : DmaSems sig S_)
    (hb : Function.Injective b) (ho : ∀ i, (bufOf (cV L) (jV L) (b i)).owner = .proc (Proc.scVector (cV L) (jV L)))
    (hx : Function.Injective ![sa.sem, sb.sem, s0.sem, s1.sem]) (hs : ∀ i, (SemLoc.dma (![sa.sem, sb.sem, s0.sem, s1.sem] i) : SemLoc sig).isScoped .scVector = true)
    (eA : AnyBuf (F := F) d (cV L) (jV L) (b 0) = iprop(∃ f, A.view.loc (tl d L) ↦{fullShare} f))
    (eB : AnyBuf (F := F) d (cV L) (jV L) (b 1) = iprop(∃ f, B.view.loc (tl d L) ↦{fullShare} f))
    (eC : AnyBuf (F := F) d (cV L) (jV L) (b 2) = iprop(∃ f, C'.view.loc (tl d L) ↦{fullShare} f))
    (fp : Buf (Elt F) (P.view.loc (tl d L))) (g w : Buf (Elt F) (Om.view.loc (tl d L))) (I : Finset (Idx (Om.view.loc (tl d L))))
    (hp : CodesOK (R := 320) (P.view.read (Elt F) fp))
    (hI : ∀ y : (SO 320).Idx, base L ≤ (y 0).val → (y 0).val < base L + 10 → Om.view.emb y ∈ I)
    (hI' : ∀ y ∈ I, ∃ (r : Fin 320) (j : Fin 144), base L ≤ r.val ∧ r.val < base L + 10 ∧ Om.view.emb (ix2 r j) = y)
    (hw : ∀ (r : Fin 320) (j : Fin 144), Om.view.read (Elt F) w (ix2 r j) = histOf (F := F) (R := 320) (P.view.read (Elt F) fp) (ix2 r j))
    (q : PosShare TreeShare) (O : CellTallies nD τ sig (HIx 4)) (W : Waits sig (HIx 4)) (hO : ∀ g, O g none = 0) :
    iprop((levAts (K (F := F)).L (K (F := F)).lev : sProp 𝕄) ∗ emp
        ∗ ((P.view.loc (tl d L) ↦[Finset.univ]{q} fp) ∗ (Om.view.loc (tl d L) ↦[I]{fullShare} g))
        ∗ scopedBufs (tl d L) ∗ scopedSems0 (tl d L) ∗ (owes (tl d L) O W : sProp 𝕄))
      ⊢ wp frame (wpE (defs₀ (F := F)) 𝒱₀ (tl d L) none) Set.univ (cc0__sc_hist_body L P hP Om hOm A hA B hB C' hC sa sb s0 s1)
          fun _ => iprop(((P.view.loc (tl d L) ↦[Finset.univ]{q} fp) ∗ (Om.view.loc (tl d L) ↦[I]{fullShare} w))
            ∗ scopedBufs (tl d L) ∗ scopedSems0 (tl d L)
            ∗ ∃ W', ⌜∀ p ∈ W', p ∈ W ∨ p.2 = none⌝ ∗ owes (tl d L) O W') :=
  tile_of d (cV L) (jV L) hF A B C' b ![sa.sem, sb.sem, s0.sem, s1.sem] hb ho hx hs eA eB eC
    (outHeld_none (c := tl d L) (R := 320) (P.view.read (Elt F) fp) g)
    (outHeld_all (c := tl d L) (R := 320) (P.view.read (Elt F) fp) w hI' hw) O W hO
    (wp_ten d L hP hOm hA hB hC sa sb s0 s1 fp I O W hp (inBlock_of (c := tl d L) hI) q)

/-- A tile of two rows. -/
theorem two_tile (hF : (K (F := F)).Facts) (d : Dev nD) (L : grid3.Coords)
    {P : Memref sig Kind.scVector .hbm S64x128x128 .i32} (hP : P.IsWhole) {Om : Memref sig Kind.scVector .hbm S64x144 .f32} (hOm : Om.IsWhole)
    {A B : Memref sig Kind.scVector .vmem S128x128 .i32} (hA : A.IsWhole) (hB : B.IsWhole) {C' : Memref sig Kind.scVector .vmem S144 .f32} (hC : C'.IsWhole)
    (b : Fin 3 → Ref sig .scVector) (sa sb s0 s1 : DmaSems sig S_)
    (hb : Function.Injective b) (ho : ∀ i, (bufOf (cV L) (jV L) (b i)).owner = .proc (Proc.scVector (cV L) (jV L)))
    (hx : Function.Injective ![sa.sem, sb.sem, s0.sem, s1.sem]) (hs : ∀ i, (SemLoc.dma (![sa.sem, sb.sem, s0.sem, s1.sem] i) : SemLoc sig).isScoped .scVector = true)
    (eA : AnyBuf (F := F) d (cV L) (jV L) (b 0) = iprop(∃ f, A.view.loc (tl d L) ↦{fullShare} f))
    (eB : AnyBuf (F := F) d (cV L) (jV L) (b 1) = iprop(∃ f, B.view.loc (tl d L) ↦{fullShare} f))
    (eC : AnyBuf (F := F) d (cV L) (jV L) (b 2) = iprop(∃ f, C'.view.loc (tl d L) ↦{fullShare} f))
    (fp : Buf (Elt F) (P.view.loc (tl d L))) (g w : Buf (Elt F) (Om.view.loc (tl d L))) (I : Finset (Idx (Om.view.loc (tl d L))))
    (hp : CodesOK (R := 64) (P.view.read (Elt F) fp))
    (hI : ∀ y : (SO 64).Idx, base2 L ≤ (y 0).val → (y 0).val < base2 L + 2 → Om.view.emb y ∈ I)
    (hI' : ∀ y ∈ I, ∃ (r : Fin 64) (j : Fin 144), base2 L ≤ r.val ∧ r.val < base2 L + 2 ∧ Om.view.emb (ix2 r j) = y)
    (hw : ∀ (r : Fin 64) (j : Fin 144), Om.view.read (Elt F) w (ix2 r j) = histOf (F := F) (R := 64) (P.view.read (Elt F) fp) (ix2 r j))
    (q : PosShare TreeShare) (O : CellTallies nD τ sig (HIx 4)) (W : Waits sig (HIx 4)) (hO : ∀ g, O g none = 0) :
    iprop((levAts (K (F := F)).L (K (F := F)).lev : sProp 𝕄) ∗ emp
        ∗ ((P.view.loc (tl d L) ↦[Finset.univ]{q} fp) ∗ (Om.view.loc (tl d L) ↦[I]{fullShare} g))
        ∗ scopedBufs (tl d L) ∗ scopedSems0 (tl d L) ∗ (owes (tl d L) O W : sProp 𝕄))
      ⊢ wp frame (wpE (defs₀ (F := F)) 𝒱₀ (tl d L) none) Set.univ (cc3__sc_hist_body L P hP Om hOm A hA B hB C' hC sa sb s0 s1)
          fun _ => iprop(((P.view.loc (tl d L) ↦[Finset.univ]{q} fp) ∗ (Om.view.loc (tl d L) ↦[I]{fullShare} w))
            ∗ scopedBufs (tl d L) ∗ scopedSems0 (tl d L)
            ∗ ∃ W', ⌜∀ p ∈ W', p ∈ W ∨ p.2 = none⌝ ∗ owes (tl d L) O W') :=
  tile_of d (cV L) (jV L) hF A B C' b ![sa.sem, sb.sem, s0.sem, s1.sem] hb ho hx hs eA eB eC
    (outHeld_none (c := tl d L) (R := 64) (P.view.read (Elt F) fp) g)
    (outHeld_all (c := tl d L) (R := 64) (P.view.read (Elt F) fp) w hI' hw) O W hO
    (wp_two d L hP hOm hA hB hC sa sb s0 s1 fp I O W hp (inBlock_of (c := tl d L) hI) q)

/-! ## The obligations -/

/-- The coordinates of the tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Call 0's tile, from its parts of the call's arrays. -/
theorem tile0 (hF : (K (F := F)).Facts) (hpre : PreOK m) (d : Dev nD) (L : grid0.Coords) (q : PosShare TreeShare)
    (O : CellTallies nD τ sig (HIx 4)) (W : Waits sig (HIx 4)) (hO : ∀ g, O g none = 0) :
    iprop((levAts (K (F := F)).L (K (F := F)).lev : sProp 𝕄) ∗ emp
        ∗ ((pLoc d 0 ↦[Finset.univ]{q} m (pLoc d 0)) ∗ (oLoc d 0 ↦[(arr d 0).rows (L 0, L 1)]{fullShare} m (oLoc d 0)))
        ∗ scopedBufs (tl d L) ∗ scopedSems0 (tl d L) ∗ (owes (tl d L) O W : sProp 𝕄))
      ⊢ wp frame (wpE (defs₀ (F := F)) 𝒱₀ (tl d L) none) Set.univ (cc0__sc_hist_body L (Memref.whole main_arg0_scv) (Memref.isWhole_whole _) (Memref.whole main_v0_scv) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scoped0 cc0_scoped1)
          fun _ => iprop(((pLoc d 0 ↦[Finset.univ]{q} m (pLoc d 0)) ∗ (oLoc d 0 ↦[(arr d 0).rows (L 0, L 1)]{fullShare} want m d 0))
            ∗ scopedBufs (tl d L) ∗ scopedSems0 (tl d L)
            ∗ ∃ W', ⌜∀ p ∈ W', p ∈ W ∨ p.2 = none⌝ ∗ owes (tl d L) O W') :=
  ten_tile hF d L (P := Memref.whole main_arg0_scv) (Memref.isWhole_whole _) (Om := Memref.whole main_v0_scv) (Memref.isWhole_whole _)
    (A := Memref.whole cc0_scratch0) (B := Memref.whole cc0_scratch1) (Memref.isWhole_whole _) (Memref.isWhole_whole _)
    (C' := Memref.whole cc0_scratch2) (Memref.isWhole_whole _) ![cc0_scratch0, cc0_scratch1, cc0_scratch2] cc0_scratch3 cc0_scratch4 cc0_scoped0 cc0_scoped1
    (by decide) (fun i => by fin_cases i <;> rfl) (by decide) (by decide) rfl rfl rfl (m (pLoc d 0)) (m (oLoc d 0)) (want m d 0)
    (tileRows (R := 320) 10 (L 0, L 1)) (hpre d).1
    (fun y h h' => mem_tileRows_of (by decide) (by show 20 * (L 1).val + 10 * (L 0).val = 10 * (2 * (L 1).val + (L 0).val); omega) y h h')
    (fun y hy => tileRows_ix (by decide) (by show 20 * (L 1).val + 10 * (L 0).val = 10 * (2 * (L 1).val + (L 0).val); omega) y hy) (fun _ _ => rfl) q O W hO

/-- Call 1's tile, from its parts of the call's arrays. -/
theorem tile1 (hF : (K (F := F)).Facts) (hpre : PreOK m) (d : Dev nD) (L : grid0.Coords) (q : PosShare TreeShare)
    (O : CellTallies nD τ sig (HIx 4)) (W : Waits sig (HIx 4)) (hO : ∀ g, O g none = 0) :
    iprop((levAts (K (F := F)).L (K (F := F)).lev : sProp 𝕄) ∗ emp
        ∗ ((pLoc d 1 ↦[Finset.univ]{q} m (pLoc d 1)) ∗ (oLoc d 1 ↦[(arr d 1).rows (L 0, L 1)]{fullShare} m (oLoc d 1)))
        ∗ scopedBufs (tl d L) ∗ scopedSems0 (tl d L) ∗ (owes (tl d L) O W : sProp 𝕄))
      ⊢ wp frame (wpE (defs₀ (F := F)) 𝒱₀ (tl d L) none) Set.univ (cc1__sc_hist_body L (Memref.whole main_arg1_scv) (Memref.isWhole_whole _) (Memref.whole main_v1_scv) (Memref.isWhole_whole _)
        (Memref.whole cc1_scratch0) (Memref.isWhole_whole _) (Memref.whole cc1_scratch1) (Memref.isWhole_whole _)
        (Memref.whole cc1_scratch2) (Memref.isWhole_whole _) cc1_scratch3 cc1_scratch4 cc1_scoped0 cc1_scoped1)
          fun _ => iprop(((pLoc d 1 ↦[Finset.univ]{q} m (pLoc d 1)) ∗ (oLoc d 1 ↦[(arr d 1).rows (L 0, L 1)]{fullShare} want m d 1))
            ∗ scopedBufs (tl d L) ∗ scopedSems0 (tl d L)
            ∗ ∃ W', ⌜∀ p ∈ W', p ∈ W ∨ p.2 = none⌝ ∗ owes (tl d L) O W') :=
  ten_tile hF d L (P := Memref.whole main_arg1_scv) (Memref.isWhole_whole _) (Om := Memref.whole main_v1_scv) (Memref.isWhole_whole _)
    (A := Memref.whole cc1_scratch0) (B := Memref.whole cc1_scratch1) (Memref.isWhole_whole _) (Memref.isWhole_whole _)
    (C' := Memref.whole cc1_scratch2) (Memref.isWhole_whole _) ![cc1_scratch0, cc1_scratch1, cc1_scratch2] cc1_scratch3 cc1_scratch4 cc1_scoped0 cc1_scoped1
    (by decide) (fun i => by fin_cases i <;> rfl) (by decide) (by decide) rfl rfl rfl (m (pLoc d 1)) (m (oLoc d 1)) (want m d 1)
    (tileRows (R := 320) 10 (L 0, L 1)) (hpre d).2.1
    (fun y h h' => mem_tileRows_of (by decide) (by show 20 * (L 1).val + 10 * (L 0).val = 10 * (2 * (L 1).val + (L 0).val); omega) y h h')
    (fun y hy => tileRows_ix (by decide) (by show 20 * (L 1).val + 10 * (L 0).val = 10 * (2 * (L 1).val + (L 0).val); omega) y hy) (fun _ _ => rfl) q O W hO

/-- Call 2's tile, from its parts of the call's arrays. -/
theorem tile2 (hF : (K (F := F)).Facts) (hpre : PreOK m) (d : Dev nD) (L : grid0.Coords) (q : PosShare TreeShare)
    (O : CellTallies nD τ sig (HIx 4)) (W : Waits sig (HIx 4)) (hO : ∀ g, O g none = 0) :
    iprop((levAts (K (F := F)).L (K (F := F)).lev : sProp 𝕄) ∗ emp
        ∗ ((pLoc d 2 ↦[Finset.univ]{q} m (pLoc d 2)) ∗ (oLoc d 2 ↦[(arr d 2).rows (L 0, L 1)]{fullShare} m (oLoc d 2)))
        ∗ scopedBufs (tl d L) ∗ scopedSems0 (tl d L) ∗ (owes (tl d L) O W : sProp 𝕄))
      ⊢ wp frame (wpE (defs₀ (F := F)) 𝒱₀ (tl d L) none) Set.univ (cc2__sc_hist_body L (Memref.whole main_arg2_scv) (Memref.isWhole_whole _) (Memref.whole main_v2_scv) (Memref.isWhole_whole _)
        (Memref.whole cc2_scratch0) (Memref.isWhole_whole _) (Memref.whole cc2_scratch1) (Memref.isWhole_whole _)
        (Memref.whole cc2_scratch2) (Memref.isWhole_whole _) cc2_scratch3 cc2_scratch4 cc2_scoped0 cc2_scoped1)
          fun _ => iprop(((pLoc d 2 ↦[Finset.univ]{q} m (pLoc d 2)) ∗ (oLoc d 2 ↦[(arr d 2).rows (L 0, L 1)]{fullShare} want m d 2))
            ∗ scopedBufs (tl d L) ∗ scopedSems0 (tl d L)
            ∗ ∃ W', ⌜∀ p ∈ W', p ∈ W ∨ p.2 = none⌝ ∗ owes (tl d L) O W') :=
  ten_tile hF d L (P := Memref.whole main_arg2_scv) (Memref.isWhole_whole _) (Om := Memref.whole main_v2_scv) (Memref.isWhole_whole _)
    (A := Memref.whole cc2_scratch0) (B := Memref.whole cc2_scratch1) (Memref.isWhole_whole _) (Memref.isWhole_whole _)
    (C' := Memref.whole cc2_scratch2) (Memref.isWhole_whole _) ![cc2_scratch0, cc2_scratch1, cc2_scratch2] cc2_scratch3 cc2_scratch4 cc2_scoped0 cc2_scoped1
    (by decide) (fun i => by fin_cases i <;> rfl) (by decide) (by decide) rfl rfl rfl (m (pLoc d 2)) (m (oLoc d 2)) (want m d 2)
    (tileRows (R := 320) 10 (L 0, L 1)) (hpre d).2.2.1
    (fun y h h' => mem_tileRows_of (by decide) (by show 20 * (L 1).val + 10 * (L 0).val = 10 * (2 * (L 1).val + (L 0).val); omega) y h h')
    (fun y hy => tileRows_ix (by decide) (by show 20 * (L 1).val + 10 * (L 0).val = 10 * (2 * (L 1).val + (L 0).val); omega) y hy) (fun _ _ => rfl) q O W hO

/-- Call 3's tile, from its parts of the call's arrays. -/
theorem tile3 (hF : (K (F := F)).Facts) (hpre : PreOK m) (d : Dev nD) (L : grid3.Coords) (q : PosShare TreeShare)
    (O : CellTallies nD τ sig (HIx 4)) (W : Waits sig (HIx 4)) (hO : ∀ g, O g none = 0) :
    iprop((levAts (K (F := F)).L (K (F := F)).lev : sProp 𝕄) ∗ emp
        ∗ ((pLoc d 3 ↦[Finset.univ]{q} m (pLoc d 3)) ∗ (oLoc d 3 ↦[(arr d 3).rows (L 0, L 1)]{fullShare} m (oLoc d 3)))
        ∗ scopedBufs (tl d L) ∗ scopedSems0 (tl d L) ∗ (owes (tl d L) O W : sProp 𝕄))
      ⊢ wp frame (wpE (defs₀ (F := F)) 𝒱₀ (tl d L) none) Set.univ (cc3__sc_hist_body L (Memref.whole main_arg3_scv) (Memref.isWhole_whole _) (Memref.whole main_v3_scv) (Memref.isWhole_whole _)
        (Memref.whole cc3_scratch0) (Memref.isWhole_whole _) (Memref.whole cc3_scratch1) (Memref.isWhole_whole _)
        (Memref.whole cc3_scratch2) (Memref.isWhole_whole _) cc3_scratch3 cc3_scratch4 cc3_scoped0 cc3_scoped1)
          fun _ => iprop(((pLoc d 3 ↦[Finset.univ]{q} m (pLoc d 3)) ∗ (oLoc d 3 ↦[(arr d 3).rows (L 0, L 1)]{fullShare} want m d 3))
            ∗ scopedBufs (tl d L) ∗ scopedSems0 (tl d L)
            ∗ ∃ W', ⌜∀ p ∈ W', p ∈ W ∨ p.2 = none⌝ ∗ owes (tl d L) O W') :=
  two_tile hF d L (P := Memref.whole main_arg3_scv) (Memref.isWhole_whole _) (Om := Memref.whole main_v3_scv) (Memref.isWhole_whole _)
    (A := Memref.whole cc3_scratch0) (B := Memref.whole cc3_scratch1) (Memref.isWhole_whole _) (Memref.isWhole_whole _)
    (C' := Memref.whole cc3_scratch2) (Memref.isWhole_whole _) ![cc3_scratch0, cc3_scratch1, cc3_scratch2] cc3_scratch3 cc3_scratch4 cc3_scoped0 cc3_scoped1
    (by decide) (fun i => by fin_cases i <;> rfl) (by decide) (by decide) rfl rfl rfl (m (pLoc d 3)) (m (oLoc d 3)) (want m d 3)
    (tileRows (R := 64) 2 (L 0, L 1)) (hpre d).2.2.2
    (fun y h h' => mem_tileRows_of (by decide) (by show 4 * (L 1).val + 2 * (L 0).val = 2 * (2 * (L 1).val + (L 0).val); omega) y h h')
    (fun y hy => tileRows_ix (by decide) (by show 4 * (L 1).val + 2 * (L 0).val = 2 * (2 * (L 1).val + (L 0).val); omega) y hy) (fun _ _ => rfl) q O W hO

/-- A body lifted into the program's table runs as it does over the kernels' own. -/
theorem lift_of {thr : Thread nD τ} {p p' : Prog (TpuEff nD τ sig (Elt F) Λ₀ thr.2) PUnit} (h : p' = p) (Φ : sProp 𝕄) :
    wp frame (wpE (defs₀ (F := F)) 𝒱₀ thr none) Set.univ p (fun _ => Φ)
      ⊢ wp frame (wpE (D (F := F)) 𝒱 thr (some v₀)) Set.univ (Pipeline.liftProg p') fun _ => Φ :=
  h ▸ Pipeline.wp_liftProg (D (F := F)) (Pipeline.defs_kernel pcfgs defs₀) 𝒱₀ _ Set.univ none _ _

/-- A call's obligation, from its tile's over the kernels' own table. -/
theorem obl_of (q : Fin 4) (prog : (c : Fin ((K (F := F)).nCore q)) → (i : Fin ((K (F := F)).nSub q)) → Prog (TpuEff nD τ sig (Elt F) Λ₀ (.scVector ((K (F := F)).core q c) ((K (F := F)).sub q i))) PUnit)
    (hprog : ∀ (d : Dev nD) c i (Φ : sProp 𝕄), wp frame (wpE (defs₀ (F := F)) 𝒱₀ (V d ((K (F := F)).core q c) ((K (F := F)).sub q i)) none) Set.univ (prog c i) (fun _ => Φ)
      ⊢ wp frame (wpE (D (F := F)) 𝒱 (V d ((K (F := F)).core q c) ((K (F := F)).sub q i)) (some v₀)) Set.univ
          (D (F := F) (.scVector ((K (F := F)).core q c) ((K (F := F)).sub q i)) ((K (F := F)).body q) ((K (F := F)).args q)) fun _ => Φ)
    (h : ∀ (d : Dev nD) c i (O : CellTallies nD τ sig (HIx 4)) (W : Waits sig (HIx 4)), (∀ g, O g none = 0) →
      iprop((levAts (K (F := F)).L (K (F := F)).lev : sProp 𝕄) ∗ emp ∗ goRes m q d c i ∗ scopedBufs (V d ((K (F := F)).core q c) ((K (F := F)).sub q i))
          ∗ scopedSems0 (V d ((K (F := F)).core q c) ((K (F := F)).sub q i)) ∗ (owes (V d ((K (F := F)).core q c) ((K (F := F)).sub q i)) O W : sProp 𝕄))
        ⊢ wp frame (wpE (defs₀ (F := F)) 𝒱₀ (V d ((K (F := F)).core q c) ((K (F := F)).sub q i)) none) Set.univ (prog c i)
            fun _ => iprop(tdRes m q d c i ∗ scopedBufs (V d ((K (F := F)).core q c) ((K (F := F)).sub q i)) ∗ scopedSems0 (V d ((K (F := F)).core q c) ((K (F := F)).sub q i))
              ∗ ∃ W', ⌜∀ p ∈ W', p ∈ W ∨ p.2 = none⌝ ∗ owes (V d ((K (F := F)).core q c) ((K (F := F)).sub q i)) O W')) :
    (K (F := F)).TileObl (D (F := F)) 𝒱 (P m) v₀ q := by
  intro d c i O W hO _ _
  simp only [show (P m).ox = fun _ _ => 0 from rfl, add_zero]
  exact ((h d c i O W hO).trans (wp_mono frame _ _ fun _ => obl_post)).trans (hprog d c i _)

theorem tileObl0 (hF : (K (F := F)).Facts) (hpre : PreOK m) : (K (F := F)).TileObl (D (F := F)) 𝒱 (P m) v₀ 0 :=
  obl_of m 0 (fun c i => cc0__sc_hist_body (coordsV c i) (Memref.whole main_arg0_scv) (Memref.isWhole_whole _) (Memref.whole main_v0_scv) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scoped0 cc0_scoped1)
    (fun d c i Φ => lift_of (thr := V d ((K (F := F)).core 0 c) ((K (F := F)).sub 0 i)) (p' := defs₀ (F := F) (.scVector ((K (F := F)).core 0 c) ((K (F := F)).sub 0 i)) 0 ()) (dif_pos (show c.val < grid0.bound 0 ∧ i.val < grid0.bound 1 from ⟨c.isLt, i.isLt⟩)) Φ)
    (fun d c i O W hO => tile0 m hF hpre d (coordsV c i) (piece 4 (piece 1 fullShare c) i) O W hO)

theorem tileObl1 (hF : (K (F := F)).Facts) (hpre : PreOK m) : (K (F := F)).TileObl (D (F := F)) 𝒱 (P m) v₀ 1 :=
  obl_of m 1 (fun c i => cc1__sc_hist_body (coordsV c i) (Memref.whole main_arg1_scv) (Memref.isWhole_whole _) (Memref.whole main_v1_scv) (Memref.isWhole_whole _)
      (Memref.whole cc1_scratch0) (Memref.isWhole_whole _) (Memref.whole cc1_scratch1) (Memref.isWhole_whole _)
      (Memref.whole cc1_scratch2) (Memref.isWhole_whole _) cc1_scratch3 cc1_scratch4 cc1_scoped0 cc1_scoped1)
    (fun d c i Φ => lift_of (thr := V d ((K (F := F)).core 1 c) ((K (F := F)).sub 1 i)) (p' := defs₀ (F := F) (.scVector ((K (F := F)).core 1 c) ((K (F := F)).sub 1 i)) 1 ()) (dif_pos (show c.val < grid1.bound 0 ∧ i.val < grid1.bound 1 from ⟨c.isLt, i.isLt⟩)) Φ)
    (fun d c i O W hO => tile1 m hF hpre d (coordsV c i) (piece 4 (piece 1 fullShare c) i) O W hO)

theorem tileObl2 (hF : (K (F := F)).Facts) (hpre : PreOK m) : (K (F := F)).TileObl (D (F := F)) 𝒱 (P m) v₀ 2 :=
  obl_of m 2 (fun c i => cc2__sc_hist_body (coordsV c i) (Memref.whole main_arg2_scv) (Memref.isWhole_whole _) (Memref.whole main_v2_scv) (Memref.isWhole_whole _)
      (Memref.whole cc2_scratch0) (Memref.isWhole_whole _) (Memref.whole cc2_scratch1) (Memref.isWhole_whole _)
      (Memref.whole cc2_scratch2) (Memref.isWhole_whole _) cc2_scratch3 cc2_scratch4 cc2_scoped0 cc2_scoped1)
    (fun d c i Φ => lift_of (thr := V d ((K (F := F)).core 2 c) ((K (F := F)).sub 2 i)) (p' := defs₀ (F := F) (.scVector ((K (F := F)).core 2 c) ((K (F := F)).sub 2 i)) 2 ()) (dif_pos (show c.val < grid2.bound 0 ∧ i.val < grid2.bound 1 from ⟨c.isLt, i.isLt⟩)) Φ)
    (fun d c i O W hO => tile2 m hF hpre d (coordsV c i) (piece 4 (piece 1 fullShare c) i) O W hO)

theorem tileObl3 (hF : (K (F := F)).Facts) (hpre : PreOK m) : (K (F := F)).TileObl (D (F := F)) 𝒱 (P m) v₀ 3 :=
  obl_of m 3 (fun c i => cc3__sc_hist_body (coordsV c i) (Memref.whole main_arg3_scv) (Memref.isWhole_whole _) (Memref.whole main_v3_scv) (Memref.isWhole_whole _)
      (Memref.whole cc3_scratch0) (Memref.isWhole_whole _) (Memref.whole cc3_scratch1) (Memref.isWhole_whole _)
      (Memref.whole cc3_scratch2) (Memref.isWhole_whole _) cc3_scratch3 cc3_scratch4 cc3_scoped0 cc3_scoped1)
    (fun d c i Φ => lift_of (thr := V d ((K (F := F)).core 3 c) ((K (F := F)).sub 3 i)) (p' := defs₀ (F := F) (.scVector ((K (F := F)).core 3 c) ((K (F := F)).sub 3 i)) 3 ()) (dif_pos (show c.val < grid3.bound 0 ∧ i.val < grid3.bound 1 from ⟨c.isLt, i.isLt⟩)) Φ)
    (fun d c i O W hO => tile3 m hF hpre d (coordsV c i) (piece 4 (piece 1 fullShare c) i) O W hO)

end Cert.Proof.Hist
-- ==== Proof.Region.lean ====
/-
  THE LAST STEP ON THE TENSORCORE. The collapse of the per-cell histograms into the result is one pipelined call without a
  grid: its array is fetched whole, its body stores one payload, its result is written back whole. Here are the layout
  facts, the proof data, the body and the segment the program's proof enters.
-/
module

public import proofs.«01_k».proof.Proof.Calls
public import Idealize.ShloMosaic.Lib.Pipeline.RegionArrays

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.ShloMosaic.Pipeline (BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-! ## Layout -/

/-- The call's staging semaphores. -/
abbrev semTab : Fin 1 → List (DmaSem sig) := fun | 0 => Pipeline.specSems spec4 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

theorem winFacts4 : Pipeline.WinFacts spec4 := by decide
theorem block_pos4 : ∀ w : Fin 2, 0 < (spec4 w).block.numel := by decide
theorem arr_whole4 : ∀ w : Fin 2, (spec4 w).arr.IsWhole :=
  fun | 0 => Memref.isWhole_whole _ | 1 => Memref.isWhole_whole _ | ⟨_ + 2, h⟩ => absurd h (Nat.not_lt.2 (Nat.le_add_left _ _))
theorem stage_whole4 : ∀ (w : Fin 2) (s : Fin (spec4 w).nbuf), ((spec4 w).stage s).IsWhole :=
  fun | 0 => fun | 0 => Memref.isWhole_whole _ | ⟨_ + 1, h⟩ => absurd h (Nat.not_lt.2 (Nat.le_add_left _ _))
      | 1 => fun | 0 => Memref.isWhole_whole _ | ⟨_ + 1, h⟩ => absurd h (Nat.not_lt.2 (Nat.le_add_left _ _))
      | ⟨_ + 2, h⟩ => absurd h (Nat.not_lt.2 (Nat.le_add_left _ _))
theorem launch4 : Pipeline.LaunchFacts (nD := nD) (τ := τ) cfgs 0 := ⟨cellOf_inj, winFacts4, block_pos4, arr_whole4, stage_whole4⟩

theorem N_4 : grid4.N = 1 := by decide
def t4 : Fin grid4.N := ⟨0, by rw [N_4]; decide⟩
theorem fin_N4 (t : Fin grid4.N) : t = t4 := by
  obtain ⟨t, ht⟩ := t; have := N_4; simp only [t4, Fin.mk.injEq]; omega
theorem bigSep_W4 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The pipeline's share of the ghost state. -/
abbrev EP : Emb UP (MT nD τ sig (HIx 4) (Elt F) ℕ UU ℕ) := (Emb.inl : Emb UP (UP × Counters)).trans embR

variable [FloatOps F]

/-! ## The value and the proof data -/

/-- What the body stores: the result from the per-cell histograms. -/
def collapse (h : Vec F S1024x144 .f32) : Vec F S4x1x336x9 .f32 := k4_pay4 (k4_pay1 h) (k4_pay2 h) (k4_pay3 h)

abbrev adm : (p : Fin 1) → (pcfgs (F := F) p).Adm := fun p => (cfgs p).toPCfg_adm

/-- The proof data: the histograms `h` and a result array at `o`; the body leaves the first and puts the result. -/
def dat4 (h : Dev nD → Vec F S1024x144 .f32) (o : Dev nD → Vec F S4x1x336x9 .f32) (c : Dev nD) : Pipeline.Dat τ (Elt F) (HIx 4) ℕ UU ℕ cfg4 c where
  A w := match w with
    | ⟨0, _⟩ => h c
    | ⟨1, _⟩ => o c
  after w _ := match w with
    | ⟨0, _⟩ => h c
    | ⟨1, _⟩ => collapse (h c)
  Φ _ := Pipeline.scopedRest (Ix := HIx 4) (Name := ℕ) (U := UU) (Lvl := ℕ) (Val := Elt F) spec4 c
  q _ := fullShare
  owed _ := 0

def pdats (h : Dev nD → Vec F S1024x144 .f32) (o : Dev nD → Vec F S4x1x336x9 .f32) :
    (p : Fin 1) → (c : Dev nD) → Pipeline.Dat τ (Elt F) (HIx 4) ℕ UU ℕ (Pipeline.pin (pcfgs (F := F)) adm p) c
  | 0 => dat4 h o

/-- The histograms' one block is the array. -/
theorem read_blk0 (c : Dev nD) (f : Vec F S1024x144 .f32) : (win4_0.blk t4).view.read (Elt F) f = f := by
  funext i
  show f _ = f i
  congr 1
  funext a
  apply Fin.ext
  refine (Pipeline.Window.rect_emb_val _ _ _ _).trans ?_
  fin_cases a <;> simp [Pipeline.Window.index]

/-- The result's one block is the array. -/
theorem read_blk1 (c : Dev nD) (f : Vec F S4x1x336x9 .f32) : (win4_1.blk t4).view.read (Elt F) f = f := by
  funext i
  show f _ = f i
  congr 1
  funext a
  apply Fin.ext
  refine (Pipeline.Window.rect_emb_val _ _ _ _).trans ?_
  fin_cases a <;> simp [Pipeline.Window.index]

/-! ## The body -/

theorem before_in (h : Dev nD → Vec F S1024x144 .f32) (o : Dev nD → Vec F S4x1x336x9 .f32) (c : Dev nD)
    (d : (cfg4.win 0).block.Idx → Elt F (cfg4.win 0).elt) : (dat4 h o c).before 0 t4 d = h c := by
  unfold Pipeline.Dat.before; rw [if_pos (by decide +kernel)]; exact read_blk0 c (h c)

theorem put_all {α : Type} (w X : S4x1x336x9.Idx → α) :
    put (Rect.unit (s := S4x1x336x9) ![0, 0, 0, 0] S4x1x336x9.size inb_S4x1x336x9_S4x1x336x9_0_0_0_0) w X = w := by
  funext y
  have h := put_emb (Rect.unit (s := S4x1x336x9) ![0, 0, 0, 0] S4x1x336x9.size inb_S4x1x336x9_S4x1x336x9_0_0_0_0) w X y
  have e : (Rect.unit (s := S4x1x336x9) ![0, 0, 0, 0] S4x1x336x9.size inb_S4x1x336x9_S4x1x336x9_0_0_0_0).emb y = y := by
    funext a
    apply Fin.ext
    show (![0, 0, 0, 0] : Fin 4 → ℕ) a + 1 * (y a : ℕ) = y a
    fin_cases a <;> simp
  rwa [e] at h

theorem idx0 (X : Vec F S1024x144 .f32) : (fun x => X ((Rect.unit (s := S1024x144) ![0, 0] S1024x144.size inb_S1024x144_S1024x144_0_0).toLoadRect.idx x)) = X := by
  funext x
  refine congrArg X (funext fun a => Fin.ext ?_)
  show (![0, 0] : Fin 2 → ℕ) a + 1 * (x a : ℕ) = x a
  fin_cases a <;> simp

/-- The kernel over two whole buffers: it loads the first and stores the result in the second. -/
theorem wp_collapse (c : Dev nD) (X : Vec F S1024x144 .f32) (Y : Vec F S4x1x336x9 .f32) (Q : PUnit → sProp 𝕄) :
    iprop(Holds c.tc (stage4_0 0) fullShare X ∗ Holds c.tc (stage4_1 0) fullShare Y
        ∗ (Holds c.tc (stage4_0 0) fullShare X ∗ Holds c.tc (stage4_1 0) fullShare (collapse X) -∗ Q ⟨⟩))
      ⊢ wp frame (wpE (defs₀ (F := F)) 𝒱₀ c.tc none) Set.univ
          (cc4__collapse_norm_kernel (stage4_0 0) (hstage4_0 0) (stage4_1 0) (hstage4_1 0)) Q := by
  simp only [cc4__collapse_norm_kernel_eq_skeleton]
  unfold cc4__collapse_norm_kernel_skel
  simp only [k4_part1_eq_skeleton, k4_part2_eq_skeleton]
  unfold k4_part1_skel k4_part2_skel
  iintro ⟨H0, H1, Hk⟩
  iapply (wp_load_holds (defs := defs₀ (F := F)) c.tc (stage4_0 0) fullShare X) $$ H0
  iintro H0
  iapply (wp_load_holds (defs := defs₀ (F := F)) c.tc (stage4_1 0) fullShare Y) $$ H1
  iintro H1
  rw [idx0]
  iapply (wp_store_holds (defs := defs₀ (F := F)) c.tc (stage4_1 0) Y) $$ H1
  iintro H1
  rw [put_all]
  rw [show ((Prog.ret PUnit.unit).bind fun _ => Pure.pure PUnit.unit : Prog (TpuEff nD τ sig (Elt F) Λ₀ .tc) PUnit) = .ret ⟨⟩ from rfl, wp_ret]
  imodintro
  iapply Hk
  isplitl [H0]; · iexact H0
  iexact H1

/-- The body at its one point: the histograms fetched, the result stored. -/
theorem body4 (h : Dev nD → Vec F S1024x144 .f32) (o : Dev nD → Vec F S4x1x336x9 .f32) (c : Dev nD) :
    BodyObligation (dat4 h o c) (defs₀ (F := F)) 𝒱₀ none Set.univ := fun t => by
  obtain rfl := fin_N4 t
  rw [bigSep_W4, bigSep_W4]
  simp only [owns_whole_eq]
  rw [show (dat4 h o c).Φ t4.succ = (dat4 h o c).Φ t4.castSucc from rfl,
    show (dat4 h o c).owesAt none t4.succ = (dat4 h o c).owesAt none t4.castSucc from rfl]
  iintro ⟨HΦ, HO, ⟨%d0, %f0, %hf0, H0⟩, ⟨%d1, %f1, %hf1, H1⟩⟩
  rw [before_in] at hf0
  iapply (wp_collapse c (h c) f1)
  unfold Holds
  isplitl [H0]
  · iexists f0; isplitr
    · ipureintro; exact hf0
    · iexact H0
  isplitl [H1]
  · iexists f1; isplitr
    · ipureintro; rfl
    · iexact H1
  iintro ⟨⟨%g0, %e0, H0⟩, ⟨%g1, %e1, H1⟩⟩
  isplitl [HΦ]; · iexact HΦ
  isplitl [HO]; · iexact HO
  isplitl [H0]
  · iexists g0; isplitr
    · ipureintro; exact e0
    · iexact H0
  iexists g1; isplitr
  · ipureintro; exact e1
  · iexact H1

/-! ## The segment -/

variable (h : Dev nD → Vec F S1024x144 .f32) (o : Dev nD → Vec F S4x1x336x9 .f32)

/-- The histograms stay. -/
theorem final0 (c : Dev nD) : (dat4 h o c).arrAt 0 cfg4.N = h c := (dat4 h o c).arrAt_in 0 rfl _

/-- The result array ends at the collapse of the histograms. -/
theorem final1 (c : Dev nD) : (dat4 h o c).arrAt 1 cfg4.N = collapse (h c) := by
  refine (read_blk1 c _).symm.trans ?_
  rw [show cfg4.N = t4.val + 1 from N_4, (dat4 h o c).arrAt_succ (1 : Fin 2) t4]
  rw [show (cfg4.win (1 : Fin 2)).flush t4 = true from by decide +kernel, if_pos rfl]
  exact View.read_write_univ _ _

/-- The call's arrays after it: the result collapsed. -/
abbrev after4 (W : Valuation τ sig (Elt F)) : Valuation τ sig (Elt F) :=
  Function.update W (Proc.devRef .tc main_v5) (collapse (W (Proc.devRef .tc main_v4)))

abbrev L4 : GSem nD τ sig → Finset (HIx 4) := (K (F := F)).L
abbrev lv4 : GSem nD τ sig → HIx 4 → ℕ := (K (F := F)).lev

theorem cut4 : Pipeline.LevelCut (pcfgs (F := F)) adm (none : HIx 4) (L4 (F := F)) (lv4 (F := F)) 0 (fun _ => 0) (fun _ => 0) where
  hι _ _ _ := Finset.mem_univ _
  hιb _ _ _ := Nat.le_refl 0
  hD _ _ _ h := absurd h (Nat.lt_irrefl 0)

theorem loose4 (c : Dev nD) : Pipeline.BodyObligationLoose (pdats h o 0 c) (defs₀ (F := F)) 𝒱₀ none Set.univ := (body4 h o c).loose

theorem share4 (c : Dev nD) (w : Fin 2) : (pdats h o 0 c).share w = fullShare := by
  match w with
  | ⟨0, _⟩ => rfl
  | ⟨1, _⟩ => rfl

theorem enter4 (c : Dev nD) : iprop(Pipeline.scopedRest (Pipeline.pin (pcfgs (F := F)) adm 0).spec c ∗ emp) ⊢ (pdats h o 0 c).Φ 0 := by
  rw [show (pdats h o 0 c).Φ 0 = Pipeline.scopedRest (Pipeline.pin (pcfgs (F := F)) adm 0).spec c from rfl]
  iintro ⟨H, -⟩; iexact H

theorem leave4 (c : Dev nD) : (pdats h o 0 c).Φ (Fin.last (Pipeline.pin (pcfgs (F := F)) adm 0).N)
    ⊢ iprop(Pipeline.scopedRest (Pipeline.pin (pcfgs (F := F)) adm 0).spec c ∗ emp) := by
  rw [show (pdats h o 0 c).Φ (Fin.last _) = Pipeline.scopedRest (Pipeline.pin (pcfgs (F := F)) adm 0).spec c from rfl]
  iintro H; isplitl [H]; (· iexact H); iempintro

section Held

variable (W : Dev nD → Valuation τ sig (Elt F))

/-- The proof data at the valuation `W`. -/
abbrev datW : (p : Fin 1) → (c : Dev nD) → Pipeline.Dat τ (Elt F) (HIx 4) ℕ UU ℕ (Pipeline.pin (pcfgs (F := F)) adm p) c :=
  pdats (fun c => W c (Proc.devRef .tc main_v4)) (fun c => W c (Proc.devRef .tc main_v5))

theorem at_entry (c : Dev nD) (w : Fin 2) :
    (datW W 0 c).arrAt w 0 = W c (Proc.devRef .tc (Pipeline.arrRef (Pipeline.pin (pcfgs (F := F)) adm 0).spec w)) := by
  match w with
  | ⟨0, _⟩ => rfl
  | ⟨1, _⟩ => rfl

theorem after4_v4 (V : Valuation τ sig (Elt F)) : after4 V (Proc.devRef .tc main_v4) = V (Proc.devRef .tc main_v4) :=
  Function.update_of_ne (by decide) _ _

theorem after4_v5 (V : Valuation τ sig (Elt F)) : after4 V (Proc.devRef .tc main_v5) = collapse (V (Proc.devRef .tc main_v4)) :=
  Function.update_self _ _ _

theorem at_exit0 (c : Dev nD) : (datW W 0 c).arrAt 0 (Pipeline.pin (pcfgs (F := F)) adm 0).N = after4 (W c) (Proc.devRef .tc main_v4) := by
  rw [after4_v4]; exact final0 (fun c => W c (Proc.devRef .tc main_v4)) (fun c => W c (Proc.devRef .tc main_v5)) c

theorem at_exit1 (c : Dev nD) : (datW W 0 c).arrAt 1 (Pipeline.pin (pcfgs (F := F)) adm 0).N = after4 (W c) (Proc.devRef .tc main_v5) := by
  rw [after4_v5]; exact final1 (fun c => W c (Proc.devRef .tc main_v4)) (fun c => W c (Proc.devRef .tc main_v5)) c

theorem at_exit (c : Dev nD) (w : Fin 2) :
    (datW W 0 c).arrAt w (Pipeline.pin (pcfgs (F := F)) adm 0).N
      = after4 (W c) (Proc.devRef .tc (Pipeline.arrRef (Pipeline.pin (pcfgs (F := F)) adm 0).spec w)) := by
  match w with
  | ⟨0, _⟩ => exact at_exit0 W c
  | ⟨1, _⟩ => exact at_exit1 W c

/-- The segment: entered with the histograms and the result array at `W`, left with the result collapsed. -/
def seg : Pipeline.RegionSeg (pcfgs (F := F)) adm (datW W) (none : HIx 4) (defs₀ (F := F)) 𝒱₀ (L4 (F := F)) (lv4 (F := F)) 0 :=
  Pipeline.RegionSeg.ofHeld (pcfgs (F := F)) adm (datW W) (none : HIx 4) (defs₀ (F := F)) 𝒱₀ (L4 (F := F)) (lv4 (F := F)) 0
    (fun _ => 0) (fun _ => iprop(emp)) (fun _ => iprop(emp))
    launch4.toP rfl (loose4 _ _) (fun _ _ => rfl) (fun _ => rfl) (share4 _ _) (enter4 _ _) (leave4 _ _)
    (fun _ => 0) cut4 (fun _ => iprop(emp)) W (fun c => after4 (W c)) (at_entry W) (at_exit W)

end Held

end Cert.Proof.Hist
-- ==== Proof.Run.lean ====
/-
  THE PROGRAM. The four SparseCore calls one after another, each taking its packed array and leaving its histograms; the
  four results laid one under another; the collapse. Every run ends with the arguments as they were and the result the
  collapse of the four calls' histograms.
-/
module

public import proofs.«01_k».proof.Proof.Region

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The launch's ghost state -/

def u₀ : UU := (initOf (K (F := F)).hsCells (K (F := F)).hsToks,
  (initOf (Pipeline.cells cfgs cellOf_inj) (Pipeline.launchToks cfgs cellOf_inj), 1))

/-- What the launch deals the TensorCore for the collapse: its pipeline's cells and tokens. -/
abbrev G4 (d : Dev nD) : sProp 𝕄 := iprop(Pipeline.cellsGhost cfgs EP 0 d ∗ Pipeline.toksInit cfgs EP 0 d)

omit [FloatOps F] in
theorem emp_parts {I : Type} (s : Finset I) : (bigSep s fun _ => iprop(emp)) = (iprop(emp) : sProp 𝕄) := bigSep_emp_const s

omit [FloatOps F] in
theorem fund4 : BI.own ((EP (F := F)) (initOf (Pipeline.cells cfgs cellOf_inj) (Pipeline.launchToks cfgs cellOf_inj)))
    ⊢ (iprop(|==> bigSep Finset.univ G4) : sProp 𝕄) := by
  have e : (bigSep Finset.univ (G4 (F := F)) : sProp 𝕄)
      = iprop((bigSep Finset.univ fun c : Dev nD => bigSep Finset.univ fun p => Pipeline.cellsGhost cfgs EP p c)
        ∗ (bigSep Finset.univ fun c : Dev nD => bigSep Finset.univ fun p => Pipeline.toksInit cfgs EP p c)) := by
    refine (bigSep_sep' Finset.univ _ _).trans ?_
    congr 1
    · exact bigSep_congr fun c _ => by symm; exact bigSep_univ_of_subsingleton (0 : Fin 1)
    · exact bigSep_congr fun c _ => by symm; exact bigSep_univ_of_subsingleton (0 : Fin 1)
  rw [e]
  exact Pipeline.fund_ghost (cfgs := cfgs) (ER := EP) (hinj := cellOf_inj)

theorem hu₀ : (ownU (u₀ (F := F)) : sProp 𝕄)
    ⊢ |={Set.univ}=> iprop(BI.own (EH (initOf (K (F := F)).hsCells (K (F := F)).hsToks)) ∗ (bigSep Finset.univ fun d : Dev nD => G4 d)
        ∗ bigSep Finset.univ fun thr : Thread nD τ => bigSep Finset.univ fun q : Fin 4 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb (embR : Emb (UP × Counters) 𝕄) (initOf (Pipeline.cells cfgs cellOf_inj) (Pipeline.launchToks cfgs cellOf_inj)) (1 : Counters)) $$ HR
  icases H with ⟨HP, -⟩
  ihave HG := (fund4 (F := F)) $$ HP
  imod HG
  imodintro
  isplitl [HH]; · iexact HH
  isplitl [HG]; · iexact HG
  rw [show (bigSep Finset.univ fun thr : Thread nD τ => bigSep Finset.univ fun q : Fin 4 => (P (F := F) m).x q thr) = bigSep Finset.univ fun _ => iprop(emp) from
    bigSep_congr fun _ _ => emp_parts _, emp_parts]
  iempintro

/-! ## The buffers -/

/-- The program's ten unscoped buffers, one by one. -/
theorem bufs_eq (d : Dev nD) (W : Valuation τ sig (Elt F)) :
    (StableHlo.held (d.tc : Thread nD τ) (Pipeline.ucRefs τ sig) W : sProp 𝕄)
      = iprop((pLoc d 0 ↦{fullShare} W (Proc.devRef .tc main_arg0)) ∗ (pLoc d 1 ↦{fullShare} W (Proc.devRef .tc main_arg1))
        ∗ (pLoc d 2 ↦{fullShare} W (Proc.devRef .tc main_arg2)) ∗ (pLoc d 3 ↦{fullShare} W (Proc.devRef .tc main_arg3))
        ∗ (oLoc d 0 ↦{fullShare} W (Proc.devRef .tc main_v0)) ∗ (oLoc d 1 ↦{fullShare} W (Proc.devRef .tc main_v1))
        ∗ (oLoc d 2 ↦{fullShare} W (Proc.devRef .tc main_v2)) ∗ (oLoc d 3 ↦{fullShare} W (Proc.devRef .tc main_v3))
        ∗ (((d.tc : Thread nD τ).loc main_v4) ↦{fullShare} W (Proc.devRef .tc main_v4))
        ∗ (((d.tc : Thread nD τ).loc main_v5) ↦{fullShare} W (Proc.devRef .tc main_v5))) := by
  unfold StableHlo.held
  rw [bigSep_eq_bigSepL_of_eq [Proc.devRef .tc main_arg0, Proc.devRef .tc main_arg1, Proc.devRef .tc main_arg2, Proc.devRef .tc main_arg3,
    Proc.devRef .tc main_v0, Proc.devRef .tc main_v1, Proc.devRef .tc main_v2, Proc.devRef .tc main_v3, Proc.devRef .tc main_v4,
    Proc.devRef .tc main_v5] (by decide) (by decide)]
  rfl

/-- Device `d`'s buffers at launch. -/
abbrev W0 (d : Dev nD) : Valuation τ sig (Elt F) := fun b => m (d, b)

/-- After the four calls. -/
def W4 (d : Dev nD) : Valuation τ sig (Elt F) :=
  Function.update (Function.update (Function.update (Function.update (W0 m d) (Proc.devRef .tc main_v0) (want m d 0))
    (Proc.devRef .tc main_v1) (want m d 1)) (Proc.devRef .tc main_v2) (want m d 2)) (Proc.devRef .tc main_v3) (want m d 3)

theorem W4_v3 (d : Dev nD) : W4 m d (Proc.devRef .tc main_v3) = want m d 3 := Function.update_self _ _ _
theorem W4_v2 (d : Dev nD) : W4 m d (Proc.devRef .tc main_v2) = want m d 2 :=
  (Function.update_of_ne (by decide) _ _).trans (Function.update_self _ _ _)
theorem W4_v1 (d : Dev nD) : W4 m d (Proc.devRef .tc main_v1) = want m d 1 :=
  (Function.update_of_ne (by decide) _ _).trans ((Function.update_of_ne (by decide) _ _).trans (Function.update_self _ _ _))
theorem W4_v0 (d : Dev nD) : W4 m d (Proc.devRef .tc main_v0) = want m d 0 :=
  (Function.update_of_ne (by decide) _ _).trans ((Function.update_of_ne (by decide) _ _).trans
    ((Function.update_of_ne (by decide) _ _).trans (Function.update_self _ _ _)))
theorem W4_of_ne (d : Dev nD) (b : DevRef τ sig) (h0 : b ≠ Proc.devRef .tc main_v0) (h1 : b ≠ Proc.devRef .tc main_v1)
    (h2 : b ≠ Proc.devRef .tc main_v2) (h3 : b ≠ Proc.devRef .tc main_v3) : W4 m d b = m (d, b) :=
  (Function.update_of_ne h3 _ _).trans ((Function.update_of_ne h2 _ _).trans
    ((Function.update_of_ne h1 _ _).trans (Function.update_of_ne h0 _ _)))

/-- The four results one under another. -/
abbrev stack (a b c : Vec F S320x144 .f32) (e : Vec F S64x144 .f32) : Vec F S1024x144 .f32 :=
  concatenate S1024x144 0 [⟨S320x144, a⟩, ⟨S320x144, b⟩, ⟨S320x144, c⟩, ⟨S64x144, e⟩]
    concatenates_S320x144_S320x144_S320x144_S64x144_S1024x144_d0

/-- The operation that lays them so. -/
abbrev catOp : HloOp τ sig (Elt F) :=
  StableHlo.nary ![main_v0, main_v1, main_v2, main_v3] main_v4 (fun u => (concatenate S1024x144 0 [⟨S320x144, (u 0 : (⟨S320x144, .f32⟩ : BufTy).Contents (Elt F))⟩, ⟨S320x144, (u 1 : (⟨S320x144, .f32⟩ : BufTy).Contents (Elt F))⟩, ⟨S320x144, (u 2 : (⟨S320x144, .f32⟩ : BufTy).Contents (Elt F))⟩, ⟨S64x144, (u 3 : (⟨S64x144, .f32⟩ : BufTy).Contents (Elt F))⟩] concatenates_S320x144_S320x144_S320x144_S64x144_S1024x144_d0 : (⟨S1024x144, .f32⟩ : BufTy).Contents (Elt F)))

/-- After it. -/
def W5 (d : Dev nD) : Valuation τ sig (Elt F) := (catOp (F := F)).result (W4 m d)

theorem W5_v4 (d : Dev nD) : W5 m d (Proc.devRef .tc main_v4) = stack (want m d 0) (want m d 1) (want m d 2) (want m d 3) := by
  refine (StableHlo.nary_result' _ _ _ _ _).trans ?_
  show stack (W4 m d (Proc.devRef .tc main_v0)) (W4 m d (Proc.devRef .tc main_v1)) (W4 m d (Proc.devRef .tc main_v2))
    (W4 m d (Proc.devRef .tc main_v3)) = _
  rw [W4_v0, W4_v1, W4_v2, W4_v3]

theorem W5_of_ne (d : Dev nD) (r : Ref sig .tc) (h : r ≠ main_v4) : W5 m d (Proc.devRef .tc r) = W4 m d (Proc.devRef .tc r) :=
  StableHlo.nary_result_ne _ _ _ _ _ _ h

/-- The result. -/
def final (d : Dev nD) : Vec F S4x1x336x9 .f32 := collapse (stack (want m d 0) (want m d 1) (want m d 2) (want m d 3))

/-- What @main ends with: the four packed arrays as they were, and the result. -/
abbrev FIN (d : Dev nD) : sProp 𝕄 := iprop((pLoc d 0 ↦[Finset.univ]{fullShare} m (pLoc d 0)) ∗ (pLoc d 1 ↦[Finset.univ]{fullShare} m (pLoc d 1))
  ∗ (pLoc d 2 ↦[Finset.univ]{fullShare} m (pLoc d 2)) ∗ (pLoc d 3 ↦[Finset.univ]{fullShare} m (pLoc d 3))
  ∗ (((d.tc : Thread nD τ).loc main_v5) ↦[Finset.univ]{fullShare} final m d))

/-- After the four calls the buffers are those of `W4`. -/
theorem held_start (d : Dev nD) :
    iprop((pLoc d 0 ↦[Finset.univ]{fullShare} m (pLoc d 0)) ∗ (pLoc d 1 ↦[Finset.univ]{fullShare} m (pLoc d 1))
        ∗ (pLoc d 2 ↦[Finset.univ]{fullShare} m (pLoc d 2)) ∗ (pLoc d 3 ↦[Finset.univ]{fullShare} m (pLoc d 3))
        ∗ (oLoc d 0 ↦[Finset.univ]{fullShare} want m d 0) ∗ (oLoc d 1 ↦[Finset.univ]{fullShare} want m d 1)
        ∗ (oLoc d 2 ↦[Finset.univ]{fullShare} want m d 2) ∗ (oLoc d 3 ↦[Finset.univ]{fullShare} want m d 3)
        ∗ (((d.tc : Thread nD τ).loc main_v4) ↦[Finset.univ]{fullShare} m ((d.tc : Thread nD τ).loc main_v4))
        ∗ (((d.tc : Thread nD τ).loc main_v5) ↦[Finset.univ]{fullShare} m ((d.tc : Thread nD τ).loc main_v5)))
      ⊢ (StableHlo.held (d.tc : Thread nD τ) (Pipeline.ucRefs τ sig) (W4 m d) : sProp 𝕄) := by
  rw [bufs_eq, W4_v0, W4_v1, W4_v2, W4_v3,
    W4_of_ne m d (Proc.devRef .tc main_arg0) (by decide) (by decide) (by decide) (by decide),
    W4_of_ne m d (Proc.devRef .tc main_arg1) (by decide) (by decide) (by decide) (by decide),
    W4_of_ne m d (Proc.devRef .tc main_arg2) (by decide) (by decide) (by decide) (by decide),
    W4_of_ne m d (Proc.devRef .tc main_arg3) (by decide) (by decide) (by decide) (by decide),
    W4_of_ne m d (Proc.devRef .tc main_v4) (by decide) (by decide) (by decide) (by decide),
    W4_of_ne m d (Proc.devRef .tc main_v5) (by decide) (by decide) (by decide) (by decide)]
  exact Entails.rfl

/-- After the collapse the buffers hold that. -/
theorem held_end (d : Dev nD) : (StableHlo.held (d.tc : Thread nD τ) (Pipeline.ucRefs τ sig) (after4 (W5 m d)) : sProp 𝕄) ⊢ FIN m d := by
  have a0 : after4 (W5 m d) (Proc.devRef .tc main_arg0) = m (pLoc d 0) :=
    (Function.update_of_ne (by decide) _ _).trans ((W5_of_ne m d main_arg0 (by decide)).trans (W4_of_ne m d _ (by decide) (by decide) (by decide) (by decide)))
  have a1 : after4 (W5 m d) (Proc.devRef .tc main_arg1) = m (pLoc d 1) :=
    (Function.update_of_ne (by decide) _ _).trans ((W5_of_ne m d main_arg1 (by decide)).trans (W4_of_ne m d _ (by decide) (by decide) (by decide) (by decide)))
  have a2 : after4 (W5 m d) (Proc.devRef .tc main_arg2) = m (pLoc d 2) :=
    (Function.update_of_ne (by decide) _ _).trans ((W5_of_ne m d main_arg2 (by decide)).trans (W4_of_ne m d _ (by decide) (by decide) (by decide) (by decide)))
  have a3 : after4 (W5 m d) (Proc.devRef .tc main_arg3) = m (pLoc d 3) :=
    (Function.update_of_ne (by decide) _ _).trans ((W5_of_ne m d main_arg3 (by decide)).trans (W4_of_ne m d _ (by decide) (by decide) (by decide) (by decide)))
  have e5 : after4 (W5 m d) (Proc.devRef .tc main_v5) = final m d := by rw [after4_v5, W5_v4]; rfl
  rw [bufs_eq, a0, a1, a2, a3, e5]
  iintro ⟨H0, H1, H2, H3, -, -, -, -, -, H5⟩
  isplitl [H0]; · iexact H0
  isplitl [H1]; · iexact H1
  isplitl [H2]; · iexact H2
  isplitl [H3]; · iexact H3
  iexact H5

/-! ## The run of @main -/

theorem starts (q : Fin 4) (d : Dev nD) : (bigSep Finset.univ fun c : Fin ((K (F := F)).nCore q) => (P m).st q d c)
    = iprop((pLoc d q ↦[Finset.univ]{fullShare} m (pLoc d q)) ∗ (oLoc d q ↦[Finset.univ]{fullShare} m (oLoc d q))) :=
  parts_eq m q d (m (oLoc d q))

theorem ends (q : Fin 4) (d : Dev nD) : (bigSep Finset.univ fun c : Fin ((K (F := F)).nCore q) => (P m).dn q d c)
    = iprop((pLoc d q ↦[Finset.univ]{fullShare} m (pLoc d q)) ∗ (oLoc d q ↦[Finset.univ]{fullShare} want m d q)) :=
  parts_eq m q d (want m d q)

/-- One call: its array and its result's buffer go in, the array and the histograms come out. -/
theorem call (κ : GSem nD τ sig → ℕ) (d : Dev nD) (q : Fin 4) {Φ : PUnit → sProp 𝕄} :
    iprop((K (F := F)).ctx EH (P m) κ ∗ (K (F := F)).tcSt EH d q.val
        ∗ (pLoc d q ↦[Finset.univ]{fullShare} m (pLoc d q)) ∗ (oLoc d q ↦[Finset.univ]{fullShare} m (oLoc d q))
        ∗ (((K (F := F)).tcSt EH d (q.val + 1) ∗ (pLoc d q ↦[Finset.univ]{fullShare} m (pLoc d q))
          ∗ (oLoc d q ↦[Finset.univ]{fullShare} want m d q)) -∗ Φ ⟨⟩))
      ⊢ wp frame (wpE ((K (F := F)).defs (D (F := F))) 𝒱 (SparseCore.T d) none) Set.univ ((K (F := F)).run d q) Φ := by
  iintro ⟨#Hctx, Hst, Hp, Ho, Hk⟩
  iapply ((K (F := F)).wp_run (D (F := F)) 𝒱 (EH := EH) (P := P m) κ d q) $$ [Hst Hp Ho Hk]
  isplitr; · iexact Hctx
  isplitl [Hst]; · iexact Hst
  isplitl [Hp Ho]
  · rw [starts]
    isplitl [Hp]; · iexact Hp
    iexact Ho
  iintro ⟨Hst, Hdn⟩
  ihave Hdn' := (Entails.of_eq (ends m q d)) $$ Hdn
  iapply Hk
  isplitl [Hst]; · iexact Hst
  iexact Hdn'

theorem pin_inj : Function.Injective (Pipeline.cellOf (nD := nD) (τ := τ) (Pipeline.pin (pcfgs (F := F)) adm)) := cellOf_inj

instance EP_landsIn : (EP (F := F)).LandsIn (upEmb : UEmb _ 𝕄) := by unfold EP; infer_instance

/-- The collapse under the body table of the pipelined calls, from its two arrays held. -/
theorem region_arrays (d : Dev nD) [∀ e, Nonempty (Elt F e)] (W : Dev nD → Valuation τ sig (Elt F)) (Q : PUnit → sProp 𝕄) :
    iprop((iprop(boundary (d.tc : Thread nD τ) ∗ (seg W).post d) -∗ wp frame (wpE (D (F := F)) 𝒱 (d.tc : Thread nD τ) none) Set.univ (.ret ⟨⟩) Q)
        ∗ boundary (d.tc : Thread nD τ) ∗ (seg W).pre d ∗ levAts (L4 (F := F)) (lv4 (F := F)) ∗ G4 d)
      ⊢ wp frame (wpE (D (F := F)) 𝒱 (d.tc : Thread nD τ) none) Set.univ (.op (.customCall (Pipeline.entry 0) ()) fun x => .ret x) Q :=
  Pipeline.RegionSeg.wp (pcfgs (F := F)) adm (datW W) (none : HIx 4) pin_inj (EP (F := F)) (defs₀ (F := F)) 𝒱₀
    (L4 (F := F)) (lv4 (F := F)) (seg W) d none (fun _ h => nomatch h) (fun x => .ret x) Q

theorem seg_pre (d : Dev nD) (W : Dev nD → Valuation τ sig (Elt F)) :
    (seg W).pre d = iprop(StableHlo.held (d.tc : Thread nD τ) (Pipeline.arrRefs spec4) (W d) ∗ emp ∗ emp ∗ ∃ Wd, owes (d.tc : Thread nD τ) 0 Wd) := rfl

theorem seg_post (d : Dev nD) (W : Dev nD → Valuation τ sig (Elt F)) :
    (seg W).post d = iprop(StableHlo.held (d.tc : Thread nD τ) (Pipeline.arrRefs spec4) (after4 (W d)) ∗ emp ∗ emp ∗ ∃ Wd, owes (d.tc : Thread nD τ) 0 Wd) := rfl

theorem arrs_sub : Pipeline.arrRefs (τ := τ) spec4 ⊆ Pipeline.ucRefs τ sig := Pipeline.arrRefs_sub_ucRefs spec4 (by decide)

/-- The buffers that are not the collapse's read the same after it. -/
theorem held_rest (d : Dev nD) (W : Valuation τ sig (Elt F)) :
    (StableHlo.held (d.tc : Thread nD τ) (Pipeline.ucRefs τ sig \ Pipeline.arrRefs spec4) (after4 W) : sProp 𝕄)
      = StableHlo.held (d.tc : Thread nD τ) (Pipeline.ucRefs τ sig \ Pipeline.arrRefs spec4) W := by
  refine StableHlo.held_congr _ fun b hb => ?_
  refine Function.update_of_ne (fun e => ?_) _ _
  subst e
  exact (Finset.mem_sdiff.mp hb).2 (by decide)

/-- The call the pipelines' body table makes, as a program. -/
abbrev enter : Prog (TpuEff nD τ sig (Elt F) (ΛP (F := F)) .tc) PUnit := .op (.customCall (Pipeline.entry 0) ()) fun x => .ret x

theorem lift_enter (d : Dev nD) (Q : PUnit → sProp 𝕄) :
    wp frame (wpE (D (F := F)) 𝒱 (d.tc : Thread nD τ) none) Set.univ (enter (F := F)) Q
      ⊢ wp frame (wpE ((K (F := F)).defs (D (F := F))) 𝒱 (SparseCore.T d) none) Set.univ
          (Prog.lift (.customCall (SparseCore.inner (Pipeline.entry 0)) ())) Q :=
  (K (F := F)).wp_liftProg (D (F := F)) 𝒱 (d.tc : Thread nD τ) Set.univ none (enter (F := F)) Q

/-- The collapse, from every unscoped buffer held: they are held again, the result written. -/
theorem region (d : Dev nD) [∀ e, Nonempty (Elt F e)] (W : Valuation τ sig (Elt F)) (Q : PUnit → sProp 𝕄) :
    iprop((iprop(boundary (d.tc : Thread nD τ) ∗ StableHlo.held (d.tc : Thread nD τ) (Pipeline.ucRefs τ sig) (after4 W)
          ∗ ∃ Wd, owes (d.tc : Thread nD τ) 0 Wd) -∗ Q ⟨⟩)
        ∗ boundary (d.tc : Thread nD τ) ∗ StableHlo.held (d.tc : Thread nD τ) (Pipeline.ucRefs τ sig) W
        ∗ (∃ Wd, owes (d.tc : Thread nD τ) 0 Wd) ∗ levAts (L4 (F := F)) (lv4 (F := F)) ∗ G4 d)
      ⊢ wp frame (wpE ((K (F := F)).defs (D (F := F))) 𝒱 (SparseCore.T d) none) Set.univ
          (Prog.lift (.customCall (SparseCore.inner (Pipeline.entry 0)) ())) Q := by
  refine (show _ ⊢ _ from ?_).trans ((region_arrays d (fun _ => W) Q).trans (lift_enter d Q))
  rw [seg_pre, seg_post, StableHlo.held_sub_split (d.tc : Thread nD τ) arrs_sub W, StableHlo.held_sub_split (d.tc : Thread nD τ) arrs_sub (after4 W), held_rest]
  iintro ⟨Hk, Hb, ⟨Ha, Hr⟩, HO, Hl, HG⟩
  isplitl [Hk Hr]
  · iintro ⟨Hb, Ha, -, -, HO⟩
    rw [wp_ret]
    imodintro
    iapply Hk
    isplitl [Hb]; · iexact Hb
    isplitr [HO]
    · isplitl [Ha]; · iexact Ha
      iexact Hr
    iexact HO
  isplitl [Hb]; · iexact Hb
  isplitl [Ha HO]
  · isplitl [Ha]; · iexact Ha
    isplitr; · iempintro
    isplitr; · iempintro
    iexact HO
  isplitl [Hl]; · iexact Hl
  iexact HG

omit [FloatOps F] in
/-- Every level lies below the end of the last call's block. -/
theorem lev_le (g : GSem nD τ sig) (i : HIx 4) : (K (F := F)).lev g i ≤ 32 := by
  match i with
  | none => exact Nat.zero_le _
  | some q => exact ((K (F := F)).lev_some_le g q).trans (by have := q.isLt; omega)

/-- After the last call the TensorCore owes nothing, and any record of waits will do. -/
theorem tcSt_end (d : Dev nD) : ((K (F := F)).tcSt EH d 4 : sProp 𝕄)
    ⊢ iprop((∃ Wd, owes (d.tc : Thread nD τ) 0 Wd) ∗ ((∃ Wd, owes (d.tc : Thread nD τ) 0 Wd) -∗ (K (F := F)).tcSt EH d 4)) := by
  unfold SparseCore.Cfg.tcSt
  rw [(K (F := F)).Otc_end d (Nat.le_refl 4)]
  iintro ⟨⟨%W, -, HO⟩, Hrest⟩
  isplitl [HO]; · iexists W; iexact HO
  iintro ⟨%W', HO⟩
  isplitl [HO]
  · iexists W'
    isplitr
    · ipureintro
      intro p _
      exact lev_le _ _
    · iexact HO
  iexact Hrest

theorem catOp_bufs : (catOp (F := F)).bufs ⊆ Pipeline.ucRefs τ sig :=
  Pipeline.sub_ucRefs _ (StableHlo.nary_bufs_sub _ _ _ _ _)

/-- Laying the four results one under another. -/
theorem cat (d : Dev nD) (Q : PUnit → sProp 𝕄) :
    iprop((boundary (d.tc : Thread nD τ) ∗ StableHlo.held (d.tc : Thread nD τ) (Pipeline.ucRefs τ sig) (W4 m d))
        ∗ ((boundary (d.tc : Thread nD τ) ∗ StableHlo.held (d.tc : Thread nD τ) (Pipeline.ucRefs τ sig) (W5 m d)) -∗ Q ⟨⟩))
      ⊢ wp frame (wpE ((K (F := F)).defs (D (F := F))) 𝒱 (SparseCore.T d) none) Set.univ (hlo rfl (catOp (F := F)) fun _ => .ret ⟨⟩) Q := by
  have h := StableHlo.wp_hlo_within (defs := (K (F := F)).defs (D (F := F))) (𝒱 := 𝒱) (c := (d.tc : Thread nD τ)) (bd := none) (E := Set.univ) (hp := rfl) (op := catOp (F := F))
    (k := fun _ => .ret PUnit.unit) (S := Pipeline.ucRefs τ sig) catOp_bufs (V := W4 m d) (Q := Q)
    (Ix := HIx 4) (Name := ℕ) (U := UU) (Lvl := ℕ)
  iintro ⟨Hbh, Hk⟩
  iapply h $$ Hbh
  iintro H
  rw [wp_ret]
  imodintro
  iapply Hk
  iexact H

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G4 d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  have e0 : (unscopedBufs (Ix := HIx 4) (Name := ℕ) (U := UU) (Lvl := ℕ) d (fun b => m ((d.tc : Thread nD τ).loc b)) : sProp 𝕄)
      = StableHlo.held (d.tc : Thread nD τ) (Pipeline.ucRefs τ sig) (W0 m d) := Pipeline.unscopedBufs_held d (W0 m d)
  rw [e0, bufs_eq]
  simp only [main, wp_bind, wp_pure]
  iintro ⟨#Hctx, Hst, ⟨Hb, ⟨Hp0, Hp1, Hp2, Hp3, Ho0, Ho1, Ho2, Ho3, H4, H5⟩, Hts, -⟩, HG⟩
  iapply (call m κ d 0)
  isplitr; · iexact Hctx
  isplitl [Hst]; · iexact Hst
  isplitl [Hp0]; · iexact Hp0
  isplitl [Ho0]; · iexact Ho0
  iintro ⟨Hst, Hp0, Ho0⟩
  iapply (call m κ d 1)
  isplitr; · iexact Hctx
  isplitl [Hst]; · iexact Hst
  isplitl [Hp1]; · iexact Hp1
  isplitl [Ho1]; · iexact Ho1
  iintro ⟨Hst, Hp1, Ho1⟩
  iapply (call m κ d 2)
  isplitr; · iexact Hctx
  isplitl [Hst]; · iexact Hst
  isplitl [Hp2]; · iexact Hp2
  isplitl [Ho2]; · iexact Ho2
  iintro ⟨Hst, Hp2, Ho2⟩
  iapply (call m κ d 3)
  isplitr; · iexact Hctx
  isplitl [Hst]; · iexact Hst
  isplitl [Hp3]; · iexact Hp3
  isplitl [Ho3]; · iexact Ho3
  iintro ⟨Hst, Hp3, Ho3⟩
  ihave Hheld := (held_start m d) $$ [Hp0 Hp1 Hp2 Hp3 Ho0 Ho1 Ho2 Ho3 H4 H5]
  · isplitl [Hp0]; · iexact Hp0
    isplitl [Hp1]; · iexact Hp1
    isplitl [Hp2]; · iexact Hp2
    isplitl [Hp3]; · iexact Hp3
    isplitl [Ho0]; · iexact Ho0
    isplitl [Ho1]; · iexact Ho1
    isplitl [Ho2]; · iexact Ho2
    isplitl [Ho3]; · iexact Ho3
    isplitl [H4]; · iexact H4
    iexact H5
  iapply (cat m d)
  isplitl [Hb Hheld]
  · isplitl [Hb]; · iexact Hb
    iexact Hheld
  iintro ⟨Hb, Hheld⟩
  ihave Hst4 := (Entails.of_eq (show ((K (F := F)).tcSt EH d ((3 : Fin 4).val + 1) : sProp 𝕄) = (K (F := F)).tcSt EH d 4 from rfl)) $$ Hst
  ihave Hst' := (tcSt_end d) $$ Hst4
  icases Hst' with ⟨HO, Hst⟩
  ihave Hl := ((K (F := F)).ctx_levAts κ) $$ Hctx
  iapply (region d (W5 m d))
  isplitr [Hb Hheld HO Hl HG]
  · iintro ⟨Hb, Hheld, HO⟩
    imodintro
    isplitl [Hst HO]
    · iapply Hst; iexact HO
    isplitl [Hheld]
    · iapply (held_end m d); iexact Hheld
    isplitl [Hb]; · iexact Hb
    iexact Hts
  isplitl [Hb]; · iexact Hb
  isplitl [Hheld]; · iexact Hheld
  isplitl [HO]; · iexact HO
  isplitl [Hl]; · iexact Hl
  iexact HG

/-! ## The claim about the run -/

/-- What a final memory holds on device `d`. -/
def fq (d : Dev nD) (s' : Phys nD τ sig (Elt F)) : Prop :=
  (∀ q : Fin 4, s'.mem.mem (pLoc d q) = m (pLoc d q)) ∧ s'.mem.mem ((d.tc : Thread nD τ).loc main_v5) = final m d

/-- A buffer owned whole holds in the memory what it is owned at. -/
theorem mem_of_owned (s' : Phys nD τ sig (Elt F)) (ℓ : Loc nD τ sig) (f : Buf (Elt F) ℓ) :
    iprop((ℓ ↦[Finset.univ]{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (mem_of_owned s' (pLoc d 0) (m (pLoc d 0))) $$ [H0 HSI]
  · isplitl [H0] <;> iassumption
  icases H with ⟨%h0, HSI⟩
  ihave H := (mem_of_owned s' (pLoc d 1) (m (pLoc d 1))) $$ [H1 HSI]
  · isplitl [H1] <;> iassumption
  icases H with ⟨%h1, HSI⟩
  ihave H := (mem_of_owned s' (pLoc d 2) (m (pLoc d 2))) $$ [H2 HSI]
  · isplitl [H2] <;> iassumption
  icases H with ⟨%h2, HSI⟩
  ihave H := (mem_of_owned s' (pLoc d 3) (m (pLoc d 3))) $$ [H3 HSI]
  · isplitl [H3] <;> iassumption
  icases H with ⟨%h3, HSI⟩
  ihave H := (mem_of_owned s' ((d.tc : Thread nD τ).loc main_v5) (final m d)) $$ [H5 HSI]
  · isplitl [H5] <;> iassumption
  icases H with ⟨%h5, -⟩
  ipureintro
  exact ⟨fun q => match q with | 0 => h0 | 1 => h1 | 2 => h2 | 3 => h3, h5⟩

def QC : PUnit × MemSt nD τ sig (Elt F) → Prop :=
  fun r => (∀ c : Dev nD, (∀ q : Fin 4, r.2.mem (pLoc c q) = m (pLoc c q)) ∧ r.2.mem ((c.tc : Thread nD τ).loc main_v5) = final m c)
    ∧ r.2.sem = fun _ => 0

theorem tiles (hpre : PreOK m) (q : Fin 4) : (K (F := F)).TileObl (D (F := F)) 𝒱 (P m) v₀ q :=
  match q with
  | 0 => tileObl0 m facts hpre
  | 1 => tileObl1 m facts hpre
  | 2 => tileObl2 m facts hpre
  | 3 => tileObl3 m facts hpre

theorem no_scalar (q : Fin 4) (h : (K (F := F)).kind q = .scScalar) : False :=
  match q with
  | 0 => nomatch h
  | 1 => nomatch h
  | 2 => nomatch h
  | 3 => nomatch h

/-- THE RUN. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => (no_scalar q hq).elim)
    (fun q _ => tiles m hpre q)
    (fun q _ => SparseCore.Cfg.VecSplit.of_plain (vecSplit m q))
    m ρ main (fun d => G4 d) (FIN m) (u₀ (F := F)) (sep_elim_left.trans (hu₀ m)) (hmain m ρ) (fq m) (hfin m) (QC m) (fun _ h hz => ⟨h, hz⟩)

end Cert.Proof.Hist
-- ==== Proof.Value.lean ====
/-
  THE HISTOGRAMS AS SUMS. Over the reals a vector's indexed add gives word `16·b + l` the weight of lane `l` when its
  code names bin `b`, and nothing otherwise, so a packed row's histogram is there the sum over the row's vectors.
-/
module

public import proofs.«01_k».proof.Proof.Tile
public import Idealize.ShloMosaic.PureOps.Ideal.Laws

@[expose] public section

noncomputable section

namespace Cert.Proof.Hist

open Cert.KernelIdeal Cert.KernelIdeal.Gen

open Idealize.ShloMosaic Idealize.ShloMosaic.ValueIdx

/-- A code's weight: its other bits, as a signed number. -/
def weightOf (w : BitVec 32) : EReal := (((w.sshiftRight' 4#32).toInt : ℝ) : EReal)

/-- What a code adds to bin `b`. -/
def addend (b : ℕ) (w : BitVec 32) : EReal := if binOf w = b then weightOf w else 0

theorem weights_apply (v : IVec S16 32) (x : S16.Idx) : weights (F := Ideal) v x = weightOf (v x) := by
  have e : shrsi v (broadcast S16 4#32) x = (v x).sshiftRight' 4#32 := by
    show IntOp.shrsi .vector (v x) 4#32 = _
    rw [IntOp.shrsi, if_pos (by decide)]
  unfold weightOf
  rw [← e]
  rfl

/-- Lane `k`'s add into the accumulator. -/
def laneAdd (v : IVec S16 32) (h : ∀ a x, ((![slots v] : Fin 1 → IVec S16 32) a x).toNat < S144.size a) (g : Vec Ideal S144 .f32) (k : Fin 16) :
    Vec Ideal S144 .f32 := fun j =>
  if (∀ a, (j a).val = (idxAt (s := S144) ![slots v] h (ix1 k) a).val) then
    (g (idxAt (s := S144) ![slots v] h (ix1 k)) + weightOf (v (ix1 k)) : EReal)
  else g j

theorem storeIdx_eq (g : Vec Ideal S144 .f32) (v : IVec S16 32) (h : ∀ a x, ((![slots v] : Fin 1 → IVec S16 32) a x).toNat < S144.size a) :
    storeIdx g ![slots v] (weights (F := Ideal) v) (fun _ => 1#1) true h = (List.finRange 16).foldl (laneAdd v h) g := by
  unfold storeIdx
  refine congrArg (fun f => (List.finRange 16).foldl f g) (funext fun g => funext fun (k : Fin 16) => ?_)
  have hx : (Shape.ofLane k : S16.Idx) = ix1 k := by
    funext a; have ha : a = 0 := Subsingleton.elim _ _; subst ha; rfl
  refine (if_pos (show (1#1 : BitVec 1) = 1 from rfl)).trans ?_
  funext j
  unfold laneAdd
  rw [← weights_apply, ← hx]
  by_cases hc : ∀ a : Fin 1, (j a).val = (idxAt (s := S144) ![slots v] h (Shape.ofLane k) a).val
  · exact (if_pos hc).trans (if_pos hc).symm
  · exact (if_neg hc).trans (if_neg hc).symm

/-- Lane `k`'s add, seen at lane `l`'s word of bin `b`. -/
theorem laneAdd_apply (v : IVec S16 32) (hv : ∀ x, binOf (v x) < 9) (g : Vec Ideal S144 .f32) (k : Fin 16) (b : Fin 9) (l : Fin 16) (y : S144.Idx)
    (hy : (y 0).val = 16 * b.val + l.val) :
    laneAdd v (slots_lt v hv) g k y = (g y + if l = k then addend b.val (v (ix1 l)) else 0 : EReal) := by
  have hs : (slots v (ix1 k)).toNat = 16 * binOf (v (ix1 k)) + k.val := slots_toNat v (ix1 k) (hv _)
  have e : (idxAt (s := S144) ![slots v] (slots_lt v hv) (ix1 k) 0).val = 16 * binOf (v (ix1 k)) + k.val := hs
  have hk := k.isLt
  have hl := l.isLt
  unfold laneAdd
  by_cases hc : ∀ a, (y a).val = (idxAt (s := S144) ![slots v] (slots_lt v hv) (ix1 k) a).val
  · have h0 := hc 0
    rw [e, hy] at h0
    have hkl : l = k := Fin.ext (by omega)
    subst hkl
    have hi : idxAt (s := S144) ![slots v] (slots_lt v hv) (ix1 l) = y := funext fun a => Fin.ext (hc a).symm
    rw [if_pos hc, if_pos rfl, hi, addend, if_pos (show binOf (v (ix1 l)) = b.val by omega)]
  · rw [if_neg hc]
    by_cases hkl : l = k
    · subst hkl
      have hb : binOf (v (ix1 l)) ≠ b.val := by
        intro hb
        refine hc fun a => ?_
        have ha : a = 0 := Subsingleton.elim _ _
        subst ha
        rw [e, hy, hb]
      rw [if_pos rfl, addend, if_neg hb, add_zero]
    · rw [if_neg hkl, add_zero]

/-- Some lanes' adds. -/
theorem lanesAdd_apply (v : IVec S16 32) (hv : ∀ x, binOf (v x) < 9) (b : Fin 9) (l : Fin 16) (y : S144.Idx) (hy : (y 0).val = 16 * b.val + l.val)
    (ks : List (Fin 16)) (hn : ks.Nodup) (g : Vec Ideal S144 .f32) :
    ks.foldl (laneAdd v (slots_lt v hv)) g y = (g y + if l ∈ ks then addend b.val (v (ix1 l)) else 0 : EReal) := by
  induction ks generalizing g with
  | nil => rw [if_neg (List.not_mem_nil), add_zero]; rfl
  | cons k ks ih =>
    rw [List.nodup_cons] at hn
    rw [List.foldl_cons, ih hn.2, laneAdd_apply v hv g k b l y hy, add_assoc]
    congr 1
    by_cases hkl : l = k
    · subst hkl
      rw [if_pos rfl, if_neg hn.1, if_pos (List.mem_cons_self ..), add_zero]
    · rw [if_neg hkl, zero_add]
      simp only [List.mem_cons, hkl, false_or]

/-- One vector's indexed add, seen at lane `l`'s word of bin `b`. -/
theorem stepV_apply (g : Vec Ideal S144 .f32) (v : IVec S16 32) (hv : ∀ x, binOf (v x) < 9) (b : Fin 9) (l : Fin 16) (y : S144.Idx)
    (hy : (y 0).val = 16 * b.val + l.val) :
    stepV g v y = (g y + addend b.val (v (ix1 l)) : EReal) := by
  rw [← stepV_of g v (slots_lt v hv), storeIdx_eq, lanesAdd_apply v hv b l y hy _ (List.nodup_finRange 16), if_pos (List.mem_finRange l)]

theorem zeroAcc_apply (y : S144.Idx) : zeroAcc (F := Ideal) y = (0 : EReal) := Ideal.ofBits_zero_f32

/-- A packed row's histogram after `n` vectors. -/
theorem rowsDone_apply (X : S128x128.Idx → BitVec 32) (hX : InBins X) (b : Fin 9) (l : Fin 16) (y : S144.Idx)
    (hy : (y 0).val = 16 * b.val + l.val) (n : ℕ) :
    rowsDone (F := Ideal) X n y = (∑ i ∈ Finset.range n, addend b.val (vecAt X i (ix1 l)) : EReal) := by
  induction n with
  | zero => rw [Finset.sum_range_zero]; exact zeroAcc_apply y
  | succ n ih =>
    rw [Finset.sum_range_succ, ← ih]
    exact stepV_apply _ _ (fun _ => hX _) b l y hy

/-- The code of lane `l` in vector `n` of row `r`. -/
def codeAt {R : ℕ} (Xp : (SP R).Idx → BitVec 32) (r : Fin R) (n : Fin 1024) (l : Fin 16) : BitVec 32 :=
  Xp (ix3 r (⟨n.val / 8, by omega⟩ : Fin 128) (⟨16 * (n.val % 8) + l.val, by omega⟩ : Fin 128))

theorem vecAt_rowOf {R : ℕ} (Xp : (SP R).Idx → BitVec 32) (r : Fin R) (n : Fin 1024) (l : Fin 16) :
    vecAt (rowOf Xp r.val) n.val (ix1 l) = codeAt Xp r n l := by
  unfold vecAt rowOf codeAt
  rw [dif_pos r.isLt]
  have hn := n.isLt
  have e : n.val / 8 % 128 = n.val / 8 := Nat.mod_eq_of_lt (by omega)
  congr 1
  funext a
  match a with
  | ⟨0, _⟩ => rfl
  | ⟨1, _⟩ => exact Fin.ext e
  | ⟨2, _⟩ => rfl

/-- The histograms, word by word. -/
theorem histOf_apply {R : ℕ} (Xp : (SP R).Idx → BitVec 32) (h : CodesOK Xp) (r : Fin R) (b : Fin 9) (l : Fin 16) (j : Fin 144)
    (hj : j.val = 16 * b.val + l.val) :
    histOf (F := Ideal) Xp (ix2 r j) = (∑ n : Fin 1024, addend b.val (codeAt Xp r n l) : EReal) := by
  show rowsDone (F := Ideal) (rowOf Xp r.val) 1024 (ix1 j) = _
  rw [rowsDone_apply _ (h.row r.val) b l (ix1 j) hj, Finset.sum_range]
  exact Finset.sum_congr rfl fun n _ => by rw [vecAt_rowOf]

end Cert.Proof.Hist
-- ==== Proof.Cells.lean ====
/-
  CELLS AND THEIR NORMALISATION. What a pixel adds to a bin, the sum of that over a square cell, how a cell of twice the
  side is the sum of four, and how nine bin sums are normalised: the vocabulary the kernel's and the reference's values
  are both put in.
-/
module

public import proofs.«01_k».proof.Proof.Value
public import Idealize.ShloMosaic.Lib.Pointwise

@[expose] public section

noncomputable section

namespace Cert.Proof.Hist

open Cert.KernelIdeal Cert.KernelIdeal.Gen

open Idealize.ShloMosaic

/-! ## Nine bin sums, normalised -/

/-- A bin sum as a share of the nine, the small constant keeping the divisor off zero. -/
def share (f : Fin 9 → EReal) (b : Fin 9) : EReal := Ideal.div (f b) ((∑ k, f k) + Ideal.ofBits .f32 0x322BCC77#32)

/-- The shares over their Euclidean length, the length kept above a small constant. -/
def nrm (f : Fin 9 → EReal) (b : Fin 9) : EReal :=
  Ideal.div (share f b) (max (Ideal.sqrt (∑ k, share f k * share f k)) (Ideal.ofBits .f32 0x2B8CBCCC#32))

theorem share_comp (f : Fin 9 → EReal) (e : Fin 9 ≃ Fin 9) (b : Fin 9) : share (fun k => f (e k)) b = share f (e b) := by
  unfold share
  rw [Equiv.sum_comp e f]

/-- Naming the bins in another order names the normalised sums in that order. -/
theorem nrm_comp (f : Fin 9 → EReal) (e : Fin 9 ≃ Fin 9) (b : Fin 9) : nrm (fun k => f (e k)) b = nrm f (e b) := by
  unfold nrm
  simp only [share_comp]
  rw [Equiv.sum_comp e fun k => share f k * share f k]

/-! ## Pixels and cells -/

/-- What a packed code adds to bin `b`: its weight in units of 2⁻¹⁴, when it names that bin. -/
def magAt (b : ℕ) (w : BitVec 32) : EReal := if binOf w = b then Ideal.div (weightOf w) (Ideal.ofBits .f32 0x46800000#32) else 0

/-- The code of a row's pixel, the coordinates taken around the array's bounds. -/
def wordAt (X : (SP 1024).Idx → BitVec 32) (r y x : ℕ) : BitVec 32 :=
  X (ix3 ⟨r % 1024, Nat.mod_lt _ (by decide)⟩ ⟨y % 128, Nat.mod_lt _ (by decide)⟩ ⟨x % 128, Nat.mod_lt _ (by decide)⟩)

/-- What pixel `(y, x)` of image `i` adds to bin `b`: sixteen rows of the codes are an image's cells of side 128. -/
def pix (X : (SP 1024).Idx → BitVec 32) (i b y x : ℕ) : EReal := magAt b (wordAt X (16 * i + 4 * (y / 128) + x / 128) y x)

/-- Bin `b`'s sum over the cell of side `z` at `(p, q)` in image `i`. -/
def square (X : (SP 1024).Idx → BitVec 32) (z i p q b : ℕ) : EReal := ∑ y : Fin z, ∑ x : Fin z, pix X i b (p * z + y.val) (q * z + x.val)

theorem sum_halves (z : ℕ) (f : ℕ → EReal) : (∑ y : Fin (z + z), f y.val) = (∑ y : Fin z, f y.val) + ∑ y : Fin z, f (z + y.val) := by
  rw [Fin.sum_univ_add]
  rfl

/-- A cell of twice the side is the sum of the four it covers. -/
theorem square_double (X : (SP 1024).Idx → BitVec 32) (z i p q b : ℕ) :
    square X (z + z) i p q b = square X z i (2 * p) (2 * q) b + square X z i (2 * p) (2 * q + 1) b
      + square X z i (2 * p + 1) (2 * q) b + square X z i (2 * p + 1) (2 * q + 1) b := by
  have row (Y : ℕ) : (∑ x : Fin (z + z), pix X i b Y (q * (z + z) + x.val))
      = (∑ x : Fin z, pix X i b Y (2 * q * z + x.val)) + ∑ x : Fin z, pix X i b Y ((2 * q + 1) * z + x.val) := by
    rw [sum_halves z fun x => pix X i b Y (q * (z + z) + x)]
    refine congrArg₂ (· + ·) (Finset.sum_congr rfl fun x _ => ?_) (Finset.sum_congr rfl fun x _ => ?_) <;>
      exact congrArg (pix X i b Y) (by ring)
  unfold square
  simp only [row]
  rw [sum_halves z fun y => (∑ x : Fin z, pix X i b (p * (z + z) + y) (2 * q * z + x.val)) + ∑ x : Fin z, pix X i b (p * (z + z) + y) ((2 * q + 1) * z + x.val)]
  have e₁ (y : ℕ) : p * (z + z) + y = 2 * p * z + y := by ring
  have e₂ (y : ℕ) : p * (z + z) + (z + y) = (2 * p + 1) * z + y := by ring
  simp only [e₂]
  simp only [e₁, Finset.sum_add_distrib]
  ac_rfl

/-! ## A row's bin sums as a cell -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem scale_eq : Ideal.ofBits .f32 0x38800000#32 = ((1 / 16384 : ℝ) : EReal) := by
  simp [Ideal.ofBits, Ideal.ieee, -EReal.coe_mul]; norm_num

theorem unit_eq : Ideal.ofBits .f32 0x46800000#32 = ((16384 : ℝ) : EReal) := by
  simp [Ideal.ofBits, Ideal.ieee, -EReal.coe_mul]; norm_num

/-- The weight a code adds to bin `b`, as a real. -/
def addR (b : ℕ) (w : BitVec 32) : ℝ := if binOf w = b then ((w.sshiftRight' 4#32).toInt : ℝ) else 0

theorem addend_eq (b : ℕ) (w : BitVec 32) : addend b w = (addR b w : EReal) := by
  unfold addend addR weightOf
  split
  · rfl
  · exact EReal.coe_zero.symm

theorem magAt_eq (b : ℕ) (w : BitVec 32) : magAt b w = ((addR b w * (1 / 16384) : ℝ) : EReal) := by
  unfold magAt addR weightOf
  split
  · rw [unit_eq, Ideal.div, if_neg (by norm_num), EReal.coe_mul, ← EReal.coe_inv, one_div]
  · rw [zero_mul, EReal.coe_zero]

/-- The row's words for bin `b`, summed over lanes and scaled, are the sum over the row's pixels of what each adds. -/
theorem lanes_eq (X : (SP 1024).Idx → BitVec 32) (r : Fin 1024) (b : ℕ) :
    (∑ l : Fin 16, (∑ n : Fin 1024, addend b (codeAt X r n l)) * Ideal.ofBits .f32 0x38800000#32)
      = ∑ y : Fin 128, ∑ x : Fin 128, magAt b (X (ix3 r y x)) := by
  have hn : ∀ f : Fin 1024 → ℝ, ∑ n, f n = ∑ y : Fin 128, ∑ g : Fin 8, f ⟨8 * y.val + g.val, by omega⟩ := fun f => by
    rw [← Equiv.sum_comp (finProdFinEquiv (m := 128) (n := 8)) f, Fintype.sum_prod_type]
    refine Finset.sum_congr rfl fun y _ => Finset.sum_congr rfl fun g _ => congrArg f (Fin.ext ?_)
    show g.val + 8 * y.val = 8 * y.val + g.val
    omega
  have hx : ∀ f : Fin 128 → ℝ, ∑ x, f x = ∑ g : Fin 8, ∑ l : Fin 16, f ⟨16 * g.val + l.val, by omega⟩ := fun f => by
    rw [← Equiv.sum_comp (finProdFinEquiv (m := 8) (n := 16)) f, Fintype.sum_prod_type]
    refine Finset.sum_congr rfl fun g _ => Finset.sum_congr rfl fun l _ => congrArg f (Fin.ext ?_)
    show l.val + 16 * g.val = 16 * g.val + l.val
    omega
  have hc (y : Fin 128) (g : Fin 8) (l : Fin 16) :
      codeAt X r ⟨8 * y.val + g.val, by omega⟩ l = X (ix3 r y ⟨16 * g.val + l.val, by omega⟩) := by
    unfold codeAt
    refine congrArg X (funext fun a => ?_)
    fin_cases a
    · rfl
    · exact Fin.ext (show (8 * y.val + g.val) / 8 = y.val by omega)
    · exact Fin.ext (show 16 * ((8 * y.val + g.val) % 8) + l.val = 16 * g.val + l.val by omega)
  simp only [addend_eq, magAt_eq, scale_eq, ← coe_sum, ← EReal.coe_mul]
  refine congrArg (fun t : ℝ => (t : EReal)) ?_
  simp only [← Finset.sum_mul]
  refine congrArg (fun t : ℝ => t * (1 / 16384)) ?_
  simp only [hn]
  rw [Finset.sum_comm]
  refine Finset.sum_congr rfl fun y _ => ?_
  rw [hx fun x => addR b (X (ix3 r y x)), Finset.sum_comm]
  exact Finset.sum_congr rfl fun g _ => Finset.sum_congr rfl fun l _ => congrArg (addR b) (hc y g l)

/-- The same as a cell of side 128. -/
theorem square_row (X : (SP 1024).Idx → BitVec 32) (i : Fin 64) (p q : Fin 4) (b : ℕ) (r : Fin 1024) (hr : r.val = 16 * i.val + (4 * p.val + q.val)) :
    (∑ y : Fin 128, ∑ x : Fin 128, magAt b (X (ix3 r y x))) = square X 128 i.val p.val q.val b := by
  unfold square pix wordAt
  refine Finset.sum_congr rfl fun y _ => Finset.sum_congr rfl fun x _ => congrArg (fun t => magAt b (X t)) (funext fun a => ?_)
  fin_cases a
  · refine Fin.ext ?_
    show r.val = (16 * i.val + 4 * ((p.val * 128 + y.val) / 128) + (q.val * 128 + x.val) / 128) % 1024
    omega
  · refine Fin.ext ?_
    show y.val = (p.val * 128 + y.val) % 128
    omega
  · refine Fin.ext ?_
    show x.val = (q.val * 128 + x.val) % 128
    omega

end Cert.Proof.Hist
-- ==== Proof.RefLevels.lean ====
/-
  THE REFERENCE'S LEVELS. For cells of side `z`, `s` to a side of an image, the reference's two sums — over a cell's
  columns, then over its rows — and its normalisation, for any `s` and `z` that divide the image, read at an index.
-/
module

public import proofs.«01_k».proof.Proof.Cells
public import proofs.«01_k».proof.Proof.Gen.ReferenceIdeal

@[expose] public section

noncomputable section

namespace Cert.Proof.Ref

open Idealize.ShloMosaic
open Cert.ReferenceIdeal Cert.ReferenceIdeal.Gen
open Cert.Proof.Hist (share nrm pix square)

variable {F : FTy → Type} [FloatOps F]

abbrev Hot : Shape := ⟨4, ![64, 512, 512, 9]⟩
abbrev Cut (s z : ℕ) : Shape := ⟨5, ![64, 512, s, z, 9]⟩
abbrev Cols (s : ℕ) : Shape := ⟨4, ![64, 512, s, 9]⟩
abbrev CutRows (s z : ℕ) : Shape := ⟨5, ![64, s, z, s, 9]⟩
abbrev Grid (s : ℕ) : Shape := ⟨4, ![64, s, s, 9]⟩
abbrev Cells (n : ℕ) : Shape := ⟨3, ![64, n, 9]⟩
abbrev Ones (n : ℕ) : Shape := ⟨3, ![64, n, 1]⟩
abbrev Flat (n : ℕ) : Shape := ⟨2, ![64, n]⟩

section Sums

variable (s z n : ℕ) (h₁ : Hot.ShapeCasts (Cut s z)) (h₂ : (Cut s z).ReducesTo [3] (Cols s)) (h₃ : (Cols s).ShapeCasts (CutRows s z))
  (h₄ : (CutRows s z).ReducesTo [2] (Grid s)) (h₅ : (Grid s).ShapeCasts (Cells n))

/-- The sums over the cells. -/
def sums (hot : FVec F Hot .f32) : FVec F (Cells n) .f32 :=
  shapeCast (Cells n) (Host.reduceAdd (shapeCast (CutRows s z) (Host.reduceAdd (shapeCast (Cut s z) hot h₁) (constant S_ .f32 0x00000000#32) h₂ h_S_) h₃)
    (constant S_ .f32 0x00000000#32) h₄ h_S_) h₅

theorem cols_apply (hot : FVec Ideal Hot .f32) (hz : s * z = 512) (i : Fin 64) (y : Fin 512) (q : Fin s) (b : Fin 9) :
    Host.reduceAdd (shapeCast (Cut s z) hot h₁) (constant (F := Ideal) S_ .f32 0x00000000#32) h₂ h_S_ (ix4 i y q b)
      = ∑ x : Fin z, hot (ix4 i y ⟨q.val * z + x.val, by have := q.isLt; have := x.isLt; nlinarith⟩ b) := by
  rw [ValueIdx.hostReduceAdd_apply, Ideal.hostReduceAdd_r5_a3]
  rw [show (constant (F := Ideal) S_ .f32 0x00000000#32) (Shape.Idx.first h_S_) = 0 from Ideal.ofBits_zero_f32, zero_add]
  refine Finset.sum_congr rfl fun x _ => shapeCast_apply _ _ _ _ ?_
  rw [Shape.rowMajor_val_four, Shape.rowMajor_val_five]
  show ((i.val * 512 + y.val) * 512 + (q.val * z + x.val)) * 9 + b.val = (((i.val * 512 + y.val) * s + q.val) * z + x.val) * 9 + b.val
  generalize i.val * 512 + y.val = A
  rw [← hz]; ring

theorem sums_apply (hot : FVec Ideal Hot .f32) (hz : s * z = 512) (hn : s * s = n) (i : Fin 64) (p q : Fin s) (c : Fin n) (hc : c.val = p.val * s + q.val) (b : Fin 9) :
    sums s z n h₁ h₂ h₃ h₄ h₅ hot (ix3 i c b)
      = ∑ y : Fin z, ∑ x : Fin z, hot (ix4 i ⟨p.val * z + y.val, by have := p.isLt; have := y.isLt; nlinarith⟩ ⟨q.val * z + x.val, by have := q.isLt; have := x.isLt; nlinarith⟩ b) := by
  unfold sums
  refine (shapeCast_apply _ _ _ (ix4 i p q b) ?_).trans ?_
  · rw [Shape.rowMajor_val_four, Shape.rowMajor_val_three]
    show ((i.val * s + p.val) * s + q.val) * 9 + b.val = (i.val * n + c.val) * 9 + b.val
    subst hn
    rw [hc]; ring
  rw [ValueIdx.hostReduceAdd_apply, Ideal.hostReduceAdd_r5_a2]
  rw [show (constant (F := Ideal) S_ .f32 0x00000000#32) (Shape.Idx.first h_S_) = 0 from Ideal.ofBits_zero_f32, zero_add]
  refine Finset.sum_congr rfl fun y _ => ?_
  refine (shapeCast_apply _ _ _ (ix4 i (⟨p.val * z + y.val, by have := p.isLt; have := y.isLt; nlinarith⟩ : Fin 512) q b) ?_).trans
    (cols_apply s z h₁ h₂ hot hz i _ q b)
  rw [Shape.rowMajor_val_four, Shape.rowMajor_val_five]
  show ((i.val * 512 + (p.val * z + y.val)) * s + q.val) * 9 + b.val = (((i.val * s + p.val) * z + y.val) * s + q.val) * 9 + b.val
  rw [← hz]; ring

end Sums

section Norm

variable (n : ℕ) (h₁ : (Cells n).ReducesTo [2] (Flat n)) (h₂ : (Flat n).BroadcastsInDim (Ones n) ![0, 1]) (h₃ : S_.BroadcastsInDim (Ones n) ![])
  (h₄ : (Ones n).BroadcastsInDim (Cells n) ![0, 1, 2])

/-- A cell's nine sums over their total. -/
def parts (v : FVec F (Cells n) .f32) : FVec F (Cells n) .f32 :=
  Host.divf v (broadcastInDim (Cells n) ![0, 1, 2] h₄ (addf (broadcastInDim (Ones n) ![0, 1] h₂ (Host.reduceAdd v (constant S_ .f32 0x00000000#32) h₁ h_S_))
    (broadcastInDim (Ones n) ![] h₃ (constant S_ .f32 0x322BCC77#32))))

/-- Those over their length. -/
def lengths (v : FVec F (Cells n) .f32) : FVec F (Cells n) .f32 :=
  Host.divf v (broadcastInDim (Cells n) ![0, 1, 2] h₄ (maximumf (Host.sqrt (broadcastInDim (Ones n) ![0, 1] h₂
    (Host.reduceAdd (mulf v v) (constant S_ .f32 0x00000000#32) h₁ h_S_))) (broadcastInDim (Ones n) ![] h₃ (constant S_ .f32 0x2B8CBCCC#32))))

theorem spread {α : Type} (w : (Ones n).Idx → α) (i : Fin 64) (c : Fin n) (b : Fin 9) :
    broadcastInDim (Cells n) ![0, 1, 2] h₄ w (ix3 i c b) = w (ix3 i c (0 : Fin 1)) :=
  broadcastInDim_apply _ _ _ _ _ fun a => by
    fin_cases a
    · rfl
    · show c.val = if n = 1 then 0 else c.val
      split <;> omega
    · rfl

theorem keep {α : Type} (w : (Flat n).Idx → α) (i : Fin 64) (c : Fin n) :
    broadcastInDim (Ones n) ![0, 1] h₂ w (ix3 i c (0 : Fin 1)) = w (ix2 i c) :=
  broadcastInDim_apply _ _ _ _ _ fun a => by
    fin_cases a
    · rfl
    · show c.val = if n = 1 then 0 else c.val
      split <;> omega

theorem total (v : FVec Ideal (Cells n) .f32) (i : Fin 64) (c : Fin n) :
    Host.reduceAdd v (constant (F := Ideal) S_ .f32 0x00000000#32) h₁ h_S_ (ix2 i c) = ∑ k : Fin 9, v (ix3 i c k) := by
  rw [ValueIdx.hostReduceAdd_apply, Ideal.hostReduceAdd_r3_a2]
  rw [show (constant (F := Ideal) S_ .f32 0x00000000#32) (Shape.Idx.first h_S_) = 0 from Ideal.ofBits_zero_f32, zero_add]
  rfl

theorem parts_apply (v : FVec Ideal (Cells n) .f32) (i : Fin 64) (c : Fin n) (b : Fin 9) :
    parts n h₁ h₂ h₃ h₄ v (ix3 i c b) = share (fun k => v (ix3 i c k)) b := by
  unfold parts share
  show Ideal.div _ (broadcastInDim _ _ _ _ _) = _
  rw [spread, show ∀ u w : FVec Ideal (Ones n) .f32, addf u w (ix3 i c 0) = u (ix3 i c 0) + w (ix3 i c 0) from fun _ _ => rfl, keep, total, show ∀ w : FVec Ideal S_ .f32, broadcastInDim (Ones n) ![] h₃ w (ix3 i c (0 : Fin 1)) = w (Shape.Idx.first h_S_) from fun w => broadcastInDim_apply _ _ _ _ _ fun a => a.elim0]
  rfl

theorem lengths_apply (v : FVec Ideal (Cells n) .f32) (i : Fin 64) (c : Fin n) (b : Fin 9) :
    lengths n h₁ h₂ h₃ h₄ v (ix3 i c b) = Ideal.div (v (ix3 i c b)) (max (Ideal.sqrt (∑ k : Fin 9, v (ix3 i c k) * v (ix3 i c k))) (Ideal.ofBits .f32 0x2B8CBCCC#32)) := by
  unfold lengths
  show Ideal.div _ (broadcastInDim _ _ _ _ _) = _
  rw [spread]
  show Ideal.div _ (max (Ideal.sqrt (broadcastInDim _ _ _ _ _)) (broadcastInDim _ _ _ _ _)) = _
  rw [keep, total, show ∀ w : FVec Ideal S_ .f32, broadcastInDim (Ones n) ![] h₃ w (ix3 i c (0 : Fin 1)) = w (Shape.Idx.first h_S_) from fun w => broadcastInDim_apply _ _ _ _ _ fun a => a.elim0]
  rfl

theorem normed_apply (v : FVec Ideal (Cells n) .f32) (i : Fin 64) (c : Fin n) (b : Fin 9) :
    lengths n h₁ h₂ h₃ h₄ (parts n h₁ h₂ h₃ h₄ v) (ix3 i c b) = nrm (fun k => v (ix3 i c k)) b := by
  rw [lengths_apply]
  simp only [parts_apply]
  rfl

end Norm

end Cert.Proof.Ref
-- ==== Proof.Ref.lean ====
/-
  THE REFERENCE'S RUN. Its operations one after the other, in five stretches — the magnitudes laid out over the nine
  bins, the three levels, their listing —, and what its result holds as a function of its four arguments.
-/
module

public import proofs.«01_k».proof.Proof.RefLevels
public import Idealize.ShloMosaic.Lib.StableHlo.Run
public import Idealize.ShloMosaic.Lib.StableHlo.RunRead

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The codes put in image order, split into magnitude and bin, and the magnitudes laid out over the nine bins. -/
abbrev hotOps : List (HloOp τ sig (Elt F)) :=
  [ nary ![main_arg0, main_arg1, main_arg2, main_arg3] main_v0 (fun u => (concatenate S1024x128x128 0 [⟨S320x128x128, (u 0 : (⟨S320x128x128, .i32⟩ : BufTy).Contents (Elt F))⟩, ⟨S320x128x128, (u 1 : (⟨S320x128x128, .i32⟩ : BufTy).Contents (Elt F))⟩, ⟨S320x128x128, (u 2 : (⟨S320x128x128, .i32⟩ : BufTy).Contents (Elt F))⟩, ⟨S64x128x128, (u 3 : (⟨S64x128x128, .i32⟩ : BufTy).Contents (Elt F))⟩] concatenates_S320x128x128_S320x128x128_S320x128x128_S64x128x128_S1024x128x128_d0 : (⟨S1024x128x128, .i32⟩ : BufTy).Contents (Elt F))),
    reshape main_v0 main_v1 (rfl : (.i32 : EltTy) = .i32) shapeCasts_S1024x128x128_S64x4x4x128x128,
    unary main_v1 main_v2 ((transpose S64x4x128x4x128 [0, 1, 3, 2, 4] · transposes_S64x4x4x128x128_S64x4x128x4x128_0_1_3_2_4) : (⟨S64x4x4x128x128, .i32⟩ : BufTy).Contents (Elt F) → (⟨S64x4x128x4x128, .i32⟩ : BufTy).Contents (Elt F)),
    reshape main_v2 main_v3 (rfl : (.i32 : EltTy) = .i32) shapeCasts_S64x4x128x4x128_S64x512x512,
    nullary main_c (constantI S_ 32 4#32),
    unary main_c main_v4 (broadcastInDim S64x512x512 ![] bcast_S_S64x512x512 : (⟨S_, .i32⟩ : BufTy).Contents (Elt F) → (⟨S64x512x512, .i32⟩ : BufTy).Contents (Elt F)),
    binary main_v3 main_v4 main_v5 (Host.shrsi : (⟨S64x512x512, .i32⟩ : BufTy).Contents (Elt F) → (⟨S64x512x512, .i32⟩ : BufTy).Contents (Elt F) → (⟨S64x512x512, .i32⟩ : BufTy).Contents (Elt F)),
    unary main_v5 main_v6 (sitofp .f32 : (⟨S64x512x512, .i32⟩ : BufTy).Contents (Elt F) → (⟨S64x512x512, .f32⟩ : BufTy).Contents (Elt F)),
    nullary main_cst (constant S_ .f32 0x46800000#32),
    unary main_cst main_v7 (broadcastInDim S64x512x512 ![] bcast_S_S64x512x512 : (⟨S_, .f32⟩ : BufTy).Contents (Elt F) → (⟨S64x512x512, .f32⟩ : BufTy).Contents (Elt F)),
    binary main_v6 main_v7 main_v8 (Host.divf : (⟨S64x512x512, .f32⟩ : BufTy).Contents (Elt F) → (⟨S64x512x512, .f32⟩ : BufTy).Contents (Elt F) → (⟨S64x512x512, .f32⟩ : BufTy).Contents (Elt F)),
    nullary main_c_0 (constantI S_ 32 15#32),
    unary main_c_0 main_v9 (broadcastInDim S64x512x512 ![] bcast_S_S64x512x512 : (⟨S_, .i32⟩ : BufTy).Contents (Elt F) → (⟨S64x512x512, .i32⟩ : BufTy).Contents (Elt F)),
    binary main_v3 main_v9 main_v10 (andi : (⟨S64x512x512, .i32⟩ : BufTy).Contents (Elt F) → (⟨S64x512x512, .i32⟩ : BufTy).Contents (Elt F) → (⟨S64x512x512, .i32⟩ : BufTy).Contents (Elt F)),
    nullary main_c_1 (constantI S_ 32 5#32),
    unary main_c_1 main_v11 (broadcastInDim S64x512x512 ![] bcast_S_S64x512x512 : (⟨S_, .i32⟩ : BufTy).Contents (Elt F) → (⟨S64x512x512, .i32⟩ : BufTy).Contents (Elt F)),
    binary main_v10 main_v11 main_v12 (addi : (⟨S64x512x512, .i32⟩ : BufTy).Contents (Elt F) → (⟨S64x512x512, .i32⟩ : BufTy).Contents (Elt F) → (⟨S64x512x512, .i32⟩ : BufTy).Contents (Elt F)),
    nullary main_c_2 (constantI S_ 32 9#32),
    unary main_c_2 main_v13 (broadcastInDim S64x512x512 ![] bcast_S_S64x512x512 : (⟨S_, .i32⟩ : BufTy).Contents (Elt F) → (⟨S64x512x512, .i32⟩ : BufTy).Contents (Elt F)),
    binary main_v12 main_v13 main_v14 (Host.remsi : (⟨S64x512x512, .i32⟩ : BufTy).Contents (Elt F) → (⟨S64x512x512, .i32⟩ : BufTy).Contents (Elt F) → (⟨S64x512x512, .i32⟩ : BufTy).Contents (Elt F)),
    unary main_v14 main_v15 (broadcastInDim S64x512x512x1 ![0, 1, 2] bcast_S64x512x512_S64x512x512x1_0_1_2 : (⟨S64x512x512, .i32⟩ : BufTy).Contents (Elt F) → (⟨S64x512x512x1, .i32⟩ : BufTy).Contents (Elt F)),
    nullary main_v16 (iotaInDim S9 32 0),
    unary main_v16 main_v17 (broadcastInDim S1x1x1x9 ![3] bcast_S9_S1x1x1x9_3 : (⟨S9, .i32⟩ : BufTy).Contents (Elt F) → (⟨S1x1x1x9, .i32⟩ : BufTy).Contents (Elt F)),
    unary main_v15 main_v18 (broadcastInDim S64x512x512x9 ![0, 1, 2, 3] bcast_S64x512x512x1_S64x512x512x9_0_1_2_3 : (⟨S64x512x512x1, .i32⟩ : BufTy).Contents (Elt F) → (⟨S64x512x512x9, .i32⟩ : BufTy).Contents (Elt F)),
    unary main_v17 main_v19 (broadcastInDim S64x512x512x9 ![0, 1, 2, 3] bcast_S1x1x1x9_S64x512x512x9_0_1_2_3 : (⟨S1x1x1x9, .i32⟩ : BufTy).Contents (Elt F) → (⟨S64x512x512x9, .i32⟩ : BufTy).Contents (Elt F)),
    binary main_v18 main_v19 main_v20 (cmpi .eq : (⟨S64x512x512x9, .i32⟩ : BufTy).Contents (Elt F) → (⟨S64x512x512x9, .i32⟩ : BufTy).Contents (Elt F) → (⟨S64x512x512x9, .i1⟩ : BufTy).Contents (Elt F)),
    unary main_v8 main_v21 (broadcastInDim S64x512x512x1 ![0, 1, 2] bcast_S64x512x512_S64x512x512x1_0_1_2 : (⟨S64x512x512, .f32⟩ : BufTy).Contents (Elt F) → (⟨S64x512x512x1, .f32⟩ : BufTy).Contents (Elt F)),
    nullary main_cst_3 (constant S_ .f32 0x00000000#32),
    TRef.unary (.of main_cst_3 : TRef sig ⟨S_, .f32⟩) main_call0.v0 id,
    TRef.unary (.of main_v21 : TRef sig ⟨S64x512x512x1, .f32⟩) main_call0.v1 (broadcastInDim S64x512x512x9 ![0, 1, 2, 3] bcast_S64x512x512x1_S64x512x512x9_0_1_2_3),
    TRef.unary main_call0.v0 main_call0.v2 (broadcastInDim S64x512x512x9 ![] bcast_S_S64x512x512x9),
    TRef.ternary (.of main_v20 : TRef sig ⟨S64x512x512x9, .i1⟩) main_call0.v1 main_call0.v2 main_call0.v3 select ]

abbrev hotOpsW : List (Ref sig .tc) := [main_v0, main_v1, main_v2, main_v3, main_c, main_v4, main_v5, main_v6, main_cst, main_v7, main_v8, main_c_0, main_v9, main_v10, main_c_1, main_v11, main_v12, main_c_2, main_v13, main_v14, main_v15, main_v16, main_v17, main_v18, main_v19, main_v20, main_v21, main_cst_3, main_call0_v0, main_call0_v1, main_call0_v2, main_v22]

/-- The whole images' sums, normalised. -/
abbrev wholeOps : List (HloOp τ sig (Elt F)) :=
  [ reshape main_v22 main_v23 (rfl : (.f32 : EltTy) = .f32) shapeCasts_S64x512x512x9_S64x512x1x512x9,
    nullary main_cst_4 (constant S_ .f32 0x00000000#32),
    binary main_v23 main_cst_4 main_v24 ((fun x v => Host.reduceAdd x v reducesTo_S64x512x1x512x9_S64x512x1x9_d3 h_S_) : (⟨S64x512x1x512x9, .f32⟩ : BufTy).Contents (Elt F) → (⟨S_, .f32⟩ : BufTy).Contents (Elt F) → (⟨S64x512x1x9, .f32⟩ : BufTy).Contents (Elt F)),
    reshape main_v24 main_v25 (rfl : (.f32 : EltTy) = .f32) shapeCasts_S64x512x1x9_S64x1x512x1x9,
    nullary main_cst_5 (constant S_ .f32 0x00000000#32),
    binary main_v25 main_cst_5 main_v26 ((fun x v => Host.reduceAdd x v reducesTo_S64x1x512x1x9_S64x1x1x9_d2 h_S_) : (⟨S64x1x512x1x9, .f32⟩ : BufTy).Contents (Elt F) → (⟨S_, .f32⟩ : BufTy).Contents (Elt F) → (⟨S64x1x1x9, .f32⟩ : BufTy).Contents (Elt F)),
    reshape main_v26 main_v27 (rfl : (.f32 : EltTy) = .f32) shapeCasts_S64x1x1x9_S64x1x9,
    nullary main_cst_6 (constant S_ .f32 0x00000000#32),
    binary main_v27 main_cst_6 main_v28 ((fun x v => Host.reduceAdd x v reducesTo_S64x1x9_S64x1_d2 h_S_) : (⟨S64x1x9, .f32⟩ : BufTy).Contents (Elt F) → (⟨S_, .f32⟩ : BufTy).Contents (Elt F) → (⟨S64x1, .f32⟩ : BufTy).Contents (Elt F)),
    unary main_v28 main_v29 (broadcastInDim S64x1x1 ![0, 1] bcast_S64x1_S64x1x1_0_1 : (⟨S64x1, .f32⟩ : BufTy).Contents (Elt F) → (⟨S64x1x1, .f32⟩ : BufTy).Contents (Elt F)),
    nullary main_cst_7 (constant S_ .f32 0x322BCC77#32),
    unary main_cst_7 main_v30 (broadcastInDim S64x1x1 ![] bcast_S_S64x1x1 : (⟨S_, .f32⟩ : BufTy).Contents (Elt F) → (⟨S64x1x1, .f32⟩ : BufTy).Contents (Elt F)),
    binary main_v29 main_v30 main_v31 (addf : (⟨S64x1x1, .f32⟩ : BufTy).Contents (Elt F) → (⟨S64x1x1, .f32⟩ : BufTy).Contents (Elt F) → (⟨S64x1x1, .f32⟩ : BufTy).Contents (Elt F)),
    unary main_v31 main_v32 (broadcastInDim S64x1x9 ![0, 1, 2] bcast_S64x1x1_S64x1x9_0_1_2 : (⟨S64x1x1, .f32⟩ : BufTy).Contents (Elt F) → (⟨S64x1x9, .f32⟩ : BufTy).Contents (Elt F)),
    binary main_v27 main_v32 main_v33 (Host.divf : (⟨S64x1x9, .f32⟩ : BufTy).Contents (Elt F) → (⟨S64x1x9, .f32⟩ : BufTy).Contents (Elt F) → (⟨S64x1x9, .f32⟩ : BufTy).Contents (Elt F)),
    binary main_v33 main_v33 main_v34 (mulf : (⟨S64x1x9, .f32⟩ : BufTy).Contents (Elt F) → (⟨S64x1x9, .f32⟩ : BufTy).Contents (Elt F) → (⟨S64x1x9, .f32⟩ : BufTy).Contents (Elt F)),
    nullary main_cst_8 (constant S_ .f32 0x00000000#32),
    binary main_v34 main_cst_8 main_v35 ((fun x v => Host.reduceAdd x v reducesTo_S64x1x9_S64x1_d2 h_S_) : (⟨S64x1x9, .f32⟩ : BufTy).Contents (Elt F) → (⟨S_, .f32⟩ : BufTy).Contents (Elt F) → (⟨S64x1, .f32⟩ : BufTy).Contents (Elt F)),
    unary main_v35 main_v36 (broadcastInDim S64x1x1 ![0, 1] bcast_S64x1_S64x1x1_0_1 : (⟨S64x1, .f32⟩ : BufTy).Contents (Elt F) → (⟨S64x1x1, .f32⟩ : BufTy).Contents (Elt F)),
    unary main_v36 main_v37 (Host.sqrt : (⟨S64x1x1, .f32⟩ : BufTy).Contents (Elt F) → (⟨S64x1x1, .f32⟩ : BufTy).Contents (Elt F)),
    nullary main_cst_9 (constant S_ .f32 0x2B8CBCCC#32),
    unary main_cst_9 main_v38 (broadcastInDim S64x1x1 ![] bcast_S_S64x1x1 : (⟨S_, .f32⟩ : BufTy).Contents (Elt F) → (⟨S64x1x1, .f32⟩ : BufTy).Contents (Elt F)),
    binary main_v37 main_v38 main_v39 (maximumf : (⟨S64x1x1, .f32⟩ : BufTy).Contents (Elt F) → (⟨S64x1x1, .f32⟩ : BufTy).Contents (Elt F) → (⟨S64x1x1, .f32⟩ : BufTy).Contents (Elt F)),
    unary main_v39 main_v40 (broadcastInDim S64x1x9 ![0, 1, 2] bcast_S64x1x1_S64x1x9_0_1_2 : (⟨S64x1x1, .f32⟩ : BufTy).Contents (Elt F) → (⟨S64x1x9, .f32⟩ : BufTy).Contents (Elt F)),
    binary main_v33 main_v40 main_v41 (Host.divf : (⟨S64x1x9, .f32⟩ : BufTy).Contents (Elt F) → (⟨S64x1x9, .f32⟩ : BufTy).Contents (Elt F) → (⟨S64x1x9, .f32⟩ : BufTy).Contents (Elt F)),
    reshape main_v41 main_v42 (rfl : (.f32 : EltTy) = .f32) shapeCasts_S64x1x9_S4x16x9 ]

abbrev wholeOpsW : List (Ref sig .tc) := [main_v23, main_cst_4, main_v24, main_v25, main_cst_5, main_v26, main_v27, main_cst_6, main_v28, main_v29, main_cst_7, main_v30, main_v31, main_v32, main_v33, main_v34, main_cst_8, main_v35, main_v36, main_v37, main_cst_9, main_v38, main_v39, main_v40, main_v41, main_v42]

/-- The quarters' sums, normalised. -/
abbrev quarterOps : List (HloOp τ sig (Elt F)) :=
  [ reshape main_v22 main_v43 (rfl : (.f32 : EltTy) = .f32) shapeCasts_S64x512x512x9_S64x512x2x256x9,
    nullary main_cst_10 (constant S_ .f32 0x00000000#32),
    binary main_v43 main_cst_10 main_v44 ((fun x v => Host.reduceAdd x v reducesTo_S64x512x2x256x9_S64x512x2x9_d3 h_S_) : (⟨S64x512x2x256x9, .f32⟩ : BufTy).Contents (Elt F) → (⟨S_, .f32⟩ : BufTy).Contents (Elt F) → (⟨S64x512x2x9, .f32⟩ : BufTy).Contents (Elt F)),
    reshape main_v44 main_v45 (rfl : (.f32 : EltTy) = .f32) shapeCasts_S64x512x2x9_S64x2x256x2x9,
    nullary main_cst_11 (constant S_ .f32 0x00000000#32),
    binary main_v45 main_cst_11 main_v46 ((fun x v => Host.reduceAdd x v reducesTo_S64x2x256x2x9_S64x2x2x9_d2 h_S_) : (⟨S64x2x256x2x9, .f32⟩ : BufTy).Contents (Elt F) → (⟨S_, .f32⟩ : BufTy).Contents (Elt F) → (⟨S64x2x2x9, .f32⟩ : BufTy).Contents (Elt F)),
    reshape main_v46 main_v47 (rfl : (.f32 : EltTy) = .f32) shapeCasts_S64x2x2x9_S64x4x9,
    nullary main_cst_12 (constant S_ .f32 0x00000000#32),
    binary main_v47 main_cst_12 main_v48 ((fun x v => Host.reduceAdd x v reducesTo_S64x4x9_S64x4_d2 h_S_) : (⟨S64x4x9, .f32⟩ : BufTy).Contents (Elt F) → (⟨S_, .f32⟩ : BufTy).Contents (Elt F) → (⟨S64x4, .f32⟩ : BufTy).Contents (Elt F)),
    unary main_v48 main_v49 (broadcastInDim S64x4x1 ![0, 1] bcast_S64x4_S64x4x1_0_1 : (⟨S64x4, .f32⟩ : BufTy).Contents (Elt F) → (⟨S64x4x1, .f32⟩ : BufTy).Contents (Elt F)),
    nullary main_cst_13 (constant S_ .f32 0x322BCC77#32),
    unary main_cst_13 main_v50 (broadcastInDim S64x4x1 ![] bcast_S_S64x4x1 : (⟨S_, .f32⟩ : BufTy).Contents (Elt F) → (⟨S64x4x1, .f32⟩ : BufTy).Contents (Elt F)),
    binary main_v49 main_v50 main_v51 (addf : (⟨S64x4x1, .f32⟩ : BufTy).Contents (Elt F) → (⟨S64x4x1, .f32⟩ : BufTy).Contents (Elt F) → (⟨S64x4x1, .f32⟩ : BufTy).Contents (Elt F)),
    unary main_v51 main_v52 (broadcastInDim S64x4x9 ![0, 1, 2] bcast_S64x4x1_S64x4x9_0_1_2 : (⟨S64x4x1, .f32⟩ : BufTy).Contents (Elt F) → (⟨S64x4x9, .f32⟩ : BufTy).Contents (Elt F)),
    binary main_v47 main_v52 main_v53 (Host.divf : (⟨S64x4x9, .f32⟩ : BufTy).Contents (Elt F) → (⟨S64x4x9, .f32⟩ : BufTy).Contents (Elt F) → (⟨S64x4x9, .f32⟩ : BufTy).Contents (Elt F)),
    binary main_v53 main_v53 main_v54 (mulf : (⟨S64x4x9, .f32⟩ : BufTy).Contents (Elt F) → (⟨S64x4x9, .f32⟩ : BufTy).Contents (Elt F) → (⟨S64x4x9, .f32⟩ : BufTy).Contents (Elt F)),
    nullary main_cst_14 (constant S_ .f32 0x00000000#32),
    binary main_v54 main_cst_14 main_v55 ((fun x v => Host.reduceAdd x v reducesTo_S64x4x9_S64x4_d2 h_S_) : (⟨S64x4x9, .f32⟩ : BufTy).Contents (Elt F) → (⟨S_, .f32⟩ : BufTy).Contents (Elt F) → (⟨S64x4, .f32⟩ : BufTy).Contents (Elt F)),
    unary main_v55 main_v56 (broadcastInDim S64x4x1 ![0, 1] bcast_S64x4_S64x4x1_0_1 : (⟨S64x4, .f32⟩ : BufTy).Contents (Elt F) → (⟨S64x4x1, .f32⟩ : BufTy).Contents (Elt F)),
    unary main_v56 main_v57 (Host.sqrt : (⟨S64x4x1, .f32⟩ : BufTy).Contents (Elt F) → (⟨S64x4x1, .f32⟩ : BufTy).Contents (Elt F)),
    nullary main_cst_15 (constant S_ .f32 0x2B8CBCCC#32),
    unary main_cst_15 main_v58 (broadcastInDim S64x4x1 ![] bcast_S_S64x4x1 : (⟨S_, .f32⟩ : BufTy).Contents (Elt F) → (⟨S64x4x1, .f32⟩ : BufTy).Contents (Elt F)),
    binary main_v57 main_v58 main_v59 (maximumf : (⟨S64x4x1, .f32⟩ : BufTy).Contents (Elt F) → (⟨S64x4x1, .f32⟩ : BufTy).Contents (Elt F) → (⟨S64x4x1, .f32⟩ : BufTy).Contents (Elt F)),
    unary main_v59 main_v60 (broadcastInDim S64x4x9 ![0, 1, 2] bcast_S64x4x1_S64x4x9_0_1_2 : (⟨S64x4x1, .f32⟩ : BufTy).Contents (Elt F) → (⟨S64x4x9, .f32⟩ : BufTy).Contents (Elt F)),
    binary main_v53 main_v60 main_v61 (Host.divf : (⟨S64x4x9, .f32⟩ : BufTy).Contents (Elt F) → (⟨S64x4x9, .f32⟩ : BufTy).Contents (Elt F) → (⟨S64x4x9, .f32⟩ : BufTy).Contents (Elt F)),
    reshape main_v61 main_v62 (rfl : (.f32 : EltTy) = .f32) shapeCasts_S64x4x9_S4x64x9 ]

abbrev quarterOpsW : List (Ref sig .tc) := [main_v43, main_cst_10, main_v44, main_v45, main_cst_11, main_v46, main_v47, main_cst_12, main_v48, main_v49, main_cst_13, main_v50, main_v51, main_v52, main_v53, main_v54, main_cst_14, main_v55, main_v56, main_v57, main_cst_15, main_v58, main_v59, main_v60, main_v61, main_v62]

/-- The sixteen cells' sums, normalised. -/
abbrev cellOps : List (HloOp τ sig (Elt F)) :=
  [ reshape main_v22 main_v63 (rfl : (.f32 : EltTy) = .f32) shapeCasts_S64x512x512x9_S64x512x4x128x9,
    nullary main_cst_16 (constant S_ .f32 0x00000000#32),
    binary main_v63 main_cst_16 main_v64 ((fun x v => Host.reduceAdd x v reducesTo_S64x512x4x128x9_S64x512x4x9_d3 h_S_) : (⟨S64x512x4x128x9, .f32⟩ : BufTy).Contents (Elt F) → (⟨S_, .f32⟩ : BufTy).Contents (Elt F) → (⟨S64x512x4x9, .f32⟩ : BufTy).Contents (Elt F)),
    reshape main_v64 main_v65 (rfl : (.f32 : EltTy) = .f32) shapeCasts_S64x512x4x9_S64x4x128x4x9,
    nullary main_cst_17 (constant S_ .f32 0x00000000#32),
    binary main_v65 main_cst_17 main_v66 ((fun x v => Host.reduceAdd x v reducesTo_S64x4x128x4x9_S64x4x4x9_d2 h_S_) : (⟨S64x4x128x4x9, .f32⟩ : BufTy).Contents (Elt F) → (⟨S_, .f32⟩ : BufTy).Contents (Elt F) → (⟨S64x4x4x9, .f32⟩ : BufTy).Contents (Elt F)),
    reshape main_v66 main_v67 (rfl : (.f32 : EltTy) = .f32) shapeCasts_S64x4x4x9_S64x16x9,
    nullary main_cst_18 (constant S_ .f32 0x00000000#32),
    binary main_v67 main_cst_18 main_v68 ((fun x v => Host.reduceAdd x v reducesTo_S64x16x9_S64x16_d2 h_S_) : (⟨S64x16x9, .f32⟩ : BufTy).Contents (Elt F) → (⟨S_, .f32⟩ : BufTy).Contents (Elt F) → (⟨S64x16, .f32⟩ : BufTy).Contents (Elt F)),
    unary main_v68 main_v69 (broadcastInDim S64x16x1 ![0, 1] bcast_S64x16_S64x16x1_0_1 : (⟨S64x16, .f32⟩ : BufTy).Contents (Elt F) → (⟨S64x16x1, .f32⟩ : BufTy).Contents (Elt F)),
    nullary main_cst_19 (constant S_ .f32 0x322BCC77#32),
    unary main_cst_19 main_v70 (broadcastInDim S64x16x1 ![] bcast_S_S64x16x1 : (⟨S_, .f32⟩ : BufTy).Contents (Elt F) → (⟨S64x16x1, .f32⟩ : BufTy).Contents (Elt F)),
    binary main_v69 main_v70 main_v71 (addf : (⟨S64x16x1, .f32⟩ : BufTy).Contents (Elt F) → (⟨S64x16x1, .f32⟩ : BufTy).Contents (Elt F) → (⟨S64x16x1, .f32⟩ : BufTy).Contents (Elt F)),
    unary main_v71 main_v72 (broadcastInDim S64x16x9 ![0, 1, 2] bcast_S64x16x1_S64x16x9_0_1_2 : (⟨S64x16x1, .f32⟩ : BufTy).Contents (Elt F) → (⟨S64x16x9, .f32⟩ : BufTy).Contents (Elt F)),
    binary main_v67 main_v72 main_v73 (Host.divf : (⟨S64x16x9, .f32⟩ : BufTy).Contents (Elt F) → (⟨S64x16x9, .f32⟩ : BufTy).Contents (Elt F) → (⟨S64x16x9, .f32⟩ : BufTy).Contents (Elt F)),
    binary main_v73 main_v73 main_v74 (mulf : (⟨S64x16x9, .f32⟩ : BufTy).Contents (Elt F) → (⟨S64x16x9, .f32⟩ : BufTy).Contents (Elt F) → (⟨S64x16x9, .f32⟩ : BufTy).Contents (Elt F)),
    nullary main_cst_20 (constant S_ .f32 0x00000000#32),
    binary main_v74 main_cst_20 main_v75 ((fun x v => Host.reduceAdd x v reducesTo_S64x16x9_S64x16_d2 h_S_) : (⟨S64x16x9, .f32⟩ : BufTy).Contents (Elt F) → (⟨S_, .f32⟩ : BufTy).Contents (Elt F) → (⟨S64x16, .f32⟩ : BufTy).Contents (Elt F)),
    unary main_v75 main_v76 (broadcastInDim S64x16x1 ![0, 1] bcast_S64x16_S64x16x1_0_1 : (⟨S64x16, .f32⟩ : BufTy).Contents (Elt F) → (⟨S64x16x1, .f32⟩ : BufTy).Contents (Elt F)),
    unary main_v76 main_v77 (Host.sqrt : (⟨S64x16x1, .f32⟩ : BufTy).Contents (Elt F) → (⟨S64x16x1, .f32⟩ : BufTy).Contents (Elt F)),
    nullary main_cst_21 (constant S_ .f32 0x2B8CBCCC#32),
    unary main_cst_21 main_v78 (broadcastInDim S64x16x1 ![] bcast_S_S64x16x1 : (⟨S_, .f32⟩ : BufTy).Contents (Elt F) → (⟨S64x16x1, .f32⟩ : BufTy).Contents (Elt F)),
    binary main_v77 main_v78 main_v79 (maximumf : (⟨S64x16x1, .f32⟩ : BufTy).Contents (Elt F) → (⟨S64x16x1, .f32⟩ : BufTy).Contents (Elt F) → (⟨S64x16x1, .f32⟩ : BufTy).Contents (Elt F)),
    unary main_v79 main_v80 (broadcastInDim S64x16x9 ![0, 1, 2] bcast_S64x16x1_S64x16x9_0_1_2 : (⟨S64x16x1, .f32⟩ : BufTy).Contents (Elt F) → (⟨S64x16x9, .f32⟩ : BufTy).Contents (Elt F)),
    binary main_v73 main_v80 main_v81 (Host.divf : (⟨S64x16x9, .f32⟩ : BufTy).Contents (Elt F) → (⟨S64x16x9, .f32⟩ : BufTy).Contents (Elt F) → (⟨S64x16x9, .f32⟩ : BufTy).Contents (Elt F)),
    reshape main_v81 main_v82 (rfl : (.f32 : EltTy) = .f32) shapeCasts_S64x16x9_S4x256x9 ]

abbrev cellOpsW : List (Ref sig .tc) := [main_v63, main_cst_16, main_v64, main_v65, main_cst_17, main_v66, main_v67, main_cst_18, main_v68, main_v69, main_cst_19, main_v70, main_v71, main_v72, main_v73, main_v74, main_cst_20, main_v75, main_v76, main_v77, main_cst_21, main_v78, main_v79, main_v80, main_v81, main_v82]

/-- The three levels, listed. -/
abbrev listOps : List (HloOp τ sig (Elt F)) :=
  [ nary ![main_v42, main_v62, main_v82] main_v83 (fun u => (concatenate S4x336x9 1 [⟨S4x16x9, (u 0 : (⟨S4x16x9, .f32⟩ : BufTy).Contents (Elt F))⟩, ⟨S4x64x9, (u 1 : (⟨S4x64x9, .f32⟩ : BufTy).Contents (Elt F))⟩, ⟨S4x256x9, (u 2 : (⟨S4x256x9, .f32⟩ : BufTy).Contents (Elt F))⟩] concatenates_S4x16x9_S4x64x9_S4x256x9_S4x336x9_d1 : (⟨S4x336x9, .f32⟩ : BufTy).Contents (Elt F))),
    unary main_v83 main_v84 (broadcastInDim S4x1x336x9 ![0, 2, 3] bcast_S4x336x9_S4x1x336x9_0_2_3 : (⟨S4x336x9, .f32⟩ : BufTy).Contents (Elt F) → (⟨S4x1x336x9, .f32⟩ : BufTy).Contents (Elt F)) ]

abbrev listOpsW : List (Ref sig .tc) := [main_v83, main_v84]

/-- The whole line. -/
abbrev ops : List (HloOp τ sig (Elt F)) := hotOps ++ (wholeOps ++ (quarterOps ++ (cellOps ++ listOps)))

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## What the stretches leave alone -/

theorem hotOps_keep {r : Ref sig .tc} (hr : r ∉ hotOpsW) (V : Valuation τ sig (Elt F)) : after hotOps V (Proc.devRef .tc r) = V (Proc.devRef .tc r) :=
  after_unwritten hotOpsW rfl hr V
theorem wholeOps_keep {r : Ref sig .tc} (hr : r ∉ wholeOpsW) (V : Valuation τ sig (Elt F)) : after wholeOps V (Proc.devRef .tc r) = V (Proc.devRef .tc r) :=
  after_unwritten wholeOpsW rfl hr V
theorem quarterOps_keep {r : Ref sig .tc} (hr : r ∉ quarterOpsW) (V : Valuation τ sig (Elt F)) : after quarterOps V (Proc.devRef .tc r) = V (Proc.devRef .tc r) :=
  after_unwritten quarterOpsW rfl hr V
theorem cellOps_keep {r : Ref sig .tc} (hr : r ∉ cellOpsW) (V : Valuation τ sig (Elt F)) : after cellOps V (Proc.devRef .tc r) = V (Proc.devRef .tc r) :=
  after_unwritten cellOpsW rfl hr V
theorem listOps_keep {r : Ref sig .tc} (hr : r ∉ listOpsW) (V : Valuation τ sig (Elt F)) : after listOps V (Proc.devRef .tc r) = V (Proc.devRef .tc r) :=
  after_unwritten listOpsW rfl hr V

/-! ## What they compute -/

/-- The four calls' codes, stacked and put in image order. -/
def image (a b c : IVec S320x128x128 32) (e : IVec S64x128x128 32) : IVec S64x512x512 32 :=
  shapeCast S64x512x512 (transpose S64x4x128x4x128 [0, 1, 3, 2, 4] (shapeCast S64x4x4x128x128
    (concatenate S1024x128x128 0 [⟨S320x128x128, a⟩, ⟨S320x128x128, b⟩, ⟨S320x128x128, c⟩, ⟨S64x128x128, e⟩] concatenates_S320x128x128_S320x128x128_S320x128x128_S64x128x128_S1024x128x128_d0)
    shapeCasts_S1024x128x128_S64x4x4x128x128) transposes_S64x4x4x128x128_S64x4x128x4x128_0_1_3_2_4) shapeCasts_S64x4x128x4x128_S64x512x512

/-- The magnitudes laid out over the nine bins. -/
def hotOf (x : IVec S64x512x512 32) : FVec F S64x512x512x9 .f32 :=
  let mag : FVec F S64x512x512 .f32 := Host.divf (sitofp .f32 (Host.shrsi x (broadcastInDim S64x512x512 ![] bcast_S_S64x512x512 (constantI S_ 32 4#32))))
    (broadcastInDim S64x512x512 ![] bcast_S_S64x512x512 (constant S_ .f32 0x46800000#32))
  let bin := Host.remsi (addi (andi x (broadcastInDim S64x512x512 ![] bcast_S_S64x512x512 (constantI S_ 32 15#32)))
    (broadcastInDim S64x512x512 ![] bcast_S_S64x512x512 (constantI S_ 32 5#32))) (broadcastInDim S64x512x512 ![] bcast_S_S64x512x512 (constantI S_ 32 9#32))
  select (cmpi .eq
      (broadcastInDim S64x512x512x9 ![0, 1, 2, 3] bcast_S64x512x512x1_S64x512x512x9_0_1_2_3 (broadcastInDim S64x512x512x1 ![0, 1, 2] bcast_S64x512x512_S64x512x512x1_0_1_2 bin))
      (broadcastInDim S64x512x512x9 ![0, 1, 2, 3] bcast_S1x1x1x9_S64x512x512x9_0_1_2_3 (broadcastInDim S1x1x1x9 ![3] bcast_S9_S1x1x1x9_3 (iotaInDim S9 32 0))))
    (broadcastInDim S64x512x512x9 ![0, 1, 2, 3] bcast_S64x512x512x1_S64x512x512x9_0_1_2_3 (broadcastInDim S64x512x512x1 ![0, 1, 2] bcast_S64x512x512_S64x512x512x1_0_1_2 mag))
    (broadcastInDim S64x512x512x9 ![] bcast_S_S64x512x512x9 (constant S_ .f32 0x00000000#32))

theorem hotOps_eq (V : Valuation τ sig (Elt F)) : after hotOps V (main_v22 : DevRef τ sig)
    = hotOf (image (V (main_arg0 : DevRef τ sig)) (V (main_arg1 : DevRef τ sig)) (V (main_arg2 : DevRef τ sig)) (V (main_arg3 : DevRef τ sig))) := by
  after_results
  rfl

/-- The whole images' level. -/
def wholeOf (hot : FVec F S64x512x512x9 .f32) : FVec F S64x1x9 .f32 :=
  lengths 1 reducesTo_S64x1x9_S64x1_d2 bcast_S64x1_S64x1x1_0_1 bcast_S_S64x1x1 bcast_S64x1x1_S64x1x9_0_1_2
    (parts 1 reducesTo_S64x1x9_S64x1_d2 bcast_S64x1_S64x1x1_0_1 bcast_S_S64x1x1 bcast_S64x1x1_S64x1x9_0_1_2
      (sums 1 512 1 shapeCasts_S64x512x512x9_S64x512x1x512x9 reducesTo_S64x512x1x512x9_S64x512x1x9_d3 shapeCasts_S64x512x1x9_S64x1x512x1x9
        reducesTo_S64x1x512x1x9_S64x1x1x9_d2 shapeCasts_S64x1x1x9_S64x1x9 hot))

/-- The quarters' level. -/
def quarterOf (hot : FVec F S64x512x512x9 .f32) : FVec F S64x4x9 .f32 :=
  lengths 4 reducesTo_S64x4x9_S64x4_d2 bcast_S64x4_S64x4x1_0_1 bcast_S_S64x4x1 bcast_S64x4x1_S64x4x9_0_1_2
    (parts 4 reducesTo_S64x4x9_S64x4_d2 bcast_S64x4_S64x4x1_0_1 bcast_S_S64x4x1 bcast_S64x4x1_S64x4x9_0_1_2
      (sums 2 256 4 shapeCasts_S64x512x512x9_S64x512x2x256x9 reducesTo_S64x512x2x256x9_S64x512x2x9_d3 shapeCasts_S64x512x2x9_S64x2x256x2x9
        reducesTo_S64x2x256x2x9_S64x2x2x9_d2 shapeCasts_S64x2x2x9_S64x4x9 hot))

/-- The sixteen cells' level. -/
def cellOf (hot : FVec F S64x512x512x9 .f32) : FVec F S64x16x9 .f32 :=
  lengths 16 reducesTo_S64x16x9_S64x16_d2 bcast_S64x16_S64x16x1_0_1 bcast_S_S64x16x1 bcast_S64x16x1_S64x16x9_0_1_2
    (parts 16 reducesTo_S64x16x9_S64x16_d2 bcast_S64x16_S64x16x1_0_1 bcast_S_S64x16x1 bcast_S64x16x1_S64x16x9_0_1_2
      (sums 4 128 16 shapeCasts_S64x512x512x9_S64x512x4x128x9 reducesTo_S64x512x4x128x9_S64x512x4x9_d3 shapeCasts_S64x512x4x9_S64x4x128x4x9
        reducesTo_S64x4x128x4x9_S64x4x4x9_d2 shapeCasts_S64x4x4x9_S64x16x9 hot))

theorem wholeOps_eq (V : Valuation τ sig (Elt F)) : after wholeOps V (main_v42 : DevRef τ sig)
    = shapeCast S4x16x9 (wholeOf (V (main_v22 : DevRef τ sig))) shapeCasts_S64x1x9_S4x16x9 := by
  after_results
  rfl

theorem quarterOps_eq (V : Valuation τ sig (Elt F)) : after quarterOps V (main_v62 : DevRef τ sig)
    = shapeCast S4x64x9 (quarterOf (V (main_v22 : DevRef τ sig))) shapeCasts_S64x4x9_S4x64x9 := by
  after_results
  rfl

theorem cellOps_eq (V : Valuation τ sig (Elt F)) : after cellOps V (main_v82 : DevRef τ sig)
    = shapeCast S4x256x9 (cellOf (V (main_v22 : DevRef τ sig))) shapeCasts_S64x16x9_S4x256x9 := by
  after_results
  rfl

theorem listOps_eq (V : Valuation τ sig (Elt F)) : after listOps V (main_v84 : DevRef τ sig)
    = broadcastInDim S4x1x336x9 ![0, 2, 3] bcast_S4x336x9_S4x1x336x9_0_2_3 (concatenate S4x336x9 1 [⟨S4x16x9, V (main_v42 : DevRef τ sig)⟩,
        ⟨S4x64x9, V (main_v62 : DevRef τ sig)⟩, ⟨S4x256x9, V (main_v82 : DevRef τ sig)⟩] concatenates_S4x16x9_S4x64x9_S4x256x9_S4x336x9_d1) := by
  after_results
  rfl

/-! ## The buffers they touch -/

theorem hotOps_sub : (hotOps : List (HloOp τ sig (Elt F))).Forall fun op => op.bufs ⊆ tcRefs τ sig :=
  ⟨nary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., unary_bufs_sub .., nullary_bufs_sub .., unary_bufs_sub .., unary_bufs_sub .., unary_bufs_sub .., ternary_bufs_sub ..⟩

theorem wholeOps_sub : (wholeOps : List (HloOp τ sig (Elt F))).Forall fun op => op.bufs ⊆ tcRefs τ sig :=
  ⟨reshape_bufs_sub .., nullary_bufs_sub .., binary_bufs_sub .., reshape_bufs_sub .., nullary_bufs_sub .., binary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub ..⟩

theorem quarterOps_sub : (quarterOps : List (HloOp τ sig (Elt F))).Forall fun op => op.bufs ⊆ tcRefs τ sig :=
  ⟨reshape_bufs_sub .., nullary_bufs_sub .., binary_bufs_sub .., reshape_bufs_sub .., nullary_bufs_sub .., binary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub ..⟩

theorem cellOps_sub : (cellOps : List (HloOp τ sig (Elt F))).Forall fun op => op.bufs ⊆ tcRefs τ sig :=
  ⟨reshape_bufs_sub .., nullary_bufs_sub .., binary_bufs_sub .., reshape_bufs_sub .., nullary_bufs_sub .., binary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub ..⟩

theorem listOps_sub : (listOps : List (HloOp τ sig (Elt F))).Forall fun op => op.bufs ⊆ tcRefs τ sig :=
  ⟨nary_bufs_sub .., unary_bufs_sub ..⟩

theorem ops_sub : (ops : List (HloOp τ sig (Elt F))).Forall fun op => op.bufs ⊆ tcRefs τ sig :=
  forall_append hotOps_sub (forall_append wholeOps_sub (forall_append quarterOps_sub (forall_append cellOps_sub listOps_sub)))

/-- The reference's result from its arguments. -/
def out (a b c : IVec S320x128x128 32) (e : IVec S64x128x128 32) : FVec F S4x1x336x9 .f32 :=
  broadcastInDim S4x1x336x9 ![0, 2, 3] bcast_S4x336x9_S4x1x336x9_0_2_3 (concatenate S4x336x9 1
    [⟨S4x16x9, shapeCast S4x16x9 (wholeOf (F := F) (hotOf (image a b c e))) shapeCasts_S64x1x9_S4x16x9⟩,
      ⟨S4x64x9, shapeCast S4x64x9 (quarterOf (F := F) (hotOf (image a b c e))) shapeCasts_S64x4x9_S4x64x9⟩,
      ⟨S4x256x9, shapeCast S4x256x9 (cellOf (F := F) (hotOf (image a b c e))) shapeCasts_S64x16x9_S4x256x9⟩] concatenates_S4x16x9_S4x64x9_S4x256x9_S4x336x9_d1)

theorem out_eq (V : Valuation τ sig (Elt F)) : after ops V (main_v84 : DevRef τ sig)
    = out (V (main_arg0 : DevRef τ sig)) (V (main_arg1 : DevRef τ sig)) (V (main_arg2 : DevRef τ sig)) (V (main_arg3 : DevRef τ sig)) := by
  rw [ops, after_append, after_append, after_append, after_append, listOps_eq, cellOps_eq,
    cellOps_keep (r := main_v62) (by decide), cellOps_keep (r := main_v42) (by decide), quarterOps_eq,
    quarterOps_keep (r := main_v42) (by decide), quarterOps_keep (r := main_v22) (by decide), wholeOps_eq,
    wholeOps_keep (r := main_v22) (by decide), hotOps_eq]
  rfl

/-- A buffer no operation writes ends as it began. -/
theorem kept {r : Ref sig .tc} (h : r ∉ hotOpsW ++ (wholeOpsW ++ (quarterOpsW ++ (cellOpsW ++ listOpsW)))) (V : Valuation τ sig (Elt F)) :
    after ops V (Proc.devRef .tc r) = V (Proc.devRef .tc r) :=
  after_unwritten _ rfl h V

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v84) = out (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v84).trans (out_eq _), (h c main_arg0).trans (kept (by decide) _), (h c main_arg1).trans (kept (by decide) _),
      (h c main_arg2).trans (kept (by decide) _), (h c main_arg3).trans (kept (by decide) _)⟩)
    (run_seq scopedRefs_eq scopedSems_eq defs main (fun _ => ops) main_eq (fun _ => ops_sub) m ρ (fun _ => List.forall_iff_forall_mem.mp (StableHlo.forall_fresh_of_map rfl)))

end Cert.Proof.Ref
-- ==== Proof.Collapse.lean ====
/-
  THE COLLAPSE'S VALUES. From the rows of lane-wise bin sums the last call makes every image's sixteen cells, the four
  cells of twice their side and the whole image, normalises the nine bin sums of each, and lists the bins from the
  fifth on: here each of its steps read at an index.
-/
module

public import proofs.«01_k».proof.Proof.Cells
public import proofs.«01_k».proof.Proof.Run

@[expose] public section

noncomputable section

namespace Cert.Proof.Hist

open Cert.KernelIdeal Cert.KernelIdeal.Gen

open Idealize.ShloMosaic

/-! ## Steps -/

/-- Every image's whole, its four quarters and its sixteen cells, stacked. -/
def levels (v33 : FVec Ideal S64x16x9 .f32) (v40 v47 : FVec Ideal S64x1x9 .f32) : FVec Ideal S64x21x9 .f32 :=
  have v54 : FVec Ideal S64x1x9 .f32 :=
    addf (addf (addf (extractStridedSlice S64x1x9 ![0, 8, 0] v33 slices_S64x16x9_o0_8_0_S64x1x9) (extractStridedSlice S64x1x9 ![0, 9, 0] v33 slices_S64x16x9_o0_9_0_S64x1x9))
      (extractStridedSlice S64x1x9 ![0, 12, 0] v33 slices_S64x16x9_o0_12_0_S64x1x9)) (extractStridedSlice S64x1x9 ![0, 13, 0] v33 slices_S64x16x9_o0_13_0_S64x1x9)
  have v61 : FVec Ideal S64x1x9 .f32 :=
    addf (addf (addf (extractStridedSlice S64x1x9 ![0, 10, 0] v33 slices_S64x16x9_o0_10_0_S64x1x9) (extractStridedSlice S64x1x9 ![0, 11, 0] v33 slices_S64x16x9_o0_11_0_S64x1x9))
      (extractStridedSlice S64x1x9 ![0, 14, 0] v33 slices_S64x16x9_o0_14_0_S64x1x9)) (extractStridedSlice S64x1x9 ![0, 15, 0] v33 slices_S64x16x9_o0_15_0_S64x1x9)
  concatenate S64x21x9 1 [⟨S64x1x9, addf (addf (addf v40 v47) v54) v61⟩, ⟨S64x1x9, v40⟩, ⟨S64x1x9, v47⟩, ⟨S64x1x9, v54⟩, ⟨S64x1x9, v61⟩, ⟨S64x16x9, v33⟩]
    concatenates_S64x1x9_S64x1x9_S64x1x9_S64x1x9_S64x1x9_S64x16x9_S64x21x9_d1

/-- The bin sums over their total. -/
def shares (v : FVec Ideal S64x21x9 .f32) : FVec Ideal S64x21x9 .f32 :=
  divf v (broadcastTo S64x21x9 (addf (shapeCast S64x21x1 (multiReduction .add [2] S64x21 v 0x00000000#32 reduces_S64x21x9_S64x21 (.inl rfl) rfl) shapeCasts_S64x21_S64x21x1)
    (broadcast S64x21x1 (Scalar.ofBits .f32 0x322BCC77#32))) broadcasts_S64x21x1_S64x21x9)

/-- Shares over their length. -/
def units (v : FVec Ideal S64x21x9 .f32) : FVec Ideal S64x21x9 .f32 :=
  divf v (broadcastTo S64x21x9 (maximumf (sqrt (shapeCast S64x21x1 (multiReduction .add [2] S64x21 (mulf v v) 0x00000000#32 reduces_S64x21x9_S64x21 (.inl rfl) rfl) shapeCasts_S64x21_S64x21x1))
    (broadcast S64x21x1 (Scalar.ofBits .f32 0x2B8CBCCC#32))) broadcasts_S64x21x1_S64x21x9)

/-- The bins listed from the fifth on. -/
def turned (v : FVec Ideal S64x21x9 .f32) : FVec Ideal S64x21x9 .f32 :=
  concatenate S64x21x9 2 [⟨S64x21x1, extractStridedSlice S64x21x1 ![0, 0, 4] v slices_S64x21x9_o0_0_4_S64x21x1⟩,
    ⟨S64x21x1, extractStridedSlice S64x21x1 ![0, 0, 5] v slices_S64x21x9_o0_0_5_S64x21x1⟩, ⟨S64x21x1, extractStridedSlice S64x21x1 ![0, 0, 6] v slices_S64x21x9_o0_0_6_S64x21x1⟩,
    ⟨S64x21x1, extractStridedSlice S64x21x1 ![0, 0, 7] v slices_S64x21x9_o0_0_7_S64x21x1⟩, ⟨S64x21x1, extractStridedSlice S64x21x1 ![0, 0, 8] v slices_S64x21x9_o0_0_8_S64x21x1⟩,
    ⟨S64x21x1, extractStridedSlice S64x21x1 ![0, 0, 0] v slices_S64x21x9_o0_0_0_S64x21x1⟩, ⟨S64x21x1, extractStridedSlice S64x21x1 ![0, 0, 1] v slices_S64x21x9_o0_0_1_S64x21x1⟩,
    ⟨S64x21x1, extractStridedSlice S64x21x1 ![0, 0, 2] v slices_S64x21x9_o0_0_2_S64x21x1⟩, ⟨S64x21x1, extractStridedSlice S64x21x1 ![0, 0, 3] v slices_S64x21x9_o0_0_3_S64x21x1⟩]
    concatenates_S64x21x1_S64x21x1_S64x21x1_S64x21x1_S64x21x1_S64x21x1_S64x21x1_S64x21x1_S64x21x1_S64x21x9_d2

/-- The three levels, listed. -/
def laid (a : FVec Ideal S64x1x9 .f32) (b : FVec Ideal S64x4x9 .f32) (c : FVec Ideal S64x16x9 .f32) : FVec Ideal S4x336x9 .f32 :=
  concatenate S4x336x9 1 [⟨S4x16x9, shapeCast S4x16x9 a shapeCasts_S64x1x9_S4x16x9⟩, ⟨S4x64x9, shapeCast S4x64x9 b shapeCasts_S64x4x9_S4x64x9⟩,
    ⟨S4x256x9, shapeCast S4x256x9 c shapeCasts_S64x16x9_S4x256x9⟩] concatenates_S4x16x9_S4x64x9_S4x256x9_S4x336x9_d1

theorem collapse_eq (h : FVec Ideal S1024x144 .f32) :
    collapse (F := Ideal) h =
      have v := turned (units (shares (levels (k4_pay1 (F := Ideal) h) (k4_pay2 (F := Ideal) h) (k4_pay3 (F := Ideal) h))))
      shapeCast S4x1x336x9 (laid (extractStridedSlice S64x1x9 ![0, 0, 0] v slices_S64x21x9_o0_0_0_S64x1x9)
        (extractStridedSlice S64x4x9 ![0, 1, 0] v slices_S64x21x9_o0_1_0_S64x4x9) (extractStridedSlice S64x16x9 ![0, 5, 0] v slices_S64x21x9_o0_5_0_S64x16x9))
        shapeCasts_S4x336x9_S4x1x336x9 := rfl

/-! ## Read at an index -/

theorem shares_apply (v : FVec Ideal S64x21x9 .f32) (i : Fin 64) (q : Fin 21) (b : Fin 9) :
    shares v (ix3 i q b) = share (fun k => v (ix3 i q k)) b := by
  pointwise [shares, share]

theorem units_apply (v : FVec Ideal S64x21x9 .f32) (i : Fin 64) (q : Fin 21) (b : Fin 9) :
    units (shares v) (ix3 i q b) = nrm (fun k => v (ix3 i q k)) b := by
  have e : units (shares v) (ix3 i q b) = Ideal.div (shares v (ix3 i q b))
      (max (Ideal.sqrt (∑ k : Fin 9, shares v (ix3 i q k) * shares v (ix3 i q k))) (Ideal.ofBits .f32 0x2B8CBCCC#32)) := by
    pointwise [units]
  rw [e]
  simp only [shares_apply]
  rfl

theorem turned_apply (v : FVec Ideal S64x21x9 .f32) (i : Fin 64) (q : Fin 21) (b : Fin 9) :
    turned v (ix3 i q b) = v (ix3 i q (b + 4)) := by
  have e (k : Fin 9) (hk : k.val = (b.val + 4) % 9) : v (ix3 i q k) = v (ix3 i q (b + 4)) :=
    congrArg (fun k => v (ix3 i q k)) (Fin.ext hk)
  pointwise [turned]
  split_ifs <;> exact e _ (by dsimp only; omega)

section Levels

variable (X : (SP 1024).Idx → BitVec 32) (h : FVec Ideal S1024x144 .f32)
  (hk : ∀ (i : Fin 64) (c : Fin 16) (b : Fin 9), k4_pay1 (F := Ideal) h (ix3 i c b) = square X 128 i.val (c.val / 4) (c.val % 4) b.val)

/-- The stacked levels of the rows `h`. -/
abbrev stackOf : FVec Ideal S64x21x9 .f32 := levels (k4_pay1 (F := Ideal) h) (k4_pay2 (F := Ideal) h) (k4_pay3 (F := Ideal) h)

include hk

theorem levels_cell (i : Fin 64) (c : Fin 16) (b : Fin 9) :
    stackOf h (ix3 i ⟨5 + c.val, by omega⟩ b) = square X 128 i.val (c.val / 4) (c.val % 4) b.val := by
  rw [← hk]
  pointwise [stackOf, levels]
  rw [dif_neg (by omega), dif_neg (by omega), dif_neg (by omega), dif_neg (by omega), dif_neg (by omega)]
  exact congrArg (fun c => k4_pay1 (F := Ideal) h (ix3 i c b)) (Fin.ext (by dsimp only; omega))

theorem levels_quarter (i : Fin 64) (c : Fin 4) (b : Fin 9) :
    stackOf h (ix3 i ⟨1 + c.val, by omega⟩ b) = square X 256 i.val (c.val / 2) (c.val % 2) b.val := by
  refine Eq.trans ?_ (square_double X 128 i.val (c.val / 2) (c.val % 2) b.val).symm
  fin_cases c <;> pointwise [stackOf, levels, k4_pay2, k4_pay3] <;> simp only [hk] <;> rfl

theorem levels_whole (i : Fin 64) (b : Fin 9) :
    stackOf h (ix3 i ⟨0, by decide⟩ b) = square X 512 i.val 0 0 b.val := by
  refine Eq.trans ?_ (square_double X 256 i.val 0 0 b.val).symm
  refine Eq.trans ?_ (congrArg₂ (· + ·) (congrArg₂ (· + ·) (congrArg₂ (· + ·) (levels_quarter X h hk i 0 b) (levels_quarter X h hk i 1 b))
    (levels_quarter X h hk i 2 b)) (levels_quarter X h hk i 3 b))
  pointwise [stackOf, levels]

end Levels

/-! ## The normalised levels -/

section Normalised

variable (X : (SP 1024).Idx → BitVec 32) (h : FVec Ideal S1024x144 .f32)
  (hk : ∀ (i : Fin 64) (c : Fin 16) (b : Fin 9), k4_pay1 (F := Ideal) h (ix3 i c b) = square X 128 i.val (c.val / 4) (c.val % 4) b.val)

/-- What a level of cells of side `z`, `s` to a side, holds in the end: bin `b` of the result is the codes' `b + 4`. -/
def level (z s : ℕ) (i : ℕ) (c : ℕ) (b : Fin 9) : EReal := nrm (fun k => square X z i (c / s) (c % s) (k + 4 : Fin 9).val) b

/-- The collapse's array of levels, normalised and turned. -/
abbrev lastOf : FVec Ideal S64x21x9 .f32 := turned (units (shares (stackOf h)))

theorem ends_apply (i : Fin 64) (q : Fin 21) (b : Fin 9) :
    lastOf h (ix3 i q b) = nrm (fun k => stackOf h (ix3 i q (k + 4))) b := by
  refine (turned_apply _ i q b).trans ((units_apply _ i q (b + 4)).trans ?_)
  exact (nrm_comp (fun k => stackOf h (ix3 i q k)) (Equiv.addRight (4 : Fin 9)) b).symm

include hk

theorem whole_eq (i : Fin 64) (c : Fin 1) (b : Fin 9) :
    extractStridedSlice S64x1x9 ![0, 0, 0] (lastOf h) slices_S64x21x9_o0_0_0_S64x1x9 (ix3 i c b) = level X 512 1 i.val c.val b := by
  obtain rfl : c = 0 := Subsingleton.elim _ _
  refine Eq.trans ?_ ((ends_apply h i ⟨0, by decide⟩ b).trans (congrArg (nrm · b) (funext fun k => levels_whole X h hk i (k + 4))))
  refine extractStridedSlice_apply _ _ _ _ _ fun a => ?_
  fin_cases a
  · exact (Nat.zero_add _).symm
  · rfl
  · exact (Nat.zero_add _).symm

theorem quarters_eq (i : Fin 64) (c : Fin 4) (b : Fin 9) :
    extractStridedSlice S64x4x9 ![0, 1, 0] (lastOf h) slices_S64x21x9_o0_1_0_S64x4x9 (ix3 i c b) = level X 256 2 i.val c.val b := by
  refine Eq.trans ?_ ((ends_apply h i ⟨1 + c.val, by omega⟩ b).trans (congrArg (nrm · b) (funext fun k => levels_quarter X h hk i c (k + 4))))
  refine extractStridedSlice_apply _ _ _ _ _ fun a => ?_
  fin_cases a
  · exact (Nat.zero_add _).symm
  · rfl
  · exact (Nat.zero_add _).symm

theorem cells_eq (i : Fin 64) (c : Fin 16) (b : Fin 9) :
    extractStridedSlice S64x16x9 ![0, 5, 0] (lastOf h) slices_S64x21x9_o0_5_0_S64x16x9 (ix3 i c b) = level X 128 4 i.val c.val b := by
  refine Eq.trans ?_ ((ends_apply h i ⟨5 + c.val, by omega⟩ b).trans (congrArg (nrm · b) (funext fun k => levels_cell X h hk i c (k + 4))))
  refine extractStridedSlice_apply _ _ _ _ _ fun a => ?_
  fin_cases a
  · exact (Nat.zero_add _).symm
  · rfl
  · exact (Nat.zero_add _).symm

/-- The collapse of the rows is the three levels of the codes, listed. -/
theorem collapse_levels :
    collapse (F := Ideal) h = shapeCast S4x1x336x9 (laid (fun y => level X 512 1 (y 0).val (y 1).val (y 2)) (fun y => level X 256 2 (y 0).val (y 1).val (y 2))
      (fun y => level X 128 4 (y 0).val (y 1).val (y 2))) shapeCasts_S4x336x9_S4x1x336x9 := by
  have ix {n : ℕ} (y : (⟨3, ![64, n, 9]⟩ : Shape).Idx) : y = ix3 (y 0 : Fin 64) (y 1 : Fin n) (y 2 : Fin 9) := by
    funext a; fin_cases a <;> rfl
  rw [collapse_eq]
  refine congrArg (fun v => shapeCast S4x1x336x9 v shapeCasts_S4x336x9_S4x1x336x9) ?_
  refine congr (congrArg₂ laid (funext fun y => ?_) (funext fun y => ?_)) (funext fun y => ?_)
  · exact (congrArg _ (ix y)).trans (whole_eq X h hk (y 0) (y 1) (y 2))
  · exact (congrArg _ (ix y)).trans (quarters_eq X h hk (y 0) (y 1) (y 2))
  · exact (congrArg _ (ix y)).trans (cells_eq X h hk (y 0) (y 1) (y 2))

end Normalised

/-! ## The rows -/

/-- The four calls' codes, stacked. -/
abbrev codes (a b c : IVec S320x128x128 32) (e : IVec S64x128x128 32) : (SP 1024).Idx → BitVec 32 := fun y =>
  if h : (y 0).val < 320 then a (ix3 ⟨(y 0).val, h⟩ (y 1 : Fin 128) (y 2 : Fin 128))
  else if h : (y 0).val - 320 < 320 then b (ix3 ⟨(y 0).val - 320, h⟩ (y 1 : Fin 128) (y 2 : Fin 128))
  else if h : (y 0).val - 320 - 320 < 320 then c (ix3 ⟨(y 0).val - 320 - 320, h⟩ (y 1 : Fin 128) (y 2 : Fin 128))
  else e (ix3 ⟨(y 0).val - 320 - 320 - 320, by have : (y 0).val < 1024 := (y 0).isLt; omega⟩ (y 1 : Fin 128) (y 2 : Fin 128))

section Rows

variable (a b c : IVec S320x128x128 32) (e : IVec S64x128x128 32)

/-- A stacked code is the code of the call its row falls to. -/
theorem codeAt_codes (r : Fin 1024) (n : Fin 1024) (l : Fin 16) :
    codeAt (R := 1024) (codes a b c e) r n l =
      if h : r.val < 320 then codeAt (R := 320) a ⟨r.val, h⟩ n l
      else if h : r.val - 320 < 320 then codeAt (R := 320) b ⟨r.val - 320, h⟩ n l
      else if h : r.val - 320 - 320 < 320 then codeAt (R := 320) c ⟨r.val - 320 - 320, h⟩ n l
      else codeAt (R := 64) e ⟨r.val - 320 - 320 - 320, by omega⟩ n l := rfl

/-- The word of bin `k`, lane `l` in a stacked row is the sum over the row's codes of what they add there. -/
theorem stack_apply (ha : CodesOK (R := 320) a) (hb : CodesOK (R := 320) b) (hc : CodesOK (R := 320) c) (he : CodesOK (R := 64) e)
    (r : Fin 1024) (k : Fin 9) (l : Fin 16) (j : Fin 144) (hj : j.val = 16 * k.val + l.val) :
    stack (F := Ideal) (histOf (F := Ideal) (R := 320) a) (histOf (F := Ideal) (R := 320) b) (histOf (F := Ideal) (R := 320) c) (histOf (F := Ideal) (R := 64) e) (ix2 r j)
      = ∑ n : Fin 1024, addend k.val (codeAt (R := 1024) (codes a b c e) r n l) := by
  pointwise [stack]
  simp only [codeAt_codes]
  by_cases h₁ : r.val < 320
  · simp only [dif_pos h₁]
    exact (histOf_apply a ha ⟨r.val, h₁⟩ k l j hj)
  simp only [dif_neg h₁]
  by_cases h₂ : r.val - 320 < 320
  · simp only [dif_pos h₂]
    exact (histOf_apply b hb ⟨r.val - 320, h₂⟩ k l j hj)
  simp only [dif_neg h₂]
  by_cases h₃ : r.val - 320 - 320 < 320
  · simp only [dif_pos h₃]
    exact (histOf_apply c hc ⟨r.val - 320 - 320, h₃⟩ k l j hj)
  simp only [dif_neg h₃]
  exact (histOf_apply e he ⟨r.val - 320 - 320 - 320, by omega⟩ k l j hj)

end Rows

end Cert.Proof.Hist
-- ==== Proof.Rows.lean ====
/-
  THE ROWS' CELLS. The matrix product of the stacked rows with the table that gathers a bin's sixteen lanes, read as
  the sum over a cell of side 128 of what its pixels add to a bin.
-/
module

public import proofs.«01_k».proof.Proof.Collapse

@[expose] public section

noncomputable section

namespace Cert.Proof.Hist

open Cert.KernelIdeal Cert.KernelIdeal.Gen

open Idealize.ShloMosaic

/-- The table's row number divided by sixteen, as the kernel computes a division that rounds down. -/
def sixteenth (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector w 16#32) 0#32))
    (IntOp.subi (IntOp.divsi ArithUnit.vector w 16#32) 1#32)
    (IntOp.divsi ArithUnit.vector w 16#32)

theorem sixteenth_eq : ∀ j : Fin 144, sixteenth (BitVec.ofNat 32 j.val) = BitVec.ofNat 32 (j.val / 16) := by decide +kernel

/-- The table picks the words of its column's bin. -/
theorem table (j : Fin 144) (b : Fin 9) (A : EReal) :
    Scalar.select (IntOp.cmpi CmpIPredicate.eq (sixteenth (BitVec.ofNat 32 j.val)) (BitVec.ofNat 32 b.val)) A 0 = if j.val / 16 = b.val then A else 0 := by
  have e : (sixteenth (BitVec.ofNat 32 j.val) = BitVec.ofNat 32 b.val) ↔ j.val / 16 = b.val := by
    rw [sixteenth_eq, ← BitVec.toNat_inj, BitVec.toNat_ofNat, BitVec.toNat_ofNat, Nat.mod_eq_of_lt (by omega), Nat.mod_eq_of_lt (by omega)]
  by_cases h : j.val / 16 = b.val
  · rw [if_pos h, show IntOp.cmpi CmpIPredicate.eq (sixteenth (BitVec.ofNat 32 j.val)) (BitVec.ofNat 32 b.val) = 1#1 by simp [IntOp.cmpi, e.mpr h]]
    exact if_pos rfl
  · rw [if_neg h, show IntOp.cmpi CmpIPredicate.eq (sixteenth (BitVec.ofNat 32 j.val)) (BitVec.ofNat 32 b.val) = 0#1 from
      congrArg BitVec.ofBool (beq_eq_false_iff_ne.mpr (mt e.mp h))]
    exact if_neg (by decide)

/-- The 144 words of a row, by bin and lane. -/
theorem sum_words (f : Fin 144 → EReal) (b : Fin 9) :
    (∑ j : Fin 144, if j.val / 16 = b.val then f j else 0) = ∑ l : Fin 16, f ⟨16 * b.val + l.val, by omega⟩ := by
  rw [← Equiv.sum_comp (finProdFinEquiv (m := 9) (n := 16)), Fintype.sum_prod_type]
  refine (Finset.sum_eq_single b ?_ fun h => absurd (Finset.mem_univ b) h).trans (Finset.sum_congr rfl fun l _ => ?_)
  · intro k _ hk
    refine Finset.sum_eq_zero fun l _ => if_neg fun h => hk (Fin.ext ?_)
    have h' : (l.val + 16 * k.val) / 16 = b.val := h
    omega
  · have h' : (l.val + 16 * b.val) / 16 = b.val := by omega
    refine (if_pos h').trans (congrArg f (Fin.ext ?_))
    show l.val + 16 * b.val = 16 * b.val + l.val
    omega

theorem gather_apply (h : FVec Ideal S1024x144 .f32) (i : Fin 64) (c : Fin 16) (b : Fin 9) :
    k4_pay1 (F := Ideal) h (ix3 i c b)
      = ∑ l : Fin 16, h (ix2 ⟨i.val * 16 + c.val, by omega⟩ ⟨16 * b.val + l.val, by omega⟩) * Ideal.ofBits .f32 0x38800000#32 := by
  pointwise [k4_pay1]
  refine Eq.trans (Finset.sum_congr rfl fun j _ => table j b _) ?_
  exact sum_words (fun j => h (ix2 ⟨i.val * 16 + c.val, by omega⟩ j) * Ideal.ofBits .f32 0x38800000#32) b

/-- The gathered rows of the four calls are the cells of the stacked codes. -/
theorem gather_cells (a b c : IVec S320x128x128 32) (e : IVec S64x128x128 32)
    (ha : CodesOK (R := 320) a) (hb : CodesOK (R := 320) b) (hc : CodesOK (R := 320) c) (he : CodesOK (R := 64) e) (i : Fin 64) (q : Fin 16) (k : Fin 9) :
    k4_pay1 (F := Ideal) (stack (F := Ideal) (histOf (F := Ideal) (R := 320) a) (histOf (F := Ideal) (R := 320) b) (histOf (F := Ideal) (R := 320) c) (histOf (F := Ideal) (R := 64) e)) (ix3 i q k)
      = square (codes a b c e) 128 i.val (q.val / 4) (q.val % 4) k.val := by
  rw [gather_apply]
  simp only [fun l : Fin 16 => stack_apply a b c e ha hb hc he ⟨i.val * 16 + q.val, by omega⟩ k l ⟨16 * k.val + l.val, by omega⟩ rfl]
  exact (lanes_eq (codes a b c e) ⟨i.val * 16 + q.val, by omega⟩ k.val).trans
    (square_row (codes a b c e) i ⟨q.val / 4, by omega⟩ ⟨q.val % 4, by omega⟩ k.val ⟨i.val * 16 + q.val, by omega⟩ (by dsimp only; omega))

end Cert.Proof.Hist
-- ==== Proof.RefValue.lean ====
/-
  THE REFERENCE'S RESULT IS THE KERNEL'S. A word of the magnitudes laid out over the bins is what the pixel's code adds
  to that bin; so each of the reference's three levels is the level the collapse writes, and the two results agree.
-/
module

public import proofs.«01_k».proof.Proof.Ref
public import proofs.«01_k».proof.Proof.Rows
public import Idealize.ShloMosaic.Lib.Affine

@[expose] public section

noncomputable section

namespace Cert.Proof.Ref

open Idealize.ShloMosaic
open Cert.ReferenceIdeal Cert.ReferenceIdeal.Gen
open Cert.Proof.Hist (nrm magAt wordAt pix square binOf weightOf codes level CodesOK)

/-! ## The codes in image order -/

/-- The stacked codes at a row's pixel. -/
theorem stacked_apply (a b c : IVec S320x128x128 32) (e : IVec S64x128x128 32) (r : Fin 1024) (y x : Fin 128) :
    concatenate S1024x128x128 0 [⟨S320x128x128, a⟩, ⟨S320x128x128, b⟩, ⟨S320x128x128, c⟩, ⟨S64x128x128, e⟩]
      concatenates_S320x128x128_S320x128x128_S320x128x128_S64x128x128_S1024x128x128_d0 (ix3 r y x) = codes a b c e (ix3 r y x) := by
  pointwise
  rfl

/-- Pixel `(y, x)` of image `i` is pixel `(y mod 128, x mod 128)` of the image's cell `(y / 128, x / 128)`. -/
theorem image_apply (a b c : IVec S320x128x128 32) (e : IVec S64x128x128 32) (i : Fin 64) (y x : Fin 512) :
    image a b c e (ix3 i y x) = wordAt (codes a b c e) (16 * i.val + 4 * (y.val / 128) + x.val / 128) y.val x.val := by
  unfold image
  refine (shapeCast_apply _ _ _ (ix5 i (⟨y.val / 128, by omega⟩ : Fin 4) (⟨y.val % 128, by omega⟩ : Fin 128) (⟨x.val / 128, by omega⟩ : Fin 4) (⟨x.val % 128, by omega⟩ : Fin 128)) ?_).trans ?_
  · rw [Shape.rowMajor_val_five, Shape.rowMajor_val_three]
    show (((i.val * 4 + y.val / 128) * 128 + y.val % 128) * 4 + x.val / 128) * 128 + x.val % 128 = (i.val * 512 + y.val) * 512 + x.val
    omega
  refine (transpose_apply _ _ _ _ (ix5 i (⟨y.val / 128, by omega⟩ : Fin 4) (⟨x.val / 128, by omega⟩ : Fin 4) (⟨y.val % 128, by omega⟩ : Fin 128) (⟨x.val % 128, by omega⟩ : Fin 128))
    fun k => by fin_cases k <;> rfl).trans ?_
  refine (shapeCast_apply _ _ _ (ix3 (⟨16 * i.val + 4 * (y.val / 128) + x.val / 128, by omega⟩ : Fin 1024) (⟨y.val % 128, by omega⟩ : Fin 128) (⟨x.val % 128, by omega⟩ : Fin 128)) ?_).trans ?_
  · rw [Shape.rowMajor_val_five, Shape.rowMajor_val_three]
    show ((16 * i.val + 4 * (y.val / 128) + x.val / 128) * 128 + y.val % 128) * 128 + x.val % 128
      = (((i.val * 4 + y.val / 128) * 4 + x.val / 128) * 128 + y.val % 128) * 128 + x.val % 128
    omega
  rw [stacked_apply]
  unfold wordAt
  congr 2
  exact Fin.ext (Nat.mod_eq_of_lt (by omega)).symm

/-! ## What a pixel adds to a bin -/

/-- The bin a code names, counted five further around the nine. -/
theorem bin_eq (w : BitVec 32) (h : binOf w < 9) (b : Fin 9) :
    (IntOp.remsi .host (IntOp.addi (IntOp.andi w 15#32) 5#32) 9#32 = BitVec.ofNat 32 b.val) ↔ binOf w = (b + 4 : Fin 9).val := by
  have hb := b.isLt
  have hs : (IntOp.addi (IntOp.andi w 15#32) 5#32).toNat = binOf w + 5 := by
    show ((w &&& 15#32) + 5#32).toNat = _
    rw [BitVec.toNat_add]
    exact Nat.mod_eq_of_lt (by show binOf w + 5 < 2 ^ 32; omega)
  have hr := IntOp.toNat_remsi .host (x := IntOp.addi (IntOp.andi w 15#32) 5#32) (by omega) 9 (by omega) (by omega)
  rw [← BitVec.toNat_inj, hr, hs, BitVec.toNat_ofNat, Nat.mod_eq_of_lt (by omega : b.val < 2 ^ 32), Fin.val_add]
  show (binOf w + 5) % 9 = b.val ↔ binOf w = (b.val + 4) % 9
  omega

/-- The reference's choice between a pixel's magnitude and nothing. -/
theorem pick (w : BitVec 32) (h : binOf w < 9) (b : Fin 9) :
    Scalar.select (IntOp.cmpi .eq (IntOp.remsi .host (IntOp.addi (IntOp.andi w 15#32) 5#32) 9#32) (BitVec.ofNat 32 b.val))
      (Ideal.div (weightOf w) (Ideal.ofBits .f32 0x46800000#32)) (0 : EReal) = magAt (b + 4 : Fin 9).val w := by
  by_cases hw : binOf w = (b + 4 : Fin 9).val
  · rw [show IntOp.cmpi .eq (IntOp.remsi .host (IntOp.addi (IntOp.andi w 15#32) 5#32) 9#32) (BitVec.ofNat 32 b.val) = 1#1 by
      rw [(bin_eq w h b).mpr hw]; simp [IntOp.cmpi]]
    exact (if_pos rfl).trans (if_pos hw).symm
  · rw [show IntOp.cmpi .eq (IntOp.remsi .host (IntOp.addi (IntOp.andi w 15#32) 5#32) 9#32) (BitVec.ofNat 32 b.val) = 0#1 from
      congrArg BitVec.ofBool (beq_eq_false_iff_ne.mpr (mt (bin_eq w h b).mp hw))]
    exact (if_neg (by decide)).trans (if_neg hw).symm

theorem hotOf_apply (v : IVec S64x512x512 32) (i : Fin 64) (y x : Fin 512) (b : Fin 9) (h : binOf (v (ix3 i y x)) < 9) :
    hotOf (F := Ideal) v (ix4 i y x b) = magAt (b + 4 : Fin 9).val (v (ix3 i y x)) := by
  refine Eq.trans ?_ (pick (v (ix3 i y x)) h b)
  have hz : (0 : EReal) = Ideal.ofBits .f32 0x00000000#32 := Ideal.ofBits_zero_f32.symm
  rw [hz]
  pointwise [hotOf]
  rfl

theorem ix_eq {n : ℕ} (y : (⟨3, ![64, n, 9]⟩ : Shape).Idx) : y = ix3 (y 0 : Fin 64) (y 1 : Fin n) (y 2 : Fin 9) := by
  funext a; fin_cases a <;> rfl

section Value

variable (a b c : IVec S320x128x128 32) (e : IVec S64x128x128 32)

/-- Every stacked code names one of the nine bins when every call's codes do. -/
theorem codes_ok (ha : CodesOK (R := 320) a) (hb : CodesOK (R := 320) b) (hc : CodesOK (R := 320) c) (he : CodesOK (R := 64) e) :
    ∀ y, binOf (codes a b c e y) < 9 := by
  intro y
  unfold codes
  split
  · exact ha _
  split
  · exact hb _
  split
  · exact hc _
  exact he _

variable (ok : ∀ y, binOf (codes a b c e y) < 9)
include ok

theorem hot_apply (i : Fin 64) (y x : Fin 512) (k : Fin 9) :
    hotOf (F := Ideal) (image a b c e) (ix4 i y x k) = pix (codes a b c e) i.val (k + 4 : Fin 9).val y.val x.val := by
  have w := image_apply a b c e i y x
  rw [hotOf_apply _ _ _ _ _ (by rw [w]; exact ok _), w]
  rfl

/-- A level of the reference is the level over the cells of that side. -/
theorem level_apply (s z n : ℕ) (hz : s * z = 512) (hn : s * s = n) (hs : 0 < s) (h₁ h₂ h₃ h₄ h₅ g₁ g₂ g₃ g₄) (i : Fin 64) (q : Fin n) (k : Fin 9) :
    lengths n g₁ g₂ g₃ g₄ (parts n g₁ g₂ g₃ g₄ (sums s z n h₁ h₂ h₃ h₄ h₅ (hotOf (F := Ideal) (image a b c e)))) (ix3 i q k)
      = level (codes a b c e) z s i.val q.val k := by
  rw [normed_apply]
  unfold level
  refine congrArg (fun f => nrm f k) (funext fun k => ?_)
  have hq : q.val / s < s := Nat.div_lt_of_lt_mul (by rw [hn]; exact q.isLt)
  rw [sums_apply s z n h₁ h₂ h₃ h₄ h₅ _ hz hn i ⟨q.val / s, hq⟩ ⟨q.val % s, Nat.mod_lt _ hs⟩ q (by
    show q.val = q.val / s * s + q.val % s
    rw [Nat.mul_comm]; exact (Nat.div_add_mod _ _).symm) k]
  unfold square
  exact Finset.sum_congr rfl fun y _ => Finset.sum_congr rfl fun x _ => hot_apply a b c e ok i _ _ k

theorem whole_eq : wholeOf (F := Ideal) (hotOf (image a b c e)) = fun y => level (codes a b c e) 512 1 (y 0).val (y 1).val (y 2) :=
  funext fun y => (congrArg _ (ix_eq y)).trans (level_apply a b c e ok 1 512 1 rfl rfl (by decide) _ _ _ _ _ _ _ _ _ (y 0) (y 1) (y 2))

theorem quarter_eq : quarterOf (F := Ideal) (hotOf (image a b c e)) = fun y => level (codes a b c e) 256 2 (y 0).val (y 1).val (y 2) :=
  funext fun y => (congrArg _ (ix_eq y)).trans (level_apply a b c e ok 2 256 4 rfl rfl (by decide) _ _ _ _ _ _ _ _ _ (y 0) (y 1) (y 2))

theorem cell_eq : cellOf (F := Ideal) (hotOf (image a b c e)) = fun y => level (codes a b c e) 128 4 (y 0).val (y 1).val (y 2) :=
  funext fun y => (congrArg _ (ix_eq y)).trans (level_apply a b c e ok 4 128 16 rfl rfl (by decide) _ _ _ _ _ _ _ _ _ (y 0) (y 1) (y 2))

end Value

/-- The unit axis put in by a broadcast or by a reshape. -/
theorem unit_axis (v : FVec Ideal S4x336x9 .f32) (h : S4x336x9.ShapeCasts S4x1x336x9) :
    broadcastInDim S4x1x336x9 ![0, 2, 3] bcast_S4x336x9_S4x1x336x9_0_2_3 v = shapeCast S4x1x336x9 v h := by
  funext y
  obtain ⟨p, o, q, r, rfl⟩ : ∃ (p : Fin 4) (o : Fin 1) (q : Fin 336) (r : Fin 9), y = ix4 p o q r :=
    ⟨y 0, y 1, y 2, y 3, by funext a; fin_cases a <;> rfl⟩
  refine (broadcastInDim_apply _ _ _ _ (ix3 p q r) fun a => by fin_cases a <;> rfl).trans (shapeCast_apply _ _ _ (ix3 p q r) ?_).symm
  rw [Shape.rowMajor_val_three, Shape.rowMajor_val_four]
  show (p.val * 336 + q.val) * 9 + r.val = ((p.val * 1 + o.val) * 336 + q.val) * 9 + r.val
  omega

/-- THE RESULTS AGREE: on codes in range the reference's result is what the kernel's collapse makes of the histograms. -/
theorem out_eq_collapse (a b c : IVec S320x128x128 32) (e : IVec S64x128x128 32)
    (ha : CodesOK (R := 320) a) (hb : CodesOK (R := 320) b) (hc : CodesOK (R := 320) c) (he : CodesOK (R := 64) e) :
    out (F := Ideal) a b c e = Hist.collapse (F := Ideal) (Hist.stack (F := Ideal) (Hist.histOf (F := Ideal) (R := 320) a)
      (Hist.histOf (F := Ideal) (R := 320) b) (Hist.histOf (F := Ideal) (R := 320) c) (Hist.histOf (F := Ideal) (R := 64) e)) := by
  have ok := codes_ok a b c e ha hb hc he
  rw [Hist.collapse_levels (codes a b c e) _ (Hist.gather_cells a b c e ha hb hc he)]
  unfold out
  rw [unit_axis _ Cert.KernelIdeal.Gen.shapeCasts_S4x336x9_S4x1x336x9, whole_eq a b c e ok, quarter_eq a b c e ok, cell_eq a b c e ok]
  rfl

end Cert.Proof.Ref

end
-- ==== Proof.PackGrid.lean ====
/-
  GRADIENTS OVER THE EXTENDED REALS. A 512 x 512 image as a function of row and column, read with a border of zeros; its
  Laplacian and the two Sobel gradients of that; and the kernel's arrays, built by shifting whole images one row or
  column and filling with zeros, as exactly these functions.
-/
module

public import proofs.«01_k».proof.Proof.Gen.PackIdeal.Frame
public import Idealize.ShloMosaic.Lib.Pointwise

@[expose] public section

noncomputable section

namespace Cert.Proof.Pack

open Idealize.ShloMosaic Idealize.ShloMosaic.TcCoe
open Cert.PackIdeal Cert.PackIdeal.Gen

/-- The image with a border of zeros: pixel (y, x) stands at (y + 1, x + 1). -/
def bordered (f : ℕ → ℕ → EReal) (r c : ℕ) : EReal := if (1 ≤ r ∧ r ≤ 512) ∧ (1 ≤ c ∧ c ≤ 512) then f (r - 1) (c - 1) else 0

/-- The Laplacian. -/
def lapOf (f : ℕ → ℕ → EReal) (y x : ℕ) : EReal :=
  bordered f y (x + 1) + bordered f (y + 1) x + -4 * bordered f (y + 1) (x + 1) + bordered f (y + 1) (x + 2) + bordered f (y + 2) (x + 1)

/-- The Sobel gradient along a row. -/
def gxOf (g : ℕ → ℕ → EReal) (y x : ℕ) : EReal :=
  -1 * bordered g y x + bordered g y (x + 2) + -2 * bordered g (y + 1) x + 2 * bordered g (y + 1) (x + 2)
    + -1 * bordered g (y + 2) x + bordered g (y + 2) (x + 2)

/-- The Sobel gradient along a column. -/
def gyOf (g : ℕ → ℕ → EReal) (y x : ℕ) : EReal :=
  -1 * bordered g y x + -2 * bordered g y (x + 1) + -1 * bordered g y (x + 2)
    + bordered g (y + 2) x + 2 * bordered g (y + 2) (x + 1) + bordered g (y + 2) (x + 2)

/-- The array `v` holds the image `f`. -/
def Holds (v : FVec Ideal S512x512 .f32) (f : ℕ → ℕ → EReal) : Prop := ∀ y x : Fin 512, v (ix2 y x) = f y.val x.val

theorem Holds.add {v w : FVec Ideal S512x512 .f32} {f g : ℕ → ℕ → EReal} (hv : Holds v f) (hw : Holds w g) :
    Holds (addf v w) fun y x => f y x + g y x := fun y x => by
  pointwise [hv y x, hw y x]

theorem Holds.sub {v w : FVec Ideal S512x512 .f32} {f g : ℕ → ℕ → EReal} (hv : Holds v f) (hw : Holds w g) :
    Holds (subf v w) fun y x => f y x - g y x := fun y x => by
  pointwise [hv y x, hw y x]

theorem Holds.scale {v : FVec Ideal S512x512 .f32} {f : ℕ → ℕ → EReal} {b : BitVec 32} {k : EReal} (hb : Ideal.ofBits .f32 b = k) (hv : Holds v f) :
    Holds (mulf (broadcast S512x512 (Scalar.ofBits (F := Ideal) .f32 b)) v) fun y x => k * f y x := fun y x => by
  pointwise [hv y x, hb]

theorem Holds.congr {v : FVec Ideal S512x512 .f32} {f g : ℕ → ℕ → EReal} (hv : Holds v f) (h : ∀ y < 512, ∀ x < 512, f y x = g y x) : Holds v g :=
  fun y x => (hv y x).trans (h y.val y.isLt x.val x.isLt)

theorem bordered_in (f : ℕ → ℕ → EReal) {r c y x : ℕ} (hr : r = y + 1) (hc : c = x + 1) (hy : y < 512) (hx : x < 512) : bordered f r c = f y x := by
  subst hr hc
  exact if_pos ⟨⟨by omega, by omega⟩, by omega, by omega⟩

theorem bordered_row (f : ℕ → ℕ → EReal) {r c : ℕ} (hr : r = 0 ∨ 512 < r) : bordered f r c = 0 := if_neg (by omega)
theorem bordered_col (f : ℕ → ℕ → EReal) {r c : ℕ} (hc : c = 0 ∨ 512 < c) : bordered f r c = 0 := if_neg (by omega)

/-- One row down, a row of zeros on top. -/
theorem Holds.down {v : FVec Ideal S512x512 .f32} {f : ℕ → ℕ → EReal} (hv : Holds v f) :
    Holds (concatenate S512x512 0 [⟨S1x512, k0_pay2 (F := Ideal)⟩, ⟨S511x512, extractStridedSlice S511x512 ![0, 0] v slices_S512x512_o0_0_S511x512⟩]
      concatenates_S1x512_S511x512_S512x512_d0) fun y x => bordered f y (x + 1) := fun y x => by
  pointwise [k0_pay2]
  split
  · rw [bordered_row f (by omega)]
  · rw [hv, bordered_in f (y := y.val - 1) (x := x.val) (by omega) rfl (by omega) x.isLt]

/-- One row up, a row of zeros at the bottom. -/
theorem Holds.up {v : FVec Ideal S512x512 .f32} {f : ℕ → ℕ → EReal} (hv : Holds v f) :
    Holds (concatenate S512x512 0 [⟨S511x512, extractStridedSlice S511x512 ![1, 0] v slices_S512x512_o1_0_S511x512⟩, ⟨S1x512, k0_pay2 (F := Ideal)⟩]
      concatenates_S511x512_S1x512_S512x512_d0) fun y x => bordered f (y + 2) (x + 1) := fun y x => by
  pointwise [k0_pay2]
  split
  · rw [hv, bordered_in f (y := 1 + y.val) (x := x.val) (by omega) rfl (by omega) x.isLt]
  · rw [bordered_row f (by omega)]

/-- One column right, a column of zeros at the left. -/
theorem Holds.right {v : FVec Ideal S512x512 .f32} {f : ℕ → ℕ → EReal} (hv : Holds v f) :
    Holds (concatenate S512x512 1 [⟨S512x1, k0_pay3 (F := Ideal)⟩, ⟨S512x511, extractStridedSlice S512x511 ![0, 0] v slices_S512x512_o0_0_S512x511⟩]
      concatenates_S512x1_S512x511_S512x512_d1) fun y x => bordered f (y + 1) x := fun y x => by
  pointwise [k0_pay3]
  split
  · rw [bordered_col f (by omega)]
  · rw [hv, bordered_in f (y := y.val) (x := x.val - 1) rfl (by omega) y.isLt (by omega)]

/-- One column left, a column of zeros at the right. -/
theorem Holds.left {v : FVec Ideal S512x512 .f32} {f : ℕ → ℕ → EReal} (hv : Holds v f) :
    Holds (concatenate S512x512 1 [⟨S512x511, extractStridedSlice S512x511 ![0, 1] v slices_S512x512_o0_1_S512x511⟩, ⟨S512x1, k0_pay3 (F := Ideal)⟩]
      concatenates_S512x511_S512x1_S512x512_d1) fun y x => bordered f (y + 1) (x + 2) := fun y x => by
  pointwise [k0_pay3]
  split
  · rw [hv, bordered_in f (y := y.val) (x := 1 + x.val) rfl (by omega) y.isLt (by omega)]
  · rw [bordered_col f (by omega)]

theorem two_eq : Ideal.ofBits .f32 0x40000000#32 = 2 := by
  simp [Ideal.ofBits, Ideal.ieee, -EReal.coe_mul]; norm_num; rfl

theorem four_eq : Ideal.ofBits .f32 0x40800000#32 = 4 := by
  simp [Ideal.ofBits, Ideal.ieee, -EReal.coe_mul]; norm_num; rfl

/-! ## The kernel's arrays -/

/-- A combination of the image's right and left neighbours and the pixel, itself read with its border. -/
theorem bordered_rows (g : ℕ → ℕ → EReal) (h : EReal → EReal → EReal → EReal) (h0 : h 0 0 0 = 0) {r x : ℕ} (hx : x < 512) :
    bordered (fun y x => h (bordered g (y + 1) (x + 2)) (bordered g (y + 1) x) (bordered g (y + 1) (x + 1))) r (x + 1)
      = h (bordered g r (x + 2)) (bordered g r x) (bordered g r (x + 1)) := by
  by_cases hr : r = 0 ∨ 512 < r
  · simp only [bordered_row _ hr, h0]
  · have e := bordered_in (fun y x => h (bordered g (y + 1) (x + 2)) (bordered g (y + 1) x) (bordered g (y + 1) (x + 1)))
      (r := r) (c := x + 1) (y := r - 1) (x := x) (by omega) rfl (by omega) hx
    rw [e, show r - 1 + 1 = r by omega]

/-- The gradient along a column as the kernel adds it up: the rows below less the rows above. -/
def gyHeld (g : ℕ → ℕ → EReal) (y x : ℕ) : EReal :=
  bordered g (y + 2) (x + 2) + bordered g (y + 2) x + 2 * bordered g (y + 2) (x + 1)
    - (bordered g y (x + 2) + bordered g y x + 2 * bordered g y (x + 1))

/-- Twice a difference. -/
theorem two_mul_sub (a b : EReal) : 2 * (a - b) = 2 * a + -(2 * b) := by
  have d := EReal.left_distrib_of_nonneg_of_ne_top (x := 2) (by norm_num) (EReal.coe_ne_top 2) a (-b)
  rw [sub_eq_add_neg, d, mul_neg]

/-- Three differences, the middle one twice, term by term. -/
theorem row_sum (e₀ w₀ e₁ w₁ e₂ w₂ : EReal) :
    e₀ - w₀ + 2 * (e₁ - w₁) + (e₂ - w₂) = -1 * w₀ + e₀ + -2 * w₁ + 2 * e₁ + -1 * w₂ + e₂ := by
  rw [two_mul_sub, sub_eq_add_neg, sub_eq_add_neg, neg_mul, neg_mul, neg_mul, one_mul, one_mul]
  generalize -(2 * w₁) = c
  generalize 2 * e₁ = d
  ac_rfl

section
variable (x0 : Vec Ideal S1x512x512 .f32) (f : ℕ → ℕ → EReal) (hf : ∀ y x : Fin 512, x0 (ix3 0 y x) = f y.val x.val)
include hf

theorem image_holds : Holds (shapeCast S512x512 x0 shapeCasts_S1x512x512_S512x512) f := fun y x => by
  pointwise []
  exact hf y x

theorem lap_holds : Holds (k0_pay4 (F := Ideal) x0) (lapOf f) := by
  have h := image_holds x0 f hf
  exact ((((h.down.add h.up).add h.right).add h.left).sub (h.scale four_eq)).congr fun y hy x hx => by
    unfold lapOf
    rw [bordered_in f (r := y + 1) (c := x + 1) rfl rfl hy hx, sub_eq_add_neg, neg_mul]
    ac_rfl

theorem east_holds : Holds (k0_pay5 (F := Ideal) x0) fun y x => bordered (lapOf f) (y + 1) (x + 2) := (lap_holds x0 f hf).left
theorem west_holds : Holds (k0_pay6 (F := Ideal) x0) fun y x => bordered (lapOf f) (y + 1) x := (lap_holds x0 f hf).right

theorem gx_holds : Holds (k0_pay7 (F := Ideal) x0) (gxOf (lapOf f)) := by
  have m := (east_holds x0 f hf).sub (west_holds x0 f hf)
  exact ((m.down.add (m.scale two_eq)).add m.up).congr fun y hy x hx => by
    rw [bordered_rows (lapOf f) (fun e w _ => e - w) (sub_zero 0) hx, bordered_rows (lapOf f) (fun e w _ => e - w) (sub_zero 0) hx]
    unfold gxOf
    exact row_sum _ _ _ _ _ _

theorem gy_holds : Holds (k0_pay8 (F := Ideal) x0) (gyHeld (lapOf f)) := by
  have n := (((east_holds x0 f hf).add (west_holds x0 f hf)).add ((lap_holds x0 f hf).scale two_eq)).congr
      (g := fun y x => bordered (lapOf f) (y + 1) (x + 2) + bordered (lapOf f) (y + 1) x + 2 * bordered (lapOf f) (y + 1) (x + 1))
      fun y hy x hx => by rw [bordered_in (lapOf f) (r := y + 1) (c := x + 1) rfl rfl hy hx]
  exact (n.up.sub n.down).congr fun y hy x hx => by
    have z : (0 : EReal) + 0 + 2 * 0 = 0 := by simp
    rw [bordered_rows (lapOf f) (fun e w k => e + w + 2 * k) z hx, bordered_rows (lapOf f) (fun e w k => e + w + 2 * k) z hx]
    rfl

end

end Cert.Proof.Pack

end
-- ==== Proof.PackCode.lean ====
/-
  ONE PIXEL'S CODE. The kernel finds how many of the eight edges a slope reaches by halving; as the edges increase,
  that is the number of edges the slope reaches, counted one by one. So a pixel's code is one function of its two
  gradients.
-/
module

public import proofs.«01_k».proof.Proof.PackGrid

@[expose] public section

noncomputable section

namespace Cert.Proof.Pack

open Idealize.ShloMosaic Idealize.ShloMosaic.TcCoe
open Cert.PackIdeal Cert.PackIdeal.Gen

/-- Whether the slope reaches the edge of bits `e`. -/
def reaches (t : EReal) (e : BitVec 32) : BitVec 32 := if Ideal.ofBits .f32 e ≤ t then 1#32 else 0#32

/-- How many of the eight edges the slope reaches. -/
def edgesReached (t : EReal) : BitVec 32 :=
  reaches t 0xC02FD6AC#32 + reaches t 0xBF988B62#32 + reaches t 0xBF13CD3A#32 + reaches t 0xBE348F0F#32
    + reaches t 0x3E348F0F#32 + reaches t 0x3F13CD3A#32 + reaches t 0x3F988B62#32 + reaches t 0x402FD6AC#32

/-- The magnitude of a gradient, in units of 1/16384, as a number before it is cut to an integer. -/
def units (gx gy : EReal) : EReal :=
  Ideal.sqrt (gx * gx + gy * gy + Ideal.ofBits .f32 0x322BCC77#32) * Ideal.ofBits .f32 0x46800000#32 + Ideal.ofBits .f32 0x3F000000#32

/-- The code of a pixel of gradients `gx`, `gy`. -/
def pixelCode (gx gy : EReal) : BitVec 32 :=
  IntOp.ori (IntOp.shli .vector (FloatOps.fptosi (F := Ideal) (φ := .f32) 32 (units gx gy)) 4#32) (edgesReached (Ideal.div gy gx))

/-! ## The edges increase -/

theorem edge0 : Ideal.ofBits .f32 0xC02FD6AC#32 = ((-(11523756 / 4194304) : ℝ) : EReal) := by
  simp [Ideal.ofBits, Ideal.ieee, -EReal.coe_mul, -EReal.coe_neg]; norm_num
theorem edge1 : Ideal.ofBits .f32 0xBF988B62#32 = ((-(9997154 / 8388608) : ℝ) : EReal) := by
  simp [Ideal.ofBits, Ideal.ieee, -EReal.coe_mul, -EReal.coe_neg]; norm_num
theorem edge2 : Ideal.ofBits .f32 0xBF13CD3A#32 = ((-(9686330 / 16777216) : ℝ) : EReal) := by
  simp [Ideal.ofBits, Ideal.ieee, -EReal.coe_mul, -EReal.coe_neg]; norm_num
theorem edge3 : Ideal.ofBits .f32 0xBE348F0F#32 = ((-(11833103 / 67108864) : ℝ) : EReal) := by
  simp [Ideal.ofBits, Ideal.ieee, -EReal.coe_mul, -EReal.coe_neg]; norm_num
theorem edge4 : Ideal.ofBits .f32 0x3E348F0F#32 = ((11833103 / 67108864 : ℝ) : EReal) := by
  simp [Ideal.ofBits, Ideal.ieee, -EReal.coe_mul]; norm_num
theorem edge5 : Ideal.ofBits .f32 0x3F13CD3A#32 = ((9686330 / 16777216 : ℝ) : EReal) := by
  simp [Ideal.ofBits, Ideal.ieee, -EReal.coe_mul]; norm_num
theorem edge6 : Ideal.ofBits .f32 0x3F988B62#32 = ((9997154 / 8388608 : ℝ) : EReal) := by
  simp [Ideal.ofBits, Ideal.ieee, -EReal.coe_mul]; norm_num
theorem edge7 : Ideal.ofBits .f32 0x402FD6AC#32 = ((11523756 / 4194304 : ℝ) : EReal) := by
  simp [Ideal.ofBits, Ideal.ieee, -EReal.coe_mul]; norm_num

/-- Halving over increasing edges counts the edges reached. -/
theorem halving (p0 p1 p2 p3 p4 p5 p6 p7 : Prop) [Decidable p0] [Decidable p1] [Decidable p2] [Decidable p3] [Decidable p4] [Decidable p5]
    [Decidable p6] [Decidable p7] (h0 : p1 → p0) (h1 : p2 → p1) (h2 : p3 → p2) (h3 : p4 → p3) (h4 : p5 → p4) (h5 : p6 → p5) (h6 : p7 → p6) :
    (if p3 then 4#32 else 0#32) + (if (if p3 then p5 else p1) then 2#32 else 0#32)
        + (if (if p3 then if (if p3 then p5 else p1) then p6 else p4 else if (if p3 then p5 else p1) then p2 else p0) then 1#32 else 0#32)
        + (if p7 then 1#32 else 0#32)
      = (if p0 then 1#32 else 0#32) + (if p1 then 1#32 else 0#32) + (if p2 then 1#32 else 0#32) + (if p3 then 1#32 else 0#32)
        + (if p4 then 1#32 else 0#32) + (if p5 then 1#32 else 0#32) + (if p6 then 1#32 else 0#32) + (if p7 then 1#32 else 0#32) := by
  by_cases q0 : p0 <;> by_cases q1 : p1 <;> by_cases q2 : p2 <;> by_cases q3 : p3 <;> first
    | exact absurd (h0 q1) q0
    | exact absurd (h1 q2) q1
    | exact absurd (h2 q3) q2
    | (by_cases q4 : p4 <;> by_cases q5 : p5 <;> by_cases q6 : p6 <;> by_cases q7 : p7 <;> simp_all)

theorem code_apply (v w : FVec Ideal S512x512 .f32) (y x : Fin 512) :
    k0_pay12 (F := Ideal) v w (cmpf .oge w (broadcast S512x512 (Scalar.ofBits (F := Ideal) .f32 0xBE348F0F#32))) (ix2 y x)
      = IntOp.ori (IntOp.shli .vector (FloatOps.fptosi (F := Ideal) (φ := .f32) 32 (v (ix2 y x) * Ideal.ofBits .f32 0x46800000#32 + Ideal.ofBits .f32 0x3F000000#32)) 4#32)
        (edgesReached (w (ix2 y x))) := by
  pointwise [k0_pay12]
  generalize w (ix2 y x) = t
  refine congrArg (IntOp.ori _) ?_
  have up {a b : BitVec 32} (h : Ideal.ofBits .f32 a ≤ Ideal.ofBits .f32 b) (hb : Ideal.ofBits .f32 b ≤ t) : Ideal.ofBits .f32 a ≤ t := h.trans hb
  have e := halving (Ideal.ofBits .f32 0xC02FD6AC#32 ≤ t) (Ideal.ofBits .f32 0xBF988B62#32 ≤ t) (Ideal.ofBits .f32 0xBF13CD3A#32 ≤ t)
    (Ideal.ofBits .f32 0xBE348F0F#32 ≤ t) (Ideal.ofBits .f32 0x3E348F0F#32 ≤ t) (Ideal.ofBits .f32 0x3F13CD3A#32 ≤ t)
    (Ideal.ofBits .f32 0x3F988B62#32 ≤ t) (Ideal.ofBits .f32 0x402FD6AC#32 ≤ t)
    (up (by rw [edge0, edge1]; exact EReal.coe_le_coe_iff.mpr (by norm_num)))
    (up (by rw [edge1, edge2]; exact EReal.coe_le_coe_iff.mpr (by norm_num)))
    (up (by rw [edge2, edge3]; exact EReal.coe_le_coe_iff.mpr (by norm_num)))
    (up (by rw [edge3, edge4]; exact EReal.coe_le_coe_iff.mpr (by norm_num)))
    (up (by rw [edge4, edge5]; exact EReal.coe_le_coe_iff.mpr (by norm_num)))
    (up (by rw [edge5, edge6]; exact EReal.coe_le_coe_iff.mpr (by norm_num)))
    (up (by rw [edge6, edge7]; exact EReal.coe_le_coe_iff.mpr (by norm_num)))
  have pick (p : Prop) [Decidable p] (a b : EReal) : ((if p then a else b) ≤ t) = (if p then a ≤ t else b ≤ t) := by split <;> rfl
  simp only [pick]
  exact e

/-- The code the kernel writes for a pixel. -/
theorem kernel_code (x0 : Vec Ideal S1x512x512 .f32) (y x : Fin 512) :
    k0_pay12 (F := Ideal) (k0_pay9 x0) (k0_pay10 x0) (k0_pay11 x0) (ix2 y x)
      = pixelCode (k0_pay7 (F := Ideal) x0 (ix2 y x)) (k0_pay8 (F := Ideal) x0 (ix2 y x)) := by
  refine (code_apply (k0_pay9 x0) (k0_pay10 x0) y x).trans ?_
  unfold pixelCode units
  pointwise [k0_pay9, k0_pay10]

/-! ## A sum less a sum, and the terms one by one

The kernel takes the rows above away as one sum, the reference term by term. On the extended reals the two differ where
that sum adds infinities of both signs; but then the gradient along the row is infinite too, and the code is the same. -/

/-- A number that is no real number. -/
def Infinite (v : EReal) : Prop := v = ⊤ ∨ v = ⊥

theorem Infinite.add {v : EReal} (h : Infinite v) (w : EReal) : Infinite (v + w) := by
  rcases h with rfl | rfl
  · induction w using EReal.rec with
    | bot => exact .inr rfl
    | coe r => exact .inl (EReal.top_add_coe r)
    | top => exact .inl rfl
  · exact .inr (EReal.bot_add w)

theorem Infinite.add' {v : EReal} (h : Infinite v) (w : EReal) : Infinite (w + v) := add_comm v w ▸ h.add w

theorem Infinite.neg {v : EReal} (h : Infinite v) : Infinite (-v) := by
  rcases h with rfl | rfl
  · exact .inr EReal.neg_top
  · exact .inl EReal.neg_bot

theorem real_or (v : EReal) : (∃ r : ℝ, v = r) ∨ Infinite v := by
  induction v using EReal.rec with
  | bot => exact .inr (.inr rfl)
  | coe r => exact .inl ⟨r, rfl⟩
  | top => exact .inr (.inl rfl)

theorem Infinite.mul_self {v : EReal} (h : Infinite v) : v * v = ⊤ := by
  rcases h with rfl | rfl
  · exact EReal.top_mul_top
  · exact EReal.bot_mul_bot

theorem Infinite.div {v w : EReal} (h : Infinite w) : Ideal.div v w = 0 := by
  unfold Ideal.div
  rcases h with rfl | rfl
  · rw [if_neg EReal.top_ne_zero, EReal.inv_top, mul_zero]
  · rw [if_neg EReal.bot_ne_zero, EReal.inv_bot, mul_zero]

/-- Where the gradients are infinite, their signs leave the code alone. -/
theorem pixelCode_infinite {gx gy gy' : EReal} (hx : Infinite gx) (hy : Infinite gy) (hy' : Infinite gy') : pixelCode gx gy = pixelCode gx gy' := by
  unfold pixelCode units
  rw [hx.div, hx.div, hy.mul_self, hy'.mul_self]

/-- The two sums agree, or every gradient is infinite. -/
theorem held_or (g : ℕ → ℕ → EReal) (y x : ℕ) :
    gyHeld g y x = gyOf g y x ∨ (Infinite (gxOf g y x) ∧ Infinite (gyHeld g y x) ∧ Infinite (gyOf g y x)) := by
  unfold gyHeld gyOf gxOf
  generalize bordered g y x = a
  generalize bordered g y (x + 1) = b
  generalize bordered g y (x + 2) = c
  generalize bordered g (y + 2) x = p
  generalize bordered g (y + 2) (x + 1) = q
  generalize bordered g (y + 2) (x + 2) = r
  generalize bordered g (y + 1) x = s
  generalize bordered g (y + 1) (x + 2) = t
  simp only [neg_mul, one_mul]
  have ia (h : Infinite a) : Infinite (-a + c + -(2 * s) + 2 * t + -p + r) ∧ Infinite (r + p + 2 * q - (c + a + 2 * b))
      ∧ Infinite (-a + -(2 * b) + -c + p + 2 * q + r) :=
    ⟨((((h.neg.add _).add _).add _).add _).add _, (((h.add' c).add _).neg.add' _), ((((h.neg.add _).add _).add _).add _).add _⟩
  have ic (h : Infinite c) : Infinite (-a + c + -(2 * s) + 2 * t + -p + r) ∧ Infinite (r + p + 2 * q - (c + a + 2 * b))
      ∧ Infinite (-a + -(2 * b) + -c + p + 2 * q + r) :=
    ⟨((((h.add' _).add _).add _).add _).add _, (((h.add a).add _).neg.add' _), (((h.neg.add' _).add _).add _).add _⟩
  rcases real_or a with ⟨u, rfl⟩ | h
  · rcases real_or c with ⟨v, rfl⟩ | h
    · left
      have n : -(((v : ℝ) : EReal) + ((u : ℝ) : EReal) + 2 * b) = -(v : EReal) + -(u : EReal) + -(2 * b) := by
        rw [← EReal.coe_add, EReal.neg_add (.inl (EReal.coe_ne_bot _)) (.inl (EReal.coe_ne_top _)), EReal.coe_add,
          EReal.neg_add (.inl (EReal.coe_ne_bot _)) (.inl (EReal.coe_ne_top _)), sub_eq_add_neg, sub_eq_add_neg]
      rw [sub_eq_add_neg, n]
      generalize -(2 * b) = k
      generalize -(u : EReal) = l
      generalize -(v : EReal) = m
      generalize 2 * q = o
      ac_rfl
    · exact .inr (ic h)
  · exact .inr (ia h)

/-- So the code is of the gradient summed term by term. -/
theorem code_held (g : ℕ → ℕ → EReal) (y x : ℕ) : pixelCode (gxOf g y x) (gyHeld g y x) = pixelCode (gxOf g y x) (gyOf g y x) := by
  rcases held_or g y x with h | ⟨h, h₁, h₂⟩
  · rw [h]
  · exact pixelCode_infinite h h₁ h₂

end Cert.Proof.Pack

end
-- ==== Proof.PackSlot.lean ====
/-
  A BLOCK OF CODES. The kernel cuts one image's codes into sixteen cells of 128 x 128 and stores each into its slot of
  the output block: slot s holds the cell at row s / 4, column s % 4.
-/
module

public import proofs.«01_k».proof.Proof.PackCode
public import Idealize.ShloMosaic.Lib.Pipeline.ValueKit

@[expose] public section

noncomputable section

namespace Cert.Proof.Pack

open Idealize.ShloMosaic Idealize.ShloMosaic.TcCoe
open Cert.PackIdeal Cert.PackIdeal.Gen

/-- The code of pixel (y, x) of the image `f`. -/
def codeOf (f : ℕ → ℕ → EReal) (y x : ℕ) : BitVec 32 := pixelCode (gxOf (lapOf f) y x) (gyOf (lapOf f) y x)

/-- Pixel (i, j) of cell `s` of an image of codes. -/
def cellOf (h : ℕ → ℕ → BitVec 32) (s i j : ℕ) : BitVec 32 := h (128 * (s / 4) + i) (128 * (s % 4) + j)

/-- One cell cut out of an image of codes and given its slot's shape. -/
theorem slot_apply (v : IVec S512x512 32) (h : ℕ → ℕ → BitVec 32) (hv : ∀ y x : Fin 512, v (ix2 y x) = h y.val x.val) (n a b : ℕ)
    (ha : 128 * (n / 4) = a) (hb : 128 * (n % 4) = b) (hs : S512x512.Slices ![a, b] S128x128) (x : S1x128x128.Idx) :
    shapeCast S1x128x128 (extractStridedSlice S128x128 ![a, b] v hs) shapeCasts_S128x128_S1x128x128 x
      = cellOf h (n + (x 0).val) (x 1).val (x 2).val := by
  obtain ⟨p, i, j, rfl⟩ : ∃ (p : Fin 1) (i j : Fin 128), x = ix3 p i j := ⟨x 0, x 1, x 2, eq_ix3 x⟩
  pointwise []
  rw [hv]
  unfold cellOf
  rw [ha, hb]

theorem zeros : (![0, 0, 0] : Fin 3 → ℕ) = fun _ => 0 := funext fun a => by fin_cases a <;> rfl

theorem ld_image (x0 : Vec Ideal S1x512x512 .f32) : View.ld x0 r0_0 = x0 := View.ld_unit_zero (S := S1x512x512) zeros _ _

section
variable (x0 : Vec Ideal S1x512x512 .f32) (f : ℕ → ℕ → EReal) (hf : ∀ y x : Fin 512, x0 (ix3 0 y x) = f y.val x.val)
include hf

/-- The codes of the whole image. -/
theorem codes_hold (y x : Fin 512) : k0_pay12 (F := Ideal) (k0_pay9 x0) (k0_pay10 x0) (k0_pay11 x0) (ix2 y x) = codeOf f y.val x.val := by
  rw [kernel_code, gx_holds x0 f hf y x, gy_holds x0 f hf y x, code_held]; rfl

/-- The block the kernel leaves. -/
theorem block_holds (y : S16x128x128.Idx) : out0_1 (F := Ideal) x0 y = cellOf (codeOf f) (y 0).val (y 1).val (y 2).val := by
  have hv := codes_hold x0 f hf
  unfold out0_1 k0_pay34 k0_pay33 k0_pay32 k0_pay31 k0_pay13 k0_pay22 k0_pay30
  rw [ld_image x0]
  generalize k0_pay12 (F := Ideal) (k0_pay9 x0) (k0_pay10 x0) (k0_pay11 x0) = v at hv
  have hc : ∀ (n a b : ℕ) (ha : 128 * (n / 4) = a) (hb : 128 * (n % 4) = b) (hs : S512x512.Slices ![a, b] S128x128)
      (inb : ∀ d, (![n, 0, 0] : Fin 3 → ℕ) d + S1x128x128.size d ≤ S16x128x128.size d) (x : S1x128x128.Idx),
      shapeCast S1x128x128 (extractStridedSlice S128x128 ![a, b] v hs) shapeCasts_S128x128_S1x128x128 x
        = (fun y : S16x128x128.Idx => cellOf (codeOf f) (y 0).val (y 1).val (y 2).val) ((Rect.unit (s := S16x128x128) ![n, 0, 0] S1x128x128.size inb).emb x) :=
    fun n a b ha hb hs inb x => by
      rw [slot_apply v (codeOf f) hv n a b ha hb hs x]
      dsimp only
      rw [ValueKit.rect_emb_unit_val, ValueKit.rect_emb_unit_val, ValueKit.rect_emb_unit_val]
      show cellOf (codeOf f) (n + (x 0).val) (x 1).val (x 2).val = cellOf (codeOf f) (n + (x 0).val) (0 + (x 1).val) (0 + (x 2).val)
      rw [Nat.zero_add, Nat.zero_add]
  refine View.canon_apply_of_pieces (fun y : S16x128x128.Idx => cellOf (codeOf f) (y 0).val (y 1).val (y 2).val) _ ?_ y (cover0_1 (F := Ideal) _ _ _ _ _ _ _ _ _ _ _ _ _ _ _ _ y)
  simp only [List.forall_mem_cons]
  exact ⟨hc 15 384 384 rfl rfl _ _, hc 14 384 256 rfl rfl _ _, hc 13 384 128 rfl rfl _ _, hc 12 384 0 rfl rfl _ _,
    hc 11 256 384 rfl rfl _ _, hc 10 256 256 rfl rfl _ _, hc 9 256 128 rfl rfl _ _, hc 8 256 0 rfl rfl _ _,
    hc 7 128 384 rfl rfl _ _, hc 6 128 256 rfl rfl _ _, hc 5 128 128 rfl rfl _ _, hc 4 128 0 rfl rfl _ _,
    hc 3 0 384 rfl rfl _ _, hc 2 0 256 rfl rfl _ _, hc 1 0 128 rfl rfl _ _, hc 0 0 0 rfl rfl _ _, fun _ h => absurd h List.not_mem_nil⟩

end

end Cert.Proof.Pack

end
-- ==== Proof.PackRun.lean ====
/-
  THE PACKING KERNEL, RUN. Its four calls one after the other: what each leaves in its result, block by block, and the
  whole program's run with the four results.
-/
module

public import proofs.«01_k».proof.Proof.PackSlot

@[expose] public section

noncomputable section

namespace Cert.Proof.Pack

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PackIdeal Cert.PackIdeal.Gen

/-- Row `n` of the cells of all images, sixteen to an image, from image `b` on. -/
def cellsFrom (g : ℕ → ℕ → ℕ → EReal) (b n i j : ℕ) : BitVec 32 := cellOf (codeOf (g (b + n / 16))) (n % 16) i j

theorem cellsFrom_block (g : ℕ → ℕ → ℕ → EReal) (b t i j : ℕ) {s : ℕ} (hs : s < 16) :
    cellOf (codeOf (g (b + t))) s i j = cellsFrom g b (t * 16 + s) (0 * 128 + i) (0 * 128 + j) := by
  unfold cellsFrom
  rw [show (t * 16 + s) / 16 = t by omega, show (t * 16 + s) % 16 = s by omega, Nat.zero_mul, Nat.zero_add, Nat.zero_add]

/-! ## What each call leaves -/

section
variable (V : (c : Dev nD) → (b : Ref sig .tc) → Buf (Elt Ideal) ((c : Thread nD τ).loc b)) (c : Dev nD) (g : ℕ → ℕ → ℕ → EReal)
  (hV : ∀ (b : Fin 64) (y x : Fin 512), (V c main_v0 : S64x512x512.Idx → Elt Ideal .f32) (ix3 b y x) = g b.val y.val x.val)
include hV

theorem final0 (i : S320x128x128.Idx) : ((dat0 V c).arrAt 1 cfg0.N : S320x128x128.Idx → Elt Ideal .i32) i
    = cellsFrom g 0 (i 0).val (i 1).val (i 2).val := by
  have idx : ∀ t : Fin cfg0.N, win0_0.index t = ![0 + t.val, 0, 0] ∧ win0_1.index t = ![t.val, 0, 0] := by decide +kernel
  refine congrFun ((dat0 V c).arrAt_eq_of_covers 1 (fun i : S320x128x128.Idx => cellsFrom g 0 (i 0).val (i 1).val (i 2).val)
    (by decide +kernel) fun t hf y => ?_) i
  blk_simp
  rw [after0_1]
  obtain ⟨e₀, e₁⟩ := idx t
  have hN : t.val < 20 := t.isLt
  rw [block_holds (iblk0 V c 0 t) (g (0 + t.val)) fun a b => ?_]
  · rw [e₁]
    exact cellsFrom_block g 0 t.val _ _ (y 0).isLt
  · refine Eq.trans ?_ (hV ⟨0 + t.val, by omega⟩ a b)
    blk_ext [iblk0, e₀]

theorem final1 (i : S320x128x128.Idx) : ((dat1 V c).arrAt 1 cfg1.N : S320x128x128.Idx → Elt Ideal .i32) i
    = cellsFrom g 20 (i 0).val (i 1).val (i 2).val := by
  have idx : ∀ t : Fin cfg1.N, win1_0.index t = ![20 + t.val, 0, 0] ∧ win1_1.index t = ![t.val, 0, 0] := by decide +kernel
  refine congrFun ((dat1 V c).arrAt_eq_of_covers 1 (fun i : S320x128x128.Idx => cellsFrom g 20 (i 0).val (i 1).val (i 2).val)
    (by decide +kernel) fun t hf y => ?_) i
  blk_simp
  rw [after1_1]
  obtain ⟨e₀, e₁⟩ := idx t
  have hN : t.val < 20 := t.isLt
  change out0_1 (iblk1 V c 0 t) y = _
  rw [block_holds (iblk1 V c 0 t) (g (20 + t.val)) fun a b => ?_]
  · rw [e₁]
    exact cellsFrom_block g 20 t.val _ _ (y 0).isLt
  · refine Eq.trans ?_ (hV ⟨20 + t.val, by omega⟩ a b)
    blk_ext [iblk1, e₀]

theorem final2 (i : S320x128x128.Idx) : ((dat2 V c).arrAt 1 cfg2.N : S320x128x128.Idx → Elt Ideal .i32) i
    = cellsFrom g 40 (i 0).val (i 1).val (i 2).val := by
  have idx : ∀ t : Fin cfg2.N, win2_0.index t = ![40 + t.val, 0, 0] ∧ win2_1.index t = ![t.val, 0, 0] := by decide +kernel
  refine congrFun ((dat2 V c).arrAt_eq_of_covers 1 (fun i : S320x128x128.Idx => cellsFrom g 40 (i 0).val (i 1).val (i 2).val)
    (by decide +kernel) fun t hf y => ?_) i
  blk_simp
  rw [after2_1]
  obtain ⟨e₀, e₁⟩ := idx t
  have hN : t.val < 20 := t.isLt
  change out0_1 (iblk2 V c 0 t) y = _
  rw [block_holds (iblk2 V c 0 t) (g (40 + t.val)) fun a b => ?_]
  · rw [e₁]
    exact cellsFrom_block g 40 t.val _ _ (y 0).isLt
  · refine Eq.trans ?_ (hV ⟨40 + t.val, by omega⟩ a b)
    blk_ext [iblk2, e₀]

theorem final3 (i : S64x128x128.Idx) : ((dat3 V c).arrAt 1 cfg3.N : S64x128x128.Idx → Elt Ideal .i32) i
    = cellsFrom g 60 (i 0).val (i 1).val (i 2).val := by
  have idx : ∀ t : Fin cfg3.N, win3_0.index t = ![60 + t.val, 0, 0] ∧ win3_1.index t = ![t.val, 0, 0] := by decide +kernel
  refine congrFun ((dat3 V c).arrAt_eq_of_covers 1 (fun i : S64x128x128.Idx => cellsFrom g 60 (i 0).val (i 1).val (i 2).val)
    (by decide +kernel) fun t hf y => ?_) i
  blk_simp
  rw [after3_1]
  obtain ⟨e₀, e₁⟩ := idx t
  have hN : t.val < 4 := t.isLt
  change out0_1 (iblk3 V c 0 t) y = _
  rw [block_holds (iblk3 V c 0 t) (g (60 + t.val)) fun a b => ?_]
  · rw [e₁]
    exact cellsFrom_block g 60 t.val _ _ (y 0).isLt
  · refine Eq.trans ?_ (hV ⟨60 + t.val, by omega⟩ a b)
    blk_ext [iblk3, e₀]

end

/-! ## The run -/

section
variable {F : FTy → Type} [FloatOps F] (m : (ℓ : Loc nD τ sig) → Buf (Elt F) ℓ) (ρ : Dev nD → PrngReg)

local notation "𝕄" => MT nD τ sig Unit (Elt F) ℕ (UR sig nD τ) ℕ

-- the launch lemma's implicit arguments are found by unifying its conclusion with this one, which takes unfolding plain
-- definitions in the type of an argument not found yet
set_option backward.isDefEq.respectTransparency.types false in
/-- The program ends, its results and its argument as the contents after the last call say. -/
theorem run_contents : θ_run defs (onTc (τ := τ) (main (F := F))) ⟨m, fun _ => 0, ρ⟩ fun r => ∀ c : Dev nD, ∀ b : Ref sig .tc,
      ¬ (Proc.devRef .tc b : DevRef τ sig).isScoped → r.2.mem ((c.tc : Thread nD τ).loc b) = W5 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end

/-! ## The results -/

section
variable (m : (ℓ : Loc nD τ sig) → Buf (Elt Ideal) ℓ) (ρ : Dev nD → PrngReg) (c : Dev nD) (g : ℕ → ℕ → ℕ → EReal)

/-- The images the calls read: the argument's, one after the other. -/
abbrev imagesOf (x : Vec Ideal S4x16x512x512 .f32) : Vec Ideal S64x512x512 .f32 := shapeCast S64x512x512 x shapeCasts_S4x16x512x512_S64x512x512

theorem entry1 : (W1 m ρ c (Proc.devRef .tc main_v0) : Vec Ideal S64x512x512 .f32) = imagesOf (m ((c : Thread nD τ).loc main_arg0)) := by
  after_results
  rfl

theorem entry2 : (W2 m ρ c (Proc.devRef .tc main_v0) : Vec Ideal S64x512x512 .f32) = imagesOf (m ((c : Thread nD τ).loc main_arg0)) :=
  (W2_of m ρ c main_v0 (by decide)).trans (entry1 m ρ c)
theorem entry3 : (W3 m ρ c (Proc.devRef .tc main_v0) : Vec Ideal S64x512x512 .f32) = imagesOf (m ((c : Thread nD τ).loc main_arg0)) :=
  (W3_of m ρ c main_v0 (by decide)).trans (entry2 m ρ c)
theorem entry4 : (W4 m ρ c (Proc.devRef .tc main_v0) : Vec Ideal S64x512x512 .f32) = imagesOf (m ((c : Thread nD τ).loc main_arg0)) :=
  (W4_of m ρ c main_v0 (by decide)).trans (entry3 m ρ c)

variable (hg : ∀ (b : Fin 64) (y x : Fin 512), imagesOf (m ((c : Thread nD τ).loc main_arg0)) (ix3 b y x) = g b.val y.val x.val)
include hg

theorem result1 (i : S320x128x128.Idx) : (W5 m ρ c (Proc.devRef .tc main_v1) : IVec S320x128x128 32) i = cellsFrom g 0 (i 0).val (i 1).val (i 2).val :=
  (congrFun ((W5_of m ρ c main_v1 (by decide)).trans ((W4_of m ρ c main_v1 (by decide)).trans ((W3_of m ρ c main_v1 (by decide)).trans (W2_arr m ρ c 1)))) i).trans
    (final0 (V1 m ρ) c g (fun b y x => (congrFun (entry1 m ρ c) _).trans (hg b y x)) i)

theorem result2 (i : S320x128x128.Idx) : (W5 m ρ c (Proc.devRef .tc main_v2) : IVec S320x128x128 32) i = cellsFrom g 20 (i 0).val (i 1).val (i 2).val :=
  (congrFun ((W5_of m ρ c main_v2 (by decide)).trans ((W4_of m ρ c main_v2 (by decide)).trans (W3_arr m ρ c 1))) i).trans
    (final1 (V2 m ρ) c g (fun b y x => (congrFun (entry2 m ρ c) _).trans (hg b y x)) i)

theorem result3 (i : S320x128x128.Idx) : (W5 m ρ c (Proc.devRef .tc main_v3) : IVec S320x128x128 32) i = cellsFrom g 40 (i 0).val (i 1).val (i 2).val :=
  (congrFun ((W5_of m ρ c main_v3 (by decide)).trans (W4_arr m ρ c 1)) i).trans
    (final2 (V3 m ρ) c g (fun b y x => (congrFun (entry3 m ρ c) _).trans (hg b y x)) i)

theorem result4 (i : S64x128x128.Idx) : (W5 m ρ c (Proc.devRef .tc main_v4) : IVec S64x128x128 32) i = cellsFrom g 60 (i 0).val (i 1).val (i 2).val :=
  (congrFun (W5_arr m ρ c 1) i).trans (final3 (V4 m ρ) c g (fun b y x => (congrFun (entry4 m ρ c) _).trans (hg b y x)) i)

end

end Cert.Proof.Pack

end
-- ==== Proof.PackRef.lean ====
/-
  THE PACKING'S REFERENCE, RUN. Its operations one after the other, in five stretches — the Laplacian, the two
  gradients, the codes, the cells —, and what its four results hold as functions of its argument.
-/
module

public import proofs.«01_k».proof.Proof.Gen.PackRefIdeal
public import Idealize.ShloMosaic.Lib.StableHlo.Run
public import Idealize.ShloMosaic.Lib.StableHlo.RunRead

@[expose] public section

noncomputable section

namespace Cert.Proof.PackRef

open Idealize.ShloMosaic Idealize.ShloMosaic.TcCoe Idealize.ShloMosaic.StableHlo Idealize.SL.Sem
open Cert.PackRefIdeal Cert.PackRefIdeal.Gen

variable {F : FTy → Type} [FloatOps F]

/-- The images, their Laplacian. -/
abbrev lapOps : List (HloOp τ sig (Elt F)) :=
  [ reshape main_arg0 main_v0 (rfl : (.f32 : EltTy) = .f32) shapeCasts_S4x16x512x512_S64x512x512,
    nullary main_c (constantI S_ 32 0#32),
    TRef.unary (.of main_c : TRef sig ⟨S_, .i32⟩) main_call0.v0 (sitofp .f32),
    TRef.binary (.of main_v0 : TRef sig ⟨S64x512x512, .f32⟩) main_call0.v0 main_call0.v1 (fun x v => pad S64x514x514 ![0, 1, 1] ![0, 1, 1] ![0, 0, 0] x v pads_S64x512x512_S64x514x514_000_110_110 h_S_),
    unary main_v1 main_v2 ((extractStridedSlice S64x512x512 ![0, 0, 1] · slices_S64x514x514_S64x512x512_0_0_1) : (⟨S64x514x514, .f32⟩ : BufTy).Contents (Elt F) → (⟨S64x512x512, .f32⟩ : BufTy).Contents (Elt F)),
    nullary main_cst (constant S_ .f32 0x3F800000#32),
    unary main_cst main_v3 (broadcastInDim S64x512x512 ![] bcast_S_S64x512x512 : (⟨S_, .f32⟩ : BufTy).Contents (Elt F) → (⟨S64x512x512, .f32⟩ : BufTy).Contents (Elt F)),
    binary main_v3 main_v2 main_v4 (mulf : (⟨S64x512x512, .f32⟩ : BufTy).Contents (Elt F) → (⟨S64x512x512, .f32⟩ : BufTy).Contents (Elt F) → (⟨S64x512x512, .f32⟩ : BufTy).Contents (Elt F)),
    unary main_v1 main_v5 ((extractStridedSlice S64x512x512 ![0, 1, 0] · slices_S64x514x514_S64x512x512_0_1_0) : (⟨S64x514x514, .f32⟩ : BufTy).Contents (Elt F) → (⟨S64x512x512, .f32⟩ : BufTy).Contents (Elt F)),
    nullary main_cst_0 (constant S_ .f32 0x3F800000#32),
    unary main_cst_0 main_v6 (broadcastInDim S64x512x512 ![] bcast_S_S64x512x512 : (⟨S_, .f32⟩ : BufTy).Contents (Elt F) → (⟨S64x512x512, .f32⟩ : BufTy).Contents (Elt F)),
    binary main_v6 main_v5 main_v7 (mulf : (⟨S64x512x512, .f32⟩ : BufTy).Contents (Elt F) → (⟨S64x512x512, .f32⟩ : BufTy).Contents (Elt F) → (⟨S64x512x512, .f32⟩ : BufTy).Contents (Elt F)),
    unary main_v1 main_v8 ((extractStridedSlice S64x512x512 ![0, 1, 1] · slices_S64x514x514_S64x512x512_0_1_1) : (⟨S64x514x514, .f32⟩ : BufTy).Contents (Elt F) → (⟨S64x512x512, .f32⟩ : BufTy).Contents (Elt F)),
    nullary main_cst_1 (constant S_ .f32 0xC0800000#32),
    unary main_cst_1 main_v9 (broadcastInDim S64x512x512 ![] bcast_S_S64x512x512 : (⟨S_, .f32⟩ : BufTy).Contents (Elt F) → (⟨S64x512x512, .f32⟩ : BufTy).Contents (Elt F)),
    binary main_v9 main_v8 main_v10 (mulf : (⟨S64x512x512, .f32⟩ : BufTy).Contents (Elt F) → (⟨S64x512x512, .f32⟩ : BufTy).Contents (Elt F) → (⟨S64x512x512, .f32⟩ : BufTy).Contents (Elt F)),
    unary main_v1 main_v11 ((extractStridedSlice S64x512x512 ![0, 1, 2] · slices_S64x514x514_S64x512x512_0_1_2) : (⟨S64x514x514, .f32⟩ : BufTy).Contents (Elt F) → (⟨S64x512x512, .f32⟩ : BufTy).Contents (Elt F)),
    nullary main_cst_2 (constant S_ .f32 0x3F800000#32),
    unary main_cst_2 main_v12 (broadcastInDim S64x512x512 ![] bcast_S_S64x512x512 : (⟨S_, .f32⟩ : BufTy).Contents (Elt F) → (⟨S64x512x512, .f32⟩ : BufTy).Contents (Elt F)),
    binary main_v12 main_v11 main_v13 (mulf : (⟨S64x512x512, .f32⟩ : BufTy).Contents (Elt F) → (⟨S64x512x512, .f32⟩ : BufTy).Contents (Elt F) → (⟨S64x512x512, .f32⟩ : BufTy).Contents (Elt F)),
    unary main_v1 main_v14 ((extractStridedSlice S64x512x512 ![0, 2, 1] · slices_S64x514x514_S64x512x512_0_2_1) : (⟨S64x514x514, .f32⟩ : BufTy).Contents (Elt F) → (⟨S64x512x512, .f32⟩ : BufTy).Contents (Elt F)),
    nullary main_cst_3 (constant S_ .f32 0x3F800000#32),
    unary main_cst_3 main_v15 (broadcastInDim S64x512x512 ![] bcast_S_S64x512x512 : (⟨S_, .f32⟩ : BufTy).Contents (Elt F) → (⟨S64x512x512, .f32⟩ : BufTy).Contents (Elt F)),
    binary main_v15 main_v14 main_v16 (mulf : (⟨S64x512x512, .f32⟩ : BufTy).Contents (Elt F) → (⟨S64x512x512, .f32⟩ : BufTy).Contents (Elt F) → (⟨S64x512x512, .f32⟩ : BufTy).Contents (Elt F)),
    binary main_v4 main_v7 main_v17 (addf : (⟨S64x512x512, .f32⟩ : BufTy).Contents (Elt F) → (⟨S64x512x512, .f32⟩ : BufTy).Contents (Elt F) → (⟨S64x512x512, .f32⟩ : BufTy).Contents (Elt F)),
    binary main_v17 main_v10 main_v18 (addf : (⟨S64x512x512, .f32⟩ : BufTy).Contents (Elt F) → (⟨S64x512x512, .f32⟩ : BufTy).Contents (Elt F) → (⟨S64x512x512, .f32⟩ : BufTy).Contents (Elt F)),
    binary main_v18 main_v13 main_v19 (addf : (⟨S64x512x512, .f32⟩ : BufTy).Contents (Elt F) → (⟨S64x512x512, .f32⟩ : BufTy).Contents (Elt F) → (⟨S64x512x512, .f32⟩ : BufTy).Contents (Elt F)),
    binary main_v19 main_v16 main_v20 (addf : (⟨S64x512x512, .f32⟩ : BufTy).Contents (Elt F) → (⟨S64x512x512, .f32⟩ : BufTy).Contents (Elt F) → (⟨S64x512x512, .f32⟩ : BufTy).Contents (Elt F)) ]

abbrev lapOpsW : List (Ref sig .tc) := [main_v0, main_c, main_call0_v0, main_v1, main_v2, main_cst, main_v3, main_v4, main_v5, main_cst_0, main_v6, main_v7, main_v8, main_cst_1, main_v9, main_v10, main_v11, main_cst_2, main_v12, main_v13, main_v14, main_cst_3, main_v15, main_v16, main_v17, main_v18, main_v19, main_v20]

/-- Its gradient along the rows. -/
abbrev rowOps : List (HloOp τ sig (Elt F)) :=
  [ nullary main_c_4 (constantI S_ 32 0#32),
    TRef.unary (.of main_c_4 : TRef sig ⟨S_, .i32⟩) main_call1.v0 (sitofp .f32),
    TRef.binary (.of main_v20 : TRef sig ⟨S64x512x512, .f32⟩) main_call1.v0 main_call1.v1 (fun x v => pad S64x514x514 ![0, 1, 1] ![0, 1, 1] ![0, 0, 0] x v pads_S64x512x512_S64x514x514_000_110_110 h_S_),
    unary main_v21 main_v22 ((extractStridedSlice S64x512x512 ![0, 0, 0] · slices_S64x514x514_S64x512x512_0_0_0) : (⟨S64x514x514, .f32⟩ : BufTy).Contents (Elt F) → (⟨S64x512x512, .f32⟩ : BufTy).Contents (Elt F)),
    nullary main_cst_5 (constant S_ .f32 0xBF800000#32),
    unary main_cst_5 main_v23 (broadcastInDim S64x512x512 ![] bcast_S_S64x512x512 : (⟨S_, .f32⟩ : BufTy).Contents (Elt F) → (⟨S64x512x512, .f32⟩ : BufTy).Contents (Elt F)),
    binary main_v23 main_v22 main_v24 (mulf : (⟨S64x512x512, .f32⟩ : BufTy).Contents (Elt F) → (⟨S64x512x512, .f32⟩ : BufTy).Contents (Elt F) → (⟨S64x512x512, .f32⟩ : BufTy).Contents (Elt F)),
    unary main_v21 main_v25 ((extractStridedSlice S64x512x512 ![0, 0, 2] · slices_S64x514x514_S64x512x512_0_0_2) : (⟨S64x514x514, .f32⟩ : BufTy).Contents (Elt F) → (⟨S64x512x512, .f32⟩ : BufTy).Contents (Elt F)),
    nullary main_cst_6 (constant S_ .f32 0x3F800000#32),
    unary main_cst_6 main_v26 (broadcastInDim S64x512x512 ![] bcast_S_S64x512x512 : (⟨S_, .f32⟩ : BufTy).Contents (Elt F) → (⟨S64x512x512, .f32⟩ : BufTy).Contents (Elt F)),
    binary main_v26 main_v25 main_v27 (mulf : (⟨S64x512x512, .f32⟩ : BufTy).Contents (Elt F) → (⟨S64x512x512, .f32⟩ : BufTy).Contents (Elt F) → (⟨S64x512x512, .f32⟩ : BufTy).Contents (Elt F)),
    unary main_v21 main_v28 ((extractStridedSlice S64x512x512 ![0, 1, 0] · slices_S64x514x514_S64x512x512_0_1_0) : (⟨S64x514x514, .f32⟩ : BufTy).Contents (Elt F) → (⟨S64x512x512, .f32⟩ : BufTy).Contents (Elt F)),
    nullary main_cst_7 (constant S_ .f32 0xC0000000#32),
    unary main_cst_7 main_v29 (broadcastInDim S64x512x512 ![] bcast_S_S64x512x512 : (⟨S_, .f32⟩ : BufTy).Contents (Elt F) → (⟨S64x512x512, .f32⟩ : BufTy).Contents (Elt F)),
    binary main_v29 main_v28 main_v30 (mulf : (⟨S64x512x512, .f32⟩ : BufTy).Contents (Elt F) → (⟨S64x512x512, .f32⟩ : BufTy).Contents (Elt F) → (⟨S64x512x512, .f32⟩ : BufTy).Contents (Elt F)),
    unary main_v21 main_v31 ((extractStridedSlice S64x512x512 ![0, 1, 2] · slices_S64x514x514_S64x512x512_0_1_2) : (⟨S64x514x514, .f32⟩ : BufTy).Contents (Elt F) → (⟨S64x512x512, .f32⟩ : BufTy).Contents (Elt F)),
    nullary main_cst_8 (constant S_ .f32 0x40000000#32),
    unary main_cst_8 main_v32 (broadcastInDim S64x512x512 ![] bcast_S_S64x512x512 : (⟨S_, .f32⟩ : BufTy).Contents (Elt F) → (⟨S64x512x512, .f32⟩ : BufTy).Contents (Elt F)),
    binary main_v32 main_v31 main_v33 (mulf : (⟨S64x512x512, .f32⟩ : BufTy).Contents (Elt F) → (⟨S64x512x512, .f32⟩ : BufTy).Contents (Elt F) → (⟨S64x512x512, .f32⟩ : BufTy).Contents (Elt F)),
    unary main_v21 main_v34 ((extractStridedSlice S64x512x512 ![0, 2, 0] · slices_S64x514x514_S64x512x512_0_2_0) : (⟨S64x514x514, .f32⟩ : BufTy).Contents (Elt F) → (⟨S64x512x512, .f32⟩ : BufTy).Contents (Elt F)),
    nullary main_cst_9 (constant S_ .f32 0xBF800000#32),
    unary main_cst_9 main_v35 (broadcastInDim S64x512x512 ![] bcast_S_S64x512x512 : (⟨S_, .f32⟩ : BufTy).Contents (Elt F) → (⟨S64x512x512, .f32⟩ : BufTy).Contents (Elt F)),
    binary main_v35 main_v34 main_v36 (mulf : (⟨S64x512x512, .f32⟩ : BufTy).Contents (Elt F) → (⟨S64x512x512, .f32⟩ : BufTy).Contents (Elt F) → (⟨S64x512x512, .f32⟩ : BufTy).Contents (Elt F)),
    unary main_v21 main_v37 ((extractStridedSlice S64x512x512 ![0, 2, 2] · slices_S64x514x514_S64x512x512_0_2_2) : (⟨S64x514x514, .f32⟩ : BufTy).Contents (Elt F) → (⟨S64x512x512, .f32⟩ : BufTy).Contents (Elt F)),
    nullary main_cst_10 (constant S_ .f32 0x3F800000#32),
    unary main_cst_10 main_v38 (broadcastInDim S64x512x512 ![] bcast_S_S64x512x512 : (⟨S_, .f32⟩ : BufTy).Contents (Elt F) → (⟨S64x512x512, .f32⟩ : BufTy).Contents (Elt F)),
    binary main_v38 main_v37 main_v39 (mulf : (⟨S64x512x512, .f32⟩ : BufTy).Contents (Elt F) → (⟨S64x512x512, .f32⟩ : BufTy).Contents (Elt F) → (⟨S64x512x512, .f32⟩ : BufTy).Contents (Elt F)),
    binary main_v24 main_v27 main_v40 (addf : (⟨S64x512x512, .f32⟩ : BufTy).Contents (Elt F) → (⟨S64x512x512, .f32⟩ : BufTy).Contents (Elt F) → (⟨S64x512x512, .f32⟩ : BufTy).Contents (Elt F)),
    binary main_v40 main_v30 main_v41 (addf : (⟨S64x512x512, .f32⟩ : BufTy).Contents (Elt F) → (⟨S64x512x512, .f32⟩ : BufTy).Contents (Elt F) → (⟨S64x512x512, .f32⟩ : BufTy).Contents (Elt F)),
    binary main_v41 main_v33 main_v42 (addf : (⟨S64x512x512, .f32⟩ : BufTy).Contents (Elt F) → (⟨S64x512x512, .f32⟩ : BufTy).Contents (Elt F) → (⟨S64x512x512, .f32⟩ : BufTy).Contents (Elt F)),
    binary main_v42 main_v36 main_v43 (addf : (⟨S64x512x512, .f32⟩ : BufTy).Contents (Elt F) → (⟨S64x512x512, .f32⟩ : BufTy).Contents (Elt F) → (⟨S64x512x512, .f32⟩ : BufTy).Contents (Elt F)),
    binary main_v43 main_v39 main_v44 (addf : (⟨S64x512x512, .f32⟩ : BufTy).Contents (Elt F) → (⟨S64x512x512, .f32⟩ : BufTy).Contents (Elt F) → (⟨S64x512x512, .f32⟩ : BufTy).Contents (Elt F)) ]

abbrev rowOpsW : List (Ref sig .tc) := [main_c_4, main_call1_v0, main_v21, main_v22, main_cst_5, main_v23, main_v24, main_v25, main_cst_6, main_v26, main_v27, main_v28, main_cst_7, main_v29, main_v30, main_v31, main_cst_8, main_v32, main_v33, main_v34, main_cst_9, main_v35, main_v36, main_v37, main_cst_10, main_v38, main_v39, main_v40, main_v41, main_v42, main_v43, main_v44]

/-- Its gradient along the columns. -/
abbrev colOps : List (HloOp τ sig (Elt F)) :=
  [ nullary main_c_11 (constantI S_ 32 0#32),
    TRef.unary (.of main_c_11 : TRef sig ⟨S_, .i32⟩) main_call2.v0 (sitofp .f32),
    TRef.binary (.of main_v20 : TRef sig ⟨S64x512x512, .f32⟩) main_call2.v0 main_call2.v1 (fun x v => pad S64x514x514 ![0, 1, 1] ![0, 1, 1] ![0, 0, 0] x v pads_S64x512x512_S64x514x514_000_110_110 h_S_),
    unary main_v45 main_v46 ((extractStridedSlice S64x512x512 ![0, 0, 0] · slices_S64x514x514_S64x512x512_0_0_0) : (⟨S64x514x514, .f32⟩ : BufTy).Contents (Elt F) → (⟨S64x512x512, .f32⟩ : BufTy).Contents (Elt F)),
    nullary main_cst_12 (constant S_ .f32 0xBF800000#32),
    unary main_cst_12 main_v47 (broadcastInDim S64x512x512 ![] bcast_S_S64x512x512 : (⟨S_, .f32⟩ : BufTy).Contents (Elt F) → (⟨S64x512x512, .f32⟩ : BufTy).Contents (Elt F)),
    binary main_v47 main_v46 main_v48 (mulf : (⟨S64x512x512, .f32⟩ : BufTy).Contents (Elt F) → (⟨S64x512x512, .f32⟩ : BufTy).Contents (Elt F) → (⟨S64x512x512, .f32⟩ : BufTy).Contents (Elt F)),
    unary main_v45 main_v49 ((extractStridedSlice S64x512x512 ![0, 0, 1] · slices_S64x514x514_S64x512x512_0_0_1) : (⟨S64x514x514, .f32⟩ : BufTy).Contents (Elt F) → (⟨S64x512x512, .f32⟩ : BufTy).Contents (Elt F)),
    nullary main_cst_13 (constant S_ .f32 0xC0000000#32),
    unary main_cst_13 main_v50 (broadcastInDim S64x512x512 ![] bcast_S_S64x512x512 : (⟨S_, .f32⟩ : BufTy).Contents (Elt F) → (⟨S64x512x512, .f32⟩ : BufTy).Contents (Elt F)),
    binary main_v50 main_v49 main_v51 (mulf : (⟨S64x512x512, .f32⟩ : BufTy).Contents (Elt F) → (⟨S64x512x512, .f32⟩ : BufTy).Contents (Elt F) → (⟨S64x512x512, .f32⟩ : BufTy).Contents (Elt F)),
    unary main_v45 main_v52 ((extractStridedSlice S64x512x512 ![0, 0, 2] · slices_S64x514x514_S64x512x512_0_0_2) : (⟨S64x514x514, .f32⟩ : BufTy).Contents (Elt F) → (⟨S64x512x512, .f32⟩ : BufTy).Contents (Elt F)),
    nullary main_cst_14 (constant S_ .f32 0xBF800000#32),
    unary main_cst_14 main_v53 (broadcastInDim S64x512x512 ![] bcast_S_S64x512x512 : (⟨S_, .f32⟩ : BufTy).Contents (Elt F) → (⟨S64x512x512, .f32⟩ : BufTy).Contents (Elt F)),
    binary main_v53 main_v52 main_v54 (mulf : (⟨S64x512x512, .f32⟩ : BufTy).Contents (Elt F) → (⟨S64x512x512, .f32⟩ : BufTy).Contents (Elt F) → (⟨S64x512x512, .f32⟩ : BufTy).Contents (Elt F)),
    unary main_v45 main_v55 ((extractStridedSlice S64x512x512 ![0, 2, 0] · slices_S64x514x514_S64x512x512_0_2_0) : (⟨S64x514x514, .f32⟩ : BufTy).Contents (Elt F) → (⟨S64x512x512, .f32⟩ : BufTy).Contents (Elt F)),
    nullary main_cst_15 (constant S_ .f32 0x3F800000#32),
    unary main_cst_15 main_v56 (broadcastInDim S64x512x512 ![] bcast_S_S64x512x512 : (⟨S_, .f32⟩ : BufTy).Contents (Elt F) → (⟨S64x512x512, .f32⟩ : BufTy).Contents (Elt F)),
    binary main_v56 main_v55 main_v57 (mulf : (⟨S64x512x512, .f32⟩ : BufTy).Contents (Elt F) → (⟨S64x512x512, .f32⟩ : BufTy).Contents (Elt F) → (⟨S64x512x512, .f32⟩ : BufTy).Contents (Elt F)),
    unary main_v45 main_v58 ((extractStridedSlice S64x512x512 ![0, 2, 1] · slices_S64x514x514_S64x512x512_0_2_1) : (⟨S64x514x514, .f32⟩ : BufTy).Contents (Elt F) → (⟨S64x512x512, .f32⟩ : BufTy).Contents (Elt F)),
    nullary main_cst_16 (constant S_ .f32 0x40000000#32),
    unary main_cst_16 main_v59 (broadcastInDim S64x512x512 ![] bcast_S_S64x512x512 : (⟨S_, .f32⟩ : BufTy).Contents (Elt F) → (⟨S64x512x512, .f32⟩ : BufTy).Contents (Elt F)),
    binary main_v59 main_v58 main_v60 (mulf : (⟨S64x512x512, .f32⟩ : BufTy).Contents (Elt F) → (⟨S64x512x512, .f32⟩ : BufTy).Contents (Elt F) → (⟨S64x512x512, .f32⟩ : BufTy).Contents (Elt F)),
    unary main_v45 main_v61 ((extractStridedSlice S64x512x512 ![0, 2, 2] · slices_S64x514x514_S64x512x512_0_2_2) : (⟨S64x514x514, .f32⟩ : BufTy).Contents (Elt F) → (⟨S64x512x512, .f32⟩ : BufTy).Contents (Elt F)),
    nullary main_cst_17 (constant S_ .f32 0x3F800000#32),
    unary main_cst_17 main_v62 (broadcastInDim S64x512x512 ![] bcast_S_S64x512x512 : (⟨S_, .f32⟩ : BufTy).Contents (Elt F) → (⟨S64x512x512, .f32⟩ : BufTy).Contents (Elt F)),
    binary main_v62 main_v61 main_v63 (mulf : (⟨S64x512x512, .f32⟩ : BufTy).Contents (Elt F) → (⟨S64x512x512, .f32⟩ : BufTy).Contents (Elt F) → (⟨S64x512x512, .f32⟩ : BufTy).Contents (Elt F)),
    binary main_v48 main_v51 main_v64 (addf : (⟨S64x512x512, .f32⟩ : BufTy).Contents (Elt F) → (⟨S64x512x512, .f32⟩ : BufTy).Contents (Elt F) → (⟨S64x512x512, .f32⟩ : BufTy).Contents (Elt F)),
    binary main_v64 main_v54 main_v65 (addf : (⟨S64x512x512, .f32⟩ : BufTy).Contents (Elt F) → (⟨S64x512x512, .f32⟩ : BufTy).Contents (Elt F) → (⟨S64x512x512, .f32⟩ : BufTy).Contents (Elt F)),
    binary main_v65 main_v57 main_v66 (addf : (⟨S64x512x512, .f32⟩ : BufTy).Contents (Elt F) → (⟨S64x512x512, .f32⟩ : BufTy).Contents (Elt F) → (⟨S64x512x512, .f32⟩ : BufTy).Contents (Elt F)),
    binary main_v66 main_v60 main_v67 (addf : (⟨S64x512x512, .f32⟩ : BufTy).Contents (Elt F) → (⟨S64x512x512, .f32⟩ : BufTy).Contents (Elt F) → (⟨S64x512x512, .f32⟩ : BufTy).Contents (Elt F)),
    binary main_v67 main_v63 main_v68 (addf : (⟨S64x512x512, .f32⟩ : BufTy).Contents (Elt F) → (⟨S64x512x512, .f32⟩ : BufTy).Contents (Elt F) → (⟨S64x512x512, .f32⟩ : BufTy).Contents (Elt F)) ]

abbrev colOpsW : List (Ref sig .tc) := [main_c_11, main_call2_v0, main_v45, main_v46, main_cst_12, main_v47, main_v48, main_v49, main_cst_13, main_v50, main_v51, main_v52, main_cst_14, main_v53, main_v54, main_v55, main_cst_15, main_v56, main_v57, main_v58, main_cst_16, main_v59, main_v60, main_v61, main_cst_17, main_v62, main_v63, main_v64, main_v65, main_v66, main_v67, main_v68]

/-- The codes. -/
abbrev codeOps : List (HloOp τ sig (Elt F)) :=
  [ binary main_v44 main_v44 main_v69 (mulf : (⟨S64x512x512, .f32⟩ : BufTy).Contents (Elt F) → (⟨S64x512x512, .f32⟩ : BufTy).Contents (Elt F) → (⟨S64x512x512, .f32⟩ : BufTy).Contents (Elt F)),
    binary main_v68 main_v68 main_v70 (mulf : (⟨S64x512x512, .f32⟩ : BufTy).Contents (Elt F) → (⟨S64x512x512, .f32⟩ : BufTy).Contents (Elt F) → (⟨S64x512x512, .f32⟩ : BufTy).Contents (Elt F)),
    binary main_v69 main_v70 main_v71 (addf : (⟨S64x512x512, .f32⟩ : BufTy).Contents (Elt F) → (⟨S64x512x512, .f32⟩ : BufTy).Contents (Elt F) → (⟨S64x512x512, .f32⟩ : BufTy).Contents (Elt F)),
    nullary main_cst_18 (constant S_ .f32 0x322BCC77#32),
    unary main_cst_18 main_v72 (broadcastInDim S64x512x512 ![] bcast_S_S64x512x512 : (⟨S_, .f32⟩ : BufTy).Contents (Elt F) → (⟨S64x512x512, .f32⟩ : BufTy).Contents (Elt F)),
    binary main_v71 main_v72 main_v73 (addf : (⟨S64x512x512, .f32⟩ : BufTy).Contents (Elt F) → (⟨S64x512x512, .f32⟩ : BufTy).Contents (Elt F) → (⟨S64x512x512, .f32⟩ : BufTy).Contents (Elt F)),
    unary main_v73 main_v74 (Host.sqrt : (⟨S64x512x512, .f32⟩ : BufTy).Contents (Elt F) → (⟨S64x512x512, .f32⟩ : BufTy).Contents (Elt F)),
    binary main_v68 main_v44 main_v75 (Host.divf : (⟨S64x512x512, .f32⟩ : BufTy).Contents (Elt F) → (⟨S64x512x512, .f32⟩ : BufTy).Contents (Elt F) → (⟨S64x512x512, .f32⟩ : BufTy).Contents (Elt F)),
    nullary main_cst_19 (constant S_ .f32 0xC02FD6AC#32),
    unary main_cst_19 main_v76 (broadcastInDim S64x512x512 ![] bcast_S_S64x512x512 : (⟨S_, .f32⟩ : BufTy).Contents (Elt F) → (⟨S64x512x512, .f32⟩ : BufTy).Contents (Elt F)),
    binary main_v75 main_v76 main_v77 (cmpf .oge : (⟨S64x512x512, .f32⟩ : BufTy).Contents (Elt F) → (⟨S64x512x512, .f32⟩ : BufTy).Contents (Elt F) → (⟨S64x512x512, .i1⟩ : BufTy).Contents (Elt F)),
    unary main_v77 main_v78 ((extui 32 · natLt_1_32) : (⟨S64x512x512, .i1⟩ : BufTy).Contents (Elt F) → (⟨S64x512x512, .i32⟩ : BufTy).Contents (Elt F)),
    nullary main_cst_20 (constant S_ .f32 0xBF988B62#32),
    unary main_cst_20 main_v79 (broadcastInDim S64x512x512 ![] bcast_S_S64x512x512 : (⟨S_, .f32⟩ : BufTy).Contents (Elt F) → (⟨S64x512x512, .f32⟩ : BufTy).Contents (Elt F)),
    binary main_v75 main_v79 main_v80 (cmpf .oge : (⟨S64x512x512, .f32⟩ : BufTy).Contents (Elt F) → (⟨S64x512x512, .f32⟩ : BufTy).Contents (Elt F) → (⟨S64x512x512, .i1⟩ : BufTy).Contents (Elt F)),
    unary main_v80 main_v81 ((extui 32 · natLt_1_32) : (⟨S64x512x512, .i1⟩ : BufTy).Contents (Elt F) → (⟨S64x512x512, .i32⟩ : BufTy).Contents (Elt F)),
    nullary main_cst_21 (constant S_ .f32 0xBF13CD3A#32),
    unary main_cst_21 main_v82 (broadcastInDim S64x512x512 ![] bcast_S_S64x512x512 : (⟨S_, .f32⟩ : BufTy).Contents (Elt F) → (⟨S64x512x512, .f32⟩ : BufTy).Contents (Elt F)),
    binary main_v75 main_v82 main_v83 (cmpf .oge : (⟨S64x512x512, .f32⟩ : BufTy).Contents (Elt F) → (⟨S64x512x512, .f32⟩ : BufTy).Contents (Elt F) → (⟨S64x512x512, .i1⟩ : BufTy).Contents (Elt F)),
    unary main_v83 main_v84 ((extui 32 · natLt_1_32) : (⟨S64x512x512, .i1⟩ : BufTy).Contents (Elt F) → (⟨S64x512x512, .i32⟩ : BufTy).Contents (Elt F)),
    nullary main_cst_22 (constant S_ .f32 0xBE348F0F#32),
    unary main_cst_22 main_v85 (broadcastInDim S64x512x512 ![] bcast_S_S64x512x512 : (⟨S_, .f32⟩ : BufTy).Contents (Elt F) → (⟨S64x512x512, .f32⟩ : BufTy).Contents (Elt F)),
    binary main_v75 main_v85 main_v86 (cmpf .oge : (⟨S64x512x512, .f32⟩ : BufTy).Contents (Elt F) → (⟨S64x512x512, .f32⟩ : BufTy).Contents (Elt F) → (⟨S64x512x512, .i1⟩ : BufTy).Contents (Elt F)),
    unary main_v86 main_v87 ((extui 32 · natLt_1_32) : (⟨S64x512x512, .i1⟩ : BufTy).Contents (Elt F) → (⟨S64x512x512, .i32⟩ : BufTy).Contents (Elt F)),
    nullary main_cst_23 (constant S_ .f32 0x3E348F0F#32),
    unary main_cst_23 main_v88 (broadcastInDim S64x512x512 ![] bcast_S_S64x512x512 : (⟨S_, .f32⟩ : BufTy).Contents (Elt F) → (⟨S64x512x512, .f32⟩ : BufTy).Contents (Elt F)),
    binary main_v75 main_v88 main_v89 (cmpf .oge : (⟨S64x512x512, .f32⟩ : BufTy).Contents (Elt F) → (⟨S64x512x512, .f32⟩ : BufTy).Contents (Elt F) → (⟨S64x512x512, .i1⟩ : BufTy).Contents (Elt F)),
    unary main_v89 main_v90 ((extui 32 · natLt_1_32) : (⟨S64x512x512, .i1⟩ : BufTy).Contents (Elt F) → (⟨S64x512x512, .i32⟩ : BufTy).Contents (Elt F)),
    nullary main_cst_24 (constant S_ .f32 0x3F13CD3A#32),
    unary main_cst_24 main_v91 (broadcastInDim S64x512x512 ![] bcast_S_S64x512x512 : (⟨S_, .f32⟩ : BufTy).Contents (Elt F) → (⟨S64x512x512, .f32⟩ : BufTy).Contents (Elt F)),
    binary main_v75 main_v91 main_v92 (cmpf .oge : (⟨S64x512x512, .f32⟩ : BufTy).Contents (Elt F) → (⟨S64x512x512, .f32⟩ : BufTy).Contents (Elt F) → (⟨S64x512x512, .i1⟩ : BufTy).Contents (Elt F)),
    unary main_v92 main_v93 ((extui 32 · natLt_1_32) : (⟨S64x512x512, .i1⟩ : BufTy).Contents (Elt F) → (⟨S64x512x512, .i32⟩ : BufTy).Contents (Elt F)),
    nullary main_cst_25 (constant S_ .f32 0x3F988B62#32),
    unary main_cst_25 main_v94 (broadcastInDim S64x512x512 ![] bcast_S_S64x512x512 : (⟨S_, .f32⟩ : BufTy).Contents (Elt F) → (⟨S64x512x512, .f32⟩ : BufTy).Contents (Elt F)),
    binary main_v75 main_v94 main_v95 (cmpf .oge : (⟨S64x512x512, .f32⟩ : BufTy).Contents (Elt F) → (⟨S64x512x512, .f32⟩ : BufTy).Contents (Elt F) → (⟨S64x512x512, .i1⟩ : BufTy).Contents (Elt F)),
    unary main_v95 main_v96 ((extui 32 · natLt_1_32) : (⟨S64x512x512, .i1⟩ : BufTy).Contents (Elt F) → (⟨S64x512x512, .i32⟩ : BufTy).Contents (Elt F)),
    nullary main_cst_26 (constant S_ .f32 0x402FD6AC#32),
    unary main_cst_26 main_v97 (broadcastInDim S64x512x512 ![] bcast_S_S64x512x512 : (⟨S_, .f32⟩ : BufTy).Contents (Elt F) → (⟨S64x512x512, .f32⟩ : BufTy).Contents (Elt F)),
    binary main_v75 main_v97 main_v98 (cmpf .oge : (⟨S64x512x512, .f32⟩ : BufTy).Contents (Elt F) → (⟨S64x512x512, .f32⟩ : BufTy).Contents (Elt F) → (⟨S64x512x512, .i1⟩ : BufTy).Contents (Elt F)),
    unary main_v98 main_v99 ((extui 32 · natLt_1_32) : (⟨S64x512x512, .i1⟩ : BufTy).Contents (Elt F) → (⟨S64x512x512, .i32⟩ : BufTy).Contents (Elt F)),
    binary main_v78 main_v81 main_v100 (addi : (⟨S64x512x512, .i32⟩ : BufTy).Contents (Elt F) → (⟨S64x512x512, .i32⟩ : BufTy).Contents (Elt F) → (⟨S64x512x512, .i32⟩ : BufTy).Contents (Elt F)),
    binary main_v100 main_v84 main_v101 (addi : (⟨S64x512x512, .i32⟩ : BufTy).Contents (Elt F) → (⟨S64x512x512, .i32⟩ : BufTy).Contents (Elt F) → (⟨S64x512x512, .i32⟩ : BufTy).Contents (Elt F)),
    binary main_v101 main_v87 main_v102 (addi : (⟨S64x512x512, .i32⟩ : BufTy).Contents (Elt F) → (⟨S64x512x512, .i32⟩ : BufTy).Contents (Elt F) → (⟨S64x512x512, .i32⟩ : BufTy).Contents (Elt F)),
    binary main_v102 main_v90 main_v103 (addi : (⟨S64x512x512, .i32⟩ : BufTy).Contents (Elt F) → (⟨S64x512x512, .i32⟩ : BufTy).Contents (Elt F) → (⟨S64x512x512, .i32⟩ : BufTy).Contents (Elt F)),
    binary main_v103 main_v93 main_v104 (addi : (⟨S64x512x512, .i32⟩ : BufTy).Contents (Elt F) → (⟨S64x512x512, .i32⟩ : BufTy).Contents (Elt F) → (⟨S64x512x512, .i32⟩ : BufTy).Contents (Elt F)),
    binary main_v104 main_v96 main_v105 (addi : (⟨S64x512x512, .i32⟩ : BufTy).Contents (Elt F) → (⟨S64x512x512, .i32⟩ : BufTy).Contents (Elt F) → (⟨S64x512x512, .i32⟩ : BufTy).Contents (Elt F)),
    binary main_v105 main_v99 main_v106 (addi : (⟨S64x512x512, .i32⟩ : BufTy).Contents (Elt F) → (⟨S64x512x512, .i32⟩ : BufTy).Contents (Elt F) → (⟨S64x512x512, .i32⟩ : BufTy).Contents (Elt F)),
    nullary main_cst_27 (constant S_ .f32 0x46800000#32),
    unary main_cst_27 main_v107 (broadcastInDim S64x512x512 ![] bcast_S_S64x512x512 : (⟨S_, .f32⟩ : BufTy).Contents (Elt F) → (⟨S64x512x512, .f32⟩ : BufTy).Contents (Elt F)),
    binary main_v74 main_v107 main_v108 (mulf : (⟨S64x512x512, .f32⟩ : BufTy).Contents (Elt F) → (⟨S64x512x512, .f32⟩ : BufTy).Contents (Elt F) → (⟨S64x512x512, .f32⟩ : BufTy).Contents (Elt F)),
    nullary main_cst_28 (constant S_ .f32 0x3F000000#32),
    unary main_cst_28 main_v109 (broadcastInDim S64x512x512 ![] bcast_S_S64x512x512 : (⟨S_, .f32⟩ : BufTy).Contents (Elt F) → (⟨S64x512x512, .f32⟩ : BufTy).Contents (Elt F)),
    binary main_v108 main_v109 main_v110 (addf : (⟨S64x512x512, .f32⟩ : BufTy).Contents (Elt F) → (⟨S64x512x512, .f32⟩ : BufTy).Contents (Elt F) → (⟨S64x512x512, .f32⟩ : BufTy).Contents (Elt F)),
    unary main_v110 main_v111 (fptosi 32 : (⟨S64x512x512, .f32⟩ : BufTy).Contents (Elt F) → (⟨S64x512x512, .i32⟩ : BufTy).Contents (Elt F)),
    nullary main_c_29 (constantI S_ 32 4#32),
    unary main_c_29 main_v112 (broadcastInDim S64x512x512 ![] bcast_S_S64x512x512 : (⟨S_, .i32⟩ : BufTy).Contents (Elt F) → (⟨S64x512x512, .i32⟩ : BufTy).Contents (Elt F)),
    binary main_v111 main_v112 main_v113 (Host.shli : (⟨S64x512x512, .i32⟩ : BufTy).Contents (Elt F) → (⟨S64x512x512, .i32⟩ : BufTy).Contents (Elt F) → (⟨S64x512x512, .i32⟩ : BufTy).Contents (Elt F)),
    binary main_v113 main_v106 main_v114 (ori : (⟨S64x512x512, .i32⟩ : BufTy).Contents (Elt F) → (⟨S64x512x512, .i32⟩ : BufTy).Contents (Elt F) → (⟨S64x512x512, .i32⟩ : BufTy).Contents (Elt F)) ]

abbrev codeOpsW : List (Ref sig .tc) := [main_v69, main_v70, main_v71, main_cst_18, main_v72, main_v73, main_v74, main_v75, main_cst_19, main_v76, main_v77, main_v78, main_cst_20, main_v79, main_v80, main_v81, main_cst_21, main_v82, main_v83, main_v84, main_cst_22, main_v85, main_v86, main_v87, main_cst_23, main_v88, main_v89, main_v90, main_cst_24, main_v91, main_v92, main_v93, main_cst_25, main_v94, main_v95, main_v96, main_cst_26, main_v97, main_v98, main_v99, main_v100, main_v101, main_v102, main_v103, main_v104, main_v105, main_v106, main_cst_27, main_v107, main_v108, main_cst_28, main_v109, main_v110, main_v111, main_c_29, main_v112, main_v113, main_v114]

/-- The codes cut into cells, and those listed in four groups. -/
abbrev cellOps : List (HloOp τ sig (Elt F)) :=
  [ reshape main_v114 main_v115 (rfl : (.i32 : EltTy) = .i32) shapeCasts_S64x512x512_S64x4x128x4x128,
    unary main_v115 main_v116 ((transpose S64x4x4x128x128 [0, 1, 3, 2, 4] · transposes_S64x4x128x4x128_S64x4x4x128x128_0_1_3_2_4) : (⟨S64x4x128x4x128, .i32⟩ : BufTy).Contents (Elt F) → (⟨S64x4x4x128x128, .i32⟩ : BufTy).Contents (Elt F)),
    reshape main_v116 main_v117 (rfl : (.i32 : EltTy) = .i32) shapeCasts_S64x4x4x128x128_S1024x128x128,
    unary main_v117 main_v118 ((extractStridedSlice S320x128x128 ![0, 0, 0] · slices_S1024x128x128_S320x128x128_0_0_0) : (⟨S1024x128x128, .i32⟩ : BufTy).Contents (Elt F) → (⟨S320x128x128, .i32⟩ : BufTy).Contents (Elt F)),
    unary main_v117 main_v119 ((extractStridedSlice S320x128x128 ![320, 0, 0] · slices_S1024x128x128_S320x128x128_320_0_0) : (⟨S1024x128x128, .i32⟩ : BufTy).Contents (Elt F) → (⟨S320x128x128, .i32⟩ : BufTy).Contents (Elt F)),
    unary main_v117 main_v120 ((extractStridedSlice S320x128x128 ![640, 0, 0] · slices_S1024x128x128_S320x128x128_640_0_0) : (⟨S1024x128x128, .i32⟩ : BufTy).Contents (Elt F) → (⟨S320x128x128, .i32⟩ : BufTy).Contents (Elt F)),
    unary main_v117 main_v121 ((extractStridedSlice S64x128x128 ![960, 0, 0] · slices_S1024x128x128_S64x128x128_960_0_0) : (⟨S1024x128x128, .i32⟩ : BufTy).Contents (Elt F) → (⟨S64x128x128, .i32⟩ : BufTy).Contents (Elt F)) ]

abbrev cellOpsW : List (Ref sig .tc) := [main_v115, main_v116, main_v117, main_v118, main_v119, main_v120, main_v121]

/-- The whole line. -/
abbrev ops : List (HloOp τ sig (Elt F)) := lapOps ++ (rowOps ++ (colOps ++ (codeOps ++ cellOps)))

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## What the stretches leave alone -/

theorem lapOps_keep {r : Ref sig .tc} (hr : r ∉ lapOpsW) (V : Valuation τ sig (Elt F)) : after lapOps V (Proc.devRef .tc r) = V (Proc.devRef .tc r) :=
  after_unwritten lapOpsW rfl hr V
theorem rowOps_keep {r : Ref sig .tc} (hr : r ∉ rowOpsW) (V : Valuation τ sig (Elt F)) : after rowOps V (Proc.devRef .tc r) = V (Proc.devRef .tc r) :=
  after_unwritten rowOpsW rfl hr V
theorem colOps_keep {r : Ref sig .tc} (hr : r ∉ colOpsW) (V : Valuation τ sig (Elt F)) : after colOps V (Proc.devRef .tc r) = V (Proc.devRef .tc r) :=
  after_unwritten colOpsW rfl hr V
theorem codeOps_keep {r : Ref sig .tc} (hr : r ∉ codeOpsW) (V : Valuation τ sig (Elt F)) : after codeOps V (Proc.devRef .tc r) = V (Proc.devRef .tc r) :=
  after_unwritten codeOpsW rfl hr V
theorem cellOps_keep {r : Ref sig .tc} (hr : r ∉ cellOpsW) (V : Valuation τ sig (Elt F)) : after cellOps V (Proc.devRef .tc r) = V (Proc.devRef .tc r) :=
  after_unwritten cellOpsW rfl hr V

/-! ## What they compute -/

/-- The images with a border of zeros. -/
def edged (v : FVec F S64x512x512 .f32) : FVec F S64x514x514 .f32 :=
  pad S64x514x514 ![0, 1, 1] ![0, 1, 1] ![0, 0, 0] v (sitofp .f32 (constantI S_ 32 0#32)) pads_S64x512x512_S64x514x514_000_110_110 h_S_

/-- The bordered images from row `r` and column `c` on, times the weight of bits `k`. -/
def tap (k : BitVec 32) (r c : ℕ) (h : S64x514x514.Slices ![0, r, c] S64x512x512) (p : FVec F S64x514x514 .f32) : FVec F S64x512x512 .f32 :=
  mulf (broadcastInDim S64x512x512 ![] bcast_S_S64x512x512 (constant S_ .f32 k)) (extractStridedSlice S64x512x512 ![0, r, c] p h)

def lapV (v : FVec F S64x512x512 .f32) : FVec F S64x512x512 .f32 :=
  addf (addf (addf (addf (tap 0x3F800000#32 0 1 slices_S64x514x514_S64x512x512_0_0_1 (edged v))
    (tap 0x3F800000#32 1 0 slices_S64x514x514_S64x512x512_0_1_0 (edged v))) (tap 0xC0800000#32 1 1 slices_S64x514x514_S64x512x512_0_1_1 (edged v)))
    (tap 0x3F800000#32 1 2 slices_S64x514x514_S64x512x512_0_1_2 (edged v))) (tap 0x3F800000#32 2 1 slices_S64x514x514_S64x512x512_0_2_1 (edged v))

def rowV (v : FVec F S64x512x512 .f32) : FVec F S64x512x512 .f32 :=
  addf (addf (addf (addf (addf (tap 0xBF800000#32 0 0 slices_S64x514x514_S64x512x512_0_0_0 (edged v))
    (tap 0x3F800000#32 0 2 slices_S64x514x514_S64x512x512_0_0_2 (edged v))) (tap 0xC0000000#32 1 0 slices_S64x514x514_S64x512x512_0_1_0 (edged v)))
    (tap 0x40000000#32 1 2 slices_S64x514x514_S64x512x512_0_1_2 (edged v))) (tap 0xBF800000#32 2 0 slices_S64x514x514_S64x512x512_0_2_0 (edged v)))
    (tap 0x3F800000#32 2 2 slices_S64x514x514_S64x512x512_0_2_2 (edged v))

def colV (v : FVec F S64x512x512 .f32) : FVec F S64x512x512 .f32 :=
  addf (addf (addf (addf (addf (tap 0xBF800000#32 0 0 slices_S64x514x514_S64x512x512_0_0_0 (edged v))
    (tap 0xC0000000#32 0 1 slices_S64x514x514_S64x512x512_0_0_1 (edged v))) (tap 0xBF800000#32 0 2 slices_S64x514x514_S64x512x512_0_0_2 (edged v)))
    (tap 0x3F800000#32 2 0 slices_S64x514x514_S64x512x512_0_2_0 (edged v))) (tap 0x40000000#32 2 1 slices_S64x514x514_S64x512x512_0_2_1 (edged v)))
    (tap 0x3F800000#32 2 2 slices_S64x514x514_S64x512x512_0_2_2 (edged v))

/-- A number at every pixel. -/
abbrev every (k : BitVec 32) : FVec F S64x512x512 .f32 := broadcastInDim S64x512x512 ![] bcast_S_S64x512x512 (constant S_ .f32 k)

/-- Whether each slope reaches the edge of bits `e`. -/
def over (t : FVec F S64x512x512 .f32) (e : BitVec 32) : IVec S64x512x512 32 := extui 32 (cmpf .oge t (every e)) natLt_1_32

def codeV (gx gy : FVec F S64x512x512 .f32) : IVec S64x512x512 32 :=
  let t : FVec F S64x512x512 .f32 := Host.divf gy gx
  let mag : FVec F S64x512x512 .f32 := Host.sqrt (addf (addf (mulf gx gx) (mulf gy gy)) (every 0x322BCC77#32))
  ori (Host.shli (fptosi 32 (addf (mulf mag (every 0x46800000#32)) (every 0x3F000000#32)))
      (broadcastInDim S64x512x512 ![] bcast_S_S64x512x512 (constantI S_ 32 4#32)))
    (addi (addi (addi (addi (addi (addi (addi (over t 0xC02FD6AC#32) (over t 0xBF988B62#32)) (over t 0xBF13CD3A#32)) (over t 0xBE348F0F#32))
      (over t 0x3E348F0F#32)) (over t 0x3F13CD3A#32)) (over t 0x3F988B62#32)) (over t 0x402FD6AC#32))

/-- The codes of each image cut into its sixteen cells. -/
def cellsV (code : IVec S64x512x512 32) : IVec S1024x128x128 32 :=
  shapeCast S1024x128x128 (transpose S64x4x4x128x128 [0, 1, 3, 2, 4] (shapeCast S64x4x128x4x128 code shapeCasts_S64x512x512_S64x4x128x4x128)
    transposes_S64x4x128x4x128_S64x4x4x128x128_0_1_3_2_4) shapeCasts_S64x4x4x128x128_S1024x128x128

theorem lapOps_eq (V : Valuation τ sig (Elt F)) : after lapOps V (main_v20 : DevRef τ sig)
    = lapV (shapeCast S64x512x512 (V (main_arg0 : DevRef τ sig)) shapeCasts_S4x16x512x512_S64x512x512) := by
  after_results
  rfl

theorem rowOps_eq (V : Valuation τ sig (Elt F)) : after rowOps V (main_v44 : DevRef τ sig) = rowV (V (main_v20 : DevRef τ sig)) := by
  after_results
  rfl

theorem colOps_eq (V : Valuation τ sig (Elt F)) : after colOps V (main_v68 : DevRef τ sig) = colV (V (main_v20 : DevRef τ sig)) := by
  after_results
  rfl

theorem codeOps_eq (V : Valuation τ sig (Elt F)) : after codeOps V (main_v114 : DevRef τ sig)
    = codeV (F := F) (V (main_v44 : DevRef τ sig)) (V (main_v68 : DevRef τ sig)) := by
  after_results
  rfl

theorem cellOps_first (V : Valuation τ sig (Elt F)) : after cellOps V (main_v118 : DevRef τ sig)
    = extractStridedSlice S320x128x128 ![0, 0, 0] (cellsV (V (main_v114 : DevRef τ sig))) slices_S1024x128x128_S320x128x128_0_0_0 := by
  after_results
  rfl

theorem cellOps_second (V : Valuation τ sig (Elt F)) : after cellOps V (main_v119 : DevRef τ sig)
    = extractStridedSlice S320x128x128 ![320, 0, 0] (cellsV (V (main_v114 : DevRef τ sig))) slices_S1024x128x128_S320x128x128_320_0_0 := by
  after_results
  rfl

theorem cellOps_third (V : Valuation τ sig (Elt F)) : after cellOps V (main_v120 : DevRef τ sig)
    = extractStridedSlice S320x128x128 ![640, 0, 0] (cellsV (V (main_v114 : DevRef τ sig))) slices_S1024x128x128_S320x128x128_640_0_0 := by
  after_results
  rfl

theorem cellOps_fourth (V : Valuation τ sig (Elt F)) : after cellOps V (main_v121 : DevRef τ sig)
    = extractStridedSlice S64x128x128 ![960, 0, 0] (cellsV (V (main_v114 : DevRef τ sig))) slices_S1024x128x128_S64x128x128_960_0_0 := by
  after_results
  rfl

/-! ## The buffers they touch -/

theorem lapOps_sub : (lapOps : List (HloOp τ sig (Elt F))).Forall fun op => op.bufs ⊆ tcRefs τ sig :=
  ⟨reshape_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub .., binary_bufs_sub ..⟩

theorem rowOps_sub : (rowOps : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub .., binary_bufs_sub .., binary_bufs_sub ..⟩

theorem colOps_sub : (colOps : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub .., binary_bufs_sub .., binary_bufs_sub ..⟩

theorem codeOps_sub : (codeOps : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub ..⟩

theorem cellOps_sub : (cellOps : List (HloOp τ sig (Elt F))).Forall fun op => op.bufs ⊆ tcRefs τ sig :=
  ⟨reshape_bufs_sub .., unary_bufs_sub .., reshape_bufs_sub .., unary_bufs_sub .., unary_bufs_sub .., unary_bufs_sub .., unary_bufs_sub ..⟩

theorem ops_sub : (ops : List (HloOp τ sig (Elt F))).Forall fun op => op.bufs ⊆ tcRefs τ sig :=
  forall_append lapOps_sub (forall_append rowOps_sub (forall_append colOps_sub (forall_append codeOps_sub cellOps_sub)))

/-- All the images' codes in cells, from the argument. -/
def all (x : FVec F S4x16x512x512 .f32) : IVec S1024x128x128 32 :=
  cellsV (codeV (rowV (lapV (shapeCast S64x512x512 x shapeCasts_S4x16x512x512_S64x512x512)))
    (colV (lapV (shapeCast S64x512x512 x shapeCasts_S4x16x512x512_S64x512x512))))

/-- The codes as the cells find them. -/
theorem code_eq (V : Valuation τ sig (Elt F)) : cellsV (after codeOps (after colOps (after rowOps (after lapOps V))) (main_v114 : DevRef τ sig))
    = all (V (main_arg0 : DevRef τ sig)) := by
  rw [codeOps_eq, colOps_eq, colOps_keep (r := main_v44) (by decide), rowOps_eq, rowOps_keep (r := main_v20) (by decide), lapOps_eq]
  rfl

theorem ops_eq (V : Valuation τ sig (Elt F)) : after ops V = after cellOps (after codeOps (after colOps (after rowOps (after lapOps V)))) := by
  rw [ops, after_append, after_append, after_append, after_append]

/-- A buffer no operation writes ends as it began. -/
theorem kept {r : Ref sig .tc} (h : r ∉ lapOpsW ++ (rowOpsW ++ (colOpsW ++ (codeOpsW ++ cellOpsW)))) (V : Valuation τ sig (Elt F)) :
    after ops V (Proc.devRef .tc r) = V (Proc.devRef .tc r) :=
  after_unwritten _ rfl h V

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v118)
          = extractStridedSlice S320x128x128 ![0, 0, 0] (all (m ((c.tc : Thread nD τ).loc main_arg0))) slices_S1024x128x128_S320x128x128_0_0_0
        ∧ r.2.mem ((c.tc : Thread nD τ).loc main_v119)
          = extractStridedSlice S320x128x128 ![320, 0, 0] (all (m ((c.tc : Thread nD τ).loc main_arg0))) slices_S1024x128x128_S320x128x128_320_0_0
        ∧ r.2.mem ((c.tc : Thread nD τ).loc main_v120)
          = extractStridedSlice S320x128x128 ![640, 0, 0] (all (m ((c.tc : Thread nD τ).loc main_arg0))) slices_S1024x128x128_S320x128x128_640_0_0
        ∧ r.2.mem ((c.tc : Thread nD τ).loc main_v121)
          = extractStridedSlice S64x128x128 ![960, 0, 0] (all (m ((c.tc : Thread nD τ).loc main_arg0))) slices_S1024x128x128_S64x128x128_960_0_0
        ∧ r.2.mem ((c.tc : Thread nD τ).loc main_arg0) = m ((c.tc : Thread nD τ).loc main_arg0) :=
  (θ_run defs _ _).mono (fun _ h c => ⟨(h c main_v118).trans (by rw [ops_eq, cellOps_first, code_eq]), (h c main_v119).trans (by rw [ops_eq, cellOps_second, code_eq]),
      (h c main_v120).trans (by rw [ops_eq, cellOps_third, code_eq]), (h c main_v121).trans (by rw [ops_eq, cellOps_fourth, code_eq]),
      (h c main_arg0).trans (kept (by decide) _)⟩)
    (run_seq scopedRefs_eq scopedSems_eq defs main (fun _ => ops) main_eq (fun _ => ops_sub) m ρ (fun _ => List.forall_iff_forall_mem.mp (StableHlo.forall_fresh_of_map rfl)))

end Cert.Proof.PackRef

end
-- ==== Proof.PackRefValue.lean ====
/-
  WHAT THE PACKING'S REFERENCE COMPUTES. Its filters are the Laplacian and the two gradients of it, its
  codes the pixels' codes, and its four results the cells of all images listed one after the other.
-/
module

public import proofs.«01_k».proof.Proof.PackRun
public import proofs.«01_k».proof.Proof.PackRef

@[expose] public section

noncomputable section

namespace Cert.Proof.PackRef

open Idealize.ShloMosaic Idealize.ShloMosaic.TcCoe Idealize.ShloMosaic.StableHlo
open Cert.PackRefIdeal Cert.PackRefIdeal.Gen
open Cert.Proof.Pack (bordered lapOf gxOf gyOf pixelCode codeOf cellOf cellsFrom edgesReached reaches units two_eq)

/-- The array `v` holds the images `f`. -/
def Holds (v : FVec Ideal S64x512x512 .f32) (f : ℕ → ℕ → ℕ → EReal) : Prop :=
  ∀ (b : Fin 64) (y x : Fin 512), v (ix3 b y x) = f b.val y.val x.val

theorem Holds.add {v w : FVec Ideal S64x512x512 .f32} {f g : ℕ → ℕ → ℕ → EReal} (hv : Holds v f) (hw : Holds w g) :
    Holds (addf v w) fun b y x => f b y x + g b y x := fun b y x => by
  pointwise [hv b y x, hw b y x]

theorem Holds.congr {v : FVec Ideal S64x512x512 .f32} {f g : ℕ → ℕ → ℕ → EReal} (hv : Holds v f)
    (h : ∀ b, ∀ y < 512, ∀ x < 512, f b y x = g b y x) : Holds v g :=
  fun b y x => (hv b y x).trans (h b.val y.val y.isLt x.val x.isLt)

theorem edged_holds {v : FVec Ideal S64x512x512 .f32} {f : ℕ → ℕ → ℕ → EReal} (hv : Holds v f) (b : Fin 64) (r c : Fin 514) :
    edged v (ix3 b r c) = bordered (f b.val) r.val c.val := by
  unfold edged
  pointwise []
  split
  · rename_i h
    rw [hv, Pack.bordered_in (f b.val) (y := r.val - 1) (x := c.val - 1) (by omega) (by omega) (by omega) (by omega)]
  · rename_i h
    unfold bordered
    rw [if_neg (by omega)]
    show (((0#32 : BitVec 32).toInt : ℝ) : EReal) = 0
    simp

theorem tap_holds {v : FVec Ideal S64x512x512 .f32} {f : ℕ → ℕ → ℕ → EReal} (hv : Holds v f) {k : BitVec 32} {q : EReal}
    (hk : Ideal.ofBits .f32 k = q) (r c : ℕ) (hr : r ≤ 2) (hc : c ≤ 2) (h : S64x514x514.Slices ![0, r, c] S64x512x512) :
    Holds (tap k r c h (edged v)) fun b y x => q * bordered (f b) (y + r) (x + c) := fun b y x => by
  unfold tap
  pointwise [hk]
  rw [edged_holds hv]
  show q * bordered (f b.val) (r + y.val) (c + x.val) = q * bordered (f b.val) (y.val + r) (x.val + c)
  rw [Nat.add_comm r, Nat.add_comm c]

theorem one_eq : Ideal.ofBits .f32 0x3F800000#32 = 1 := by
  simp [Ideal.ofBits, Ideal.ieee, -EReal.coe_mul]; norm_num
theorem neg_one_eq : Ideal.ofBits .f32 0xBF800000#32 = -1 := by
  simp [Ideal.ofBits, Ideal.ieee, -EReal.coe_mul, -EReal.coe_neg]; norm_num
theorem neg_two_eq : Ideal.ofBits .f32 0xC0000000#32 = -2 := by
  simp [Ideal.ofBits, Ideal.ieee, -EReal.coe_mul, -EReal.coe_neg]; norm_num
  rfl
theorem neg_four_eq : Ideal.ofBits .f32 0xC0800000#32 = -4 := by
  simp [Ideal.ofBits, Ideal.ieee, -EReal.coe_mul, -EReal.coe_neg]; norm_num
  rfl

section
variable {v : FVec Ideal S64x512x512 .f32} {f : ℕ → ℕ → ℕ → EReal} (hv : Holds v f)
include hv

theorem lap_holds : Holds (lapV v) fun b => lapOf (f b) := by
  have o (r c : ℕ) (hr : r ≤ 2) (hc : c ≤ 2) (h) := tap_holds hv one_eq r c hr hc h
  exact (((((o 0 1 (by omega) (by omega) _).add (o 1 0 (by omega) (by omega) _)).add (tap_holds hv neg_four_eq 1 1 (by omega) (by omega) _)).add
    (o 1 2 (by omega) (by omega) _)).add (o 2 1 (by omega) (by omega) _)).congr fun b y _ x _ => by
      unfold lapOf; simp only [one_mul, Nat.add_zero]

theorem row_holds : Holds (rowV v) fun b => gxOf (f b) := by
  have o (r c : ℕ) (hr : r ≤ 2) (hc : c ≤ 2) (h) := tap_holds hv one_eq r c hr hc h
  have n (r c : ℕ) (hr : r ≤ 2) (hc : c ≤ 2) (h) := tap_holds hv neg_one_eq r c hr hc h
  exact ((((((n 0 0 (by omega) (by omega) _).add (o 0 2 (by omega) (by omega) _)).add (tap_holds hv neg_two_eq 1 0 (by omega) (by omega) _)).add
    (tap_holds hv two_eq 1 2 (by omega) (by omega) _)).add (n 2 0 (by omega) (by omega) _)).add (o 2 2 (by omega) (by omega) _)).congr fun b y _ x _ => by
      unfold gxOf; simp only [one_mul, Nat.add_zero]

theorem col_holds : Holds (colV v) fun b => gyOf (f b) := by
  have o (r c : ℕ) (hr : r ≤ 2) (hc : c ≤ 2) (h) := tap_holds hv one_eq r c hr hc h
  have n (r c : ℕ) (hr : r ≤ 2) (hc : c ≤ 2) (h) := tap_holds hv neg_one_eq r c hr hc h
  exact ((((((n 0 0 (by omega) (by omega) _).add (tap_holds hv neg_two_eq 0 1 (by omega) (by omega) _)).add (n 0 2 (by omega) (by omega) _)).add
    (o 2 0 (by omega) (by omega) _)).add (tap_holds hv two_eq 2 1 (by omega) (by omega) _)).add (o 2 2 (by omega) (by omega) _)).congr fun b y _ x _ => by
      unfold gyOf; simp only [one_mul, Nat.add_zero]

end

/-- The code the reference gives a pixel. -/
theorem code_apply (gx gy : FVec Ideal S64x512x512 .f32) (b : Fin 64) (y x : Fin 512) :
    codeV gx gy (ix3 b y x) = pixelCode (gx (ix3 b y x)) (gy (ix3 b y x)) := by
  have one (p : Prop) [Decidable p] : BitVec.setWidth 32 (BitVec.ofBool (decide p)) = if p then 1#32 else 0#32 := by
    by_cases h : p <;> simp [h]
  unfold pixelCode units edgesReached reaches codeV over
  pointwise []
  simp only [one]
  rfl

/-- Pixel (i, j) of cell `n`, the cells of all images listed one after the other. -/
theorem cells_apply (code : IVec S64x512x512 32) (n : Fin 1024) (i j : Fin 128) :
    cellsV code (ix3 n i j) = code (ix3 ⟨n.val / 16, by omega⟩ ⟨128 * (n.val % 16 / 4) + i.val, by omega⟩ ⟨128 * (n.val % 16 % 4) + j.val, by omega⟩) := by
  unfold cellsV
  pointwise []
  refine congrArg code (congrArg₂ (ix3 _) (Fin.ext ?_) (Fin.ext ?_))
  · show n.val / 4 % 4 * 128 + i.val = 128 * (n.val % 16 / 4) + i.val
    omega
  · show n.val % 4 * 128 + j.val = 128 * (n.val % 16 % 4) + j.val
    omega

/-- Every cell of the images' codes, from the argument. -/
theorem all_apply (x : FVec Ideal S4x16x512x512 .f32) (g : ℕ → ℕ → ℕ → EReal)
    (hx : Holds (shapeCast S64x512x512 x shapeCasts_S4x16x512x512_S64x512x512) g) (n : Fin 1024) (i j : Fin 128) :
    all x (ix3 n i j) = cellsFrom g 0 n.val i.val j.val := by
  unfold all
  rw [cells_apply, code_apply, row_holds (lap_holds hx), col_holds (lap_holds hx)]
  unfold cellsFrom cellOf codeOf
  rw [Nat.zero_add]

/-- Sixteen rows to an image: a group of cells starting at a whole image. -/
theorem cellsFrom_shift (g : ℕ → ℕ → ℕ → EReal) (b n i j : ℕ) : cellsFrom g 0 (16 * b + n) i j = cellsFrom g b n i j := by
  unfold cellsFrom
  rw [show 0 + (16 * b + n) / 16 = b + n / 16 by omega, show (16 * b + n) % 16 = n % 16 by omega]

section
variable (x : FVec Ideal S4x16x512x512 .f32) (g : ℕ → ℕ → ℕ → EReal) (hx : Holds (shapeCast S64x512x512 x shapeCasts_S4x16x512x512_S64x512x512) g)
include hx

/-- A group of twenty images' cells. -/
theorem group_apply (b k : ℕ) (hk : 16 * b = k) (h : S1024x128x128.Slices ![k, 0, 0] S320x128x128) (i : S320x128x128.Idx) :
    extractStridedSlice S320x128x128 ![k, 0, 0] (all x) h i = cellsFrom g b (i 0).val (i 1).val (i 2).val := by
  obtain ⟨n, p, q, rfl⟩ : ∃ (n : Fin 320) (p q : Fin 128), i = ix3 n p q := ⟨i 0, i 1, i 2, eq_ix3 i⟩
  subst hk
  pointwise []
  rw [all_apply x g hx]
  exact cellsFrom_shift g b _ _ _

/-- The last four images' cells. -/
theorem last_apply (i : S64x128x128.Idx) :
    extractStridedSlice S64x128x128 ![960, 0, 0] (all x) slices_S1024x128x128_S64x128x128_960_0_0 i = cellsFrom g 60 (i 0).val (i 1).val (i 2).val := by
  obtain ⟨n, p, q, rfl⟩ : ∃ (n : Fin 64) (p q : Fin 128), i = ix3 n p q := ⟨i 0, i 1, i 2, eq_ix3 i⟩
  pointwise []
  rw [all_apply x g hx]
  exact cellsFrom_shift g 60 _ _ _

end

end Cert.Proof.PackRef

end
-- ==== Proof.PackClaim.lean ====
/-
  THE PACKING CLAIMED. The kernel's four results are the reference's.
-/
module

public import proofs.«01_k».proof.Defs
public import proofs.«01_k».proof.Proof.Gen.Pack.Frame
public import proofs.«01_k».proof.Proof.PackRefValue
public import Idealize.ShloMosaic.Adequacy
public import Idealize.ShloMosaic.Init

@[expose] public section

noncomputable section

namespace Cert.Proof.Pack

open Idealize.ShloMosaic Idealize.SL.Sem
open Cert.PackIdeal Cert.PackIdeal.Gen

/-- The images as functions of row and column. -/
def images (x : Vec Ideal S4x16x512x512 .f32) (b y z : ℕ) : EReal :=
  if h : b < 64 ∧ y < 512 ∧ z < 512 then imagesOf x (ix3 ⟨b, h.1⟩ ⟨y, h.2.1⟩ ⟨z, h.2.2⟩) else 0

theorem images_apply (x : Vec Ideal S4x16x512x512 .f32) (b : Fin 64) (y z : Fin 512) :
    imagesOf x (ix3 b y z) = images x b.val y.val z.val := by
  unfold images
  rw [dif_pos ⟨b.isLt, y.isLt, z.isLt⟩]

theorem frame_kernel : Cert.quiescent_Pack := fun m g _ => Cert.Pack.Gen.frame m g

theorem frame_ideal : Cert.quiescent_PackIdeal := fun m g _ => Cert.PackIdeal.Gen.frame m g

/-- The reference runs and leaves its argument; it declares no semaphore. -/
theorem frame_ref : Cert.quiescent_PackRefIdeal := fun m g _ =>
  (θ_run Cert.PackRefIdeal.defs _ _).mono (fun r h => ⟨fun c => (h c).2.2.2.2, sem_eq_zero_of_no_sems (by decide) r.2⟩)
    (PackRef.run_main (F := Ideal) m g)

/-- The kernel's four results are the reference's, word for word, at the extended reals. -/
theorem algebraic : Cert.algebraic_PackIdeal_PackRefIdeal := by
  intro m g m' g' hpre hagree
  have hx (c : Dev nD) := images_apply (m ((c.tc : Thread nD τ).loc main_arg0))
  refine ⟨fun c => W5 m g c (Proc.devRef .tc main_v1), fun c => W5 m g c (Proc.devRef .tc main_v2), fun c => W5 m g c (Proc.devRef .tc main_v3),
    fun c => W5 m g c (Proc.devRef .tc main_v4), ?_, ?_⟩
  · exact (θ_run Cert.PackIdeal.defs _ _).mono (fun _ h c => ⟨h c main_v1 (by decide), h c main_v2 (by decide), h c main_v3 (by decide),
      h c main_v4 (by decide), (h c main_arg0 (by decide)).trans (W5_main_arg0 m g c)⟩) (run_contents (F := Ideal) m g)
  · refine (θ_run Cert.PackRefIdeal.defs _ _).mono (fun _ h c => ?_) (PackRef.run_main (F := Ideal) m' g')
    obtain ⟨h₁, h₂, h₃, h₄, h₅⟩ := h c
    rw [hagree c] at h₁ h₂ h₃ h₄
    exact ⟨h₁.trans (funext fun i => (PackRef.group_apply _ _ (hx c) 0 0 rfl _ i).trans (result1 m g c _ (hx c) i).symm),
      h₂.trans (funext fun i => (PackRef.group_apply _ _ (hx c) 20 320 rfl _ i).trans (result2 m g c _ (hx c) i).symm),
      h₃.trans (funext fun i => (PackRef.group_apply _ _ (hx c) 40 640 rfl _ i).trans (result3 m g c _ (hx c) i).symm),
      h₄.trans (funext fun i => (PackRef.last_apply _ _ (hx c) i).trans (result4 m g c _ (hx c) i).symm), h₅⟩

end Cert.Proof.Pack

end
-- ==== Proof.lean ====
/-
  THE CLAIM, PUT TOGETHER. The kernel's run is `Cert.Proof.Hist.run_main` (proof/Proof/Run.lean), at the bit-exact
  numbers for the kernel as printed and at the extended reals for its idealization, whose text is the same; the
  reference's is `Cert.Proof.Ref.run_main` (proof/Proof/Ref.lean), whose result on codes in range is the kernel's
  (`Cert.Proof.Ref.out_eq_collapse`, proof/Proof/RefValue.lean). The packing that makes the codes is claimed in
  proof/Proof/PackClaim.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_codes_in_range
public import proofs.«01_k».proof.Proof.Gen.Pack.Frame
public import proofs.«01_k».proof.Proof.Gen.PackIdeal.Frame
public import proofs.«01_k».proof.Proof.Gen.PackRefIdeal
public import proofs.«01_k».proof.Proof.Run
public import proofs.«01_k».proof.Proof.RefValue
public import proofs.«01_k».proof.Proof.PackClaim
public import Idealize.ShloMosaic.Adequacy
public import Idealize.ShloMosaic.Init

@[expose] public section

noncomputable section

namespace Cert.Proof

open Idealize.ShloMosaic Idealize.SL.Sem
open Hist (binOf codes CodesOK)

/-- A word whose low four bits the precondition finds below nine names one of the nine bins. -/
theorem bin_of_word (v : BitVec 32) (e : IntOp.cmpi .slt (IntOp.andi v 15#32) 9#32 = 1#1) : binOf v < 9 := by
  have one (p : Bool) : (BitVec.ofBool p = 1#1) ↔ p = true := by cases p <;> decide
  have le : (v &&& 15#32).toNat ≤ 15 := by
    rw [BitVec.toNat_and]; exact Nat.and_le_right
  simp only [IntOp.cmpi, IntOp.andi, one, BitVec.slt_eq_decide, decide_eq_true_eq, BitVec.toInt_eq_toNat_cond] at e
  have n9 : (9#32).toNat = 9 := rfl
  rw [n9] at e
  show (v &&& 15#32).toNat < 9
  generalize (v &&& 15#32).toNat = k at e le ⊢
  split at e <;> omega

section Pre

open Cert.Pre_codes_in_range

variable {F : FTy → Type} [FloatOps F] (a b c : IVec S320x128x128 32) (e : IVec S64x128x128 32)

/-- The precondition's word at a row's pixel, of the stacked code there. -/
theorem pre_apply (r : Fin 1024) (y x : Fin 128) :
    fn (F := F) a b c e (ix3 r y x) = IntOp.cmpi .slt (IntOp.andi (codes a b c e (ix3 r y x)) 15#32) 9#32 := by
  pointwise [fn]
  rfl

/-! The four calls' codes in the stacked codes: 320 rows of each of the first three, 64 of the last. -/

theorem first (r : Fin 320) (y x : Fin 128) : codes a b c e (ix3 ⟨r.val, by omega⟩ y x) = a (ix3 r y x) := dif_pos r.isLt

theorem second (r : Fin 320) (y x : Fin 128) : codes a b c e (ix3 ⟨320 + r.val, by omega⟩ y x) = b (ix3 r y x) := by
  refine (dif_neg (show ¬ 320 + r.val < 320 by omega)).trans ((dif_pos (show 320 + r.val - 320 < 320 by omega)).trans ?_)
  exact congrArg (fun k => b (ix3 k y x)) (Fin.ext (show 320 + r.val - 320 = r.val by omega))

theorem third (r : Fin 320) (y x : Fin 128) : codes a b c e (ix3 ⟨640 + r.val, by omega⟩ y x) = c (ix3 r y x) := by
  refine (dif_neg (show ¬ 640 + r.val < 320 by omega)).trans ((dif_neg (show ¬ 640 + r.val - 320 < 320 by omega)).trans
    ((dif_pos (show 640 + r.val - 320 - 320 < 320 by omega)).trans ?_))
  exact congrArg (fun k => c (ix3 k y x)) (Fin.ext (show 640 + r.val - 320 - 320 = r.val by omega))

theorem fourth (r : Fin 64) (y x : Fin 128) : codes a b c e (ix3 ⟨960 + r.val, by omega⟩ y x) = e (ix3 r y x) := by
  refine (dif_neg (show ¬ 960 + r.val < 320 by omega)).trans ((dif_neg (show ¬ 960 + r.val - 320 < 320 by omega)).trans
    ((dif_neg (show ¬ 960 + r.val - 320 - 320 < 320 by omega)).trans ?_))
  exact congrArg (fun k => e (ix3 k y x)) (Fin.ext (show 960 + r.val - 320 - 320 - 320 = r.val by omega))

variable (h : fn (F := F) a b c e = fun _ => 1#1)
include h

theorem stacked_of_pre (r : Fin 1024) (y x : Fin 128) : binOf (codes a b c e (ix3 r y x)) < 9 :=
  bin_of_word _ ((pre_apply a b c e r y x).symm.trans (congrFun h (ix3 r y x)))

/-- The precondition, as it is computed from the stacked codes, gives what the kernel's proof asks of each call's. -/
theorem codes_of_pre : CodesOK (R := 320) a ∧ CodesOK (R := 320) b ∧ CodesOK (R := 320) c ∧ CodesOK (R := 64) e := by
  have ix {n : ℕ} (y : (⟨3, ![n, 128, 128]⟩ : Shape).Idx) : ∃ (r : Fin n) (y₁ x₁ : Fin 128), y = ix3 r y₁ x₁ :=
    ⟨y 0, y 1, y 2, by funext k; fin_cases k <;> rfl⟩
  have w := stacked_of_pre a b c e h
  refine ⟨fun j => ?_, fun j => ?_, fun j => ?_, fun j => ?_⟩ <;> obtain ⟨r, y, x, rfl⟩ := ix j
  · exact first a b c e r y x ▸ w _ y x
  · exact second a b c e r y x ▸ w _ y x
  · exact third a b c e r y x ▸ w _ y x
  · exact fourth a b c e r y x ▸ w _ y x

end Pre

/-- The two programs' bodies are the same on every processor. -/
theorem defs₀_eq : Cert.Kernel.defs₀ (F := Bits) = Cert.KernelIdeal.defs₀ (F := Bits) := by
  funext p ℓ a
  obtain ⟨k, hk⟩ := ℓ
  have hk' : k < 5 := hk
  interval_cases k <;> cases p <;> rfl

theorem defs_eq : Cert.Kernel.defs (F := Bits) = Cert.KernelIdeal.defs (F := Bits) :=
  congrArg (fun d => Cert.KernelIdeal.sc.defs (Pipeline.defs Cert.KernelIdeal.pcfgs d)) defs₀_eq

/-- The kernel as printed, at the bit-exact numbers: it runs, its arguments end unchanged, every counter at zero. -/
theorem frame_kernel : Cert.quiescent_Kernel := fun m g hpre => defs_eq ▸
  (θ_run Cert.KernelIdeal.defs _ _).mono (fun _ (h : Hist.QC (F := Bits) m _) => ⟨fun c => ⟨(h.1 c).1 0, (h.1 c).1 1, (h.1 c).1 2, (h.1 c).1 3⟩, h.2⟩)
    (Hist.run_main (F := Bits) m g fun c => codes_of_pre _ _ _ _ (hpre c))

/-- The same at the extended reals. -/
theorem frame_ideal : Cert.quiescent_KernelIdeal := fun m g hpre =>
  (θ_run Cert.KernelIdeal.defs _ _).mono (fun _ (h : Hist.QC (F := Ideal) m _) => ⟨fun c => ⟨(h.1 c).1 0, (h.1 c).1 1, (h.1 c).1 2, (h.1 c).1 3⟩, h.2⟩)
    (Hist.run_main (F := Ideal) m g fun c => codes_of_pre _ _ _ _ (hpre c))

/-- The reference runs and leaves its arguments; it declares no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Ref.run_main (F := Ideal) m g)

/-- The kernel's result is the reference's, word for word, at the extended reals. -/
theorem algebraic : Cert.algebraic_KernelIdeal_ReferenceIdeal := by
  intro m g m' g' hpre hagree
  have hok : Hist.PreOK (F := Ideal) m := fun c => codes_of_pre _ _ _ _ (hpre c)
  refine ⟨fun c => Hist.final m c, ?_, ?_⟩
  · exact (θ_run Cert.KernelIdeal.defs _ _).mono
      (fun _ (h : Hist.QC (F := Ideal) m _) c => ⟨(h.1 c).2, (h.1 c).1 0, (h.1 c).1 1, (h.1 c).1 2, (h.1 c).1 3⟩) (Hist.run_main (F := Ideal) m g hok)
  · refine (θ_run Cert.ReferenceIdeal.defs _ _).mono (fun _ h c => ⟨(h c).1.trans ?_, (h c).2⟩) (Ref.run_main (F := Ideal) m' g')
    obtain ⟨h₀, h₁, h₂, h₃⟩ := hagree c
    rw [h₀, h₁, h₂, h₃]
    exact Ref.out_eq_collapse _ _ _ _ (hok c).1 (hok c).2.1 (hok c).2.2.1 (hok c).2.2.2

theorem claim : Cert.Claim :=
  ⟨Cert.Kernel.Gen.facts, Cert.KernelIdeal.Gen.facts, Cert.ReferenceIdeal.Gen.facts, Cert.Pack.Gen.facts, Cert.PackIdeal.Gen.facts,
    Cert.PackRefIdeal.Gen.facts, Cert.Pre_codes_in_range.Gen.facts,
    frame_kernel, frame_ideal, frame_ref, fun m g _ => frame_ref m g trivial,
    Pack.frame_kernel, Pack.frame_ideal, Pack.frame_ref,
    trivial, algebraic, trivial, Pack.algebraic⟩

end Cert.Proof

end
